-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedRefIdeal (m : (ℓ : Loc Cert.FeedRefIdeal.nD Cert.FeedRefIdeal.τ Cert.FeedRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Source (m : (ℓ : Loc Cert.Source.nD Cert.Source.τ Cert.Source.sig) → Buf (Elt Bits) ℓ) : Prop :=
  True

def Pre_SourceIdeal (m : (ℓ : Loc Cert.SourceIdeal.nD Cert.SourceIdeal.τ Cert.SourceIdeal.sig) → Buf (Elt Ideal) ℓ) : Prop :=
  True

def Pre_SourceRefIdeal (m : (ℓ : Loc Cert.SourceRefIdeal.nD Cert.SourceRefIdeal.τ Cert.SourceRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerIdeal_finite_inner [hPre_finite_inner : Cert.Pre_finite_inner.Facts] (m : (ℓ : Loc Cert.InnerIdeal.nD Cert.InnerIdeal.τ Cert.InnerIdeal.sig) → Buf (Elt Ideal) ℓ) : Prop :=
  ∀ c : Dev Cert.InnerIdeal.nD,
    (Cert.Pre_finite_inner.fn (F := Ideal) (m ((c.tc : Thread Cert.InnerIdeal.nD Cert.InnerIdeal.τ).loc Cert.InnerIdeal.main_arg0)) (m ((c.tc : Thread Cert.InnerIdeal.nD Cert.InnerIdeal.τ).loc Cert.InnerIdeal.main_arg1)) (m ((c.tc : Thread Cert.InnerIdeal.nD Cert.InnerIdeal.τ).loc Cert.InnerIdeal.main_arg2)) (m ((c.tc : Thread Cert.InnerIdeal.nD Cert.InnerIdeal.τ).loc Cert.InnerIdeal.main_arg3)) (m ((c.tc : Thread Cert.InnerIdeal.nD Cert.InnerIdeal.τ).loc Cert.InnerIdeal.main_arg4))) = (fun _ => 1#1)

def Pre_InnerRefIdeal (m : (ℓ : Loc Cert.InnerRefIdeal.nD Cert.InnerRefIdeal.τ Cert.InnerRefIdeal.sig) → Buf (Elt Ideal) ℓ) : Prop :=
  True

def Pre_InnerRefIdeal_finite_inner [hPre_finite_inner : Cert.Pre_finite_inner.Facts] (m : (ℓ : Loc Cert.InnerRefIdeal.nD Cert.InnerRefIdeal.τ Cert.InnerRefIdeal.sig) → Buf (Elt Ideal) ℓ) : Prop :=
  ∀ c : Dev Cert.InnerRefIdeal.nD,
    (Cert.Pre_finite_inner.fn (F := Ideal) (m ((c.tc : Thread Cert.InnerRefIdeal.nD Cert.InnerRefIdeal.τ).loc Cert.InnerRefIdeal.main_arg0)) (m ((c.tc : Thread Cert.InnerRefIdeal.nD Cert.InnerRefIdeal.τ).loc Cert.InnerRefIdeal.main_arg1)) (m ((c.tc : Thread Cert.InnerRefIdeal.nD Cert.InnerRefIdeal.τ).loc Cert.InnerRefIdeal.main_arg2)) (m ((c.tc : Thread Cert.InnerRefIdeal.nD Cert.InnerRefIdeal.τ).loc Cert.InnerRefIdeal.main_arg3)) (m ((c.tc : Thread Cert.InnerRefIdeal.nD Cert.InnerRefIdeal.τ).loc Cert.InnerRefIdeal.main_arg4))) = (fun _ => 1#1)

def Pre_Triple (m : (ℓ : Loc Cert.Triple.nD Cert.Triple.τ Cert.Triple.sig) → Buf (Elt Bits) ℓ) : Prop :=
  True

def Pre_TripleIdeal (m : (ℓ : Loc Cert.TripleIdeal.nD Cert.TripleIdeal.τ Cert.TripleIdeal.sig) → Buf (Elt Ideal) ℓ) : Prop :=
  True

def Pre_TripleRefIdeal (m : (ℓ : Loc Cert.TripleRefIdeal.nD Cert.TripleRefIdeal.τ Cert.TripleRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickRefIdeal (m : (ℓ : Loc Cert.StickRefIdeal.nD Cert.StickRefIdeal.τ Cert.StickRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ r.2.sem = fun _ => 0)

def quiescent_FeedRefIdeal [hFeedRefIdeal : Cert.FeedRefIdeal.Facts] : Prop :=
  ∀ (m : (ℓ : Loc Cert.FeedRefIdeal.nD Cert.FeedRefIdeal.τ Cert.FeedRefIdeal.sig) → Buf (Elt Ideal) ℓ) (g : Dev Cert.FeedRefIdeal.nD → PrngReg), Pre_FeedRefIdeal m →
    θ_run (Cert.FeedRefIdeal.defs (F := Ideal)) (onTc (τ := Cert.FeedRefIdeal.τ) (Cert.FeedRefIdeal.main (F := Ideal))) ⟨m, fun _ => 0, g⟩ (fun r => (∀ c : Dev Cert.FeedRefIdeal.nD,
      r.2.mem ((c.tc : Thread Cert.FeedRefIdeal.nD Cert.FeedRefIdeal.τ).loc Cert.FeedRefIdeal.main_arg0) = m ((c.tc : Thread Cert.FeedRefIdeal.nD Cert.FeedRefIdeal.τ).loc Cert.FeedRefIdeal.main_arg0)
      ∧ r.2.mem ((c.tc : Thread Cert.FeedRefIdeal.nD Cert.FeedRefIdeal.τ).loc Cert.FeedRefIdeal.main_arg1) = m ((c.tc : Thread Cert.FeedRefIdeal.nD Cert.FeedRefIdeal.τ).loc Cert.FeedRefIdeal.main_arg1)
      ∧ r.2.mem ((c.tc : Thread Cert.FeedRefIdeal.nD Cert.FeedRefIdeal.τ).loc Cert.FeedRefIdeal.main_arg2) = m ((c.tc : Thread Cert.FeedRefIdeal.nD Cert.FeedRefIdeal.τ).loc Cert.FeedRefIdeal.main_arg2)
      ∧ r.2.mem ((c.tc : Thread Cert.FeedRefIdeal.nD Cert.FeedRefIdeal.τ).loc Cert.FeedRefIdeal.main_arg3) = m ((c.tc : Thread Cert.FeedRefIdeal.nD Cert.FeedRefIdeal.τ).loc Cert.FeedRefIdeal.main_arg3)
      ∧ r.2.mem ((c.tc : Thread Cert.FeedRefIdeal.nD Cert.FeedRefIdeal.τ).loc Cert.FeedRefIdeal.main_arg4) = m ((c.tc : Thread Cert.FeedRefIdeal.nD Cert.FeedRefIdeal.τ).loc Cert.FeedRefIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_Source [hSource : Cert.Source.Facts] : Prop :=
  ∀ (m : (ℓ : Loc Cert.Source.nD Cert.Source.τ Cert.Source.sig) → Buf (Elt Bits) ℓ) (g : Dev Cert.Source.nD → PrngReg), Pre_Source m →
    θ_run (Cert.Source.defs (F := Bits)) (onTc (τ := Cert.Source.τ) (Cert.Source.main (F := Bits))) ⟨m, fun _ => 0, g⟩ (fun r => (∀ c : Dev Cert.Source.nD,
      r.2.mem ((c.tc : Thread Cert.Source.nD Cert.Source.τ).loc Cert.Source.main_arg0) = m ((c.tc : Thread Cert.Source.nD Cert.Source.τ).loc Cert.Source.main_arg0)
      ∧ r.2.mem ((c.tc : Thread Cert.Source.nD Cert.Source.τ).loc Cert.Source.main_arg1) = m ((c.tc : Thread Cert.Source.nD Cert.Source.τ).loc Cert.Source.main_arg1)
      ∧ r.2.mem ((c.tc : Thread Cert.Source.nD Cert.Source.τ).loc Cert.Source.main_arg2) = m ((c.tc : Thread Cert.Source.nD Cert.Source.τ).loc Cert.Source.main_arg2))
      ∧ r.2.sem = fun _ => 0)

def quiescent_SourceIdeal [hSourceIdeal : Cert.SourceIdeal.Facts] : Prop :=
  ∀ (m : (ℓ : Loc Cert.SourceIdeal.nD Cert.SourceIdeal.τ Cert.SourceIdeal.sig) → Buf (Elt Ideal) ℓ) (g : Dev Cert.SourceIdeal.nD → PrngReg), Pre_SourceIdeal m →
    θ_run (Cert.SourceIdeal.defs (F := Ideal)) (onTc (τ := Cert.SourceIdeal.τ) (Cert.SourceIdeal.main (F := Ideal))) ⟨m, fun _ => 0, g⟩ (fun r => (∀ c : Dev Cert.SourceIdeal.nD,
      r.2.mem ((c.tc : Thread Cert.SourceIdeal.nD Cert.SourceIdeal.τ).loc Cert.SourceIdeal.main_arg0) = m ((c.tc : Thread Cert.SourceIdeal.nD Cert.SourceIdeal.τ).loc Cert.SourceIdeal.main_arg0)
      ∧ r.2.mem ((c.tc : Thread Cert.SourceIdeal.nD Cert.SourceIdeal.τ).loc Cert.SourceIdeal.main_arg1) = m ((c.tc : Thread Cert.SourceIdeal.nD Cert.SourceIdeal.τ).loc Cert.SourceIdeal.main_arg1)
      ∧ r.2.mem ((c.tc : Thread Cert.SourceIdeal.nD Cert.SourceIdeal.τ).loc Cert.SourceIdeal.main_arg2) = m ((c.tc : Thread Cert.SourceIdeal.nD Cert.SourceIdeal.τ).loc Cert.SourceIdeal.main_arg2))
      ∧ r.2.sem = fun _ => 0)

def quiescent_SourceRefIdeal [hSourceRefIdeal : Cert.SourceRefIdeal.Facts] : Prop :=
  ∀ (m : (ℓ : Loc Cert.SourceRefIdeal.nD Cert.SourceRefIdeal.τ Cert.SourceRefIdeal.sig) → Buf (Elt Ideal) ℓ) (g : Dev Cert.SourceRefIdeal.nD → PrngReg), Pre_SourceRefIdeal m →
    θ_run (Cert.SourceRefIdeal.defs (F := Ideal)) (onTc (τ := Cert.SourceRefIdeal.τ) (Cert.SourceRefIdeal.main (F := Ideal))) ⟨m, fun _ => 0, g⟩ (fun r => (∀ c : Dev Cert.SourceRefIdeal.nD,
      r.2.mem ((c.tc : Thread Cert.SourceRefIdeal.nD Cert.SourceRefIdeal.τ).loc Cert.SourceRefIdeal.main_arg0) = m ((c.tc : Thread Cert.SourceRefIdeal.nD Cert.SourceRefIdeal.τ).loc Cert.SourceRefIdeal.main_arg0)
      ∧ r.2.mem ((c.tc : Thread Cert.SourceRefIdeal.nD Cert.SourceRefIdeal.τ).loc Cert.SourceRefIdeal.main_arg1) = m ((c.tc : Thread Cert.SourceRefIdeal.nD Cert.SourceRefIdeal.τ).loc Cert.SourceRefIdeal.main_arg1)
      ∧ r.2.mem ((c.tc : Thread Cert.SourceRefIdeal.nD Cert.SourceRefIdeal.τ).loc Cert.SourceRefIdeal.main_arg2) = m ((c.tc : Thread Cert.SourceRefIdeal.nD Cert.SourceRefIdeal.τ).loc Cert.SourceRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ r.2.sem = fun _ => 0)

def quiescent_InnerIdeal_pre_finite_inner [hInnerIdeal : Cert.InnerIdeal.Facts] [hPre_finite_inner : Cert.Pre_finite_inner.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal_finite_inner m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4))
      ∧ r.2.sem = fun _ => 0)

def quiescent_InnerRefIdeal_pre_finite_inner [hInnerRefIdeal : Cert.InnerRefIdeal.Facts] [hPre_finite_inner : Cert.Pre_finite_inner.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal_finite_inner m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1)
      ∧ r.2.mem ((c.tc : Thread Cert.InnerRefIdeal.nD Cert.InnerRefIdeal.τ).loc Cert.InnerRefIdeal.main_arg2) = m ((c.tc : Thread Cert.InnerRefIdeal.nD Cert.InnerRefIdeal.τ).loc Cert.InnerRefIdeal.main_arg2)
      ∧ r.2.mem ((c.tc : Thread Cert.InnerRefIdeal.nD Cert.InnerRefIdeal.τ).loc Cert.InnerRefIdeal.main_arg3) = m ((c.tc : Thread Cert.InnerRefIdeal.nD Cert.InnerRefIdeal.τ).loc Cert.InnerRefIdeal.main_arg3)
      ∧ r.2.mem ((c.tc : Thread Cert.InnerRefIdeal.nD Cert.InnerRefIdeal.τ).loc Cert.InnerRefIdeal.main_arg4) = m ((c.tc : Thread Cert.InnerRefIdeal.nD Cert.InnerRefIdeal.τ).loc Cert.InnerRefIdeal.main_arg4))
      ∧ r.2.sem = fun _ => 0)

def quiescent_Triple [hTriple : Cert.Triple.Facts] : Prop :=
  ∀ (m : (ℓ : Loc Cert.Triple.nD Cert.Triple.τ Cert.Triple.sig) → Buf (Elt Bits) ℓ) (g : Dev Cert.Triple.nD → PrngReg), Pre_Triple m →
    θ_run (Cert.Triple.defs (F := Bits)) (onTc (τ := Cert.Triple.τ) (Cert.Triple.main (F := Bits))) ⟨m, fun _ => 0, g⟩ (fun r => (∀ c : Dev Cert.Triple.nD,
      r.2.mem ((c.tc : Thread Cert.Triple.nD Cert.Triple.τ).loc Cert.Triple.main_arg0) = m ((c.tc : Thread Cert.Triple.nD Cert.Triple.τ).loc Cert.Triple.main_arg0)
      ∧ r.2.mem ((c.tc : Thread Cert.Triple.nD Cert.Triple.τ).loc Cert.Triple.main_arg1) = m ((c.tc : Thread Cert.Triple.nD Cert.Triple.τ).loc Cert.Triple.main_arg1))
      ∧ r.2.sem = fun _ => 0)

def quiescent_TripleIdeal [hTripleIdeal : Cert.TripleIdeal.Facts] : Prop :=
  ∀ (m : (ℓ : Loc Cert.TripleIdeal.nD Cert.TripleIdeal.τ Cert.TripleIdeal.sig) → Buf (Elt Ideal) ℓ) (g : Dev Cert.TripleIdeal.nD → PrngReg), Pre_TripleIdeal m →
    θ_run (Cert.TripleIdeal.defs (F := Ideal)) (onTc (τ := Cert.TripleIdeal.τ) (Cert.TripleIdeal.main (F := Ideal))) ⟨m, fun _ => 0, g⟩ (fun r => (∀ c : Dev Cert.TripleIdeal.nD,
      r.2.mem ((c.tc : Thread Cert.TripleIdeal.nD Cert.TripleIdeal.τ).loc Cert.TripleIdeal.main_arg0) = m ((c.tc : Thread Cert.TripleIdeal.nD Cert.TripleIdeal.τ).loc Cert.TripleIdeal.main_arg0)
      ∧ r.2.mem ((c.tc : Thread Cert.TripleIdeal.nD Cert.TripleIdeal.τ).loc Cert.TripleIdeal.main_arg1) = m ((c.tc : Thread Cert.TripleIdeal.nD Cert.TripleIdeal.τ).loc Cert.TripleIdeal.main_arg1))
      ∧ r.2.sem = fun _ => 0)

def quiescent_TripleRefIdeal [hTripleRefIdeal : Cert.TripleRefIdeal.Facts] : Prop :=
  ∀ (m : (ℓ : Loc Cert.TripleRefIdeal.nD Cert.TripleRefIdeal.τ Cert.TripleRefIdeal.sig) → Buf (Elt Ideal) ℓ) (g : Dev Cert.TripleRefIdeal.nD → PrngReg), Pre_TripleRefIdeal m →
    θ_run (Cert.TripleRefIdeal.defs (F := Ideal)) (onTc (τ := Cert.TripleRefIdeal.τ) (Cert.TripleRefIdeal.main (F := Ideal))) ⟨m, fun _ => 0, g⟩ (fun r => (∀ c : Dev Cert.TripleRefIdeal.nD,
      r.2.mem ((c.tc : Thread Cert.TripleRefIdeal.nD Cert.TripleRefIdeal.τ).loc Cert.TripleRefIdeal.main_arg0) = m ((c.tc : Thread Cert.TripleRefIdeal.nD Cert.TripleRefIdeal.τ).loc Cert.TripleRefIdeal.main_arg0)
      ∧ r.2.mem ((c.tc : Thread Cert.TripleRefIdeal.nD Cert.TripleRefIdeal.τ).loc Cert.TripleRefIdeal.main_arg1) = m ((c.tc : Thread Cert.TripleRefIdeal.nD Cert.TripleRefIdeal.τ).loc Cert.TripleRefIdeal.main_arg1))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v258)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v258) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v8) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v7) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)) (v3 : (c : Dev Cert.NormIdeal.nD) → Buf (Elt Ideal) ((c.tc : Thread Cert.NormIdeal.nD Cert.NormIdeal.τ).loc Cert.NormIdeal.main_v1_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_v1_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v71) = v0 c
          ∧ r.2.mem ((c.tc : Thread Cert.NormRefIdeal.nD Cert.NormRefIdeal.τ).loc Cert.NormRefIdeal.main_v72) = v1 c
          ∧ r.2.mem ((c.tc : Thread Cert.NormRefIdeal.nD Cert.NormRefIdeal.τ).loc Cert.NormRefIdeal.main_v73) = v2 c
          ∧ r.2.mem ((c.tc : Thread Cert.NormRefIdeal.nD Cert.NormRefIdeal.τ).loc Cert.NormRefIdeal.main_v74) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v3) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1))

def preserves_Feed_FeedIdeal : Prop :=
  True

def algebraic_FeedIdeal_FeedRefIdeal [hFeedIdeal : Cert.FeedIdeal.Facts] [hFeedRefIdeal : Cert.FeedRefIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedRefIdeal.nD Cert.FeedRefIdeal.τ Cert.FeedRefIdeal.sig) → Buf (Elt Ideal) ℓ) (g' : Dev Cert.FeedRefIdeal.nD → PrngReg), Pre_FeedIdeal m →
    (∀ c : Dev Cert.FeedIdeal.nD,
      m' ((c.tc : Thread Cert.FeedRefIdeal.nD Cert.FeedRefIdeal.τ).loc Cert.FeedRefIdeal.main_arg0) = m ((c.tc : Thread Cert.FeedIdeal.nD Cert.FeedIdeal.τ).loc Cert.FeedIdeal.main_arg0)
      ∧ m' ((c.tc : Thread Cert.FeedRefIdeal.nD Cert.FeedRefIdeal.τ).loc Cert.FeedRefIdeal.main_arg1) = m ((c.tc : Thread Cert.FeedIdeal.nD Cert.FeedIdeal.τ).loc Cert.FeedIdeal.main_arg1)
      ∧ m' ((c.tc : Thread Cert.FeedRefIdeal.nD Cert.FeedRefIdeal.τ).loc Cert.FeedRefIdeal.main_arg2) = m ((c.tc : Thread Cert.FeedIdeal.nD Cert.FeedIdeal.τ).loc Cert.FeedIdeal.main_arg2)
      ∧ m' ((c.tc : Thread Cert.FeedRefIdeal.nD Cert.FeedRefIdeal.τ).loc Cert.FeedRefIdeal.main_arg3) = m ((c.tc : Thread Cert.FeedIdeal.nD Cert.FeedIdeal.τ).loc Cert.FeedIdeal.main_arg3)
      ∧ m' ((c.tc : Thread Cert.FeedRefIdeal.nD Cert.FeedRefIdeal.τ).loc Cert.FeedRefIdeal.main_arg4) = m ((c.tc : Thread Cert.FeedIdeal.nD Cert.FeedIdeal.τ).loc Cert.FeedIdeal.main_arg4)) →
    ∃ (v0 : (c : Dev Cert.FeedIdeal.nD) → Buf (Elt Ideal) ((c.tc : Thread Cert.FeedIdeal.nD Cert.FeedIdeal.τ).loc Cert.FeedIdeal.main_v2_0)) (v1 : (c : Dev Cert.FeedIdeal.nD) → Buf (Elt Ideal) ((c.tc : Thread Cert.FeedIdeal.nD Cert.FeedIdeal.τ).loc Cert.FeedIdeal.main_v2_1)) (v2 : (c : Dev Cert.FeedIdeal.nD) → Buf (Elt Ideal) ((c.tc : Thread Cert.FeedIdeal.nD Cert.FeedIdeal.τ).loc Cert.FeedIdeal.main_v2_2)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v2_0) = v0 c
          ∧ r.2.mem ((c.tc : Thread Cert.FeedIdeal.nD Cert.FeedIdeal.τ).loc Cert.FeedIdeal.main_v2_1) = v1 c
          ∧ r.2.mem ((c.tc : Thread Cert.FeedIdeal.nD Cert.FeedIdeal.τ).loc Cert.FeedIdeal.main_v2_2) = v2 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4))
      ∧ θ_run (Cert.FeedRefIdeal.defs (F := Ideal)) (onTc (τ := Cert.FeedRefIdeal.τ) (Cert.FeedRefIdeal.main (F := Ideal))) ⟨m', fun _ => 0, g'⟩ (fun r => ∀ c : Dev Cert.FeedRefIdeal.nD,
          r.2.mem ((c.tc : Thread Cert.FeedRefIdeal.nD Cert.FeedRefIdeal.τ).loc Cert.FeedRefIdeal.main_v7) = v0 c
          ∧ r.2.mem ((c.tc : Thread Cert.FeedRefIdeal.nD Cert.FeedRefIdeal.τ).loc Cert.FeedRefIdeal.main_v31) = v1 c
          ∧ r.2.mem ((c.tc : Thread Cert.FeedRefIdeal.nD Cert.FeedRefIdeal.τ).loc Cert.FeedRefIdeal.main_v32) = v2 c
          ∧ r.2.mem ((c.tc : Thread Cert.FeedRefIdeal.nD Cert.FeedRefIdeal.τ).loc Cert.FeedRefIdeal.main_arg0) = m' ((c.tc : Thread Cert.FeedRefIdeal.nD Cert.FeedRefIdeal.τ).loc Cert.FeedRefIdeal.main_arg0)
          ∧ r.2.mem ((c.tc : Thread Cert.FeedRefIdeal.nD Cert.FeedRefIdeal.τ).loc Cert.FeedRefIdeal.main_arg1) = m' ((c.tc : Thread Cert.FeedRefIdeal.nD Cert.FeedRefIdeal.τ).loc Cert.FeedRefIdeal.main_arg1)
          ∧ r.2.mem ((c.tc : Thread Cert.FeedRefIdeal.nD Cert.FeedRefIdeal.τ).loc Cert.FeedRefIdeal.main_arg2) = m' ((c.tc : Thread Cert.FeedRefIdeal.nD Cert.FeedRefIdeal.τ).loc Cert.FeedRefIdeal.main_arg2)
          ∧ r.2.mem ((c.tc : Thread Cert.FeedRefIdeal.nD Cert.FeedRefIdeal.τ).loc Cert.FeedRefIdeal.main_arg3) = m' ((c.tc : Thread Cert.FeedRefIdeal.nD Cert.FeedRefIdeal.τ).loc Cert.FeedRefIdeal.main_arg3)
          ∧ r.2.mem ((c.tc : Thread Cert.FeedRefIdeal.nD Cert.FeedRefIdeal.τ).loc Cert.FeedRefIdeal.main_arg4) = m' ((c.tc : Thread Cert.FeedRefIdeal.nD Cert.FeedRefIdeal.τ).loc Cert.FeedRefIdeal.main_arg4))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v7) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v6) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v5) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def preserves_Source_SourceIdeal : Prop :=
  True

def algebraic_SourceIdeal_SourceRefIdeal [hSourceIdeal : Cert.SourceIdeal.Facts] [hSourceRefIdeal : Cert.SourceRefIdeal.Facts] : Prop :=
  ∀ (m : (ℓ : Loc Cert.SourceIdeal.nD Cert.SourceIdeal.τ Cert.SourceIdeal.sig) → Buf (Elt Ideal) ℓ) (g : Dev Cert.SourceIdeal.nD → PrngReg)
    (m' : (ℓ : Loc Cert.SourceRefIdeal.nD Cert.SourceRefIdeal.τ Cert.SourceRefIdeal.sig) → Buf (Elt Ideal) ℓ) (g' : Dev Cert.SourceRefIdeal.nD → PrngReg), Pre_SourceIdeal m →
    (∀ c : Dev Cert.SourceIdeal.nD,
      m' ((c.tc : Thread Cert.SourceRefIdeal.nD Cert.SourceRefIdeal.τ).loc Cert.SourceRefIdeal.main_arg0) = m ((c.tc : Thread Cert.SourceIdeal.nD Cert.SourceIdeal.τ).loc Cert.SourceIdeal.main_arg0)
      ∧ m' ((c.tc : Thread Cert.SourceRefIdeal.nD Cert.SourceRefIdeal.τ).loc Cert.SourceRefIdeal.main_arg1) = m ((c.tc : Thread Cert.SourceIdeal.nD Cert.SourceIdeal.τ).loc Cert.SourceIdeal.main_arg1)
      ∧ m' ((c.tc : Thread Cert.SourceRefIdeal.nD Cert.SourceRefIdeal.τ).loc Cert.SourceRefIdeal.main_arg2) = m ((c.tc : Thread Cert.SourceIdeal.nD Cert.SourceIdeal.τ).loc Cert.SourceIdeal.main_arg2)) →
    ∃ (v0 : (c : Dev Cert.SourceIdeal.nD) → Buf (Elt Ideal) ((c.tc : Thread Cert.SourceIdeal.nD Cert.SourceIdeal.τ).loc Cert.SourceIdeal.main_v0)),
      θ_run (Cert.SourceIdeal.defs (F := Ideal)) (onTc (τ := Cert.SourceIdeal.τ) (Cert.SourceIdeal.main (F := Ideal))) ⟨m, fun _ => 0, g⟩ (fun r => ∀ c : Dev Cert.SourceIdeal.nD,
          r.2.mem ((c.tc : Thread Cert.SourceIdeal.nD Cert.SourceIdeal.τ).loc Cert.SourceIdeal.main_v0) = v0 c
          ∧ r.2.mem ((c.tc : Thread Cert.SourceIdeal.nD Cert.SourceIdeal.τ).loc Cert.SourceIdeal.main_arg0) = m ((c.tc : Thread Cert.SourceIdeal.nD Cert.SourceIdeal.τ).loc Cert.SourceIdeal.main_arg0)
          ∧ r.2.mem ((c.tc : Thread Cert.SourceIdeal.nD Cert.SourceIdeal.τ).loc Cert.SourceIdeal.main_arg1) = m ((c.tc : Thread Cert.SourceIdeal.nD Cert.SourceIdeal.τ).loc Cert.SourceIdeal.main_arg1)
          ∧ r.2.mem ((c.tc : Thread Cert.SourceIdeal.nD Cert.SourceIdeal.τ).loc Cert.SourceIdeal.main_arg2) = m ((c.tc : Thread Cert.SourceIdeal.nD Cert.SourceIdeal.τ).loc Cert.SourceIdeal.main_arg2))
      ∧ θ_run (Cert.SourceRefIdeal.defs (F := Ideal)) (onTc (τ := Cert.SourceRefIdeal.τ) (Cert.SourceRefIdeal.main (F := Ideal))) ⟨m', fun _ => 0, g'⟩ (fun r => ∀ c : Dev Cert.SourceRefIdeal.nD,
          r.2.mem ((c.tc : Thread Cert.SourceRefIdeal.nD Cert.SourceRefIdeal.τ).loc Cert.SourceRefIdeal.main_v9) = v0 c
          ∧ r.2.mem ((c.tc : Thread Cert.SourceRefIdeal.nD Cert.SourceRefIdeal.τ).loc Cert.SourceRefIdeal.main_arg0) = m' ((c.tc : Thread Cert.SourceRefIdeal.nD Cert.SourceRefIdeal.τ).loc Cert.SourceRefIdeal.main_arg0)
          ∧ r.2.mem ((c.tc : Thread Cert.SourceRefIdeal.nD Cert.SourceRefIdeal.τ).loc Cert.SourceRefIdeal.main_arg1) = m' ((c.tc : Thread Cert.SourceRefIdeal.nD Cert.SourceRefIdeal.τ).loc Cert.SourceRefIdeal.main_arg1)
          ∧ r.2.mem ((c.tc : Thread Cert.SourceRefIdeal.nD Cert.SourceRefIdeal.τ).loc Cert.SourceRefIdeal.main_arg2) = m' ((c.tc : Thread Cert.SourceRefIdeal.nD Cert.SourceRefIdeal.τ).loc Cert.SourceRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v5) = v0 c
          ∧ r.2.mem ((c.tc : Thread Cert.MergeRefIdeal.nD Cert.MergeRefIdeal.τ).loc Cert.MergeRefIdeal.main_v29) = v1 c
          ∧ r.2.mem ((c.tc : Thread Cert.MergeRefIdeal.nD Cert.MergeRefIdeal.τ).loc Cert.MergeRefIdeal.main_v30) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Inner_InnerIdeal : Prop :=
  True

def algebraic_InnerIdeal_InnerRefIdeal_pre_finite_inner [hInnerIdeal : Cert.InnerIdeal.Facts] [hInnerRefIdeal : Cert.InnerRefIdeal.Facts] [hPre_finite_inner : Cert.Pre_finite_inner.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal_finite_inner m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)
      ∧ m' ((c.tc : Thread Cert.InnerRefIdeal.nD Cert.InnerRefIdeal.τ).loc Cert.InnerRefIdeal.main_arg2) = m ((c.tc : Thread Cert.InnerIdeal.nD Cert.InnerIdeal.τ).loc Cert.InnerIdeal.main_arg2)
      ∧ m' ((c.tc : Thread Cert.InnerRefIdeal.nD Cert.InnerRefIdeal.τ).loc Cert.InnerRefIdeal.main_arg3) = m ((c.tc : Thread Cert.InnerIdeal.nD Cert.InnerIdeal.τ).loc Cert.InnerIdeal.main_arg3)
      ∧ m' ((c.tc : Thread Cert.InnerRefIdeal.nD Cert.InnerRefIdeal.τ).loc Cert.InnerRefIdeal.main_arg4) = m ((c.tc : Thread Cert.InnerIdeal.nD Cert.InnerIdeal.τ).loc Cert.InnerIdeal.main_arg4)) →
    ∃ (v0 : (c : Dev Cert.InnerIdeal.nD) → Buf (Elt Ideal) ((c.tc : Thread Cert.InnerIdeal.nD Cert.InnerIdeal.τ).loc Cert.InnerIdeal.main_v1_0)) (v1 : (c : Dev Cert.InnerIdeal.nD) → Buf (Elt Ideal) ((c.tc : Thread Cert.InnerIdeal.nD Cert.InnerIdeal.τ).loc Cert.InnerIdeal.main_v1_1)) (v2 : (c : Dev Cert.InnerIdeal.nD) → Buf (Elt Ideal) ((c.tc : Thread Cert.InnerIdeal.nD Cert.InnerIdeal.τ).loc Cert.InnerIdeal.main_v1_2)) (v3 : (c : Dev Cert.InnerIdeal.nD) → Buf (Elt Ideal) ((c.tc : Thread Cert.InnerIdeal.nD Cert.InnerIdeal.τ).loc Cert.InnerIdeal.main_v1_3)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v1_0) = v0 c
          ∧ r.2.mem ((c.tc : Thread Cert.InnerIdeal.nD Cert.InnerIdeal.τ).loc Cert.InnerIdeal.main_v1_1) = v1 c
          ∧ r.2.mem ((c.tc : Thread Cert.InnerIdeal.nD Cert.InnerIdeal.τ).loc Cert.InnerIdeal.main_v1_2) = v2 c
          ∧ r.2.mem ((c.tc : Thread Cert.InnerIdeal.nD Cert.InnerIdeal.τ).loc Cert.InnerIdeal.main_v1_3) = v3 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v71) = v0 c
          ∧ r.2.mem ((c.tc : Thread Cert.InnerRefIdeal.nD Cert.InnerRefIdeal.τ).loc Cert.InnerRefIdeal.main_v72) = v1 c
          ∧ r.2.mem ((c.tc : Thread Cert.InnerRefIdeal.nD Cert.InnerRefIdeal.τ).loc Cert.InnerRefIdeal.main_v73) = v2 c
          ∧ r.2.mem ((c.tc : Thread Cert.InnerRefIdeal.nD Cert.InnerRefIdeal.τ).loc Cert.InnerRefIdeal.main_v74) = v3 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1)
          ∧ r.2.mem ((c.tc : Thread Cert.InnerRefIdeal.nD Cert.InnerRefIdeal.τ).loc Cert.InnerRefIdeal.main_arg2) = m' ((c.tc : Thread Cert.InnerRefIdeal.nD Cert.InnerRefIdeal.τ).loc Cert.InnerRefIdeal.main_arg2)
          ∧ r.2.mem ((c.tc : Thread Cert.InnerRefIdeal.nD Cert.InnerRefIdeal.τ).loc Cert.InnerRefIdeal.main_arg3) = m' ((c.tc : Thread Cert.InnerRefIdeal.nD Cert.InnerRefIdeal.τ).loc Cert.InnerRefIdeal.main_arg3)
          ∧ r.2.mem ((c.tc : Thread Cert.InnerRefIdeal.nD Cert.InnerRefIdeal.τ).loc Cert.InnerRefIdeal.main_arg4) = m' ((c.tc : Thread Cert.InnerRefIdeal.nD Cert.InnerRefIdeal.τ).loc Cert.InnerRefIdeal.main_arg4))

def preserves_Triple_TripleIdeal : Prop :=
  True

def algebraic_TripleIdeal_TripleRefIdeal [hTripleIdeal : Cert.TripleIdeal.Facts] [hTripleRefIdeal : Cert.TripleRefIdeal.Facts] : Prop :=
  ∀ (m : (ℓ : Loc Cert.TripleIdeal.nD Cert.TripleIdeal.τ Cert.TripleIdeal.sig) → Buf (Elt Ideal) ℓ) (g : Dev Cert.TripleIdeal.nD → PrngReg)
    (m' : (ℓ : Loc Cert.TripleRefIdeal.nD Cert.TripleRefIdeal.τ Cert.TripleRefIdeal.sig) → Buf (Elt Ideal) ℓ) (g' : Dev Cert.TripleRefIdeal.nD → PrngReg), Pre_TripleIdeal m →
    (∀ c : Dev Cert.TripleIdeal.nD,
      m' ((c.tc : Thread Cert.TripleRefIdeal.nD Cert.TripleRefIdeal.τ).loc Cert.TripleRefIdeal.main_arg0) = m ((c.tc : Thread Cert.TripleIdeal.nD Cert.TripleIdeal.τ).loc Cert.TripleIdeal.main_arg0)
      ∧ m' ((c.tc : Thread Cert.TripleRefIdeal.nD Cert.TripleRefIdeal.τ).loc Cert.TripleRefIdeal.main_arg1) = m ((c.tc : Thread Cert.TripleIdeal.nD Cert.TripleIdeal.τ).loc Cert.TripleIdeal.main_arg1)) →
    ∃ (v0 : (c : Dev Cert.TripleIdeal.nD) → Buf (Elt Ideal) ((c.tc : Thread Cert.TripleIdeal.nD Cert.TripleIdeal.τ).loc Cert.TripleIdeal.main_v0)),
      θ_run (Cert.TripleIdeal.defs (F := Ideal)) (onTc (τ := Cert.TripleIdeal.τ) (Cert.TripleIdeal.main (F := Ideal))) ⟨m, fun _ => 0, g⟩ (fun r => ∀ c : Dev Cert.TripleIdeal.nD,
          r.2.mem ((c.tc : Thread Cert.TripleIdeal.nD Cert.TripleIdeal.τ).loc Cert.TripleIdeal.main_v0) = v0 c
          ∧ r.2.mem ((c.tc : Thread Cert.TripleIdeal.nD Cert.TripleIdeal.τ).loc Cert.TripleIdeal.main_arg0) = m ((c.tc : Thread Cert.TripleIdeal.nD Cert.TripleIdeal.τ).loc Cert.TripleIdeal.main_arg0)
          ∧ r.2.mem ((c.tc : Thread Cert.TripleIdeal.nD Cert.TripleIdeal.τ).loc Cert.TripleIdeal.main_arg1) = m ((c.tc : Thread Cert.TripleIdeal.nD Cert.TripleIdeal.τ).loc Cert.TripleIdeal.main_arg1))
      ∧ θ_run (Cert.TripleRefIdeal.defs (F := Ideal)) (onTc (τ := Cert.TripleRefIdeal.τ) (Cert.TripleRefIdeal.main (F := Ideal))) ⟨m', fun _ => 0, g'⟩ (fun r => ∀ c : Dev Cert.TripleRefIdeal.nD,
          r.2.mem ((c.tc : Thread Cert.TripleRefIdeal.nD Cert.TripleRefIdeal.τ).loc Cert.TripleRefIdeal.main_v9) = v0 c
          ∧ r.2.mem ((c.tc : Thread Cert.TripleRefIdeal.nD Cert.TripleRefIdeal.τ).loc Cert.TripleRefIdeal.main_arg0) = m' ((c.tc : Thread Cert.TripleRefIdeal.nD Cert.TripleRefIdeal.τ).loc Cert.TripleRefIdeal.main_arg0)
          ∧ r.2.mem ((c.tc : Thread Cert.TripleRefIdeal.nD Cert.TripleRefIdeal.τ).loc Cert.TripleRefIdeal.main_arg1) = m' ((c.tc : Thread Cert.TripleRefIdeal.nD Cert.TripleRefIdeal.τ).loc Cert.TripleRefIdeal.main_arg1))

def preserves_Stick_StickIdeal : Prop :=
  IdealRules.named_const.Statement Cert.StickIdeal.κ "underflow" .f32 0xC2D00000#32 ⊥

def algebraic_StickIdeal_StickRefIdeal [hStickIdeal : Cert.StickIdeal.Facts] [hStickRefIdeal : Cert.StickRefIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0_0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0_0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v35) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hWeight : Cert.Weight.Facts) (hWeightIdeal : Cert.WeightIdeal.Facts) (hWeightRefIdeal : Cert.WeightRefIdeal.Facts) (hFirst : Cert.First.Facts) (hFirstIdeal : Cert.FirstIdeal.Facts) (hFirstRefIdeal : Cert.FirstRefIdeal.Facts) (hNorm : Cert.Norm.Facts) (hNormIdeal : Cert.NormIdeal.Facts) (hNormRefIdeal : Cert.NormRefIdeal.Facts) (hHidden : Cert.Hidden.Facts) (hHiddenIdeal : Cert.HiddenIdeal.Facts) (hHiddenRefIdeal : Cert.HiddenRefIdeal.Facts) (hFeed : Cert.Feed.Facts) (hFeedIdeal : Cert.FeedIdeal.Facts) (hFeedRefIdeal : Cert.FeedRefIdeal.Facts) (hProject : Cert.Project.Facts) (hProjectIdeal : Cert.ProjectIdeal.Facts) (hProjectRefIdeal : Cert.ProjectRefIdeal.Facts) (hMix : Cert.Mix.Facts) (hMixIdeal : Cert.MixIdeal.Facts) (hMixRefIdeal : Cert.MixRefIdeal.Facts) (hHeads : Cert.Heads.Facts) (hHeadsIdeal : Cert.HeadsIdeal.Facts) (hHeadsRefIdeal : Cert.HeadsRefIdeal.Facts) (hSource : Cert.Source.Facts) (hSourceIdeal : Cert.SourceIdeal.Facts) (hSourceRefIdeal : Cert.SourceRefIdeal.Facts) (hMerge : Cert.Merge.Facts) (hMergeIdeal : Cert.MergeIdeal.Facts) (hMergeRefIdeal : Cert.MergeRefIdeal.Facts) (hInner : Cert.Inner.Facts) (hInnerIdeal : Cert.InnerIdeal.Facts) (hInnerRefIdeal : Cert.InnerRefIdeal.Facts) (hTriple : Cert.Triple.Facts) (hTripleIdeal : Cert.TripleIdeal.Facts) (hTripleRefIdeal : Cert.TripleRefIdeal.Facts) (hStick : Cert.Stick.Facts) (hStickIdeal : Cert.StickIdeal.Facts) (hStickRefIdeal : Cert.StickRefIdeal.Facts) (hPre_finite : Cert.Pre_finite.Facts) (hPre_finite_norm : Cert.Pre_finite_norm.Facts) (hPre_finite_inner : Cert.Pre_finite_inner.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateRefIdeal (hGateRefIdeal := hGateRefIdeal)
    ∧ quiescent_Weight (hWeight := hWeight)
    ∧ quiescent_WeightIdeal (hWeightIdeal := hWeightIdeal)
    ∧ quiescent_WeightRefIdeal (hWeightRefIdeal := hWeightRefIdeal)
    ∧ quiescent_First (hFirst := hFirst)
    ∧ quiescent_FirstIdeal (hFirstIdeal := hFirstIdeal)
    ∧ quiescent_FirstRefIdeal (hFirstRefIdeal := hFirstRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Feed (hFeed := hFeed)
    ∧ quiescent_FeedIdeal (hFeedIdeal := hFeedIdeal)
    ∧ quiescent_FeedRefIdeal (hFeedRefIdeal := hFeedRefIdeal)
    ∧ quiescent_Project (hProject := hProject)
    ∧ quiescent_ProjectIdeal (hProjectIdeal := hProjectIdeal)
    ∧ quiescent_ProjectRefIdeal (hProjectRefIdeal := hProjectRefIdeal)
    ∧ quiescent_Mix (hMix := hMix)
    ∧ quiescent_MixIdeal (hMixIdeal := hMixIdeal)
    ∧ quiescent_MixRefIdeal (hMixRefIdeal := hMixRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_Source (hSource := hSource)
    ∧ quiescent_SourceIdeal (hSourceIdeal := hSourceIdeal)
    ∧ quiescent_SourceRefIdeal (hSourceRefIdeal := hSourceRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inner (hInner := hInner)
    ∧ quiescent_InnerIdeal (hInnerIdeal := hInnerIdeal)
    ∧ quiescent_InnerIdeal_pre_finite_inner (hInnerIdeal := hInnerIdeal) (hPre_finite_inner := hPre_finite_inner)
    ∧ quiescent_InnerRefIdeal (hInnerRefIdeal := hInnerRefIdeal)
    ∧ quiescent_InnerRefIdeal_pre_finite_inner (hInnerRefIdeal := hInnerRefIdeal) (hPre_finite_inner := hPre_finite_inner)
    ∧ quiescent_Triple (hTriple := hTriple)
    ∧ quiescent_TripleIdeal (hTripleIdeal := hTripleIdeal)
    ∧ quiescent_TripleRefIdeal (hTripleRefIdeal := hTripleRefIdeal)
    ∧ quiescent_Stick (hStick := hStick)
    ∧ quiescent_StickIdeal (hStickIdeal := hStickIdeal)
    ∧ quiescent_StickRefIdeal (hStickRefIdeal := hStickRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal (hGateIdeal := hGateIdeal) (hGateRefIdeal := hGateRefIdeal)
    ∧ preserves_Weight_WeightIdeal
    ∧ algebraic_WeightIdeal_WeightRefIdeal (hWeightIdeal := hWeightIdeal) (hWeightRefIdeal := hWeightRefIdeal)
    ∧ preserves_First_FirstIdeal
    ∧ algebraic_FirstIdeal_FirstRefIdeal (hFirstIdeal := hFirstIdeal) (hFirstRefIdeal := hFirstRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Hidden_HiddenIdeal
    ∧ algebraic_HiddenIdeal_HiddenRefIdeal (hHiddenIdeal := hHiddenIdeal) (hHiddenRefIdeal := hHiddenRefIdeal)
    ∧ preserves_Feed_FeedIdeal
    ∧ algebraic_FeedIdeal_FeedRefIdeal (hFeedIdeal := hFeedIdeal) (hFeedRefIdeal := hFeedRefIdeal)
    ∧ preserves_Project_ProjectIdeal
    ∧ algebraic_ProjectIdeal_ProjectRefIdeal (hProjectIdeal := hProjectIdeal) (hProjectRefIdeal := hProjectRefIdeal)
    ∧ preserves_Mix_MixIdeal
    ∧ algebraic_MixIdeal_MixRefIdeal (hMixIdeal := hMixIdeal) (hMixRefIdeal := hMixRefIdeal)
    ∧ preserves_Heads_HeadsIdeal
    ∧ algebraic_HeadsIdeal_HeadsRefIdeal (hHeadsIdeal := hHeadsIdeal) (hHeadsRefIdeal := hHeadsRefIdeal)
    ∧ preserves_Source_SourceIdeal
    ∧ algebraic_SourceIdeal_SourceRefIdeal (hSourceIdeal := hSourceIdeal) (hSourceRefIdeal := hSourceRefIdeal)
    ∧ preserves_Merge_MergeIdeal
    ∧ algebraic_MergeIdeal_MergeRefIdeal (hMergeIdeal := hMergeIdeal) (hMergeRefIdeal := hMergeRefIdeal)
    ∧ preserves_Inner_InnerIdeal
    ∧ algebraic_InnerIdeal_InnerRefIdeal_pre_finite_inner (hInnerIdeal := hInnerIdeal) (hInnerRefIdeal := hInnerRefIdeal) (hPre_finite_inner := hPre_finite_inner)
    ∧ preserves_Triple_TripleIdeal
    ∧ algebraic_TripleIdeal_TripleRefIdeal (hTripleIdeal := hTripleIdeal) (hTripleRefIdeal := hTripleRefIdeal)
    ∧ preserves_Stick_StickIdeal
    ∧ algebraic_StickIdeal_StickRefIdeal (hStickIdeal := hStickIdeal) (hStickRefIdeal := hStickRefIdeal)
-- ==== Pre_finite.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x1024 .bf16) (main_arg3 : FVec F S16384x1024 .bf16) : IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : IVec S16384x1024 1 := andi main_v2 main_v5
  let main_v7 : FVec F S16384x1024 .bf16 := Host.absf main_arg2
  let main_cst_1 : FVec F S_ .bf16 := constant S_ .bf16 0x7F80#16
  let main_v8 : FVec F S16384x1024 .bf16 := broadcastInDim S16384x1024 ![] bcast_S_S16384x1024 main_cst_1
  let main_v9 : IVec S16384x1024 1 := cmpf .olt main_v7 main_v8
  let main_v10 : IVec S16384x1024 1 := andi main_v6 main_v9
  let main_v11 : FVec F S16384x1024 .bf16 := Host.absf main_arg3
  let main_cst_2 : FVec F S_ .bf16 := constant S_ .bf16 0x7F80#16
  let main_v12 : FVec F S16384x1024 .bf16 := broadcastInDim S16384x1024 ![] bcast_S_S16384x1024 main_cst_2
  let main_v13 : IVec S16384x1024 1 := cmpf .olt main_v11 main_v12
  let main_v14 : IVec S16384x1024 1 := andi main_v10 main_v13
  main_v14
-- ==== Pre_finite_inner.lean ====
abbrev S16384x3072 : Shape := ⟨2, ![16384, 3072]⟩
abbrev S1024x3072 : Shape := ⟨2, ![1024, 3072]⟩
abbrev S16384x1024 : Shape := ⟨2, ![16384, 1024]⟩
abbrev S1024 : Shape := ⟨1, ![1024]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v8 : IVec S_ 1) (main_v12 : IVec S_ 1) (main_v15 : IVec S16384x1024 1) (main_c_5 : IVec S_ 1) : IVec S_ 1 :=
  let main_v16 : IVec S_ 1 := (fun x v => Host.reduce IntOp.andi x v reducesTo_S16384x1024_S_d0_1 h_S_) main_v15 main_c_5
  let main_v17 : IVec S_ 1 := andi main_v12 main_v16
  let main_v18 : IVec S_ 1 := andi main_v8 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x3072 .bf16) (main_arg1 : FVec F S1024x3072 .bf16) (main_arg2 : FVec F S16384x1024 .f32) (main_arg3 : FVec F S16384x1024 .f32) (main_arg4 : FVec F S1024 .f32) : IVec S_ 1 :=
  let main_v0 : FVec F S16384x3072 .bf16 := Host.absf main_arg0
  let main_cst : FVec F S_ .bf16 := constant S_ .bf16 0x7F80#16
  let main_v1 : FVec F S16384x3072 .bf16 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S1024x3072 .bf16 := Host.absf main_arg1
  let main_cst_0 : FVec F S_ .bf16 := constant S_ .bf16 0x7F80#16
  let main_v5 : FVec F S1024x3072 .bf16 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : FVec F S16384x1024 .f32 := Host.absf main_arg3
  let main_cst_4 : FVec F S_ .f32 := constant S_ .f32 0x7F800000#32
  let main_v14 : FVec F S16384x1024 .f32 := broadcastInDim S16384x1024 ![] bcast_S_S16384x1024 main_cst_4
  let main_v15 : IVec S16384x1024 1 := cmpf .olt main_v13 main_v14
  let main_c_5 : IVec S_ 1 := constantI S_ 1 1#1
  fn_part1 (F := F) main_arg4 main_v8 main_v12 main_v15 main_c_5
-- ==== Pre_finite_norm.lean ====
abbrev S16384x4096 : Shape := ⟨2, ![16384, 4096]⟩
abbrev S1024x4096 : Shape := ⟨2, ![1024, 4096]⟩
abbrev S16384x1024 : Shape := ⟨2, ![16384, 1024]⟩
abbrev S1024 : Shape := ⟨1, ![1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v8 : IVec S_ 1) (main_v12 : IVec S_ 1) (main_v15 : IVec S16384x1024 1) (main_c_5 : IVec S_ 1) : IVec S_ 1 :=
  let main_v16 : IVec S_ 1 := (fun x v => Host.reduce IntOp.andi x v reducesTo_S16384x1024_S_d0_1 h_S_) main_v15 main_c_5
  let main_v17 : IVec S_ 1 := andi main_v12 main_v16
  let main_v18 : IVec S_ 1 := andi main_v8 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x4096 .bf16) (main_arg1 : FVec F S1024x4096 .bf16) (main_arg2 : FVec F S16384x1024 .f32) (main_arg3 : FVec F S16384x1024 .f32) (main_arg4 : FVec F S1024 .f32) : IVec S_ 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : FVec F S16384x1024 .f32 := Host.absf main_arg3
  let main_cst_4 : FVec F S_ .f32 := constant S_ .f32 0x7F800000#32
  let main_v14 : FVec F S16384x1024 .f32 := broadcastInDim S16384x1024 ![] bcast_S_S16384x1024 main_cst_4
  let main_v15 : IVec S16384x1024 1 := cmpf .olt main_v13 main_v14
  let main_c_5 : IVec S_ 1 := constantI S_ 1 1#1
  fn_part1 (F := F) main_arg4 main_v8 main_v12 main_v15 main_c_5
-- ==== Kernel.lean ====
abbrev S16384x1024 : Shape := ⟨2, ![16384, 1024]⟩
abbrev S16384x16x64 : Shape := ⟨3, ![16384, 16, 64]⟩
abbrev S16x16384x64 : Shape := ⟨3, ![16, 16384, 64]⟩
abbrev S16x16384x1x64 : Shape := ⟨4, ![16, 16384, 1, 64]⟩
abbrev S16x1x16384x64 : Shape := ⟨4, ![16, 1, 16384, 64]⟩
abbrev S16x1x128x128x64 : Shape := ⟨5, ![16, 1, 128, 128, 64]⟩
abbrev S_ : Shape := ⟨0, ![]⟩
abbrev S16x1x129x128x64 : Shape := ⟨5, ![16, 1, 129, 128, 64]⟩
abbrev S16x1x128x256x64 : Shape := ⟨5, ![16, 1, 128, 256, 64]⟩
abbrev S16x1x128x128x256 : Shape := ⟨5, ![16, 1, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S16x1x128x128 : Shape := ⟨4, ![16, 1, 128, 128]⟩
abbrev S16x1x128x128x1 : Shape := ⟨5, ![16, 1, 128, 128, 1]⟩
abbrev S16x1x16384x1 : Shape := ⟨4, ![16, 1, 16384, 1]⟩
abbrev S16x16384x1x1 : Shape := ⟨4, ![16, 16384, 1, 1]⟩
abbrev S16x16384x1 : Shape := ⟨3, ![16, 16384, 1]⟩
abbrev S16x4096x4x64 : Shape := ⟨4, ![16, 4096, 4, 64]⟩
abbrev S16x4x4096x64 : Shape := ⟨4, ![16, 4, 4096, 64]⟩
abbrev S16x4x32x128x64 : Shape := ⟨5, ![16, 4, 32, 128, 64]⟩
abbrev S16x4x33x128x64 : Shape := ⟨5, ![16, 4, 33, 128, 64]⟩
abbrev S16x4x32x256x64 : Shape := ⟨5, ![16, 4, 32, 256, 64]⟩
abbrev S16x4x32x128x256 : Shape := ⟨5, ![16, 4, 32, 128, 256]⟩
abbrev S32 : Shape := ⟨1, ![32]⟩
abbrev S32x1x1 : Shape := ⟨3, ![32, 1, 1]⟩
abbrev S32x1x256 : Shape := ⟨3, ![32, 1, 256]⟩
abbrev S32x128x256 : Shape := ⟨3, ![32, 128, 256]⟩
abbrev S16x4x32x128 : Shape := ⟨4, ![16, 4, 32, 128]⟩
abbrev S16x4x32x128x1 : Shape := ⟨5, ![16, 4, 32, 128, 1]⟩
abbrev S16x4x4096x1 : Shape := ⟨4, ![16, 4, 4096, 1]⟩
abbrev S16x4096x4x1 : Shape := ⟨4, ![16, 4096, 4, 1]⟩
abbrev S16x1024x16x64 : Shape := ⟨4, ![16, 1024, 16, 64]⟩
abbrev S16x16x1024x64 : Shape := ⟨4, ![16, 16, 1024, 64]⟩
abbrev S16x16x8x128x64 : Shape := ⟨5, ![16, 16, 8, 128, 64]⟩
abbrev S16x16x9x128x64 : Shape := ⟨5, ![16, 16, 9, 128, 64]⟩
abbrev S16x16x8x256x64 : Shape := ⟨5, ![16, 16, 8, 256, 64]⟩
abbrev S16x16x8x128x256 : Shape := ⟨5, ![16, 16, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S16x16x8x128 : Shape := ⟨4, ![16, 16, 8, 128]⟩
abbrev S16x16x8x128x1 : Shape := ⟨5, ![16, 16, 8, 128, 1]⟩
abbrev S16x16x1024x1 : Shape := ⟨4, ![16, 16, 1024, 1]⟩
abbrev S16x1024x16x1 : Shape := ⟨4, ![16, 1024, 16, 1]⟩
abbrev S16x16384x3 : Shape := ⟨3, ![16, 16384, 3]⟩
abbrev S16x16384 : Shape := ⟨2, ![16, 16384]⟩
abbrev S16384x16 : Shape := ⟨2, ![16384, 16]⟩
abbrev S16384x96 : Shape := ⟨2, ![16384, 96]⟩
abbrev S16384x128 : Shape := ⟨2, ![16384, 128]⟩
abbrev S1024x16x1024 : Shape := ⟨3, ![1024, 16, 1024]⟩
abbrev S16x1024x1024 : Shape := ⟨3, ![16, 1024, 1024]⟩
abbrev S1024x16x128 : Shape := ⟨3, ![1024, 16, 128]⟩
abbrev S16x1024x128 : Shape := ⟨3, ![16, 1024, 128]⟩
abbrev S1024x128 : Shape := ⟨2, ![1024, 128]⟩
abbrev S128x128 : Shape := ⟨2, ![128, 128]⟩

abbrev nBuf : Space → Nat
  | .hbm => 313
  | .vmem => 16
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .bf16⟩
  | 4 => ⟨S16384x1024, .f32⟩
  | 5 => ⟨S16384x16x64, .f32⟩
  | 6 => ⟨S16x16384x64, .f32⟩
  | 7 => ⟨S16384x1024, .f32⟩
  | 8 => ⟨S16384x16x64, .f32⟩
  | 9 => ⟨S16x16384x64, .f32⟩
  | 10 => ⟨S16384x1024, .f32⟩
  | 11 => ⟨S16384x16x64, .f32⟩
  | 12 => ⟨S16x16384x64, .f32⟩
  | 13 => ⟨S16384x1024, .f32⟩
  | 14 => ⟨S16384x16x64, .f32⟩
  | 15 => ⟨S16x16384x64, .f32⟩
  | 16 => ⟨S16x16384x1x64, .f32⟩
  | 17 => ⟨S16x1x16384x64, .f32⟩
  | 18 => ⟨S16x1x128x128x64, .f32⟩
  | 19 => ⟨S16x16384x1x64, .f32⟩
  | 20 => ⟨S16x1x16384x64, .f32⟩
  | 21 => ⟨S16x1x128x128x64, .f32⟩
  | 22 => ⟨S_, .i32⟩
  | 23 => ⟨S_, .f32⟩
  | 24 => ⟨S16x1x129x128x64, .f32⟩
  | 25 => ⟨S16x1x128x128x64, .f32⟩
  | 26 => ⟨S16x1x128x256x64, .f32⟩
  | 27 => ⟨S16x16384x1x64, .f32⟩
  | 28 => ⟨S16x1x16384x64, .f32⟩
  | 29 => ⟨S16x1x128x128x64, .f32⟩
  | 30 => ⟨S_, .i32⟩
  | 31 => ⟨S_, .f32⟩
  | 32 => ⟨S16x1x129x128x64, .f32⟩
  | 33 => ⟨S16x1x128x128x64, .f32⟩
  | 34 => ⟨S16x1x128x256x64, .f32⟩
  | 35 => ⟨S16x1x128x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S128, .i32⟩
  | 47 => ⟨S128x1x1, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S_, .i32⟩
  | 56 => ⟨S128x1x1, .i32⟩
  | 57 => ⟨S128x1x1, .i1⟩
  | 58 => ⟨S_, .i32⟩
  | 59 => ⟨S1x256, .i32⟩
  | 60 => ⟨S1x256, .i1⟩
  | 61 => ⟨S1x1x256, .i1⟩
  | 62 => ⟨S128x1x256, .i1⟩
  | 63 => ⟨S128x1x256, .i1⟩
  | 64 => ⟨S128x1x256, .i1⟩
  | 65 => ⟨S1x128x256, .i1⟩
  | 66 => ⟨S128x128x256, .i1⟩
  | 67 => ⟨S128x128x256, .i1⟩
  | 68 => ⟨S128x128x256, .i1⟩
  | 69 => ⟨S_, .f32⟩
  | 70 => ⟨S_, .f32⟩
  | 71 => ⟨S16x1x128x128x256, .i1⟩
  | 72 => ⟨S16x1x128x128x256, .f32⟩
  | 73 => ⟨S16x1x128x128x256, .f32⟩
  | 74 => ⟨S_, .f32⟩
  | 75 => ⟨S16x1x128x128, .f32⟩
  | 76 => ⟨S16x1x128x128x1, .f32⟩
  | 77 => ⟨S16x1x128x128x256, .f32⟩
  | 78 => ⟨S16x1x128x128x256, .f32⟩
  | 79 => ⟨S16x1x128x128x256, .f32⟩
  | 80 => ⟨S_, .f32⟩
  | 81 => ⟨S16x1x128x128, .f32⟩
  | 82 => ⟨S16x1x128x128x1, .f32⟩
  | 83 => ⟨S16x1x128x128x64, .f32⟩
  | 84 => ⟨S16x1x16384x1, .f32⟩
  | 85 => ⟨S16x16384x1x1, .f32⟩
  | 86 => ⟨S16x16384x1, .f32⟩
  | 87 => ⟨S16x1x16384x1, .f32⟩
  | 88 => ⟨S16x16384x1x1, .f32⟩
  | 89 => ⟨S16x16384x1, .f32⟩
  | 90 => ⟨S16x1x16384x64, .f32⟩
  | 91 => ⟨S16x16384x1x64, .f32⟩
  | 92 => ⟨S16x16384x64, .f32⟩
  | 93 => ⟨S16x4096x4x64, .f32⟩
  | 94 => ⟨S16x4x4096x64, .f32⟩
  | 95 => ⟨S16x4x32x128x64, .f32⟩
  | 96 => ⟨S16x4096x4x64, .f32⟩
  | 97 => ⟨S16x4x4096x64, .f32⟩
  | 98 => ⟨S16x4x32x128x64, .f32⟩
  | 99 => ⟨S_, .i32⟩
  | 100 => ⟨S_, .f32⟩
  | 101 => ⟨S16x4x33x128x64, .f32⟩
  | 102 => ⟨S16x4x32x128x64, .f32⟩
  | 103 => ⟨S16x4x32x256x64, .f32⟩
  | 104 => ⟨S16x4096x4x64, .f32⟩
  | 105 => ⟨S16x4x4096x64, .f32⟩
  | 106 => ⟨S16x4x32x128x64, .f32⟩
  | 107 => ⟨S_, .i32⟩
  | 108 => ⟨S_, .f32⟩
  | 109 => ⟨S16x4x33x128x64, .f32⟩
  | 110 => ⟨S16x4x32x128x64, .f32⟩
  | 111 => ⟨S16x4x32x256x64, .f32⟩
  | 112 => ⟨S16x4x32x128x256, .f32⟩
  | 113 => ⟨S128, .i32⟩
  | 114 => ⟨S128x1, .i32⟩
  | 115 => ⟨S256, .i32⟩
  | 116 => ⟨S1x256, .i32⟩
  | 117 => ⟨S_, .i32⟩
  | 118 => ⟨S128x1, .i32⟩
  | 119 => ⟨S128x1, .i32⟩
  | 120 => ⟨S128x256, .i32⟩
  | 121 => ⟨S128x256, .i32⟩
  | 122 => ⟨S128x256, .i32⟩
  | 123 => ⟨S32, .i32⟩
  | 124 => ⟨S32x1x1, .i32⟩
  | 125 => ⟨S_, .i32⟩
  | 126 => ⟨S128x256, .i32⟩
  | 127 => ⟨S128x256, .i1⟩
  | _ => ⟨S16384x1024, .bf16⟩

abbrev hbmTy0_1 (i : Nat) : BufTy := match i % 128 with
  | 0 => ⟨S_, .i32⟩
  | 1 => ⟨S128x256, .i32⟩
  | 2 => ⟨S128x256, .i1⟩
  | 3 => ⟨S128x256, .i1⟩
  | 4 => ⟨S_, .i32⟩
  | 5 => ⟨S32x1x1, .i32⟩
  | 6 => ⟨S32x1x1, .i1⟩
  | 7 => ⟨S_, .i32⟩
  | 8 => ⟨S1x256, .i32⟩
  | 9 => ⟨S1x256, .i1⟩
  | 10 => ⟨S1x1x256, .i1⟩
  | 11 => ⟨S32x1x256, .i1⟩
  | 12 => ⟨S32x1x256, .i1⟩
  | 13 => ⟨S32x1x256, .i1⟩
  | 14 => ⟨S1x128x256, .i1⟩
  | 15 => ⟨S32x128x256, .i1⟩
  | 16 => ⟨S32x128x256, .i1⟩
  | 17 => ⟨S32x128x256, .i1⟩
  | 18 => ⟨S_, .f32⟩
  | 19 => ⟨S_, .f32⟩
  | 20 => ⟨S16x4x32x128x256, .i1⟩
  | 21 => ⟨S16x4x32x128x256, .f32⟩
  | 22 => ⟨S16x4x32x128x256, .f32⟩
  | 23 => ⟨S_, .f32⟩
  | 24 => ⟨S16x4x32x128, .f32⟩
  | 25 => ⟨S16x4x32x128x1, .f32⟩
  | 26 => ⟨S16x4x32x128x256, .f32⟩
  | 27 => ⟨S16x4x32x128x256, .f32⟩
  | 28 => ⟨S16x4x32x128x256, .f32⟩
  | 29 => ⟨S_, .f32⟩
  | 30 => ⟨S16x4x32x128, .f32⟩
  | 31 => ⟨S16x4x32x128x1, .f32⟩
  | 32 => ⟨S16x4x32x128x64, .f32⟩
  | 33 => ⟨S16x4x4096x1, .f32⟩
  | 34 => ⟨S16x4096x4x1, .f32⟩
  | 35 => ⟨S16x16384x1, .f32⟩
  | 36 => ⟨S16x4x4096x1, .f32⟩
  | 37 => ⟨S16x4096x4x1, .f32⟩
  | 38 => ⟨S16x16384x1, .f32⟩
  | 39 => ⟨S16x4x4096x64, .f32⟩
  | 40 => ⟨S16x4096x4x64, .f32⟩
  | 41 => ⟨S16x16384x64, .f32⟩
  | 42 => ⟨S16x1024x16x64, .f32⟩
  | 43 => ⟨S16x16x1024x64, .f32⟩
  | 44 => ⟨S16x16x8x128x64, .f32⟩
  | 45 => ⟨S16x1024x16x64, .f32⟩
  | 46 => ⟨S16x16x1024x64, .f32⟩
  | 47 => ⟨S16x16x8x128x64, .f32⟩
  | 48 => ⟨S_, .i32⟩
  | 49 => ⟨S_, .f32⟩
  | 50 => ⟨S16x16x9x128x64, .f32⟩
  | 51 => ⟨S16x16x8x128x64, .f32⟩
  | 52 => ⟨S16x16x8x256x64, .f32⟩
  | 53 => ⟨S16x1024x16x64, .f32⟩
  | 54 => ⟨S16x16x1024x64, .f32⟩
  | 55 => ⟨S16x16x8x128x64, .f32⟩
  | 56 => ⟨S_, .i32⟩
  | 57 => ⟨S_, .f32⟩
  | 58 => ⟨S16x16x9x128x64, .f32⟩
  | 59 => ⟨S16x16x8x128x64, .f32⟩
  | 60 => ⟨S16x16x8x256x64, .f32⟩
  | 61 => ⟨S16x16x8x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S8, .i32⟩
  | 73 => ⟨S8x1x1, .i32⟩
  | 74 => ⟨S_, .i32⟩
  | 75 => ⟨S128x256, .i32⟩
  | 76 => ⟨S128x256, .i1⟩
  | 77 => ⟨S_, .i32⟩
  | 78 => ⟨S128x256, .i32⟩
  | 79 => ⟨S128x256, .i1⟩
  | 80 => ⟨S128x256, .i1⟩
  | 81 => ⟨S_, .i32⟩
  | 82 => ⟨S8x1x1, .i32⟩
  | 83 => ⟨S8x1x1, .i1⟩
  | 84 => ⟨S_, .i32⟩
  | 85 => ⟨S1x256, .i32⟩
  | 86 => ⟨S1x256, .i1⟩
  | 87 => ⟨S1x1x256, .i1⟩
  | 88 => ⟨S8x1x256, .i1⟩
  | 89 => ⟨S8x1x256, .i1⟩
  | 90 => ⟨S8x1x256, .i1⟩
  | 91 => ⟨S1x128x256, .i1⟩
  | 92 => ⟨S8x128x256, .i1⟩
  | 93 => ⟨S8x128x256, .i1⟩
  | 94 => ⟨S8x128x256, .i1⟩
  | 95 => ⟨S_, .f32⟩
  | 96 => ⟨S_, .f32⟩
  | 97 => ⟨S16x16x8x128x256, .i1⟩
  | 98 => ⟨S16x16x8x128x256, .f32⟩
  | 99 => ⟨S16x16x8x128x256, .f32⟩
  | 100 => ⟨S_, .f32⟩
  | 101 => ⟨S16x16x8x128, .f32⟩
  | 102 => ⟨S16x16x8x128x1, .f32⟩
  | 103 => ⟨S16x16x8x128x256, .f32⟩
  | 104 => ⟨S16x16x8x128x256, .f32⟩
  | 105 => ⟨S16x16x8x128x256, .f32⟩
  | 106 => ⟨S_, .f32⟩
  | 107 => ⟨S16x16x8x128, .f32⟩
  | 108 => ⟨S16x16x8x128x1, .f32⟩
  | 109 => ⟨S16x16x8x128x64, .f32⟩
  | 110 => ⟨S16x16x1024x1, .f32⟩
  | 111 => ⟨S16x1024x16x1, .f32⟩
  | 112 => ⟨S16x16384x1, .f32⟩
  | 113 => ⟨S16x16x1024x1, .f32⟩
  | 114 => ⟨S16x1024x16x1, .f32⟩
  | 115 => ⟨S16x16384x1, .f32⟩
  | 116 => ⟨S16x16x1024x64, .f32⟩
  | 117 => ⟨S16x1024x16x64, .f32⟩
  | 118 => ⟨S16x16384x64, .f32⟩
  | 119 => ⟨S16x16384x3, .f32⟩
  | 120 => ⟨S_, .f32⟩
  | 121 => ⟨S16x16384, .f32⟩
  | 122 => ⟨S16x16384x1, .f32⟩
  | 123 => ⟨S16x16384x1, .f32⟩
  | 124 => ⟨S16x16384x1, .f32⟩
  | 125 => ⟨S16x16384x64, .f32⟩
  | 126 => ⟨S16x16384x64, .f32⟩
  | 127 => ⟨S_, .f32⟩
  | _ => ⟨S16384x1024, .bf16⟩

abbrev hbmTy0_2 (i : Nat) : BufTy := match i % 128 with
  | 0 => ⟨S16x16384x64, .f32⟩
  | 1 => ⟨S16x16384x64, .f32⟩
  | 2 => ⟨S16x16384x1, .f32⟩
  | 3 => ⟨S16x16384x1, .f32⟩
  | 4 => ⟨S16x16384x64, .f32⟩
  | 5 => ⟨S16x16384x64, .f32⟩
  | 6 => ⟨S16x16384x64, .f32⟩
  | 7 => ⟨S16x16384x1, .f32⟩
  | 8 => ⟨S16x16384x1, .f32⟩
  | 9 => ⟨S16x16384x64, .f32⟩
  | 10 => ⟨S16x16384x64, .f32⟩
  | 11 => ⟨S16x16384x64, .f32⟩
  | 12 => ⟨S16x16384x1, .f32⟩
  | 13 => ⟨S16x16384x1, .f32⟩
  | 14 => ⟨S16x16384x1, .f32⟩
  | 15 => ⟨S_, .f32⟩
  | 16 => ⟨S16x16384x1, .f32⟩
  | 17 => ⟨S16x16384x1, .f32⟩
  | 18 => ⟨S16x16384x1, .f32⟩
  | 19 => ⟨S16x16384x1, .f32⟩
  | 20 => ⟨S16x16384x1, .f32⟩
  | 21 => ⟨S16x16384x1, .f32⟩
  | 22 => ⟨S16x16384x1, .f32⟩
  | 23 => ⟨S16x16384x1, .f32⟩
  | 24 => ⟨S16x16384x1, .f32⟩
  | 25 => ⟨S16x16384x1, .f32⟩
  | 26 => ⟨S16x16384x64, .f32⟩
  | 27 => ⟨S16x16384x64, .f32⟩
  | 28 => ⟨S16x16384x1, .f32⟩
  | 29 => ⟨S16x16384x1, .f32⟩
  | 30 => ⟨S16x16384x64, .f32⟩
  | 31 => ⟨S_, .f32⟩
  | 32 => ⟨S16x16384, .f32⟩
  | 33 => ⟨S16x16384x1, .f32⟩
  | 34 => ⟨S16x16384, .f32⟩
  | 35 => ⟨S16384x16, .f32⟩
  | 36 => ⟨S16x16384, .f32⟩
  | 37 => ⟨S16384x16, .f32⟩
  | 38 => ⟨S_, .f32⟩
  | 39 => ⟨S16384x96, .f32⟩
  | 40 => ⟨S16384x128, .f32⟩
  | 41 => ⟨S1024x16x1024, .bf16⟩
  | 42 => ⟨S16x1024x1024, .bf16⟩
  | 43 => ⟨S16384x1024, .bf16⟩
  | 44 => ⟨S1024x16x1024, .bf16⟩
  | 45 => ⟨S16x1024x1024, .bf16⟩
  | 46 => ⟨S16384x1024, .bf16⟩
  | 47 => ⟨S1024x16x1024, .bf16⟩
  | 48 => ⟨S16x1024x1024, .bf16⟩
  | 49 => ⟨S16384x1024, .bf16⟩
  | 50 => ⟨S1024x16x1024, .bf16⟩
  | 51 => ⟨S16x1024x1024, .bf16⟩
  | 52 => ⟨S16384x1024, .bf16⟩
  | 53 => ⟨S1024x16x128, .f32⟩
  | 54 => ⟨S16x1024x128, .f32⟩
  | 55 => ⟨S16384x128, .f32⟩
  | 56 => ⟨S16384x1024, .bf16⟩
  | _ => ⟨S16384x1024, .bf16⟩

abbrev hbmTy (i : Nat) : BufTy := match i / 128 with
  | 0 => hbmTy0_0 i
  | 1 => hbmTy0_1 i
  | 2 => hbmTy0_2 i
  | _ => ⟨S16384x1024, .bf16⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_call1_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_2 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_8 : Ref sig .tc := ⟨.hbm, 99, rfl⟩
abbrev main_call3_v0 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_9 : Ref sig .tc := ⟨.hbm, 107, rfl⟩
abbrev main_call4_v0 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_11 : Ref sig .tc := ⟨.hbm, 125, rfl⟩
abbrev main_v101 : Ref sig .tc := ⟨.hbm, 126, rfl⟩
abbrev main_v102 : Ref sig .tc := ⟨.hbm, 127, rfl⟩
abbrev main_c_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_13 : Ref sig .tc := ⟨.hbm, 132, rfl⟩
abbrev main_v106 : Ref sig .tc := ⟨.hbm, 133, rfl⟩
abbrev main_v107 : Ref sig .tc := ⟨.hbm, 134, rfl⟩
abbrev main_c_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_15 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v118 : Ref sig .tc := ⟨.hbm, 150, rfl⟩
abbrev main_cst_16 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_17 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_18 : Ref sig .tc := ⟨.hbm, 176, rfl⟩
abbrev main_call6_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_19 : Ref sig .tc := ⟨.hbm, 184, rfl⟩
abbrev main_call7_v0 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_c_20 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_c_21 : Ref sig .tc := ⟨.hbm, 202, rfl⟩
abbrev main_v163 : Ref sig .tc := ⟨.hbm, 203, rfl⟩
abbrev main_v164 : Ref sig .tc := ⟨.hbm, 204, rfl⟩
abbrev main_c_22 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_23 : Ref sig .tc := ⟨.hbm, 209, rfl⟩
abbrev main_v168 : Ref sig .tc := ⟨.hbm, 210, rfl⟩
abbrev main_v169 : Ref sig .tc := ⟨.hbm, 211, rfl⟩
abbrev main_c_24 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_25 : Ref sig .tc := ⟨.hbm, 223, rfl⟩
abbrev main_call8_v0 : Ref sig .tc := ⟨.hbm, 224, rfl⟩
abbrev main_call8_v1 : Ref sig .tc := ⟨.hbm, 225, rfl⟩
abbrev main_call8_v2 : Ref sig .tc := ⟨.hbm, 226, rfl⟩
abbrev main_v180 : Ref sig .tc := ⟨.hbm, 227, rfl⟩
abbrev main_cst_26 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_27 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_cst_28 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_cst_29 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_cst_30 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_cst_31 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_32 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S16384x16x64 : Shape := ⟨3, ![16384, 16, 64]⟩
abbrev S16x16384x64 : Shape := ⟨3, ![16, 16384, 64]⟩
abbrev S16x16384x1x64 : Shape := ⟨4, ![16, 16384, 1, 64]⟩
abbrev S16x1x16384x64 : Shape := ⟨4, ![16, 1, 16384, 64]⟩
abbrev S16x1x128x128x64 : Shape := ⟨5, ![16, 1, 128, 128, 64]⟩
abbrev S_ : Shape := ⟨0, ![]⟩
abbrev S16x1x129x128x64 : Shape := ⟨5, ![16, 1, 129, 128, 64]⟩
abbrev S16x1x128x256x64 : Shape := ⟨5, ![16, 1, 128, 256, 64]⟩
abbrev S16x1x128x128x256 : Shape := ⟨5, ![16, 1, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S16x1x128x128 : Shape := ⟨4, ![16, 1, 128, 128]⟩
abbrev S16x1x128x128x1 : Shape := ⟨5, ![16, 1, 128, 128, 1]⟩
abbrev S16x1x16384x1 : Shape := ⟨4, ![16, 1, 16384, 1]⟩
abbrev S16x16384x1x1 : Shape := ⟨4, ![16, 16384, 1, 1]⟩
abbrev S16x16384x1 : Shape := ⟨3, ![16, 16384, 1]⟩
abbrev S16x4096x4x64 : Shape := ⟨4, ![16, 4096, 4, 64]⟩
abbrev S16x4x4096x64 : Shape := ⟨4, ![16, 4, 4096, 64]⟩
abbrev S16x4x32x128x64 : Shape := ⟨5, ![16, 4, 32, 128, 64]⟩
abbrev S16x4x33x128x64 : Shape := ⟨5, ![16, 4, 33, 128, 64]⟩
abbrev S16x4x32x256x64 : Shape := ⟨5, ![16, 4, 32, 256, 64]⟩
abbrev S16x4x32x128x256 : Shape := ⟨5, ![16, 4, 32, 128, 256]⟩
abbrev S32 : Shape := ⟨1, ![32]⟩
abbrev S32x1x1 : Shape := ⟨3, ![32, 1, 1]⟩
abbrev S32x1x256 : Shape := ⟨3, ![32, 1, 256]⟩
abbrev S32x128x256 : Shape := ⟨3, ![32, 128, 256]⟩
abbrev S16x4x32x128 : Shape := ⟨4, ![16, 4, 32, 128]⟩
abbrev S16x4x32x128x1 : Shape := ⟨5, ![16, 4, 32, 128, 1]⟩
abbrev S16x4x4096x1 : Shape := ⟨4, ![16, 4, 4096, 1]⟩
abbrev S16x4096x4x1 : Shape := ⟨4, ![16, 4096, 4, 1]⟩
abbrev S16x1024x16x64 : Shape := ⟨4, ![16, 1024, 16, 64]⟩
abbrev S16x16x1024x64 : Shape := ⟨4, ![16, 16, 1024, 64]⟩
abbrev S16x16x8x128x64 : Shape := ⟨5, ![16, 16, 8, 128, 64]⟩
abbrev S16x16x9x128x64 : Shape := ⟨5, ![16, 16, 9, 128, 64]⟩
abbrev S16x16x8x256x64 : Shape := ⟨5, ![16, 16, 8, 256, 64]⟩
abbrev S16x16x8x128x256 : Shape := ⟨5, ![16, 16, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S16x16x8x128 : Shape := ⟨4, ![16, 16, 8, 128]⟩
abbrev S16x16x8x128x1 : Shape := ⟨5, ![16, 16, 8, 128, 1]⟩
abbrev S16x16x1024x1 : Shape := ⟨4, ![16, 16, 1024, 1]⟩
abbrev S16x1024x16x1 : Shape := ⟨4, ![16, 1024, 16, 1]⟩
abbrev S16x16384x3 : Shape := ⟨3, ![16, 16384, 3]⟩
abbrev S16x16384 : Shape := ⟨2, ![16, 16384]⟩
abbrev S1024x16x1024 : Shape := ⟨3, ![1024, 16, 1024]⟩
abbrev S16x1024x1024 : Shape := ⟨3, ![16, 1024, 1024]⟩

abbrev nBuf : Space → Nat
  | .hbm => 399
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S16384x1024, .bf16⟩
  | 4 => ⟨S16384x1024, .f32⟩
  | 5 => ⟨S16384x16x64, .f32⟩
  | 6 => ⟨S16x16384x64, .f32⟩
  | 7 => ⟨S16384x1024, .f32⟩
  | 8 => ⟨S16384x16x64, .f32⟩
  | 9 => ⟨S16x16384x64, .f32⟩
  | 10 => ⟨S16384x1024, .f32⟩
  | 11 => ⟨S16384x16x64, .f32⟩
  | 12 => ⟨S16x16384x64, .f32⟩
  | 13 => ⟨S16384x1024, .f32⟩
  | 14 => ⟨S16384x16x64, .f32⟩
  | 15 => ⟨S16x16384x64, .f32⟩
  | 16 => ⟨S16x16384x1x64, .f32⟩
  | 17 => ⟨S16x1x16384x64, .f32⟩
  | 18 => ⟨S16x1x128x128x64, .f32⟩
  | 19 => ⟨S16x16384x1x64, .f32⟩
  | 20 => ⟨S16x1x16384x64, .f32⟩
  | 21 => ⟨S16x1x128x128x64, .f32⟩
  | 22 => ⟨S_, .i32⟩
  | 23 => ⟨S_, .f32⟩
  | 24 => ⟨S16x1x129x128x64, .f32⟩
  | 25 => ⟨S16x1x128x128x64, .f32⟩
  | 26 => ⟨S16x1x128x256x64, .f32⟩
  | 27 => ⟨S16x16384x1x64, .f32⟩
  | 28 => ⟨S16x1x16384x64, .f32⟩
  | 29 => ⟨S16x1x128x128x64, .f32⟩
  | 30 => ⟨S_, .i32⟩
  | 31 => ⟨S_, .f32⟩
  | 32 => ⟨S16x1x129x128x64, .f32⟩
  | 33 => ⟨S16x1x128x128x64, .f32⟩
  | 34 => ⟨S16x1x128x256x64, .f32⟩
  | 35 => ⟨S16x1x128x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S128, .i32⟩
  | 47 => ⟨S128x1x1, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S_, .i32⟩
  | 56 => ⟨S128x1x1, .i32⟩
  | 57 => ⟨S128x1x1, .i1⟩
  | 58 => ⟨S_, .i32⟩
  | 59 => ⟨S1x256, .i32⟩
  | 60 => ⟨S1x256, .i1⟩
  | 61 => ⟨S1x1x256, .i1⟩
  | 62 => ⟨S128x1x256, .i1⟩
  | 63 => ⟨S128x1x256, .i1⟩
  | 64 => ⟨S128x1x256, .i1⟩
  | 65 => ⟨S1x128x256, .i1⟩
  | 66 => ⟨S128x128x256, .i1⟩
  | 67 => ⟨S128x128x256, .i1⟩
  | 68 => ⟨S128x128x256, .i1⟩
  | 69 => ⟨S_, .f32⟩
  | 70 => ⟨S_, .f32⟩
  | 71 => ⟨S16x1x128x128x256, .i1⟩
  | 72 => ⟨S16x1x128x128x256, .f32⟩
  | 73 => ⟨S16x1x128x128x256, .f32⟩
  | 74 => ⟨S_, .f32⟩
  | 75 => ⟨S16x1x128x128, .f32⟩
  | 76 => ⟨S16x1x128x128x1, .f32⟩
  | 77 => ⟨S16x1x128x128x256, .f32⟩
  | 78 => ⟨S16x1x128x128x256, .f32⟩
  | 79 => ⟨S16x1x128x128x256, .f32⟩
  | 80 => ⟨S_, .f32⟩
  | 81 => ⟨S16x1x128x128, .f32⟩
  | 82 => ⟨S16x1x128x128x1, .f32⟩
  | 83 => ⟨S16x1x128x128x64, .f32⟩
  | 84 => ⟨S16x1x16384x1, .f32⟩
  | 85 => ⟨S16x16384x1x1, .f32⟩
  | 86 => ⟨S16x16384x1, .f32⟩
  | 87 => ⟨S16x1x16384x1, .f32⟩
  | 88 => ⟨S16x16384x1x1, .f32⟩
  | 89 => ⟨S16x16384x1, .f32⟩
  | 90 => ⟨S16x1x16384x64, .f32⟩
  | 91 => ⟨S16x16384x1x64, .f32⟩
  | 92 => ⟨S16x16384x64, .f32⟩
  | 93 => ⟨S16x4096x4x64, .f32⟩
  | 94 => ⟨S16x4x4096x64, .f32⟩
  | 95 => ⟨S16x4x32x128x64, .f32⟩
  | 96 => ⟨S16x4096x4x64, .f32⟩
  | 97 => ⟨S16x4x4096x64, .f32⟩
  | 98 => ⟨S16x4x32x128x64, .f32⟩
  | 99 => ⟨S_, .i32⟩
  | 100 => ⟨S_, .f32⟩
  | 101 => ⟨S16x4x33x128x64, .f32⟩
  | 102 => ⟨S16x4x32x128x64, .f32⟩
  | 103 => ⟨S16x4x32x256x64, .f32⟩
  | 104 => ⟨S16x4096x4x64, .f32⟩
  | 105 => ⟨S16x4x4096x64, .f32⟩
  | 106 => ⟨S16x4x32x128x64, .f32⟩
  | 107 => ⟨S_, .i32⟩
  | 108 => ⟨S_, .f32⟩
  | 109 => ⟨S16x4x33x128x64, .f32⟩
  | 110 => ⟨S16x4x32x128x64, .f32⟩
  | 111 => ⟨S16x4x32x256x64, .f32⟩
  | 112 => ⟨S16x4x32x128x256, .f32⟩
  | 113 => ⟨S128, .i32⟩
  | 114 => ⟨S128x1, .i32⟩
  | 115 => ⟨S256, .i32⟩
  | 116 => ⟨S1x256, .i32⟩
  | 117 => ⟨S_, .i32⟩
  | 118 => ⟨S128x1, .i32⟩
  | 119 => ⟨S128x1, .i32⟩
  | 120 => ⟨S128x256, .i32⟩
  | 121 => ⟨S128x256, .i32⟩
  | 122 => ⟨S128x256, .i32⟩
  | 123 => ⟨S32, .i32⟩
  | 124 => ⟨S32x1x1, .i32⟩
  | 125 => ⟨S_, .i32⟩
  | 126 => ⟨S128x256, .i32⟩
  | 127 => ⟨S128x256, .i1⟩
  | _ => ⟨S16384x1024, .bf16⟩

abbrev hbmTy0_1 (i : Nat) : BufTy := match i % 128 with
  | 0 => ⟨S_, .i32⟩
  | 1 => ⟨S128x256, .i32⟩
  | 2 => ⟨S128x256, .i1⟩
  | 3 => ⟨S128x256, .i1⟩
  | 4 => ⟨S_, .i32⟩
  | 5 => ⟨S32x1x1, .i32⟩
  | 6 => ⟨S32x1x1, .i1⟩
  | 7 => ⟨S_, .i32⟩
  | 8 => ⟨S1x256, .i32⟩
  | 9 => ⟨S1x256, .i1⟩
  | 10 => ⟨S1x1x256, .i1⟩
  | 11 => ⟨S32x1x256, .i1⟩
  | 12 => ⟨S32x1x256, .i1⟩
  | 13 => ⟨S32x1x256, .i1⟩
  | 14 => ⟨S1x128x256, .i1⟩
  | 15 => ⟨S32x128x256, .i1⟩
  | 16 => ⟨S32x128x256, .i1⟩
  | 17 => ⟨S32x128x256, .i1⟩
  | 18 => ⟨S_, .f32⟩
  | 19 => ⟨S_, .f32⟩
  | 20 => ⟨S16x4x32x128x256, .i1⟩
  | 21 => ⟨S16x4x32x128x256, .f32⟩
  | 22 => ⟨S16x4x32x128x256, .f32⟩
  | 23 => ⟨S_, .f32⟩
  | 24 => ⟨S16x4x32x128, .f32⟩
  | 25 => ⟨S16x4x32x128x1, .f32⟩
  | 26 => ⟨S16x4x32x128x256, .f32⟩
  | 27 => ⟨S16x4x32x128x256, .f32⟩
  | 28 => ⟨S16x4x32x128x256, .f32⟩
  | 29 => ⟨S_, .f32⟩
  | 30 => ⟨S16x4x32x128, .f32⟩
  | 31 => ⟨S16x4x32x128x1, .f32⟩
  | 32 => ⟨S16x4x32x128x64, .f32⟩
  | 33 => ⟨S16x4x4096x1, .f32⟩
  | 34 => ⟨S16x4096x4x1, .f32⟩
  | 35 => ⟨S16x16384x1, .f32⟩
  | 36 => ⟨S16x4x4096x1, .f32⟩
  | 37 => ⟨S16x4096x4x1, .f32⟩
  | 38 => ⟨S16x16384x1, .f32⟩
  | 39 => ⟨S16x4x4096x64, .f32⟩
  | 40 => ⟨S16x4096x4x64, .f32⟩
  | 41 => ⟨S16x16384x64, .f32⟩
  | 42 => ⟨S16x1024x16x64, .f32⟩
  | 43 => ⟨S16x16x1024x64, .f32⟩
  | 44 => ⟨S16x16x8x128x64, .f32⟩
  | 45 => ⟨S16x1024x16x64, .f32⟩
  | 46 => ⟨S16x16x1024x64, .f32⟩
  | 47 => ⟨S16x16x8x128x64, .f32⟩
  | 48 => ⟨S_, .i32⟩
  | 49 => ⟨S_, .f32⟩
  | 50 => ⟨S16x16x9x128x64, .f32⟩
  | 51 => ⟨S16x16x8x128x64, .f32⟩
  | 52 => ⟨S16x16x8x256x64, .f32⟩
  | 53 => ⟨S16x1024x16x64, .f32⟩
  | 54 => ⟨S16x16x1024x64, .f32⟩
  | 55 => ⟨S16x16x8x128x64, .f32⟩
  | 56 => ⟨S_, .i32⟩
  | 57 => ⟨S_, .f32⟩
  | 58 => ⟨S16x16x9x128x64, .f32⟩
  | 59 => ⟨S16x16x8x128x64, .f32⟩
  | 60 => ⟨S16x16x8x256x64, .f32⟩
  | 61 => ⟨S16x16x8x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S8, .i32⟩
  | 73 => ⟨S8x1x1, .i32⟩
  | 74 => ⟨S_, .i32⟩
  | 75 => ⟨S128x256, .i32⟩
  | 76 => ⟨S128x256, .i1⟩
  | 77 => ⟨S_, .i32⟩
  | 78 => ⟨S128x256, .i32⟩
  | 79 => ⟨S128x256, .i1⟩
  | 80 => ⟨S128x256, .i1⟩
  | 81 => ⟨S_, .i32⟩
  | 82 => ⟨S8x1x1, .i32⟩
  | 83 => ⟨S8x1x1, .i1⟩
  | 84 => ⟨S_, .i32⟩
  | 85 => ⟨S1x256, .i32⟩
  | 86 => ⟨S1x256, .i1⟩
  | 87 => ⟨S1x1x256, .i1⟩
  | 88 => ⟨S8x1x256, .i1⟩
  | 89 => ⟨S8x1x256, .i1⟩
  | 90 => ⟨S8x1x256, .i1⟩
  | 91 => ⟨S1x128x256, .i1⟩
  | 92 => ⟨S8x128x256, .i1⟩
  | 93 => ⟨S8x128x256, .i1⟩
  | 94 => ⟨S8x128x256, .i1⟩
  | 95 => ⟨S_, .f32⟩
  | 96 => ⟨S_, .f32⟩
  | 97 => ⟨S16x16x8x128x256, .i1⟩
  | 98 => ⟨S16x16x8x128x256, .f32⟩
  | 99 => ⟨S16x16x8x128x256, .f32⟩
  | 100 => ⟨S_, .f32⟩
  | 101 => ⟨S16x16x8x128x256, .f32⟩
  | 102 => ⟨S_, .f32⟩
  | 103 => ⟨S16x16x8x128, .f32⟩
  | 104 => ⟨S16x16x8x128x1, .f32⟩
  | 105 => ⟨S16x16x8x128x256, .f32⟩
  | 106 => ⟨S16x16x8x128x256, .i1⟩
  | 107 => ⟨S16x16x8x128x256, .f32⟩
  | 108 => ⟨S_, .f32⟩
  | 109 => ⟨S16x16x8x128, .f32⟩
  | 110 => ⟨S16x16x8x128x1, .f32⟩
  | 111 => ⟨S16x16x8x128x256, .f32⟩
  | 112 => ⟨S16x16x8x128x256, .f32⟩
  | 113 => ⟨S16x16x8x128x256, .f32⟩
  | 114 => ⟨S_, .f32⟩
  | 115 => ⟨S16x16x8x128, .f32⟩
  | 116 => ⟨S16x16x8x128x1, .f32⟩
  | 117 => ⟨S16x16x8x128x64, .f32⟩
  | 118 => ⟨S16x16x1024x1, .f32⟩
  | 119 => ⟨S16x1024x16x1, .f32⟩
  | 120 => ⟨S16x16384x1, .f32⟩
  | 121 => ⟨S16x16x1024x1, .f32⟩
  | 122 => ⟨S16x1024x16x1, .f32⟩
  | 123 => ⟨S16x16384x1, .f32⟩
  | 124 => ⟨S16x16x1024x64, .f32⟩
  | 125 => ⟨S16x1024x16x64, .f32⟩
  | 126 => ⟨S16x16384x64, .f32⟩
  | 127 => ⟨S16x16384x3, .f32⟩
  | _ => ⟨S16384x1024, .bf16⟩

abbrev hbmTy0_2 (i : Nat) : BufTy := match i % 128 with
  | 0 => ⟨S_, .f32⟩
  | 1 => ⟨S16x16384x1, .f32⟩
  | 2 => ⟨S_, .f32⟩
  | 3 => ⟨S16x16384x1, .f32⟩
  | 4 => ⟨S_, .f32⟩
  | 5 => ⟨S16x16384, .f32⟩
  | 6 => ⟨S16x16384x1, .f32⟩
  | 7 => ⟨S16x16384x3, .f32⟩
  | 8 => ⟨S16x16384x3, .i1⟩
  | 9 => ⟨S16x16384x3, .f32⟩
  | 10 => ⟨S_, .f32⟩
  | 11 => ⟨S16x16384, .f32⟩
  | 12 => ⟨S16x16384x1, .f32⟩
  | 13 => ⟨S16x16384x1, .f32⟩
  | 14 => ⟨S16x16384x1, .f32⟩
  | 15 => ⟨S16x16384x64, .f32⟩
  | 16 => ⟨S16x16384x64, .f32⟩
  | 17 => ⟨S_, .f32⟩
  | 18 => ⟨S16x16384x64, .f32⟩
  | 19 => ⟨S16x16384x64, .f32⟩
  | 20 => ⟨S16x16384x1, .f32⟩
  | 21 => ⟨S16x16384x1, .f32⟩
  | 22 => ⟨S16x16384x64, .f32⟩
  | 23 => ⟨S16x16384x64, .f32⟩
  | 24 => ⟨S16x16384x64, .f32⟩
  | 25 => ⟨S16x16384x1, .f32⟩
  | 26 => ⟨S16x16384x1, .f32⟩
  | 27 => ⟨S16x16384x64, .f32⟩
  | 28 => ⟨S16x16384x64, .f32⟩
  | 29 => ⟨S16x16384x64, .f32⟩
  | 30 => ⟨S16x16384x1, .f32⟩
  | 31 => ⟨S16x16384x1, .f32⟩
  | 32 => ⟨S16x16384x1, .f32⟩
  | 33 => ⟨S_, .f32⟩
  | 34 => ⟨S16x16384x1, .f32⟩
  | 35 => ⟨S16x16384x1, .f32⟩
  | 36 => ⟨S16x16384x1, .f32⟩
  | 37 => ⟨S16x16384x1, .f32⟩
  | 38 => ⟨S16x16384x1, .f32⟩
  | 39 => ⟨S16x16384x1, .f32⟩
  | 40 => ⟨S16x16384x1, .f32⟩
  | 41 => ⟨S16x16384x1, .f32⟩
  | 42 => ⟨S16x16384x1, .f32⟩
  | 43 => ⟨S16x16384x1, .f32⟩
  | 44 => ⟨S16x16384x64, .f32⟩
  | 45 => ⟨S16x16384x64, .f32⟩
  | 46 => ⟨S16x16384x1, .f32⟩
  | 47 => ⟨S_, .f32⟩
  | 48 => ⟨S16x16384x1, .f32⟩
  | 49 => ⟨S16x16384x1, .f32⟩
  | 50 => ⟨S16x16384x64, .f32⟩
  | 51 => ⟨S16x16384x64, .f32⟩
  | 52 => ⟨S16x16384x64, .f32⟩
  | 53 => ⟨S_, .f32⟩
  | 54 => ⟨S16x16384, .f32⟩
  | 55 => ⟨S16x16384x1, .f32⟩
  | 56 => ⟨S16x16384x1, .f32⟩
  | 57 => ⟨S16x16384x64, .f32⟩
  | 58 => ⟨S16x16384x64, .f32⟩
  | 59 => ⟨S16x16384x1, .f32⟩
  | 60 => ⟨S16x16384x1, .f32⟩
  | 61 => ⟨S16x16384x1, .f32⟩
  | 62 => ⟨S16x16384x1, .f32⟩
  | 63 => ⟨S16x16384x1, .f32⟩
  | 64 => ⟨S16x16384x1, .f32⟩
  | 65 => ⟨S16x16384x1, .f32⟩
  | 66 => ⟨S16x16384x1, .f32⟩
  | 67 => ⟨S16x16384x1, .f32⟩
  | 68 => ⟨S16x16384x1, .f32⟩
  | 69 => ⟨S16x16384x1, .f32⟩
  | 70 => ⟨S16x16384x1, .f32⟩
  | 71 => ⟨S16x16384x64, .f32⟩
  | 72 => ⟨S16x16384x64, .f32⟩
  | 73 => ⟨S16x16384x64, .f32⟩
  | 74 => ⟨S_, .f32⟩
  | 75 => ⟨S16x16384, .f32⟩
  | 76 => ⟨S16x16384x1, .f32⟩
  | 77 => ⟨S16x16384x1, .f32⟩
  | 78 => ⟨S16x16384x1, .f32⟩
  | 79 => ⟨S16x16384x1, .f32⟩
  | 80 => ⟨S16x16384x1, .f32⟩
  | 81 => ⟨S16x16384x64, .f32⟩
  | 82 => ⟨S_, .f32⟩
  | 83 => ⟨S16x16384, .f32⟩
  | 84 => ⟨S16x16384x1, .f32⟩
  | 85 => ⟨S16x16384x1, .f32⟩
  | 86 => ⟨S16x16384x1, .f32⟩
  | 87 => ⟨S16x16384x1, .f32⟩
  | 88 => ⟨S16x16384x64, .f32⟩
  | 89 => ⟨S_, .f32⟩
  | 90 => ⟨S16x16384, .f32⟩
  | 91 => ⟨S16x16384x1, .f32⟩
  | 92 => ⟨S16x16384x1, .f32⟩
  | 93 => ⟨S16x16384x1, .f32⟩
  | 94 => ⟨S16x16384x1, .f32⟩
  | 95 => ⟨S_, .f32⟩
  | 96 => ⟨S16x16384, .f32⟩
  | 97 => ⟨S16x16384, .f32⟩
  | 98 => ⟨S16x16384x3, .f32⟩
  | 99 => ⟨S16x16384x3, .f32⟩
  | 100 => ⟨S16x16384x1, .f32⟩
  | 101 => ⟨S16x16384x1, .f32⟩
  | 102 => ⟨S16x16384x1, .f32⟩
  | 103 => ⟨S16x16384x1, .f32⟩
  | 104 => ⟨S16x1024x16x64, .f32⟩
  | 105 => ⟨S16x16x1024x64, .f32⟩
  | 106 => ⟨S16x16x8x128x64, .f32⟩
  | 107 => ⟨S16x1024x16x1, .f32⟩
  | 108 => ⟨S16x16x1024x1, .f32⟩
  | 109 => ⟨S16x16x8x128x1, .f32⟩
  | 110 => ⟨S16x1024x16x1, .f32⟩
  | 111 => ⟨S16x16x1024x1, .f32⟩
  | 112 => ⟨S16x16x8x128x1, .f32⟩
  | 113 => ⟨S16x16x8x128x256, .f32⟩
  | 114 => ⟨S_, .f32⟩
  | 115 => ⟨S16x16x8x128, .f32⟩
  | 116 => ⟨S16x16x8x128x256, .f32⟩
  | 117 => ⟨S16x16x8x128x256, .f32⟩
  | 118 => ⟨S16x16x8x128x256, .f32⟩
  | 119 => ⟨S16x16x8x128x256, .f32⟩
  | 120 => ⟨S_, .f32⟩
  | 121 => ⟨S16x16x8x128, .f32⟩
  | 122 => ⟨S16x16x8x128x1, .f32⟩
  | 123 => ⟨S16x16x8x128x1, .f32⟩
  | 124 => ⟨S_, .f32⟩
  | 125 => ⟨S16x16x8x128, .f32⟩
  | 126 => ⟨S16x16x8x128, .f32⟩
  | 127 => ⟨S16x16x8x128x256, .f32⟩
  | _ => ⟨S16384x1024, .bf16⟩

abbrev hbmTy0_3 (i : Nat) : BufTy := match i % 128 with
  | 0 => ⟨S16x16x8x128x256, .f32⟩
  | 1 => ⟨S16x16x8x128x256, .f32⟩
  | 2 => ⟨S_, .f32⟩
  | 3 => ⟨S16x16x8x128x256, .f32⟩
  | 4 => ⟨S16x16x8x128x256, .f32⟩
  | 5 => ⟨S16x16x8x128x64, .f32⟩
  | 6 => ⟨S16x16x1024x64, .f32⟩
  | 7 => ⟨S16x1024x16x64, .f32⟩
  | 8 => ⟨S16x16384x64, .f32⟩
  | 9 => ⟨S16384x16x64, .f32⟩
  | 10 => ⟨S16384x1024, .f32⟩
  | 11 => ⟨S1024x16x1024, .f32⟩
  | 12 => ⟨S16x1024x1024, .f32⟩
  | 13 => ⟨S16384x1024, .f32⟩
  | 14 => ⟨S16384x1024, .bf16⟩
  | _ => ⟨S16384x1024, .bf16⟩

abbrev hbmTy (i : Nat) : BufTy := match i / 128 with
  | 0 => hbmTy0_0 i
  | 1 => hbmTy0_1 i
  | 2 => hbmTy0_2 i
  | 3 => hbmTy0_3 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_call1_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_2 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_8 : Ref sig .tc := ⟨.hbm, 99, rfl⟩
abbrev main_call3_v0 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_9 : Ref sig .tc := ⟨.hbm, 107, rfl⟩
abbrev main_call4_v0 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_11 : Ref sig .tc := ⟨.hbm, 125, rfl⟩
abbrev main_v101 : Ref sig .tc := ⟨.hbm, 126, rfl⟩
abbrev main_v102 : Ref sig .tc := ⟨.hbm, 127, rfl⟩
abbrev main_c_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_13 : Ref sig .tc := ⟨.hbm, 132, rfl⟩
abbrev main_v106 : Ref sig .tc := ⟨.hbm, 133, rfl⟩
abbrev main_v107 : Ref sig .tc := ⟨.hbm, 134, rfl⟩
abbrev main_c_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_15 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v118 : Ref sig .tc := ⟨.hbm, 150, rfl⟩
abbrev main_cst_16 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_17 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_18 : Ref sig .tc := ⟨.hbm, 176, rfl⟩
abbrev main_call6_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_19 : Ref sig .tc := ⟨.hbm, 184, rfl⟩
abbrev main_call7_v0 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_c_20 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_c_21 : Ref sig .tc := ⟨.hbm, 202, rfl⟩
abbrev main_v163 : Ref sig .tc := ⟨.hbm, 203, rfl⟩
abbrev main_v164 : Ref sig .tc := ⟨.hbm, 204, rfl⟩
abbrev main_c_22 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_23 : Ref sig .tc := ⟨.hbm, 209, rfl⟩
abbrev main_v168 : Ref sig .tc := ⟨.hbm, 210, rfl⟩
abbrev main_v169 : Ref sig .tc := ⟨.hbm, 211, rfl⟩
abbrev main_c_24 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_25 : Ref sig .tc := ⟨.hbm, 223, rfl⟩
abbrev main_call8_v0 : Ref sig .tc := ⟨.hbm, 224, rfl⟩
abbrev main_v180_1 : Ref sig .tc := ⟨.hbm, 225, rfl⟩
abbrev main_call8_v2 : Ref sig .tc := ⟨.hbm, 226, rfl⟩
abbrev main_v180_0 : Ref sig .tc := ⟨.hbm, 227, rfl⟩
abbrev main_call8_cst : Ref sig .tc := ⟨.hbm, 228, rfl⟩
abbrev main_v180_2 : Ref sig .tc := ⟨.hbm, 229, rfl⟩
abbrev main_cst_26 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_27 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_28 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_29 : Ref sig .tc := ⟨.hbm, 256, rfl⟩
abbrev main_v204 : Ref sig .tc := ⟨.hbm, 257, rfl⟩
abbrev main_cst_30 : Ref sig .tc := ⟨.hbm, 258, rfl⟩
abbrev main_v205 : Ref sig .tc := ⟨.hbm, 259, rfl⟩
abbrev main_cst_31 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_32 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_33 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_cst_34 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_cst_35 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_cst_36 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_cst_37 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_cst_38 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_cst_39 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_cst_40 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_cst_41 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_cst_42 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_cst_43 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_call9_cst : Ref sig .tc := ⟨.hbm, 386, rfl⟩
abbrev main_call9_v0 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩

abbrev nD : Nat := 1
abbrev τ : Topo := Topo.v7x

variable {F : FTy → Type} [FloatOps F]
-- ==== Gate.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x4096, .bf16⟩
  | .hbm, ⟨3, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S16384x1024 : Shape := ⟨2, ![16384, 1024]⟩
abbrev S4096x1024 : Shape := ⟨2, ![4096, 1024]⟩
abbrev S16384x4096 : Shape := ⟨2, ![16384, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x4096, .bf16⟩
  | .hbm, ⟨3, _⟩ => ⟨S16384x1024, .f32⟩
  | .hbm, ⟨4, _⟩ => ⟨S4096x1024, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .i1⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Weight.lean ====
abbrev S16384x4096 : Shape := ⟨2, ![16384, 4096]⟩
abbrev S16384x1024 : Shape := ⟨2, ![16384, 1024]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S1x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightRefIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .f32⟩
  | .hbm, ⟨3, _⟩ => ⟨S16384x4096, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x1024, .f32⟩
  | .hbm, ⟨11, _⟩ => ⟨S1024x4096, .f32⟩
  | .hbm, ⟨12, _⟩ => ⟨S4096x1024, .f32⟩
  | .hbm, ⟨13, _⟩ => ⟨S1x4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== First.lean ====
abbrev S16384x1024 : Shape := ⟨2, ![16384, 1024]⟩
abbrev S16384x4096 : Shape := ⟨2, ![16384, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FirstRefIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x1024, .f32⟩
  | .hbm, ⟨3, _⟩ => ⟨S16384x4096, .f32⟩
  | .hbm, ⟨4, _⟩ => ⟨S_, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Norm.lean ====
abbrev S16384x4096 : Shape := ⟨2, ![16384, 4096]⟩
abbrev S1024x4096 : Shape := ⟨2, ![1024, 4096]⟩
abbrev S16384x1024 : Shape := ⟨2, ![16384, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S16384x4096 : Shape := ⟨2, ![16384, 4096]⟩
abbrev S1024x4096 : Shape := ⟨2, ![1024, 4096]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x4096, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1024, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S16384x1024, .f32⟩
  | .hbm, ⟨97, _⟩ => ⟨S16384x1024, .f32⟩
  | .hbm, ⟨98, _⟩ => ⟨S16384x1024, .bf16⟩
  | .hbm, ⟨99, _⟩ => ⟨S1x1024, .f32⟩
  | .hbm, ⟨100, _⟩ => ⟨S1x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Hidden.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HiddenRefIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Feed.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FeedRefIdeal.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x4096, .f32⟩
  | .hbm, ⟨9, _⟩ => ⟨S4096x1024, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Project.lean ====
abbrev S16384x1024 : Shape := ⟨2, ![16384, 1024]⟩
abbrev S16384x3072 : Shape := ⟨2, ![16384, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S16384x1024, .f32⟩
  | .hbm, ⟨3, _⟩ => ⟨S16384x3072, .f32⟩
  | .hbm, ⟨4, _⟩ => ⟨S_, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mix.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixRefIdeal.lean ====
abbrev S16384x1024 : Shape := ⟨2, ![16384, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Heads.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadsRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Source.lean ====
abbrev S16384x3072 : Shape := ⟨2, ![16384, 3072]⟩
abbrev S1024x3072 : Shape := ⟨2, ![1024, 3072]⟩
abbrev S16384x1024 : Shape := ⟨2, ![16384, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SourceRefIdeal.lean ====
abbrev S16384x3072 : Shape := ⟨2, ![16384, 3072]⟩
abbrev S1024x3072 : Shape := ⟨2, ![1024, 3072]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x3072, .f32⟩
  | .hbm, ⟨4, _⟩ => ⟨S1024x3072, .f32⟩
  | .hbm, ⟨5, _⟩ => ⟨S_, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x3072, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Merge.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Inner.lean ====
abbrev S16384x3072 : Shape := ⟨2, ![16384, 3072]⟩
abbrev S1024x3072 : Shape := ⟨2, ![1024, 3072]⟩
abbrev S16384x1024 : Shape := ⟨2, ![16384, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InnerRefIdeal.lean ====
abbrev S16384x3072 : Shape := ⟨2, ![16384, 3072]⟩
abbrev S1024x3072 : Shape := ⟨2, ![1024, 3072]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x3072, .f32⟩
  | .hbm, ⟨6, _⟩ => ⟨S1024x3072, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x3072, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1024, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S16384x1024, .f32⟩
  | .hbm, ⟨97, _⟩ => ⟨S16384x1024, .f32⟩
  | .hbm, ⟨98, _⟩ => ⟨S16384x1024, .bf16⟩
  | .hbm, ⟨99, _⟩ => ⟨S1x1024, .f32⟩
  | .hbm, ⟨100, _⟩ => ⟨S1x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Triple.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TripleRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x3072, .f32⟩
  | .hbm, ⟨12, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Stick.lean ====
abbrev S16384x3072 : Shape := ⟨2, ![16384, 3072]⟩
abbrev S16384x1024 : Shape := ⟨2, ![16384, 1024]⟩
abbrev S16x16384x128 : Shape := ⟨3, ![16, 16384, 128]⟩
abbrev S256x128 : Shape := ⟨2, ![256, 128]⟩
abbrev S16384x128 : Shape := ⟨2, ![16384, 128]⟩
abbrev S2x256x128 : Shape := ⟨3, ![2, 256, 128]⟩
abbrev S256x1 : Shape := ⟨2, ![256, 1]⟩
abbrev S128x128 : Shape := ⟨2, ![128, 128]⟩
abbrev S1x256x128 : Shape := ⟨3, ![1, 256, 128]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 13
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16x16384x128, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | .local _ .vmem, ⟨11, _⟩ => ⟨S256x1, .f32⟩
  | .local _ .vmem, ⟨12, _⟩ => ⟨S256x1, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c2_i32 : BitVec 32 := 2#32
  let v31 : BitVec 32 := Scalar.muli arg1 c2_i32
  let c1_i32 : BitVec 32 := 1#32
  let v32 : BitVec 32 := Scalar.addi v31 c1_i32
  let c128_i32 : BitVec 32 := 128#32
  let v35 : BitVec 32 := Scalar.muli v32 c128_i32
  v35
def k0_mult2 (i : grid0.Coords) : BitVec 32 :=
  let arg1 : BitVec 32 := BitVec.ofNat 32 (i 1).val
  let c2_i32_17 : BitVec 32 := 2#32
  let v33 : BitVec 32 := Scalar.muli arg1 c2_i32_17
  let c0_i32 : BitVec 32 := 0#32
  let v34 : BitVec 32 := Scalar.addi v33 c0_i32
  let c128_i32_18 : BitVec 32 := 128#32
  let v37 : BitVec 32 := Scalar.muli v34 c128_i32_18
  v37
def k0_off1 (i : grid0.Coords) (c1_i32 : BitVec 32) : Fin 2 → Nat :=
  let arg1 : BitVec 32 := BitVec.ofNat 32 (i 1).val
  let c2_i32 : BitVec 32 := 2#32
  let v31 : BitVec 32 := Scalar.muli arg1 c2_i32
  let v32 : BitVec 32 := Scalar.addi v31 c1_i32
  let c128_i32 : BitVec 32 := 128#32
  let v35 : BitVec 32 := Scalar.muli v32 c128_i32
  let v36 : BitVec 32 := v35
  let v39 : Index := Scalar.indexCast v36
  let c0_19 : Index := 0#32
  ![v39.toNat, 0]
def k0_mult3 (arg10 : BitVec 32) : BitVec 32 :=
  let c128_i32_113 : BitVec 32 := 128#32
  let v247 : BitVec 32 := Scalar.muli arg10 c128_i32_113
  v247

def k0_mult4 (arg10 : BitVec 32) : BitVec 32 :=
  let c1_i32_112 : BitVec 32 := 1#32
  let v246 : BitVec 32 := Scalar.subi arg10 c1_i32_112
  let c128_i32_114 : BitVec 32 := 128#32
  let v249 : BitVec 32 := Scalar.muli v246 c128_i32_114
  v249
def k0_off2 (arg10 : BitVec 32) : Fin 2 → Nat :=
  let c128_i32_113 : BitVec 32 := 128#32
  let v247 : BitVec 32 := Scalar.muli arg10 c128_i32_113
  let v248 : BitVec 32 := v247
  let v251 : Index := Scalar.indexCast v248
  let c0_115 : Index := 0#32
  ![v251.toNat, 0]
def k0_off3 (arg10 : BitVec 32) : Fin 2 → Nat :=
  let c1_i32_112 : BitVec 32 := 1#32
  let v246 : BitVec 32 := Scalar.subi arg10 c1_i32_112
  let c128_i32_114 : BitVec 32 := 128#32
  let v249 : BitVec 32 := Scalar.muli v246 c128_i32_114
  let v250 : BitVec 32 := v249
  let v253 : Index := Scalar.indexCast v250
  let c0_116 : Index := 0#32
  ![v253.toNat, 0]

def k0_chk1 (arg10 : BitVec 32) : Prop :=
  (128 ∣ (k0_mult3 arg10).toNat) ∧
  (128 ∣ (k0_mult4 arg10).toNat) ∧
  (∀ a, (k0_off2 arg10) a + S128x128.size a ≤ S16384x128.size a) ∧
  (∀ a, (k0_off3 arg10) a + S128x128.size a ≤ S16384x128.size a)
theorem k0_mult3_dvd : ∀ (arg10 : BitVec 32) (k0_hw1 : k0_chk1 arg10), 128 ∣ (k0_mult3 arg10).toNat := fun arg10 k0_hw1 => k0_hw1.1
theorem k0_mult4_dvd : ∀ (arg10 : BitVec 32) (k0_hw1 : k0_chk1 arg10), 128 ∣ (k0_mult4 arg10).toNat := fun arg10 k0_hw1 => k0_hw1.2.1
theorem k0_off2_inb : ∀ (arg10 : BitVec 32) (k0_hw1 : k0_chk1 arg10), ∀ a, (k0_off2 arg10) a + S128x128.size a ≤ S16384x128.size a := fun arg10 k0_hw1 => k0_hw1.2.2.1
theorem k0_off3_inb : ∀ (arg10 : BitVec 32) (k0_hw1 : k0_chk1 arg10), ∀ a, (k0_off3 arg10) a + S128x128.size a ≤ S16384x128.size a := fun arg10 k0_hw1 => k0_hw1.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickIdeal.lean ====
variable {F : FTy → Type} [FloatOps F] [Named F]
def κ : String → Option EReal := fun
  | "underflow" => some ⊥
  | _ => none
-- ==== StickRefIdeal.lean ====
abbrev S16384x3072 : Shape := ⟨2, ![16384, 3072]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x1024, .f32⟩
  | .hbm, ⟨8, _⟩ => ⟨S16384x16x64, .f32⟩
  | .hbm, ⟨9, _⟩ => ⟨S16x16384x64, .f32⟩
  | .hbm, ⟨10, _⟩ => ⟨S16384x1024, .f32⟩
  | .hbm, ⟨11, _⟩ => ⟨S16384x16x64, .f32⟩
  | .hbm, ⟨12, _⟩ => ⟨S16x16384x64, .f32⟩
  | .hbm, ⟨13, _⟩ => ⟨S16x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S_, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S16x16384x16384, .f32⟩
  | .hbm, ⟨25, _⟩ => ⟨S16x16384x16384, .i1⟩
  | .hbm, ⟨26, _⟩ => ⟨S16x16384x16384, .f32⟩
  | .hbm, ⟨27, _⟩ => ⟨S16x16384x16384, .f32⟩
  | .hbm, ⟨28, _⟩ => ⟨S16x16384x16384, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S_, .f32⟩
  | .hbm, ⟨36, _⟩ => ⟨S_, .f32⟩
  | .hbm, ⟨37, _⟩ => ⟨S16x16384x16384, .i1⟩
  | .hbm, ⟨38, _⟩ => ⟨S16x16384x16384, .f32⟩
  | .hbm, ⟨39, _⟩ => ⟨S16x16384x16384, .f32⟩
  | .hbm, ⟨40, _⟩ => ⟨S16384x1, .i32⟩
  | .hbm, ⟨41, _⟩ => ⟨S1x16384, .i32⟩
  | .hbm, ⟨42, _⟩ => ⟨S16384x16384, .i32⟩
  | .hbm, ⟨43, _⟩ => ⟨S16384x16384, .i32⟩
  | .hbm, ⟨44, _⟩ => ⟨S16384x16384, .i1⟩
  | .hbm, ⟨45, _⟩ => ⟨S16384x16384, .f32⟩
  | .hbm, ⟨46, _⟩ => ⟨S16x16384x16384, .f32⟩
  | .hbm, ⟨47, _⟩ => ⟨S16x16384x16384, .f32⟩
  | .hbm, ⟨48, _⟩ => ⟨S16x16384x16384, .f32⟩
  | .hbm, ⟨49, _⟩ => ⟨S_, .f32⟩
  | .hbm, ⟨50, _⟩ => ⟨S_, .f32⟩
  | .hbm, ⟨51, _⟩ => ⟨S16x16384x16384, .i1⟩
  | .hbm, ⟨52, _⟩ => ⟨S16x16384x16384, .f32⟩
  | .hbm, ⟨53, _⟩ => ⟨S16x16384x16384, .f32⟩
  | .hbm, ⟨54, _⟩ => ⟨S16x16384x64, .f32⟩
  | .hbm, ⟨55, _⟩ => ⟨S16384x16x64, .f32⟩
  | .hbm, ⟨56, _⟩ => ⟨S16384x1024, .f32⟩
  | .hbm, ⟨57, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Reals.lean ====
/-
  REAL NUMBERS AMONG THE EXTENDED REALS. The dilated attention's gradient is stated at the ideal instance, whose values
  are extended reals; under the claim's precondition every value it meets is a real number, except the masked scores,
  which are `⊥`. This module says when the operations give a real number again, that a row's maximum is one, and
  states the equation of one row: what `jax.vjp` makes of a row of the mixture is what the kernel computes from the
  mixture's saved statistics.
-/
module

public import Idealize.ShloMosaic.PureOps.Ideal.Laws

@[expose] public section

noncomputable section

namespace Cert.Dilated

open Idealize.ShloMosaic

/-- `x` is a real number. -/
def IsReal (x : EReal) : Prop := ∃ r : ℝ, (r : EReal) = x

namespace IsReal

theorem coe (r : ℝ) : IsReal (r : EReal) := ⟨r, rfl⟩

theorem zero : IsReal 0 := ⟨0, rfl⟩

theorem add {x y : EReal} : IsReal x → IsReal y → IsReal (x + y)
  | ⟨a, ha⟩, ⟨b, hb⟩ => ⟨a + b, by rw [← ha, ← hb, EReal.coe_add]⟩

theorem sub {x y : EReal} : IsReal x → IsReal y → IsReal (x - y)
  | ⟨a, ha⟩, ⟨b, hb⟩ => ⟨a - b, by rw [← ha, ← hb, EReal.coe_sub]⟩

theorem mul {x y : EReal} : IsReal x → IsReal y → IsReal (x * y)
  | ⟨a, ha⟩, ⟨b, hb⟩ => ⟨a * b, by rw [← ha, ← hb, EReal.coe_mul]⟩

theorem max {x y : EReal} (hx : IsReal x) (hy : IsReal y) : IsReal (max x y) := by
  rcases max_choice x y with h | h <;> rw [h] <;> assumption

theorem exp {x : EReal} : IsReal x → IsReal (Ideal.exp x)
  | ⟨a, ha⟩ => ⟨Real.exp a, by rw [← ha, Ideal.exp_coe]⟩

theorem sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem ne_bot {x : EReal} : IsReal x → x ≠ ⊥
  | ⟨a, ha⟩ => by rw [← ha]; exact EReal.coe_ne_bot a

end IsReal

/-- A sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number whose absolute value is below `⊤` is real. -/
theorem isReal_of_abs_lt {x : EReal} (h : max x (-x) < ⊤) : IsReal x := by
  induction x with
  | bot => simp at h
  | top => simp at h
  | coe r => exact ⟨r, rfl⟩

/-- A quotient of real numbers by a nonzero one. -/
theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The logarithm of a positive real number. -/
theorem log_coe {b : ℝ} (hb : 0 < b) : Ideal.log (b : EReal) = ((Real.log b : ℝ) : EReal) := by
  rw [Ideal.log_coe, if_neg (not_le.2 hb)]

/-! ## Maxima -/

/-- The left fold of `max` over real numbers and `⊥`, from a real number, is real. -/
theorem foldl_max_real (l : List EReal) (hl : ∀ x ∈ l, x = ⊥ ∨ IsReal x) (a : EReal) (ha : IsReal a) :
    IsReal (l.foldl max a) := by
  induction l generalizing a with
  | nil => exact ha
  | cons x l ih =>
    refine ih (fun y hy => hl y (List.mem_cons_of_mem x hy)) _ ?_
    rcases hl x List.mem_cons_self with h | h
    · rw [h, max_eq_left bot_le]; exact ha
    · exact ha.max h

/-- From `⊥`, it is real when one of the numbers is. -/
theorem foldl_max_isReal (l : List EReal) (hl : ∀ x ∈ l, x = ⊥ ∨ IsReal x) (h : ∃ x ∈ l, IsReal x) :
    IsReal (l.foldl max ⊥) := by
  induction l with
  | nil => obtain ⟨x, hx, _⟩ := h; exact absurd hx (List.not_mem_nil)
  | cons x l ih =>
    rcases hl x List.mem_cons_self with hx | hx
    · rw [List.foldl_cons, hx, max_self]
      refine ih (fun y hy => hl y (List.mem_cons_of_mem x hy)) ?_
      obtain ⟨y, hy, hr⟩ := h
      rcases List.mem_cons.1 hy with e | e
      · exact absurd (e ▸ hx) hr.ne_bot
      · exact ⟨y, e, hr⟩
    · rw [List.foldl_cons, max_eq_right bot_le]
      exact foldl_max_real l (fun y hy => hl y (List.mem_cons_of_mem x hy)) x hx

/-! ## The equation of one row -/

/-- The numbers of one row: its scores `s` where `valid`, the branch's row maximum `m2`, the keys' values `v`, the
    upstream gradient `g`, and the other two branches' maxima, sums and weighted sums. `M` is the maximum over branches. -/
structure Row (J E : Type*) [Fintype J] [Fintype E] where
  valid : J → Prop
  [dec : DecidablePred valid]
  s : J → ℝ
  v : J → E → ℝ
  g : E → ℝ
  m0 : ℝ
  m1 : ℝ
  m2 : ℝ
  d0 : ℝ
  d1 : ℝ
  n0 : E → ℝ
  n1 : E → ℝ
  M : ℝ

namespace Row

variable {J E : Type*} [Fintype J] [Fintype E] (R : Row J E)

attribute [instance] Row.dec

/-- The branch's weights before they are divided. -/
def p (j : J) : ℝ := if R.valid j then Real.exp (R.s j - R.m2) else 0
def d2 : ℝ := ∑ j, R.p j
def n2 (e : E) : ℝ := ∑ j, R.p j * R.v j e
def a0 : ℝ := Real.exp (R.m0 - R.M)
def a1 : ℝ := Real.exp (R.m1 - R.M)
def a2 : ℝ := Real.exp (R.m2 - R.M)
/-- The mixture's weighted sum and its denominator. -/
def N (e : E) : ℝ := R.a0 * R.n0 e + R.a1 * R.n1 e + R.a2 * R.n2 e
def D : ℝ := R.a0 * R.d0 + R.a1 * R.d1 + R.a2 * R.d2
/-- The gradient the denominator receives. -/
def ct : ℝ := -∑ e, R.g e * (1 / (R.D * R.D)) * R.N e
/-- The gradient the weighted sum receives. -/
def w (e : E) : ℝ := R.g e / R.D
/-- What the kernel takes saved: the logarithm of the mixture's denominator at the scores' scale, and `delta`. -/
def lse : ℝ := R.M + Real.log R.D
def delta : ℝ := ∑ e, R.g e * (R.N e / R.D)

theorem p_nonneg (j : J) : 0 ≤ R.p j := by
  unfold p; split
  · exact (Real.exp_pos _).le
  · exact le_refl _

theorem D_pos (h0 : 0 ≤ R.d0) (h1 : 0 ≤ R.d1) {j : J} (hj : R.valid j) : 0 < R.D := by
  have hp : 0 < R.p j := by unfold p; rw [if_pos hj]; exact Real.exp_pos _
  have hd : 0 < R.d2 := Finset.sum_pos' (fun i _ => R.p_nonneg i) ⟨j, Finset.mem_univ j, hp⟩
  have := mul_nonneg (Real.exp_pos (R.m0 - R.M)).le h0
  have := mul_nonneg (Real.exp_pos (R.m1 - R.M)).le h1
  have := mul_pos (Real.exp_pos (R.m2 - R.M)) hd
  unfold D a0 a1 a2; linarith

theorem ct_mul_D (h : R.D ≠ 0) : R.ct * R.D = -∑ e, R.w e * R.N e := by
  unfold ct w
  rw [neg_mul, Finset.sum_mul]
  congr 1
  refine Finset.sum_congr rfl fun e _ => ?_
  field_simp

theorem sum_w_N : ∑ e, R.w e * R.N e
    = R.a0 * (∑ e, R.w e * R.n0 e) + R.a1 * (∑ e, R.w e * R.n1 e) + R.a2 * (∑ e, R.w e * R.n2 e) := by
  simp only [Finset.mul_sum, ← Finset.sum_add_distrib]
  exact Finset.sum_congr rfl fun e _ => by unfold N; ring

/-- The maximum over branches receives no gradient: the mixture does not depend on it. -/
theorem dM_eq_zero (h : R.D ≠ 0) :
    -(R.ct * R.d2 * R.a2) + -(R.ct * R.d1 * R.a1) + -(R.ct * R.d0 * R.a0) + -((∑ e, R.w e * R.n2 e) * R.a2)
      + -((∑ e, R.w e * R.n1 e) * R.a1) + -((∑ e, R.w e * R.n0 e) * R.a0) = 0 := by
  have h1 := R.ct_mul_D h
  rw [R.sum_w_N] at h1
  have h2 : R.D = R.a0 * R.d0 + R.a1 * R.d1 + R.a2 * R.d2 := rfl
  rw [h2] at h1
  linarith

theorem sum_w_n2 : ∑ j, (∑ e, R.w e * R.v j e) * R.p j = ∑ e, R.w e * R.n2 e := by
  simp only [n2, Finset.sum_mul, Finset.mul_sum]
  rw [Finset.sum_comm]
  exact Finset.sum_congr rfl fun e _ => Finset.sum_congr rfl fun j _ => by ring

/-- The score gradient before the mask. -/
def ds (j : J) : ℝ := ((∑ e, R.a2 * R.w e * R.v j e) + R.a2 * R.ct) * R.p j

/-- The branch's own row maximum receives no gradient either. -/
theorem dm_eq_zero : R.ct * R.d2 * R.a2 + (∑ e, R.w e * R.n2 e) * R.a2 + ∑ j, -R.ds j = 0 := by
  rw [Finset.sum_neg_distrib, ← R.sum_w_n2]
  have h : ∑ j, R.ds j = R.a2 * (∑ j, (∑ e, R.w e * R.v j e) * R.p j) + R.a2 * R.ct * R.d2 := by
    unfold ds d2
    rw [Finset.mul_sum, Finset.mul_sum, ← Finset.sum_add_distrib]
    refine Finset.sum_congr rfl fun j _ => ?_
    have : ∑ e, R.a2 * R.w e * R.v j e = R.a2 * ∑ e, R.w e * R.v j e := by
      rw [Finset.mul_sum]; exact Finset.sum_congr rfl fun e _ => by ring
    rw [this]; ring
  rw [h]; ring

/-- THE EQUATION: the score gradient of `jax.vjp` is the kernel's, `p (dp - delta)` with the mixture's weight `p`. -/
theorem ds_eq (hD : 0 < R.D) {j : J} (hj : R.valid j) :
    R.ds j = Real.exp (R.s j - R.lse) * ((∑ e, R.g e * R.v j e) - R.delta) := by
  have hw : Real.exp (R.s j - R.lse) = R.a2 * R.p j / R.D := by
    unfold p a2 lse
    rw [if_pos hj, ← Real.exp_add, eq_div_iff hD.ne', ← Real.exp_log hD, ← Real.exp_add, Real.exp_log hD]
    congr 1; ring
  have h1 : R.ct = -(R.delta / R.D) := by
    unfold ct delta
    rw [Finset.sum_div]
    congr 1
    exact Finset.sum_congr rfl fun e _ => by field_simp
  have h2 : ∑ e, R.a2 * R.w e * R.v j e = R.a2 * (∑ e, R.g e * R.v j e) / R.D := by
    rw [Finset.mul_sum, Finset.sum_div]
    exact Finset.sum_congr rfl fun e _ => by unfold w; ring
  unfold ds
  rw [hw, h1, h2]; ring

end Row

end Cert.Dilated

end
-- ==== Proof.Layout.lean ====
/-
  THE LAYOUT OF A BRANCH. Branch 2 of the dilated attention takes every sixteenth row: row `(128 b + i) 16 + r` of a head
  is row `i` of block `b` of residue `r`. This module reads, at an index, the reshapes and transposes that cut a head's
  rows into residues and blocks and put them together again, and the pad, slice and concatenation that give each block
  the keys of the block before it.
-/
module

public import proofs.«01_k».proof.ReferenceIdeal
public import Idealize.ShloMosaic.Lib.ValueIdx
public import Idealize.ShloMosaic.Lib.Pipeline.Value

@[expose] public section

noncomputable section

namespace Cert.Dilated

open Cert.ReferenceIdeal Idealize.ShloMosaic Idealize.ShloMosaic.ValueIdx

variable {α : Type}

/-- Row `i` of block `b` of residue `r`. -/
def row (r : Fin 16) (b : Fin 8) (i : Fin 128) : Fin 16384 :=
  ⟨(b.val * 128 + i.val) * 16 + r.val, by have := r.isLt; have := b.isLt; have := i.isLt; omega⟩

/-- Column `d` of head `h`. -/
def col (h : Fin 16) (d : Fin 64) : Fin 1024 :=
  ⟨h.val * 64 + d.val, by have := h.isLt; have := d.isLt; omega⟩

/-- Row `i` of block `b` among a residue's rows. -/
def inner (b : Fin 8) (i : Fin 128) : Fin 1024 :=
  ⟨b.val * 128 + i.val, by have := b.isLt; have := i.isLt; omega⟩

/-- Where the order of residues puts it. -/
def resRow (r : Fin 16) (b : Fin 8) (i : Fin 128) : Fin 16384 :=
  ⟨r.val * 1024 + b.val * 128 + i.val, by have := r.isLt; have := b.isLt; have := i.isLt; omega⟩

/-- A head's rows, cut into residues and blocks. -/
theorem toRes64 (y : S16x16384x64.Idx → α) (h1 : S16x16384x64.ShapeCasts S16x1024x16x64)
    (h2 : S16x1024x16x64.Transposes [0, 2, 1, 3] S16x16x1024x64) (h3 : S16x16x1024x64.ShapeCasts S16x16x8x128x64)
    (h r : Fin 16) (b : Fin 8) (i : Fin 128) (d : Fin 64) :
    shapeCast S16x16x8x128x64 (transpose S16x16x1024x64 [0, 2, 1, 3] (shapeCast S16x1024x16x64 y h1) h2) h3
      (ix5 h r b i d) = y (ix3 h (row r b i) d) := by
  rw [shapeCast_apply _ h3 (ix5 h r b i d) (ix4 h r (inner b i) d)
      (by rw [Shape.rowMajor_val_four, Shape.rowMajor_val_five]
          show ((h.val * 16 + r.val) * 1024 + (b.val * 128 + i.val)) * 64 + d.val
            = (((h.val * 16 + r.val) * 8 + b.val) * 128 + i.val) * 64 + d.val
          ring),
    transpose_apply [0, 2, 1, 3] _ h2 (ix4 h r (inner b i) d) (ix4 h (inner b i) r d)
      (fun a => match a with | ⟨0, _⟩ => rfl | ⟨1, _⟩ => rfl | ⟨2, _⟩ => rfl | ⟨3, _⟩ => rfl),
    shapeCast_apply _ h1 (ix4 h (inner b i) r d) (ix3 h (row r b i) d)
      (by rw [Shape.rowMajor_val_four, Shape.rowMajor_val_three]
          show (h.val * 16384 + ((b.val * 128 + i.val) * 16 + r.val)) * 64 + d.val
            = ((h.val * 1024 + (b.val * 128 + i.val)) * 16 + r.val) * 64 + d.val
          ring)]

/-- The same of one number per row. -/
theorem toRes1 (y : S16x16384x1.Idx → α) (h1 : S16x16384x1.ShapeCasts S16x1024x16x1)
    (h2 : S16x1024x16x1.Transposes [0, 2, 1, 3] S16x16x1024x1) (h3 : S16x16x1024x1.ShapeCasts S16x16x8x128x1)
    (h r : Fin 16) (b : Fin 8) (i : Fin 128) :
    shapeCast S16x16x8x128x1 (transpose S16x16x1024x1 [0, 2, 1, 3] (shapeCast S16x1024x16x1 y h1) h2) h3
      (ix5 h r b i 0) = y (ix3 h (row r b i) 0) := by
  rw [shapeCast_apply _ h3 (ix5 h r b i 0) (ix4 h r (inner b i) 0)
      (by rw [Shape.rowMajor_val_four, Shape.rowMajor_val_five]
          show ((h.val * 16 + r.val) * 1024 + (b.val * 128 + i.val)) * 1 + 0
            = (((h.val * 16 + r.val) * 8 + b.val) * 128 + i.val) * 1 + 0
          ring),
    transpose_apply [0, 2, 1, 3] _ h2 (ix4 h r (inner b i) 0) (ix4 h (inner b i) r 0)
      (fun a => match a with | ⟨0, _⟩ => rfl | ⟨1, _⟩ => rfl | ⟨2, _⟩ => rfl | ⟨3, _⟩ => rfl),
    shapeCast_apply _ h1 (ix4 h (inner b i) r 0) (ix3 h (row r b i) 0)
      (by rw [Shape.rowMajor_val_four, Shape.rowMajor_val_three]
          show (h.val * 16384 + ((b.val * 128 + i.val) * 16 + r.val)) * 1 + 0
            = ((h.val * 1024 + (b.val * 128 + i.val)) * 16 + r.val) * 1 + 0
          ring)]

/-- Blocks and residues put together to a head's rows. -/
theorem fromRes64 (y : S16x16x8x128x64.Idx → α) (h1 : S16x16x8x128x64.ShapeCasts S16x16x1024x64)
    (h2 : S16x16x1024x64.Transposes [0, 2, 1, 3] S16x1024x16x64) (h3 : S16x1024x16x64.ShapeCasts S16x16384x64)
    (h r : Fin 16) (b : Fin 8) (i : Fin 128) (d : Fin 64) :
    shapeCast S16x16384x64 (transpose S16x1024x16x64 [0, 2, 1, 3] (shapeCast S16x16x1024x64 y h1) h2) h3
      (ix3 h (row r b i) d) = y (ix5 h r b i d) := by
  rw [shapeCast_apply _ h3 (ix3 h (row r b i) d) (ix4 h (inner b i) r d)
      (by rw [Shape.rowMajor_val_four, Shape.rowMajor_val_three]
          show ((h.val * 1024 + (b.val * 128 + i.val)) * 16 + r.val) * 64 + d.val
            = (h.val * 16384 + ((b.val * 128 + i.val) * 16 + r.val)) * 64 + d.val
          ring),
    transpose_apply [0, 2, 1, 3] _ h2 (ix4 h (inner b i) r d) (ix4 h r (inner b i) d)
      (fun a => match a with | ⟨0, _⟩ => rfl | ⟨1, _⟩ => rfl | ⟨2, _⟩ => rfl | ⟨3, _⟩ => rfl),
    shapeCast_apply _ h1 (ix4 h r (inner b i) d) (ix5 h r b i d)
      (by rw [Shape.rowMajor_val_four, Shape.rowMajor_val_five]
          show (((h.val * 16 + r.val) * 8 + b.val) * 128 + i.val) * 64 + d.val
            = ((h.val * 16 + r.val) * 1024 + (b.val * 128 + i.val)) * 64 + d.val
          ring)]

/-- The same of one number per row. -/
theorem fromRes1 (y : S16x16x8x128x1.Idx → α) (h1 : S16x16x8x128x1.ShapeCasts S16x16x1024x1)
    (h2 : S16x16x1024x1.Transposes [0, 2, 1, 3] S16x1024x16x1) (h3 : S16x1024x16x1.ShapeCasts S16x16384x1)
    (h r : Fin 16) (b : Fin 8) (i : Fin 128) :
    shapeCast S16x16384x1 (transpose S16x1024x16x1 [0, 2, 1, 3] (shapeCast S16x16x1024x1 y h1) h2) h3
      (ix3 h (row r b i) 0) = y (ix5 h r b i 0) := by
  rw [shapeCast_apply _ h3 (ix3 h (row r b i) 0) (ix4 h (inner b i) r 0)
      (by rw [Shape.rowMajor_val_four, Shape.rowMajor_val_three]
          show ((h.val * 1024 + (b.val * 128 + i.val)) * 16 + r.val) * 1 + 0
            = (h.val * 16384 + ((b.val * 128 + i.val) * 16 + r.val)) * 1 + 0
          ring),
    transpose_apply [0, 2, 1, 3] _ h2 (ix4 h (inner b i) r 0) (ix4 h r (inner b i) 0)
      (fun a => match a with | ⟨0, _⟩ => rfl | ⟨1, _⟩ => rfl | ⟨2, _⟩ => rfl | ⟨3, _⟩ => rfl),
    shapeCast_apply _ h1 (ix4 h r (inner b i) 0) (ix5 h r b i 0)
      (by rw [Shape.rowMajor_val_four, Shape.rowMajor_val_five]
          show (((h.val * 16 + r.val) * 8 + b.val) * 128 + i.val) * 1 + 0
            = ((h.val * 16 + r.val) * 1024 + (b.val * 128 + i.val)) * 1 + 0
          ring)]

/-- An argument's columns as heads. -/
theorem heads_apply (x : S16384x1024.Idx → α) (h1 : S16384x1024.ShapeCasts S16384x16x64)
    (h2 : S16384x16x64.Transposes [1, 0, 2] S16x16384x64) (h : Fin 16) (n : Fin 16384) (d : Fin 64) :
    transpose S16x16384x64 [1, 0, 2] (shapeCast S16384x16x64 x h1) h2 (ix3 h n d) = x (ix2 n (col h d)) := by
  rw [transpose_apply [1, 0, 2] _ h2 (ix3 h n d) (ix3 n h d)
      (fun a => match a with | ⟨0, _⟩ => rfl | ⟨1, _⟩ => rfl | ⟨2, _⟩ => rfl),
    shapeCast_apply _ h1 (ix3 n h d) (ix2 n (col h d))
      (by rw [Shape.rowMajor_val_two, Shape.rowMajor_val_three]
          show n.val * 1024 + (h.val * 64 + d.val) = (n.val * 16 + h.val) * 64 + d.val
          ring)]

/-- Heads put together to columns. -/
theorem merge_apply (y : S16x16384x64.Idx → α) (h2 : S16x16384x64.Transposes [1, 0, 2] S16384x16x64)
    (h3 : S16384x16x64.ShapeCasts S16384x1024) (n : Fin 16384) (h : Fin 16) (d : Fin 64) :
    shapeCast S16384x1024 (transpose S16384x16x64 [1, 0, 2] y h2) h3 (ix2 n (col h d)) = y (ix3 h n d) := by
  rw [shapeCast_apply _ h3 (ix2 n (col h d)) (ix3 n h d)
      (by rw [Shape.rowMajor_val_two, Shape.rowMajor_val_three]
          show (n.val * 16 + h.val) * 64 + d.val = n.val * 1024 + (h.val * 64 + d.val)
          ring),
    transpose_apply [1, 0, 2] _ h2 (ix3 n h d) (ix3 h n d)
      (fun a => match a with | ⟨0, _⟩ => rfl | ⟨1, _⟩ => rfl | ⟨2, _⟩ => rfl)]

/-- The keys of a block: those of the block before it (the padding for the first block), then its own. -/
theorem keys64 (y : S16x16x8x128x64.Idx → α) {u : Shape} (v : u.Idx → α) (hu : 0 < u.numel)
    (h1 : S16x16x8x128x64.Pads ![0, 0, 1, 0, 0] ![0, 0, 0, 0, 0] ![0, 0, 0, 0, 0] S16x16x9x128x64)
    (h2 : S16x16x9x128x64.Slices ![0, 0, 0, 0, 0] S16x16x8x128x64)
    (h3 : Shape.Concatenates [S16x16x8x128x64, S16x16x8x128x64] S16x16x8x256x64 3)
    (h r : Fin 16) (b : Fin 8) (d : Fin 64) :
    (∀ i : Fin 128, concatenate S16x16x8x256x64 3
        [⟨S16x16x8x128x64, extractStridedSlice S16x16x8x128x64 ![0, 0, 0, 0, 0]
          (pad S16x16x9x128x64 ![0, 0, 1, 0, 0] ![0, 0, 0, 0, 0] ![0, 0, 0, 0, 0] y v h1 hu) h2⟩,
          ⟨S16x16x8x128x64, y⟩] h3 (ix5 h r b (Fin.castAdd 128 i) d)
        = if hb : 0 < b.val then y (ix5 h r ⟨b.val - 1, by omega⟩ i d) else v (Shape.Idx.first hu))
      ∧ ∀ i : Fin 128, concatenate S16x16x8x256x64 3
        [⟨S16x16x8x128x64, extractStridedSlice S16x16x8x128x64 ![0, 0, 0, 0, 0]
          (pad S16x16x9x128x64 ![0, 0, 1, 0, 0] ![0, 0, 0, 0, 0] ![0, 0, 0, 0, 0] y v h1 hu) h2⟩,
          ⟨S16x16x8x128x64, y⟩] h3 (ix5 h r b (Fin.natAdd 128 i) d) = y (ix5 h r b i d) := by
  constructor
  · intro i
    rw [concatenate_pair_apply_left 3 _ _ h3 _ rfl (ix5 h r b i d) (fun a => match a with
        | ⟨0, _⟩ => rfl | ⟨1, _⟩ => rfl | ⟨2, _⟩ => rfl | ⟨3, _⟩ => rfl | ⟨4, _⟩ => rfl),
      extractStridedSlice_apply _ _ h2 _ (ix5 h r ⟨b.val, by omega⟩ i d) (fun a => match a with
        | ⟨0, _⟩ => (Nat.zero_add _).symm | ⟨1, _⟩ => (Nat.zero_add _).symm | ⟨2, _⟩ => (Nat.zero_add _).symm
        | ⟨3, _⟩ => (Nat.zero_add _).symm | ⟨4, _⟩ => (Nat.zero_add _).symm)]
    unfold pad
    by_cases hb : 0 < b.val
    · rw [dif_pos hb, dif_pos]
      · refine congrArg y (funext fun a => Fin.ext ?_)
        match a with
        | ⟨0, _⟩ => exact Nat.div_one _
        | ⟨1, _⟩ => exact Nat.div_one _
        | ⟨2, _⟩ => exact Nat.div_one _
        | ⟨3, _⟩ => exact Nat.div_one _
        | ⟨4, _⟩ => exact Nat.div_one _
      · intro a
        match a with
        | ⟨0, _⟩ => exact ⟨Nat.zero_le _, Nat.mod_one _, by show (h.val - 0) / 1 < 16; omega⟩
        | ⟨1, _⟩ => exact ⟨Nat.zero_le _, Nat.mod_one _, by show (r.val - 0) / 1 < 16; omega⟩
        | ⟨2, _⟩ => exact ⟨hb, Nat.mod_one _, by show (b.val - 1) / 1 < 8; omega⟩
        | ⟨3, _⟩ => exact ⟨Nat.zero_le _, Nat.mod_one _, by show (i.val - 0) / 1 < 128; omega⟩
        | ⟨4, _⟩ => exact ⟨Nat.zero_le _, Nat.mod_one _, by show (d.val - 0) / 1 < 64; omega⟩
    · rw [dif_neg hb, dif_neg]
      intro hin
      exact hb (hin 2).1
  · intro i
    exact concatenate_pair_apply_right 3 _ _ h3 _ rfl rfl (ix5 h r b i d) (fun a => match a with
        | ⟨0, _⟩ => fun _ => rfl | ⟨1, _⟩ => fun _ => rfl | ⟨2, _⟩ => fun _ => rfl
        | ⟨3, _⟩ => fun hne => absurd rfl hne | ⟨4, _⟩ => fun _ => rfl)
      (by show i.val + 128 = 128 + i.val; omega)

/-- An array whose rows are put in the order of their residues. -/
theorem residues_apply {n : Nat} (x : (⟨2, ![16384, n]⟩ : Shape).Idx → α)
    (h4 : (⟨2, ![16384, n]⟩ : Shape).ShapeCasts ⟨3, ![1024, 16, n]⟩)
    (h5 : (⟨3, ![1024, 16, n]⟩ : Shape).Transposes [1, 0, 2] ⟨3, ![16, 1024, n]⟩)
    (h6 : (⟨3, ![16, 1024, n]⟩ : Shape).ShapeCasts ⟨2, ![16384, n]⟩) (r : Fin 16) (b : Fin 8) (i : Fin 128) (c : Fin n) :
    shapeCast ⟨2, ![16384, n]⟩ (transpose ⟨3, ![16, 1024, n]⟩ [1, 0, 2] (shapeCast ⟨3, ![1024, 16, n]⟩ x h4) h5) h6
      (ix2 (resRow r b i) c) = x (ix2 (row r b i) c) := by
  rw [shapeCast_apply _ h6 (ix2 (resRow r b i) c) (ix3 r (inner b i) c)
      (by rw [Shape.rowMajor_val_two, Shape.rowMajor_val_three]
          show (r.val * 1024 + (b.val * 128 + i.val)) * n + c.val = (r.val * 1024 + b.val * 128 + i.val) * n + c.val
          ring),
    transpose_apply [1, 0, 2] _ h5 (ix3 r (inner b i) c) (ix3 (inner b i) r c)
      (fun a => match a with | ⟨0, _⟩ => rfl | ⟨1, _⟩ => rfl | ⟨2, _⟩ => rfl),
    shapeCast_apply _ h4 (ix3 (inner b i) r c) (ix2 (row r b i) c)
      (by rw [Shape.rowMajor_val_two, Shape.rowMajor_val_three]
          show ((b.val * 128 + i.val) * 16 + r.val) * n + c.val = ((b.val * 128 + i.val) * 16 + r.val) * n + c.val
          rfl)]

end Cert.Dilated

end
-- ==== Proof.Forward.lean ====
/-
  THE BRANCHES' FORWARD VALUES ARE REAL NUMBERS. On real inputs each branch's row maximum, sum of weights and weighted
  sum is a real number, and the sum of weights is not negative: every row sees its own key.
-/
module

public import proofs.«01_k».proof.Proof.Reals
public import proofs.«01_k».proof.Proof.Layout
public import proofs.«01_k».proof.Proof.Gen.ReferenceIdeal.Read
public import Idealize.ShloMosaic.Lib.WordCmp
public import Idealize.ShloMosaic.PureOps.Reduce
public import Idealize.ShloMosaic.PureOps.Ideal.Laws

@[expose] public section

set_option maxRecDepth 16384
set_option maxHeartbeats 1000000

noncomputable section

namespace Cert.Dilated

open Cert.ReferenceIdeal Cert.ReferenceIdeal.Read Idealize.ShloMosaic Idealize.ShloMosaic.ValueIdx Idealize.ShloMosaic.WordCmp Finset

/-! ## Arrays of real numbers -/

/-- Every entry is a real number. -/
def AllReal {s : Shape} (x : s.Idx → EReal) : Prop := ∀ i, IsReal (x i)

/-- A real number that is not negative. -/
def IsWeight (x : EReal) : Prop := ∃ r : ℝ, 0 ≤ r ∧ (r : EReal) = x

theorem IsWeight.isReal {x : EReal} : IsWeight x → IsReal x
  | ⟨r, _, h⟩ => ⟨r, h⟩

theorem IsWeight.sum {ι : Type*} (s : Finset ι) {f : ι → EReal} (h : ∀ i ∈ s, IsWeight (f i)) : IsWeight (∑ i ∈ s, f i) := by
  classical
  induction s using Finset.induction_on with
  | empty => exact ⟨0, le_refl 0, by simp⟩
  | insert a s ha ih =>
    rw [Finset.sum_insert ha]
    obtain ⟨u, hu, eu⟩ := h a (Finset.mem_insert_self a s)
    obtain ⟨v, hv, ev⟩ := ih fun i hi => h i (Finset.mem_insert_of_mem hi)
    exact ⟨u + v, add_nonneg hu hv, by rw [← eu, ← ev, EReal.coe_add]⟩

theorem AllReal.padded {s t u : Shape} (lo hi inner : Fin s.rank → ℕ) {x : s.Idx → EReal} {v : u.Idx → EReal} (h : s.Pads lo hi inner t)
    (hu : 0 < u.numel) (hx : AllReal x) (hv : AllReal v) : AllReal (pad t lo hi inner x v h hu) := fun j => by
  unfold pad
  split
  · exact hx _
  · exact hv _

theorem AllReal.joined {t : Shape} (a : Fin t.rank) (xs : List ((s : Shape) × (s.Idx → EReal))) (h : Shape.Concatenates (xs.map (·.1)) t a)
    (hx : ∀ p ∈ xs, AllReal p.2) : AllReal (concatenate t a xs h) := fun j => by
  unfold concatenate
  exact hx _ (List.getElem_mem _) _

/-- The greatest of numbers that are real or minus infinity, one of them real. -/
theorem greatest_isReal {s t u : Shape} {axes : List (Fin s.rank)} (x : s.Idx → EReal) (init : u.Idx → EReal) (h : s.ReducesTo axes t)
    (hu : 0 < u.numel) (hinit : ∀ k, init k = ⊥) (hx : ∀ i, x i = ⊥ ∨ IsReal (x i)) (i : s.Idx) (hi : IsReal (x i)) :
    IsReal (Host.reduce (FloatOps.maximumf (F := Ideal) (φ := .f32)) x init h hu (h.drop i)) := by
  unfold Host.reduce
  rw [hinit]
  have key : ∀ (l : List (Fin s.numel)) (a : EReal), l.foldl (fun r n => FloatOps.maximumf (F := Ideal) (φ := .f32) r (x (s.rowMajor.symm n))) a
      = (l.map fun n => x (s.rowMajor.symm n)).foldl max a := fun l => by
    induction l with
    | nil => intro a; rfl
    | cons n l ih => intro a; exact ih _
  refine (key _ ⊥) ▸ foldl_max_isReal _ ?_ ?_
  · intro y hy
    obtain ⟨n, _, rfl⟩ := List.mem_map.1 hy
    exact hx _
  · refine ⟨x i, List.mem_map.2 ⟨s.rowMajor i, List.mem_filter.2 ⟨List.mem_finRange _, ?_⟩, ?_⟩, hi⟩
    · simp
    · simp

theorem negInf (w : EReal) (h : w = FloatOps.ofBits (F := Ideal) .f32 0xFF800000#32) : w = ⊥ := by
  rw [h]
  show Ideal.ofBits .f32 0xFF800000#32 = ⊥
  simp [Ideal.ofBits, Ideal.ieee]

theorem zero_f32 : FloatOps.ofBits (F := Ideal) .f32 0x00000000#32 = (0 : EReal) := Ideal.ofBits_zero_f32

/-! ## The mask -/

/-- The mask of a branch, from the words of a block, a row in it and a key. -/
def maskWord (b i j : BitVec 32) : BitVec 1 :=
  IntOp.andi (IntOp.andi (IntOp.cmpi .sge (IntOp.subi (IntOp.addi 128#32 i) j) 0#32) (IntOp.cmpi .sle (IntOp.subi (IntOp.addi 128#32 i) j) 128#32))
    (IntOp.ori (IntOp.cmpi .sgt b 0#32) (IntOp.cmpi .sge j 128#32))

/-- A row of a block looks at a key of the two blocks: at most 128 back, not ahead, and not before the first. -/
def ok (b : ℕ) (i : Fin 128) (j : Fin 256) : Bool := decide (i.val ≤ j.val ∧ j.val ≤ 128 + i.val ∧ (0 < b ∨ 128 ≤ j.val))

theorem maskWord_eq (b : Fin 128) (i : Fin 128) (j : Fin 256) :
    maskWord (BitVec.ofNat 32 b.val) (BitVec.ofNat 32 i.val) (BitVec.ofNat 32 j.val) = BitVec.ofBool (ok b.val i j) := by
  have h1 : ∀ (i : Fin 128) (j : Fin 256), IntOp.andi
      (IntOp.cmpi .sge (IntOp.subi (IntOp.addi 128#32 (BitVec.ofNat 32 i.val)) (BitVec.ofNat 32 j.val)) 0#32)
      (IntOp.cmpi .sle (IntOp.subi (IntOp.addi 128#32 (BitVec.ofNat 32 i.val)) (BitVec.ofNat 32 j.val)) 128#32)
      = BitVec.ofBool (decide (i.val ≤ j.val ∧ j.val ≤ 128 + i.val)) := by decide +kernel
  have h2 : ∀ b : Fin 128, IntOp.cmpi .sgt (BitVec.ofNat 32 b.val) 0#32 = BitVec.ofBool (decide (0 < b.val)) := by decide +kernel
  have h3 : ∀ j : Fin 256, IntOp.cmpi .sge (BitVec.ofNat 32 j.val) 128#32 = BitVec.ofBool (decide (128 ≤ j.val)) := by decide +kernel
  have h4 : ∀ x y : Bool, IntOp.andi (BitVec.ofBool x) (BitVec.ofBool y) = BitVec.ofBool (x && y) := by decide
  have h5 : ∀ x y : Bool, IntOp.ori (BitVec.ofBool x) (BitVec.ofBool y) = BitVec.ofBool (x || y) := by decide
  unfold maskWord ok
  rw [h1, h2, h3, h5, h4]
  congr 1
  simp only [Bool.decide_and, Bool.decide_or, Bool.and_assoc]

/-- A row looks at its own key. -/
theorem ok_self (b : ℕ) (i : Fin 128) : ok b i ⟨128 + i.val, by have := i.isLt; omega⟩ = true :=
  decide_eq_true ⟨by show i.val ≤ 128 + i.val; omega, le_refl _, Or.inr (by show 128 ≤ 128 + i.val; omega)⟩

theorem mask0 (b i : Fin 128) (j : Fin 256) : val_main_v55 (F := Ideal) (ix3 b i j) = BitVec.ofBool (ok b.val i j) := by
  rw [← maskWord_eq]
  simp only [val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, val_main_v29_apply, val_main_v28_apply, val_main_c_1_apply, val_main_c_2_apply,
    val_main_c_3_apply, val_main_c_4_apply, val_main_c_5_apply]
  rfl

theorem mask1 (b : Fin 32) (i : Fin 128) (j : Fin 256) : val_main_v117 (F := Ideal) (ix3 b i j) = BitVec.ofBool (ok b.val i j) := by
  have := b.isLt
  rw [← maskWord_eq ⟨b.val, by omega⟩]
  simp only [val_main_v117_apply, val_main_v116_apply, val_main_v115_apply, val_main_v114_apply, val_main_v113_apply, val_main_v112_apply,
    val_main_v111_apply, val_main_v110_apply, val_main_v109_apply, val_main_v108_apply, val_main_v107_apply, val_main_v106_apply,
    val_main_v105_apply, val_main_v104_apply, val_main_v103_apply, val_main_v102_apply, val_main_v101_apply, val_main_v100_apply,
    val_main_v99_apply, val_main_v98_apply, val_main_v97_apply, val_main_v96_apply, val_main_v95_apply, val_main_v94_apply,
    val_main_v93_apply, val_main_v92_apply, val_main_v91_apply, val_main_v90_apply, val_main_c_10_apply, val_main_c_11_apply,
    val_main_c_12_apply, val_main_c_13_apply, val_main_c_14_apply]
  rfl

theorem mask2 (b : Fin 8) (i : Fin 128) (j : Fin 256) : val_main_v179 (F := Ideal) (ix3 b i j) = BitVec.ofBool (ok b.val i j) := by
  have := b.isLt
  rw [← maskWord_eq ⟨b.val, by omega⟩]
  simp only [val_main_v179_apply, val_main_v178_apply, val_main_v177_apply, val_main_v176_apply, val_main_v175_apply, val_main_v174_apply,
    val_main_v173_apply, val_main_v172_apply, val_main_v171_apply, val_main_v170_apply, val_main_v169_apply, val_main_v168_apply,
    val_main_v167_apply, val_main_v166_apply, val_main_v165_apply, val_main_v164_apply, val_main_v163_apply, val_main_v162_apply,
    val_main_v161_apply, val_main_v160_apply, val_main_v159_apply, val_main_v158_apply, val_main_v157_apply, val_main_v156_apply,
    val_main_v155_apply, val_main_v154_apply, val_main_v153_apply, val_main_v152_apply, val_main_c_20_apply, val_main_c_21_apply,
    val_main_c_22_apply, val_main_c_23_apply, val_main_c_24_apply]
  rfl

end Cert.Dilated

end
-- ==== Proof.Branches.lean ====
/-
  The row maximum, the sum of weights and the weighted sum of the two narrower branches, and the scores of the widest
  one, are real numbers.
-/
module

public import proofs.«01_k».proof.Proof.Forward

@[expose] public section

set_option maxRecDepth 16384
set_option maxHeartbeats 1000000

noncomputable section

namespace Cert.Dilated

open Cert.ReferenceIdeal Cert.ReferenceIdeal.Gen Cert.ReferenceIdeal.Read Idealize.ShloMosaic Idealize.ShloMosaic.ValueIdx Finset

/-- A score the mask leaves, or minus infinity. -/
theorem selected (c : BitVec 1) {x y : EReal} (hx : IsReal x) (hy : y = ⊥) : Scalar.select c x y = ⊥ ∨ IsReal (Scalar.select c x y) := by
  rcases eq_or_ne c 1#1 with h | h
  · rw [h, ValueIdx.select_one]; exact Or.inr hx
  · rw [eq_zero_of_ne_one h, ValueIdx.select_zero]; exact Or.inl hy

/-- A weight: the exponential of a masked score over the row's maximum. -/
theorem weight {x m : EReal} (hx : x = ⊥ ∨ IsReal x) (hm : IsReal m) : IsWeight (Ideal.exp (x - m)) := by
  obtain ⟨m, rfl⟩ := hm
  rcases hx with rfl | ⟨x, rfl⟩
  · exact ⟨0, le_refl 0, by rw [sub_eq_add_neg, EReal.bot_add, Ideal.exp_bot]; rfl⟩
  · exact ⟨Real.exp (x - m), (Real.exp_pos _).le, by rw [← EReal.coe_sub, Ideal.exp_coe]⟩

theorem zero_add_sum {z : EReal} {n : ℕ} {f : Fin n → EReal} (hz : z = 0) (hf : ∀ k, IsWeight (f k)) : IsWeight (z + ∑ k, f k) := by
  rw [hz, zero_add]
  exact IsWeight.sum _ fun k _ => hf k

theorem sitofp_zero {x : EReal} (h : x = FloatOps.sitofp (F := Ideal) .f32 0#32) : IsReal x := by
  rw [h]
  exact ⟨0, by show ((0 : ℝ) : EReal) = _; simp [FloatOps.sitofp]⟩

theorem pair_joined {t a' b' : Shape} (a : Fin t.rank) {x : a'.Idx → EReal} {y : b'.Idx → EReal}
    (hc : Shape.Concatenates [a', b'] t a) (hx : AllReal x) (hy : AllReal y) : AllReal (concatenate t a [⟨a', x⟩, ⟨b', y⟩] hc) :=
  AllReal.joined a [⟨a', x⟩, ⟨b', y⟩] hc (List.forall_mem_cons.2 ⟨hx, List.forall_mem_cons.2 ⟨hy, fun _ hp => absurd hp List.not_mem_nil⟩⟩)

theorem triple_joined {t a' b' c' : Shape} (a : Fin t.rank) {x : a'.Idx → EReal} {y : b'.Idx → EReal} {z : c'.Idx → EReal}
    (hc : Shape.Concatenates [a', b', c'] t a) (hx : AllReal x) (hy : AllReal y) (hz : AllReal z) :
    AllReal (concatenate t a [⟨a', x⟩, ⟨b', y⟩, ⟨c', z⟩] hc) :=
  AllReal.joined a [⟨a', x⟩, ⟨b', y⟩, ⟨c', z⟩] hc (List.forall_mem_cons.2 ⟨hx, List.forall_mem_cons.2 ⟨hy, List.forall_mem_cons.2
    ⟨hz, fun _ hp => absurd hp List.not_mem_nil⟩⟩⟩)

variable (x0 x1 x2 x3 : S16384x1024.Idx → EReal)

/-- The four arrays the step's pass works from are real. -/
structure AllArgs : Prop where
  q : AllReal x0
  k : AllReal x1
  v : AllReal x2
  g : AllReal x3

variable {x0 x1 x2 x3} (h : AllArgs x0 x1 x2 x3)
include h

theorem real_q : AllReal (val_main_v2 (F := Ideal) x0) := fun i => by
  rw [val_main_v2_apply, val_main_v1_apply, val_main_v0_apply]; exact h.q _

theorem real_k : AllReal (val_main_v5 (F := Ideal) x1) := fun i => by
  rw [val_main_v5_apply, val_main_v4_apply, val_main_v3_apply]; exact h.k _

theorem real_v : AllReal (val_main_v8 (F := Ideal) x2) := fun i => by
  rw [val_main_v8_apply, val_main_v7_apply, val_main_v6_apply]; exact h.v _

theorem real_g : AllReal (val_main_v11 (F := Ideal) x3) := fun i => by
  rw [val_main_v11_apply, val_main_v10_apply, val_main_v9_apply]; exact h.g _

/-! ## Branch 0 -/

theorem keys0 : AllReal (val_main_v20 (F := Ideal) x1) := by
  have block : AllReal (val_main_v17 (F := Ideal) x1) := fun i => by
    rw [val_main_v17_apply, val_main_v16_apply, val_main_v15_apply]; exact real_k h _
  have before : AllReal (val_main_v19 (F := Ideal) x1) := fun i => by
    rw [val_main_v19_apply]
    exact AllReal.padded _ _ _ _ _ block (fun _ => sitofp_zero rfl) _
  exact pair_joined _ _ before block

theorem values0 : AllReal (val_main_v26 (F := Ideal) x2) := by
  have block : AllReal (val_main_v23 (F := Ideal) x2) := fun i => by
    rw [val_main_v23_apply, val_main_v22_apply, val_main_v21_apply]; exact real_v h _
  have before : AllReal (val_main_v25 (F := Ideal) x2) := fun i => by
    rw [val_main_v25_apply]
    exact AllReal.padded _ _ _ _ _ block (fun _ => sitofp_zero rfl) _
  exact pair_joined _ _ before block

theorem scores0 : AllReal (val_main_v27 (F := Ideal) x0 x1) := fun i => by
  rw [val_main_v27_apply]
  refine IsReal.sum _ fun k _ => IsReal.mul ?_ (keys0 h _)
  rw [val_main_v14_apply, val_main_v13_apply, val_main_v12_apply]
  exact real_q h _

theorem masked0 (i : S16x1x128x128x256.Idx) : val_main_v56 (F := Ideal) x0 x1 i = ⊥ ∨ IsReal (val_main_v56 (F := Ideal) x0 x1 i) := by
  rw [val_main_v56_apply]
  exact selected _ (scores0 h i) (negInf _ (by rw [val_main_call2_v2_apply]; rfl))

theorem max0 : AllReal (val_main_v57 (F := Ideal) x0 x1) := fun j => by
  have own (a : Fin 16) (b : Fin 1) (c : Fin 128) (d : Fin 128) : IsReal (val_main_v57 (F := Ideal) x0 x1 (ix4 a b c d)) := by
    have e : reducesTo_S16x1x128x128x256_S16x1x128x128_d4.drop (ix5 a b c d ⟨128 + d.val, by have := d.isLt; omega⟩) = ix4 a b c d := by
      funext z
      match z with
      | ⟨0, _⟩ => rfl
      | ⟨1, _⟩ => rfl
      | ⟨2, _⟩ => rfl
      | ⟨3, _⟩ => rfl
    refine e ▸ greatest_isReal (val_main_v56 (F := Ideal) x0 x1) (val_main_cst_6 (F := Ideal)) reducesTo_S16x1x128x128x256_S16x1x128x128_d4 h_S_
      (fun _ => negInf _ rfl) (masked0 h) _ ?_
    have ei : idx_main_call2_v1 (ix5 a b c d ⟨128 + d.val, by have := d.isLt; omega⟩) = ix3 c d ⟨128 + d.val, by have := d.isLt; omega⟩ := eq_ix3 _
    rw [val_main_v56_apply, val_main_call2_v1_apply, ei, mask0, ok_self]
    exact scores0 h _
  exact (congrArg (fun i => IsReal (val_main_v57 (F := Ideal) x0 x1 i)) (eq_ix4 j)).mpr (own _ _ _ _)

theorem weights0 (i : S16x1x128x128x256.Idx) : IsWeight (val_main_v61 (F := Ideal) x0 x1 i) := by
  rw [val_main_v61_apply, val_main_v60_apply, val_main_v59_apply, val_main_v58_apply]
  exact weight (masked0 h i) (max0 h _)

theorem m0_real : AllReal (val_main_v67 (F := Ideal) x0 x1) := fun i => by
  rw [val_main_v67_apply, val_main_v66_apply, val_main_v65_apply, val_main_v58_apply]
  exact max0 h _

theorem d0_weight (i : S16x16384x1.Idx) : IsWeight (val_main_v70 (F := Ideal) x0 x1 i) := by
  rw [val_main_v70_apply, val_main_v69_apply, val_main_v68_apply, val_main_v63_apply, val_main_v62_apply]
  exact zero_add_sum zero_f32 fun k => weights0 h _

theorem n0_real : AllReal (val_main_v73 (F := Ideal) x0 x1 x2) := fun i => by
  rw [val_main_v73_apply, val_main_v72_apply, val_main_v71_apply, val_main_v64_apply]
  exact IsReal.sum _ fun k _ => (weights0 h _).isReal.mul (values0 h _)

/-! ## Branch 1 -/

theorem keys1 : AllReal (val_main_v82 (F := Ideal) x1) := by
  have block : AllReal (val_main_v79 (F := Ideal) x1) := fun i => by
    rw [val_main_v79_apply, val_main_v78_apply, val_main_v77_apply]; exact real_k h _
  have before : AllReal (val_main_v81 (F := Ideal) x1) := fun i => by
    rw [val_main_v81_apply]
    exact AllReal.padded _ _ _ _ _ block (fun _ => sitofp_zero rfl) _
  exact pair_joined _ _ before block

theorem values1 : AllReal (val_main_v88 (F := Ideal) x2) := by
  have block : AllReal (val_main_v85 (F := Ideal) x2) := fun i => by
    rw [val_main_v85_apply, val_main_v84_apply, val_main_v83_apply]; exact real_v h _
  have before : AllReal (val_main_v87 (F := Ideal) x2) := fun i => by
    rw [val_main_v87_apply]
    exact AllReal.padded _ _ _ _ _ block (fun _ => sitofp_zero rfl) _
  exact pair_joined _ _ before block

theorem scores1 : AllReal (val_main_v89 (F := Ideal) x0 x1) := fun i => by
  rw [val_main_v89_apply]
  refine IsReal.sum _ fun k _ => IsReal.mul ?_ (keys1 h _)
  rw [val_main_v76_apply, val_main_v75_apply, val_main_v74_apply]
  exact real_q h _

theorem masked1 (i : S16x4x32x128x256.Idx) : val_main_v118 (F := Ideal) x0 x1 i = ⊥ ∨ IsReal (val_main_v118 (F := Ideal) x0 x1 i) := by
  rw [val_main_v118_apply]
  exact selected _ (scores1 h i) (negInf _ (by rw [val_main_call5_v2_apply]; rfl))

theorem max1 : AllReal (val_main_v119 (F := Ideal) x0 x1) := fun j => by
  have own (a : Fin 16) (b : Fin 4) (c : Fin 32) (d : Fin 128) : IsReal (val_main_v119 (F := Ideal) x0 x1 (ix4 a b c d)) := by
    have e : reducesTo_S16x4x32x128x256_S16x4x32x128_d4.drop (ix5 a b c d ⟨128 + d.val, by have := d.isLt; omega⟩) = ix4 a b c d := by
      funext z
      match z with
      | ⟨0, _⟩ => rfl
      | ⟨1, _⟩ => rfl
      | ⟨2, _⟩ => rfl
      | ⟨3, _⟩ => rfl
    refine e ▸ greatest_isReal (val_main_v118 (F := Ideal) x0 x1) (val_main_cst_16 (F := Ideal)) reducesTo_S16x4x32x128x256_S16x4x32x128_d4 h_S_
      (fun _ => negInf _ rfl) (masked1 h) _ ?_
    have ei : idx_main_call5_v1 (ix5 a b c d ⟨128 + d.val, by have := d.isLt; omega⟩) = ix3 c d ⟨128 + d.val, by have := d.isLt; omega⟩ := eq_ix3 _
    rw [val_main_v118_apply, val_main_call5_v1_apply, ei, mask1, ok_self]
    exact scores1 h _
  exact (congrArg (fun i => IsReal (val_main_v119 (F := Ideal) x0 x1 i)) (eq_ix4 j)).mpr (own _ _ _ _)

theorem weights1 (i : S16x4x32x128x256.Idx) : IsWeight (val_main_v123 (F := Ideal) x0 x1 i) := by
  rw [val_main_v123_apply, val_main_v122_apply, val_main_v121_apply, val_main_v120_apply]
  exact weight (masked1 h i) (max1 h _)

theorem m1_real : AllReal (val_main_v129 (F := Ideal) x0 x1) := fun i => by
  rw [val_main_v129_apply, val_main_v128_apply, val_main_v127_apply, val_main_v120_apply]
  exact max1 h _

theorem d1_weight (i : S16x16384x1.Idx) : IsWeight (val_main_v132 (F := Ideal) x0 x1 i) := by
  rw [val_main_v132_apply, val_main_v131_apply, val_main_v130_apply, val_main_v125_apply, val_main_v124_apply]
  exact zero_add_sum zero_f32 fun k => weights1 h _

theorem n1_real : AllReal (val_main_v135 (F := Ideal) x0 x1 x2) := fun i => by
  rw [val_main_v135_apply, val_main_v134_apply, val_main_v133_apply, val_main_v126_apply]
  exact IsReal.sum _ fun k _ => (weights1 h _).isReal.mul (values1 h _)

/-! ## Branch 2 -/

theorem keys2 : AllReal (val_main_v144 (F := Ideal) x1) := by
  have block : AllReal (val_main_v141 (F := Ideal) x1) := fun i => by
    rw [val_main_v141_apply, val_main_v140_apply, val_main_v139_apply]; exact real_k h _
  have before : AllReal (val_main_v143 (F := Ideal) x1) := fun i => by
    rw [val_main_v143_apply]
    exact AllReal.padded _ _ _ _ _ block (fun _ => sitofp_zero rfl) _
  exact pair_joined _ _ before block

theorem values2 : AllReal (val_main_v150 (F := Ideal) x2) := by
  have block : AllReal (val_main_v147 (F := Ideal) x2) := fun i => by
    rw [val_main_v147_apply, val_main_v146_apply, val_main_v145_apply]; exact real_v h _
  have before : AllReal (val_main_v149 (F := Ideal) x2) := fun i => by
    rw [val_main_v149_apply]
    exact AllReal.padded _ _ _ _ _ block (fun _ => sitofp_zero rfl) _
  exact pair_joined _ _ before block

theorem scores2 : AllReal (val_main_v151 (F := Ideal) x0 x1) := fun i => by
  rw [val_main_v151_apply]
  refine IsReal.sum _ fun k _ => IsReal.mul ?_ (keys2 h _)
  rw [val_main_v138_apply, val_main_v137_apply, val_main_v136_apply]
  exact real_q h _

theorem masked2 (i : S16x16x8x128x256.Idx) : val_main_v180_0 (F := Ideal) x0 x1 i = ⊥ ∨ IsReal (val_main_v180_0 (F := Ideal) x0 x1 i) := by
  rw [val_main_v180_0_apply]
  exact selected _ (scores2 h i) (negInf _ (by rw [val_main_call8_v2_apply]; rfl))

theorem max2 : AllReal (val_main_v181 (F := Ideal) x0 x1) := fun j => by
  have own (a : Fin 16) (b : Fin 16) (c : Fin 8) (d : Fin 128) : IsReal (val_main_v181 (F := Ideal) x0 x1 (ix4 a b c d)) := by
    have e : reducesTo_S16x16x8x128x256_S16x16x8x128_d4.drop (ix5 a b c d ⟨128 + d.val, by have := d.isLt; omega⟩) = ix4 a b c d := by
      funext z
      match z with
      | ⟨0, _⟩ => rfl
      | ⟨1, _⟩ => rfl
      | ⟨2, _⟩ => rfl
      | ⟨3, _⟩ => rfl
    refine e ▸ greatest_isReal (val_main_v180_0 (F := Ideal) x0 x1) (val_main_cst_26 (F := Ideal)) reducesTo_S16x16x8x128x256_S16x16x8x128_d4 h_S_
      (fun _ => negInf _ rfl) (masked2 h) _ ?_
    have ei : idx_main_v180_1 (ix5 a b c d ⟨128 + d.val, by have := d.isLt; omega⟩) = ix3 c d ⟨128 + d.val, by have := d.isLt; omega⟩ := eq_ix3 _
    rw [val_main_v180_0_apply, val_main_v180_1_apply, ei, mask2, ok_self]
    exact scores2 h _
  exact (congrArg (fun i => IsReal (val_main_v181 (F := Ideal) x0 x1 i)) (eq_ix4 j)).mpr (own _ _ _ _)

/-- The largest of the three branches' maxima. -/
theorem maxAll : AllReal (val_main_v206 (F := Ideal) x0 x1) := fun j => by
  have m2 : AllReal (val_main_v196 (F := Ideal) x0 x1) := fun i => by
    rw [val_main_v196_apply, val_main_v195_apply, val_main_v194_apply, val_main_v187_apply]
    exact max2 h _
  have all : AllReal (val_main_v203 (F := Ideal) x0 x1) := by
    unfold val_main_v203
    exact triple_joined _ _ (m0_real h) (m1_real h) m2
  have own (a : Fin 16) (b : Fin 16384) : IsReal (val_main_v206 (F := Ideal) x0 x1 (ix2 a b)) := by
    have e : reducesTo_S16x16384x3_S16x16384_d2.drop (ix3 a b (0 : Fin 3)) = ix2 a b := by
      funext z
      match z with
      | ⟨0, _⟩ => rfl
      | ⟨1, _⟩ => rfl
    exact e ▸ greatest_isReal (val_main_v203 (F := Ideal) x0 x1) (val_main_cst_31 (F := Ideal)) reducesTo_S16x16384x3_S16x16384_d2 h_S_
      (fun _ => negInf _ rfl) (fun i => Or.inr (all i)) _ (all _)
  exact (congrArg (fun i => IsReal (val_main_v206 (F := Ideal) x0 x1 i)) (eq_ix2 j)).mpr (own _ _)

end Cert.Dilated

end
-- ==== Proof.Gradient.lean ====
/-
  WHAT THE REFERENCE COMPUTES, ROW BY ROW. On real inputs every intermediate array of `reference`, read at one row of
  one head, is a real number of `Row`: the branch's weights, sums and maximum, the mixture, and the gradients. The two
  gradients through the maxima vanish, so what reaches the score of key `j` is `Row.ds j` where the row looks, and 0
  elsewhere.
-/
module

public import proofs.«01_k».proof.Proof.Branches
public import Idealize.ShloMosaic.Lib.IdealHost

@[expose] public section

set_option maxRecDepth 16384
set_option maxHeartbeats 1000000

noncomputable section

namespace Cert.Dilated

open Cert.ReferenceIdeal Cert.ReferenceIdeal.Gen Cert.ReferenceIdeal.Read Idealize.ShloMosaic Idealize.ShloMosaic.ValueIdx Finset

/-! ## Arithmetic of real numbers among the extended reals -/

theorem addf_coe (a b : ℝ) : FloatOps.addf (F := Ideal) (φ := .f32) (a : EReal) (b : EReal) = ((a + b : ℝ) : EReal) := (EReal.coe_add a b).symm
theorem subf_coe (a b : ℝ) : FloatOps.subf (F := Ideal) (φ := .f32) (a : EReal) (b : EReal) = ((a - b : ℝ) : EReal) := (EReal.coe_sub a b).symm
theorem mulf_coe (a b : ℝ) : FloatOps.mulf (F := Ideal) (φ := .f32) (a : EReal) (b : EReal) = ((a * b : ℝ) : EReal) := (EReal.coe_mul a b).symm
theorem negf_coe (a : ℝ) : FloatOps.hostNegf (F := Ideal) (φ := .f32) (a : EReal) = ((-a : ℝ) : EReal) := (EReal.coe_neg a).symm
theorem expf_coe (a : ℝ) : FloatOps.hostUnary (F := Ideal) (φ := .f32) .exp (a : EReal) = ((Real.exp a : ℝ) : EReal) := Ideal.exp_coe a
theorem divf_coe (a : ℝ) {b : ℝ} (hb : b ≠ 0) : FloatOps.hostDivf (F := Ideal) (φ := .f32) (a : EReal) (b : EReal) = ((a / b : ℝ) : EReal) :=
  div_coe a hb

theorem one_f32 : FloatOps.ofBits (F := Ideal) .f32 0x3F800000#32 = ((1 : ℝ) : EReal) := by
  show Ideal.ofBits .f32 0x3F800000#32 = _
  rw [Ideal.ofBits_one_f32]; rfl

theorem sum_coe {ι : Type*} [Fintype ι] {z : EReal} (hz : z = 0) {f : ι → EReal} {g : ι → ℝ} (hf : ∀ k, f k = (g k : EReal)) :
    z + ∑ k, f k = ((∑ k, g k : ℝ) : EReal) := by
  rw [hz, zero_add, coe_sum]
  exact Finset.sum_congr rfl fun k _ => hf k

theorem dot_coe {ι : Type*} [Fintype ι] {f f' : ι → EReal} {g g' : ι → ℝ} (hf : ∀ k, f k = (g k : EReal)) (hf' : ∀ k, f' k = (g' k : EReal)) :
    ∑ k, f k * f' k = ((∑ k, g k * g' k : ℝ) : EReal) := by
  rw [coe_sum]
  exact Finset.sum_congr rfl fun k _ => by rw [hf, hf', EReal.coe_mul]

theorem IsReal.coe_toReal {x : EReal} : IsReal x → x = ((x.toReal : ℝ) : EReal)
  | ⟨r, hr⟩ => by rw [← hr, EReal.toReal_coe]

theorem IsWeight.toReal_nonneg {x : EReal} : IsWeight x → 0 ≤ x.toReal
  | ⟨r, h0, hr⟩ => by rw [← hr, EReal.toReal_coe]; exact h0

/-- A gradient of zero shared out among the entries that attain a maximum is zero, whatever their number. -/
theorem tie {n : ℕ} (c : Fin n → BitVec 1) {y z : EReal} (hy : y = 0) (hz : z = 0) (k : Fin n) :
    FloatOps.mulf (F := Ideal) (φ := .f32) (FloatOps.hostDivf (F := Ideal) (φ := .f32) y (z + ∑ j, (FloatOps.uitofp (F := Ideal) .f32 (c j) : EReal)))
      (FloatOps.uitofp (F := Ideal) .f32 (c k)) = (0 : EReal) := by
  show Ideal.div y (z + ∑ j, (((c j).toNat : ℝ) : EReal)) * (((c k).toNat : ℝ) : EReal) = 0
  rw [hy, hz, zero_add, ← coe_sum]
  rcases Nat.eq_zero_or_pos (c k).toNat with h | h
  · rw [h]; simp
  · have hpos : 0 < ∑ j, ((c j).toNat : ℝ) := Finset.sum_pos' (fun _ _ => Nat.cast_nonneg _) ⟨k, Finset.mem_univ k, Nat.cast_pos.2 h⟩
    rw [show (0 : EReal) = ((0 : ℝ) : EReal) from rfl, div_coe 0 hpos.ne', zero_div, ← EReal.coe_mul, zero_mul]

/-! ## Unit axes -/

theorem unit16 {α : Type} (y : S16x16384.Idx → α) (h : S16x16384.ShapeCasts S16x16384x1) (hd : Fin 16) (n : Fin 16384) :
    shapeCast S16x16384x1 y h (ix3 hd n 0) = y (ix2 hd n) :=
  shapeCast_apply y h (ix3 hd n 0) (ix2 hd n) (by
    rw [Shape.rowMajor_val_two, Shape.rowMajor_val_three]
    show hd.val * 16384 + n.val = (hd.val * 16384 + n.val) * 1 + 0
    omega)

theorem unit128 {α : Type} (y : S16x16x8x128.Idx → α) (h : S16x16x8x128.ShapeCasts S16x16x8x128x1) (hd r : Fin 16) (b : Fin 8) (i : Fin 128) :
    shapeCast S16x16x8x128x1 y h (ix5 hd r b i 0) = y (ix4 hd r b i) :=
  shapeCast_apply y h (ix5 hd r b i 0) (ix4 hd r b i) (by
    rw [Shape.rowMajor_val_four, Shape.rowMajor_val_five]
    show ((hd.val * 16 + r.val) * 8 + b.val) * 128 + i.val = (((hd.val * 16 + r.val) * 8 + b.val) * 128 + i.val) * 1 + 0
    omega)

/-! ## The numbers of one row -/

variable {x0 x1 x2 x3 : S16384x1024.Idx → EReal}

/-- Row `i` of block `b` of residue `r`, of head `hd`. -/
def rowOf (_ : AllArgs x0 x1 x2 x3) (hd r : Fin 16) (b : Fin 8) (i : Fin 128) : Row (Fin 256) (Fin 64) where
  valid j := ok b.val i j = true
  s j := (val_main_v151 (F := Ideal) x0 x1 (ix5 hd r b i j) : EReal).toReal
  v j e := (val_main_v150 (F := Ideal) x2 (ix5 hd r b j e) : EReal).toReal
  g e := (val_main_v11 (F := Ideal) x3 (ix3 hd (row r b i) e) : EReal).toReal
  m0 := (val_main_v67 (F := Ideal) x0 x1 (ix3 hd (row r b i) 0) : EReal).toReal
  m1 := (val_main_v129 (F := Ideal) x0 x1 (ix3 hd (row r b i) 0) : EReal).toReal
  m2 := (val_main_v181 (F := Ideal) x0 x1 (ix4 hd r b i) : EReal).toReal
  d0 := (val_main_v70 (F := Ideal) x0 x1 (ix3 hd (row r b i) 0) : EReal).toReal
  d1 := (val_main_v132 (F := Ideal) x0 x1 (ix3 hd (row r b i) 0) : EReal).toReal
  n0 e := (val_main_v73 (F := Ideal) x0 x1 x2 (ix3 hd (row r b i) e) : EReal).toReal
  n1 e := (val_main_v135 (F := Ideal) x0 x1 x2 (ix3 hd (row r b i) e) : EReal).toReal
  M := (val_main_v206 (F := Ideal) x0 x1 (ix2 hd (row r b i)) : EReal).toReal

variable (h : AllArgs x0 x1 x2 x3) (hd r : Fin 16) (b : Fin 8) (i : Fin 128)
include h

theorem D_pos : 0 < (rowOf h hd r b i).D :=
  (rowOf h hd r b i).D_pos (d0_weight h _).toReal_nonneg (d1_weight h _).toReal_nonneg (ok_self b.val i)

theorem g_eq (e : Fin 64) : val_main_v11 (F := Ideal) x3 (ix3 hd (row r b i) e) = (((rowOf h hd r b i).g e : ℝ) : EReal) :=
  (real_g h _).coe_toReal
theorem s_eq (j : Fin 256) : val_main_v151 (F := Ideal) x0 x1 (ix5 hd r b i j) = (((rowOf h hd r b i).s j : ℝ) : EReal) :=
  (scores2 h _).coe_toReal
theorem v_eq (j : Fin 256) (e : Fin 64) : val_main_v150 (F := Ideal) x2 (ix5 hd r b j e) = (((rowOf h hd r b i).v j e : ℝ) : EReal) :=
  (values2 h _).coe_toReal
theorem d0_eq : val_main_v70 (F := Ideal) x0 x1 (ix3 hd (row r b i) 0) = (((rowOf h hd r b i).d0 : ℝ) : EReal) :=
  (d0_weight h _).isReal.coe_toReal
theorem d1_eq : val_main_v132 (F := Ideal) x0 x1 (ix3 hd (row r b i) 0) = (((rowOf h hd r b i).d1 : ℝ) : EReal) :=
  (d1_weight h _).isReal.coe_toReal
theorem n0_eq (e : Fin 64) : val_main_v73 (F := Ideal) x0 x1 x2 (ix3 hd (row r b i) e) = (((rowOf h hd r b i).n0 e : ℝ) : EReal) :=
  (n0_real h _).coe_toReal
theorem n1_eq (e : Fin 64) : val_main_v135 (F := Ideal) x0 x1 x2 (ix3 hd (row r b i) e) = (((rowOf h hd r b i).n1 e : ℝ) : EReal) :=
  (n1_real h _).coe_toReal
theorem m0_eq : val_main_v67 (F := Ideal) x0 x1 (ix3 hd (row r b i) 0) = (((rowOf h hd r b i).m0 : ℝ) : EReal) := by
  dsimp only [rowOf]
  exact (m0_real h _).coe_toReal
theorem m1_eq : val_main_v129 (F := Ideal) x0 x1 (ix3 hd (row r b i) 0) = (((rowOf h hd r b i).m1 : ℝ) : EReal) := by
  dsimp only [rowOf]
  exact (m1_real h _).coe_toReal
theorem m2_eq : val_main_v181 (F := Ideal) x0 x1 (ix4 hd r b i) = (((rowOf h hd r b i).m2 : ℝ) : EReal) := by
  dsimp only [rowOf]
  exact (max2 h _).coe_toReal
theorem M_eq : val_main_v212 (F := Ideal) x0 x1 (ix3 hd (row r b i) 0) = (((rowOf h hd r b i).M : ℝ) : EReal) := by
  have e : idx_main_v212 (ix3 hd (row r b i) 0) = ix2 hd (row r b i) := eq_ix2 _
  rw [val_main_v212_apply, e]
  dsimp only [rowOf]
  exact (maxAll h _).coe_toReal

omit h in
/-- The mask at a key. -/
theorem looks (j : Fin 256) : val_main_v180_1 (F := Ideal) (ix5 hd r b i j) = BitVec.ofBool (ok b.val i j) := by
  rw [val_main_v180_1_apply]
  exact (congrArg (val_main_v179 (F := Ideal)) (eq_ix3 _)).trans (mask2 b i j)

/-! ## The branch's own sums -/

theorem p_eq (j : Fin 256) : val_main_v190 (F := Ideal) x0 x1 (ix5 hd r b i j) = (((rowOf h hd r b i).p j : ℝ) : EReal) := by
  have hm : val_main_v188 (F := Ideal) x0 x1 (ix5 hd r b i j) = (((rowOf h hd r b i).m2 : ℝ) : EReal) := by
    rw [val_main_v188_apply, val_main_v187_apply]
    exact (congrArg (val_main_v181 (F := Ideal) x0 x1) (eq_ix4 _)).trans (m2_eq h hd r b i)
  rw [val_main_v190_apply, val_main_v189_apply, val_main_v180_0_apply, hm, looks, s_eq h]
  unfold Row.p
  by_cases hj : ok b.val i j = true
  · rw [if_pos (show (rowOf h hd r b i).valid j from hj), hj]
    exact (congrArg _ (subf_coe _ _)).trans (expf_coe _)
  · rw [if_neg (show ¬(rowOf h hd r b i).valid j from hj), Bool.eq_false_iff.2 hj]
    have hz : Scalar.select (BitVec.ofBool false) (((rowOf h hd r b i).s j : ℝ) : EReal) (val_main_call8_v2 (F := Ideal) (ix5 hd r b i j)) = ⊥ :=
      (ValueIdx.select_zero _ _).trans (negInf _ (by rw [val_main_call8_v2_apply]; rfl))
    rw [hz]
    show Ideal.exp (⊥ - (((rowOf h hd r b i).m2 : ℝ) : EReal)) = _
    rw [sub_eq_add_neg, EReal.bot_add, Ideal.exp_bot]; rfl

theorem d2_eq : val_main_v191 (F := Ideal) x0 x1 (ix4 hd r b i) = (((rowOf h hd r b i).d2 : ℝ) : EReal) := by
  rw [val_main_v191_apply]
  exact sum_coe zero_f32 fun k => (congrArg (val_main_v190 (F := Ideal) x0 x1) (eq_ix5 _)).trans (p_eq h hd r b i k)

theorem n2_eq (e : Fin 64) : val_main_v193 (F := Ideal) x0 x1 x2 (ix5 hd r b i e) = (((rowOf h hd r b i).n2 e : ℝ) : EReal) := by
  rw [val_main_v193_apply]
  exact dot_coe (fun k => (congrArg (val_main_v190 (F := Ideal) x0 x1) (eq_ix5 _)).trans (p_eq h hd r b i k))
    (fun k => (congrArg (val_main_v150 (F := Ideal) x2) (eq_ix5 _)).trans (v_eq h hd r b i k e))

theorem m2_row : val_main_v196 (F := Ideal) x0 x1 (ix3 hd (row r b i) 0) = (((rowOf h hd r b i).m2 : ℝ) : EReal) := by
  unfold val_main_v196 val_main_v195 val_main_v194
  rw [fromRes1, val_main_v187_apply]
  exact (congrArg (val_main_v181 (F := Ideal) x0 x1) (eq_ix4 _)).trans (m2_eq h hd r b i)

theorem d2_row : val_main_v199 (F := Ideal) x0 x1 (ix3 hd (row r b i) 0) = (((rowOf h hd r b i).d2 : ℝ) : EReal) := by
  unfold val_main_v199 val_main_v198 val_main_v197
  rw [fromRes1, val_main_v192_apply]
  exact (congrArg (val_main_v191 (F := Ideal) x0 x1) (eq_ix4 _)).trans (d2_eq h hd r b i)

theorem n2_row (e : Fin 64) : val_main_v202 (F := Ideal) x0 x1 x2 (ix3 hd (row r b i) e) = (((rowOf h hd r b i).n2 e : ℝ) : EReal) := by
  unfold val_main_v202 val_main_v201 val_main_v200
  rw [fromRes64]
  exact n2_eq h hd r b i e

/-! ## The mixture -/

theorem a0_eq : val_main_v214 (F := Ideal) x0 x1 (ix3 hd (row r b i) 0) = (((rowOf h hd r b i).a0 : ℝ) : EReal) := by
  rw [val_main_v214_apply, val_main_v213_apply, M_eq h, m0_eq h, subf_coe, expf_coe, Row.a0]
theorem a1_eq : val_main_v220 (F := Ideal) x0 x1 (ix3 hd (row r b i) 0) = (((rowOf h hd r b i).a1 : ℝ) : EReal) := by
  rw [val_main_v220_apply, val_main_v219_apply, M_eq h, m1_eq h, subf_coe, expf_coe, Row.a1]
theorem a2_eq : val_main_v225 (F := Ideal) x0 x1 (ix3 hd (row r b i) 0) = (((rowOf h hd r b i).a2 : ℝ) : EReal) := by
  rw [val_main_v225_apply, val_main_v224_apply, M_eq h, m2_row h, subf_coe, expf_coe, Row.a2]

theorem N_eq (e : Fin 64) : val_main_v228 (F := Ideal) x0 x1 x2 (ix3 hd (row r b i) e) = (((rowOf h hd r b i).N e : ℝ) : EReal) := by
  have h0 : val_main_v215 (F := Ideal) x0 x1 (ix3 hd (row r b i) e) = (((rowOf h hd r b i).a0 : ℝ) : EReal) := by
    rw [val_main_v215_apply]
    exact (congrArg (val_main_v214 (F := Ideal) x0 x1) (eq_ix3 _)).trans (a0_eq h hd r b i)
  have h1 : val_main_v221 (F := Ideal) x0 x1 (ix3 hd (row r b i) e) = (((rowOf h hd r b i).a1 : ℝ) : EReal) := by
    rw [val_main_v221_apply]
    exact (congrArg (val_main_v220 (F := Ideal) x0 x1) (eq_ix3 _)).trans (a1_eq h hd r b i)
  have h2 : val_main_v226 (F := Ideal) x0 x1 (ix3 hd (row r b i) e) = (((rowOf h hd r b i).a2 : ℝ) : EReal) := by
    rw [val_main_v226_apply]
    exact (congrArg (val_main_v225 (F := Ideal) x0 x1) (eq_ix3 _)).trans (a2_eq h hd r b i)
  have hz : val_main_v217 (F := Ideal) (ix3 hd (row r b i) e) = ((0 : ℝ) : EReal) := by rw [val_main_v217_apply]; exact zero_f32
  rw [val_main_v228_apply, val_main_v227_apply, val_main_v223_apply, val_main_v222_apply, val_main_v218_apply, val_main_v216_apply, h0, h1, h2,
    hz, n0_eq h, n1_eq h, n2_row h, mulf_coe, mulf_coe, mulf_coe, addf_coe, addf_coe, addf_coe, zero_add]
  rfl

theorem D_eq : val_main_v241 (F := Ideal) x0 x1 (ix3 hd (row r b i) 0) = (((rowOf h hd r b i).D : ℝ) : EReal) := by
  have h0 : val_main_v230 (F := Ideal) x0 x1 (ix3 hd (row r b i) 0) = (((rowOf h hd r b i).a0 : ℝ) : EReal) := a0_eq h hd r b i
  have h1 : val_main_v235 (F := Ideal) x0 x1 (ix3 hd (row r b i) 0) = (((rowOf h hd r b i).a1 : ℝ) : EReal) := a1_eq h hd r b i
  have h2 : val_main_v239 (F := Ideal) x0 x1 (ix3 hd (row r b i) 0) = (((rowOf h hd r b i).a2 : ℝ) : EReal) := a2_eq h hd r b i
  have hz : val_main_v232 (F := Ideal) (ix3 hd (row r b i) 0) = ((0 : ℝ) : EReal) := by rw [val_main_v232_apply]; exact zero_f32
  rw [val_main_v241_apply, val_main_v240_apply, val_main_v237_apply, val_main_v236_apply, val_main_v233_apply, val_main_v231_apply, h0, h1, h2,
    hz, d0_eq h, d1_eq h, d2_row h, mulf_coe, mulf_coe, mulf_coe, addf_coe, addf_coe, addf_coe, zero_add]
  rfl

/-! ## The gradients the mixture passes on -/

theorem w_eq (e : Fin 64) : val_main_v254 (F := Ideal) x0 x1 x3 (ix3 hd (row r b i) e) = (((rowOf h hd r b i).w e : ℝ) : EReal) := by
  have hD : val_main_v253 (F := Ideal) x0 x1 (ix3 hd (row r b i) e) = (((rowOf h hd r b i).D : ℝ) : EReal) := by
    rw [val_main_v253_apply]
    exact (congrArg (val_main_v241 (F := Ideal) x0 x1) (eq_ix3 _)).trans (D_eq h hd r b i)
  rw [val_main_v254_apply, hD, g_eq h, divf_coe _ (D_pos h hd r b i).ne']
  rfl

theorem ct_eq : val_main_v252 (F := Ideal) x0 x1 x2 x3 (ix3 hd (row r b i) 0) = (((rowOf h hd r b i).ct : ℝ) : EReal) := by
  have hI (e : Fin 64) : val_main_v247 (F := Ideal) x0 x1 (ix3 hd (row r b i) e)
      = ((1 / ((rowOf h hd r b i).D * (rowOf h hd r b i).D) : ℝ) : EReal) := by
    have h1 : val_main_v246 (F := Ideal) x0 x1 (ix3 hd (row r b i) 0) = ((1 / ((rowOf h hd r b i).D * (rowOf h hd r b i).D) : ℝ) : EReal) := by
      have ho : val_main_v245 (F := Ideal) (ix3 hd (row r b i) 0) = ((1 : ℝ) : EReal) := by
        rw [val_main_v245_apply]; exact one_f32
      rw [val_main_v246_apply, val_main_v244_apply, ho, D_eq h, mulf_coe, divf_coe _ (mul_pos (D_pos h hd r b i) (D_pos h hd r b i)).ne']
    rw [val_main_v247_apply]
    exact (congrArg (val_main_v246 (F := Ideal) x0 x1) (eq_ix3 _)).trans h1
  have hS : val_main_v251 (F := Ideal) x0 x1 x2 x3 (ix3 hd (row r b i) 0)
      = ((∑ e, (rowOf h hd r b i).g e * (1 / ((rowOf h hd r b i).D * (rowOf h hd r b i).D)) * (rowOf h hd r b i).N e : ℝ) : EReal) := by
    unfold val_main_v251
    rw [unit16, val_main_v250_apply]
    refine sum_coe zero_f32 fun e => ?_
    have ei : idx_main_v250 (ix2 hd (row r b i)) e = ix3 hd (row r b i) e := eq_ix3 _
    rw [ei, val_main_v249_apply, val_main_v248_apply, hI, g_eq h, N_eq h, mulf_coe, mulf_coe]
  rw [val_main_v252_apply, hS, negf_coe]
  rfl

theorem wn2 : val_main_v271 (F := Ideal) x0 x1 x2 x3 (ix3 hd (row r b i) 0)
    = ((∑ e, (rowOf h hd r b i).w e * (rowOf h hd r b i).n2 e : ℝ) : EReal) := by
  unfold val_main_v271
  rw [unit16, val_main_v270_apply]
  refine sum_coe zero_f32 fun e => ?_
  have ei : idx_main_v270 (ix2 hd (row r b i)) e = ix3 hd (row r b i) e := eq_ix3 _
  rw [ei, val_main_v269_apply, w_eq h, n2_row h, mulf_coe]

theorem wn1 : val_main_v278 (F := Ideal) x0 x1 x2 x3 (ix3 hd (row r b i) 0)
    = ((∑ e, (rowOf h hd r b i).w e * (rowOf h hd r b i).n1 e : ℝ) : EReal) := by
  unfold val_main_v278
  rw [unit16, val_main_v277_apply]
  refine sum_coe zero_f32 fun e => ?_
  have ei : idx_main_v277 (ix2 hd (row r b i)) e = ix3 hd (row r b i) e := eq_ix3 _
  rw [ei, val_main_v276_apply, w_eq h, n1_eq h, mulf_coe]

theorem wn0 : val_main_v284 (F := Ideal) x0 x1 x2 x3 (ix3 hd (row r b i) 0)
    = ((∑ e, (rowOf h hd r b i).w e * (rowOf h hd r b i).n0 e : ℝ) : EReal) := by
  unfold val_main_v284
  rw [unit16, val_main_v283_apply]
  refine sum_coe zero_f32 fun e => ?_
  have ei : idx_main_v283 (ix2 hd (row r b i)) e = ix3 hd (row r b i) e := eq_ix3 _
  rw [ei, val_main_v282_apply, w_eq h, n0_eq h, mulf_coe]

/-- Nothing reaches the maximum over branches. -/
theorem noM : val_main_v288 (F := Ideal) x0 x1 x2 x3 (ix2 hd (row r b i)) = (0 : EReal) := by
  have h0 : val_main_v230 (F := Ideal) x0 x1 (ix3 hd (row r b i) 0) = (((rowOf h hd r b i).a0 : ℝ) : EReal) := a0_eq h hd r b i
  have h1 : val_main_v235 (F := Ideal) x0 x1 (ix3 hd (row r b i) 0) = (((rowOf h hd r b i).a1 : ℝ) : EReal) := a1_eq h hd r b i
  have h2 : val_main_v239 (F := Ideal) x0 x1 (ix3 hd (row r b i) 0) = (((rowOf h hd r b i).a2 : ℝ) : EReal) := a2_eq h hd r b i
  have all : val_main_v287 (F := Ideal) x0 x1 x2 x3 (ix3 hd (row r b i) 0) = ((0 : ℝ) : EReal) := by
    rw [← (rowOf h hd r b i).dM_eq_zero (D_pos h hd r b i).ne']
    simp only [val_main_v287_apply, val_main_v286_apply, val_main_v285_apply, val_main_v281_apply, val_main_v280_apply, val_main_v279_apply,
      val_main_v275_apply, val_main_v273_apply, val_main_v272_apply, val_main_v266_apply, val_main_v265_apply, val_main_v264_apply,
      val_main_v263_apply, val_main_v262_apply, val_main_v261_apply, val_main_v260_apply, val_main_v259_apply, val_main_v258_apply,
      val_main_v257_apply, val_main_v256_apply, wn0 h, wn1 h, wn2 h, ct_eq h, d0_eq h, d1_eq h, d2_row h, a0_eq h, a1_eq h, a2_eq h, h0, h1, h2,
      mulf_coe, negf_coe, addf_coe]
  rw [val_main_v288_apply, Fin.sum_univ_one]
  have hi : val_main_v287 (F := Ideal) x0 x1 x2 x3 (idx_main_v288 (ix2 hd (row r b i)) 0) = ((0 : ℝ) : EReal) :=
    (congrArg (val_main_v287 (F := Ideal) x0 x1 x2 x3) (eq_ix3 _)).trans all
  rw [hi]
  exact (congrArg (· + ((0 : ℝ) : EReal)) zero_f32).trans (zero_add _)

theorem noM' (k : Fin 3) : val_main_v291 (F := Ideal) x0 x1 x2 x3 (ix3 hd (row r b i) k) = (0 : EReal) := by
  rw [val_main_v291_apply, val_main_v290_apply]
  have e : val_main_v289 (F := Ideal) x0 x1 x2 x3 (idx_main_v290 (ix3 hd (row r b i) k))
      = val_main_v289 (F := Ideal) x0 x1 x2 x3 (ix2 hd (row r b i)) := congrArg _ (eq_ix2 _)
  have ei : ∀ j : Fin 3, idx_main_v211 (ix2 hd (row r b i)) j = ix3 hd (row r b i) j := fun j => eq_ix3 _
  rw [e, val_main_v289_apply, val_main_v211_apply]
  simp only [ei]
  exact tie (fun j => val_main_v209 (F := Ideal) x0 x1 (ix3 hd (row r b i) j)) (noM h hd r b i) zero_f32 k

/-- What the branch's row maximum receives from the mixture. -/
theorem dm_eq : val_main_v295 (F := Ideal) x0 x1 x2 x3 (ix3 hd (row r b i) 0)
    = (((rowOf h hd r b i).ct * (rowOf h hd r b i).d2 * (rowOf h hd r b i).a2
        + (∑ e, (rowOf h hd r b i).w e * (rowOf h hd r b i).n2 e) * (rowOf h hd r b i).a2 : ℝ) : EReal) := by
  have h2 : val_main_v239 (F := Ideal) x0 x1 (ix3 hd (row r b i) 0) = (((rowOf h hd r b i).a2 : ℝ) : EReal) := a2_eq h hd r b i
  have hz : val_main_v294 (F := Ideal) x0 x1 x2 x3 (ix3 hd (row r b i) 0) = ((0 : ℝ) : EReal) := by
    rw [val_main_v294_apply]
    exact (congrArg (val_main_v291 (F := Ideal) x0 x1 x2 x3) (eq_ix3 _)).trans (noM' h hd r b i _)
  rw [val_main_v295_apply, val_main_v274_apply, val_main_v272_apply, val_main_v257_apply, val_main_v256_apply, hz, wn2 h, ct_eq h, d2_row h,
    a2_eq h, h2, mulf_coe, mulf_coe, mulf_coe, addf_coe, addf_coe, add_zero]

/-! ## The gradient of a score -/

theorem ds_row (j : Fin 256) : val_main_v309 (F := Ideal) x0 x1 x2 x3 (ix5 hd r b i j) = (((rowOf h hd r b i).ds j : ℝ) : EReal) := by
  have h2 : val_main_v239 (F := Ideal) x0 x1 (ix3 hd (row r b i) 0) = (((rowOf h hd r b i).a2 : ℝ) : EReal) := a2_eq h hd r b i
  have hw (e : Fin 64) : val_main_v298 (F := Ideal) x0 x1 x3 (ix5 hd r b i e)
      = (((rowOf h hd r b i).a2 * (rowOf h hd r b i).w e : ℝ) : EReal) := by
    have ha : val_main_v267 (F := Ideal) x0 x1 (ix3 hd (row r b i) e) = (((rowOf h hd r b i).a2 : ℝ) : EReal) := by
      rw [val_main_v267_apply]
      exact (congrArg (val_main_v225 (F := Ideal) x0 x1) (eq_ix3 _)).trans (a2_eq h hd r b i)
    unfold val_main_v298 val_main_v297 val_main_v296
    rw [toRes64, val_main_v268_apply, ha, w_eq h, mulf_coe]
  have hc : val_main_v301 (F := Ideal) x0 x1 x2 x3 (ix5 hd r b i 0) = (((rowOf h hd r b i).a2 * (rowOf h hd r b i).ct : ℝ) : EReal) := by
    unfold val_main_v301 val_main_v300 val_main_v299
    rw [toRes1, val_main_v255_apply, h2, ct_eq h, mulf_coe]
  have hc' : val_main_v307 (F := Ideal) x0 x1 x2 x3 (ix5 hd r b i j) = (((rowOf h hd r b i).a2 * (rowOf h hd r b i).ct : ℝ) : EReal) := by
    rw [val_main_v307_apply, val_main_v306_apply, Fin.sum_univ_one]
    have hi : val_main_v301 (F := Ideal) x0 x1 x2 x3 (idx_main_v306 (idx_main_v307 (ix5 hd r b i j)) 0)
        = (((rowOf h hd r b i).a2 * (rowOf h hd r b i).ct : ℝ) : EReal) :=
      (congrArg (val_main_v301 (F := Ideal) x0 x1 x2 x3) (eq_ix5 _)).trans hc
    rw [hi]
    exact (congrArg (· + (((rowOf h hd r b i).a2 * (rowOf h hd r b i).ct : ℝ) : EReal)) zero_f32).trans (zero_add _)
  have hd' : val_main_v305 (F := Ideal) x0 x1 x2 x3 (ix5 hd r b i j)
      = ((∑ e, (rowOf h hd r b i).a2 * (rowOf h hd r b i).w e * (rowOf h hd r b i).v j e : ℝ) : EReal) := by
    rw [val_main_v305_apply]
    exact dot_coe (fun e => (congrArg (val_main_v298 (F := Ideal) x0 x1 x3) (eq_ix5 _)).trans (hw e))
      (fun e => (congrArg (val_main_v150 (F := Ideal) x2) (eq_ix5 _)).trans (v_eq h hd r b i j e))
  rw [val_main_v309_apply, val_main_v308_apply, hc', hd', p_eq h, addf_coe, mulf_coe]
  rfl

/-- Nothing reaches the branch's row maximum. -/
theorem nom : val_main_v314 (F := Ideal) x0 x1 x2 x3 (ix4 hd r b i) = (0 : EReal) := by
  have hs : val_main_v312 (F := Ideal) x0 x1 x2 x3 (ix5 hd r b i 0) = ((∑ j, -(rowOf h hd r b i).ds j : ℝ) : EReal) := by
    unfold val_main_v312
    rw [unit128, val_main_v311_apply]
    refine sum_coe zero_f32 fun j => ?_
    have ei : idx_main_v311 (ix4 hd r b i) j = ix5 hd r b i j := eq_ix5 _
    rw [ei, val_main_v310_apply, ds_row h, negf_coe]
  have hm : val_main_v304 (F := Ideal) x0 x1 x2 x3 (ix5 hd r b i 0) = val_main_v295 (F := Ideal) x0 x1 x2 x3 (ix3 hd (row r b i) 0) := by
    unfold val_main_v304 val_main_v303 val_main_v302
    rw [toRes1]
  have all : val_main_v313 (F := Ideal) x0 x1 x2 x3 (ix5 hd r b i 0) = ((0 : ℝ) : EReal) := by
    rw [← (rowOf h hd r b i).dm_eq_zero, val_main_v313_apply, hm, hs, dm_eq h, addf_coe]
  rw [val_main_v314_apply, Fin.sum_univ_one]
  have hi : val_main_v313 (F := Ideal) x0 x1 x2 x3 (idx_main_v314 (ix4 hd r b i) 0) = ((0 : ℝ) : EReal) :=
    (congrArg (val_main_v313 (F := Ideal) x0 x1 x2 x3) (eq_ix5 _)).trans all
  rw [hi]
  exact (congrArg (· + ((0 : ℝ) : EReal)) zero_f32).trans (zero_add _)

theorem nom' (j : Fin 256) : val_main_v317 (F := Ideal) x0 x1 x2 x3 (ix5 hd r b i j) = (0 : EReal) := by
  rw [val_main_v317_apply, val_main_v316_apply]
  have e : val_main_v315 (F := Ideal) x0 x1 x2 x3 (idx_main_v316 (ix5 hd r b i j)) = val_main_v315 (F := Ideal) x0 x1 x2 x3 (ix4 hd r b i) :=
    congrArg _ (eq_ix4 _)
  have ei : ∀ k : Fin 256, idx_main_v186 (ix4 hd r b i) k = ix5 hd r b i k := fun k => eq_ix5 _
  rw [e, val_main_v315_apply, val_main_v186_apply]
  simp only [ei]
  exact tie (fun k => val_main_v184 (F := Ideal) x0 x1 (ix5 hd r b i k)) (nom h hd r b i) zero_f32 j

/-- THE GRADIENT OF A SCORE, as the reference computes it. -/
theorem score_gradient (j : Fin 256) : val_main_v319 (F := Ideal) x0 x1 x2 x3 (ix5 hd r b i j)
    = if ok b.val i j = true then (((rowOf h hd r b i).ds j : ℝ) : EReal) else (0 : EReal) := by
  rw [val_main_v319_apply, looks]
  by_cases hj : ok b.val i j = true
  · rw [if_pos hj, hj]
    refine (ValueIdx.select_one _ _).trans ?_
    rw [val_main_v318_apply, nom' h, ds_row h]
    exact (addf_coe _ 0).trans (by rw [add_zero])
  · rw [if_neg hj, Bool.eq_false_iff.2 hj]
    refine (ValueIdx.select_zero _ _).trans ?_
    rw [val_main_call9_v0_apply]
    exact zero_f32

end Cert.Dilated

end
-- ==== Proof.Chunk.lean ====
/-
  WHAT THE KERNEL COMPUTES FOR 128 ROWS. A grid point holds one residue's rows and two heads' columns, and its body treats
  128 rows at a time against two slabs of 128 keys: those of the block before and those of the block itself. This module
  states that computation once, as a function of the slabs, and reads it at a row and a column.
-/
module

public import proofs.«01_k».proof.Proof.Gen.KernelIdeal.Skeleton
public import Idealize.ShloMosaic.Lib.ValueIdx
public import Idealize.ShloMosaic.Lib.Pipeline.Value
public import Idealize.ShloMosaic.Lib.WordCmp
public import Idealize.ShloMosaic.PureOps.Ideal.Laws
public import Idealize.ShloMosaic.PureOps.IdealRules

@[expose] public section

noncomputable section

namespace Cert.Dilated

open Cert.KernelIdeal Cert.KernelIdeal.Gen Idealize.ShloMosaic Idealize.ShloMosaic.ValueIdx Idealize.ShloMosaic.WordCmp Finset

/-! ## The computation -/

/-- The column number of each entry. -/
def lanes : IVec S128x128 32 := iota .tc S128x128 32 [1] iota_S128x128_d1_w32
/-- The row number of each entry. -/
def rows : IVec S128x128 32 := iota .tc S128x128 32 [0] iota_S128x128_d0_w32
/-- The columns of the first head. -/
def low : IVec S128x128 1 := cmpi .slt lanes (broadcast S128x128 64#32)
/-- The columns of the second head. -/
def high : IVec S128x128 1 := cmpi .sge lanes (broadcast S128x128 64#32)
/-- Keys of the block itself: those up to the row. -/
def upTo : IVec S128x128 1 := cmpi .sle lanes rows
/-- Keys of the block before: those at a distance from the row of at least `w`. -/
def atLeast (w : BitVec 32) : IVec S128x128 1 := cmpi .sge (subi lanes rows) (broadcast S128x128 w)

/-- One column of the statistics, by its number. -/
def pick (l : BitVec 32) (st : FVec Ideal S128x128 .f32) : FVec Ideal S128x1 .f32 :=
  shapeCast S128x1 (multiReduction .add [1] S128
    (select (cmpi .eq lanes (broadcast S128x128 l)) st (broadcast S128x128 (Scalar.ofBits .f32 0x00000000#32)))
    0x00000000#32 reduces_S128x128_S128 (.inl rfl) rfl) shapeCasts_S128_S128x1

/-- One head's columns, zero elsewhere. -/
def only (half : IVec S128x128 1) (x : FVec Ideal S128x128 .bf16) : FVec Ideal S128x128 .bf16 :=
  select half x (broadcast S128x128 (Scalar.ofBits .bf16 0x0000#16))

/-- A row against each key: the product over the columns. -/
def against (x k : FVec Ideal S128x128 .bf16) : FVec Ideal S128x128 .f32 :=
  matmul dot_S128x128_S128x128_S128x128_1_1_0_0_n_n none x k (constant S128x128 .f32 0x00000000#32)

/-- The gradient of the scores of one head against one slab of keys. -/
def slab (ok : IVec S128x128 1) (lse delta : FVec Ideal S128x1 .f32) (q g k v : FVec Ideal S128x128 .bf16) :
    FVec Ideal S128x128 .bf16 :=
  truncf .bf16 (mulf
    (exp (subf (select ok (against q k) (broadcast S128x128 (Named.named κ "mask" 0xF149F2CA#32)))
      (broadcastTo S128x128 lse broadcasts_S128x1_S128x128)))
    (subf (against g v) (broadcastTo S128x128 delta broadcasts_S128x1_S128x128))) bitsLt_bf16_f32

/-- One head's part: both slabs' gradients, each times its keys. -/
def side (half okp okc : IVec S128x128 1) (lse delta : FVec Ideal S128x1 .f32) (q g kp vp kc vc : FVec Ideal S128x128 .bf16) :
    FVec Ideal S128x128 .f32 :=
  addf (matmul dot_S128x128_S128x128_S128x128_1_0_0_1_n_n none
      (slab okp lse delta (only half q) (only half g) kp vp) kp (constant S128x128 .f32 0x00000000#32))
    (matmul dot_S128x128_S128x128_S128x128_1_0_0_1_n_n none
      (slab okc lse delta (only half q) (only half g) kc vc) kc (constant S128x128 .f32 0x00000000#32))

/-- Both heads' parts, each in its columns. -/
def chunk (hp : BitVec 32) (okp : IVec S128x128 1) (q g kp vp kc vc : FVec Ideal S128x128 .bf16) (st : FVec Ideal S128x128 .f32) :
    FVec Ideal S128x128 .bf16 :=
  truncf .bf16 (select low
    (side low okp upTo (pick (Scalar.addi (Scalar.muli 2#32 hp) 0#32) st)
      (pick (Scalar.addi (Scalar.addi 16#32 (Scalar.muli 2#32 hp)) 0#32) st) q g kp vp kc vc)
    (side high okp upTo (pick (Scalar.addi (Scalar.muli 2#32 hp) 1#32) st)
      (pick (Scalar.addi (Scalar.addi 16#32 (Scalar.muli 2#32 hp)) 1#32) st) q g kp vp kc vc)) bitsLt_bf16_f32

/-! ## Its parts at an index -/

/-- Column `e` of head `z` of the two. -/
def lane (z : Fin 2) (e : Fin 64) : Fin 128 := ⟨z.val * 64 + e.val, by have := z.isLt; have := e.isLt; omega⟩

theorem lanes_apply (i j : Fin 128) : lanes (ix2 i j) = BitVec.ofNat 32 j.val :=
  iota_single_apply .tc S128x128 32 1 iota_S128x128_d1_w32 (ix2 i j)

theorem rows_apply (i j : Fin 128) : rows (ix2 i j) = BitVec.ofNat 32 i.val :=
  iota_single_apply .tc S128x128 32 0 iota_S128x128_d0_w32 (ix2 i j)

theorem low_apply (i j : Fin 128) : low (ix2 i j) = BitVec.ofBool (decide (j.val < 64)) := by
  show IntOp.cmpi .slt (lanes (ix2 i j)) (BitVec.ofNat 32 64) = _
  rw [lanes_apply, cmpi_slt_ofNat (by have := j.isLt; omega) (by omega)]

theorem high_apply (i j : Fin 128) : high (ix2 i j) = BitVec.ofBool (decide (64 ≤ j.val)) := by
  show IntOp.cmpi .sge (lanes (ix2 i j)) (BitVec.ofNat 32 64) = _
  rw [lanes_apply, cmpi_sge_ofNat (by have := j.isLt; omega) (by omega)]

theorem upTo_apply (i j : Fin 128) : upTo (ix2 i j) = BitVec.ofBool (decide (j.val ≤ i.val)) := by
  show IntOp.cmpi .sle (lanes (ix2 i j)) (rows (ix2 i j)) = _
  rw [lanes_apply, rows_apply]
  exact cmpi_sle_ofNat (w := 32) (a := j.val) (b := i.val) (by have := j.isLt; omega) (by have := i.isLt; omega)

theorem atLeast_zero_apply (i j : Fin 128) : atLeast 0#32 (ix2 i j) = BitVec.ofBool (decide (i.val ≤ j.val)) := by
  show IntOp.cmpi .sge (lanes (ix2 i j) - rows (ix2 i j)) 0#32 = _
  rw [lanes_apply, rows_apply]
  exact (by decide +kernel : ∀ i j : Fin 128,
    IntOp.cmpi .sge (BitVec.ofNat 32 j.val - BitVec.ofNat 32 i.val) 0#32 = BitVec.ofBool (decide (i.val ≤ j.val))) i j

theorem atLeast_far_apply (i j : Fin 128) : atLeast 256#32 (ix2 i j) = 0#1 := by
  show IntOp.cmpi .sge (lanes (ix2 i j) - rows (ix2 i j)) 256#32 = _
  rw [lanes_apply, rows_apply]
  exact (by decide +kernel : ∀ i j : Fin 128,
    IntOp.cmpi .sge (BitVec.ofNat 32 j.val - BitVec.ofNat 32 i.val) 256#32 = 0#1) i j

theorem zero_bf16 : Ideal.ofBits .bf16 0x0000#16 = 0 := by simp [Ideal.ofBits, Ideal.ieee]

/-- A sum over the columns with all but one head's zero is the sum over that head's columns. -/
theorem sum_only (half : IVec S128x128 1) (z : Fin 2) (hh : ∀ i j, half (ix2 i j) = BitVec.ofBool (decide (j.val / 64 = z.val)))
    (x : FVec Ideal S128x128 .bf16) (f : Fin 128 → EReal) (i : Fin 128) :
    ∑ c : Fin 128, only half x (ix2 i c) * f c = ∑ e : Fin 64, x (ix2 i (lane z e)) * f (lane z e) := by
  have h0 : ∀ c : Fin 128, only half x (ix2 i c) = if c.val / 64 = z.val then x (ix2 i c) else 0 := by
    intro c
    show Scalar.select (half (ix2 i c)) (x (ix2 i c)) (FloatOps.ofBits .bf16 0x0000#16) = _
    rw [hh]
    by_cases h : c.val / 64 = z.val
    · simp [h, ValueIdx.select_one]
    · simp only [h, decide_false, BitVec.ofBool_false, if_false]
      exact zero_bf16
  have hl : ∀ e : Fin 64, (Fin.castAdd 64 e).val / 64 = 0 := fun e => by
    show e.val / 64 = 0
    have := e.isLt; omega
  have hr : ∀ e : Fin 64, (Fin.natAdd 64 e).val / 64 = 1 := fun e => by
    show (64 + e.val) / 64 = 1
    have := e.isLt; omega
  rw [show (∑ c : Fin 128, only half x (ix2 i c) * f c) = ∑ c : Fin (64 + 64), only half x (ix2 i c) * f c from rfl,
    Fin.sum_univ_add]
  simp only [h0, hl, hr]
  match z with
  | ⟨0, _⟩ =>
    simp only [if_true, zero_ne_one, one_ne_zero, if_false, zero_mul, sum_const_zero, add_zero]
    exact sum_congr rfl fun e _ => by
      have : lane ⟨0, by omega⟩ e = Fin.castAdd 64 e := Fin.ext (by show 0 * 64 + e.val = e.val; omega)
      rw [this]
  | ⟨1, _⟩ =>
    simp only [if_true, zero_ne_one, if_false, zero_mul, sum_const_zero, zero_add]
    exact sum_congr rfl fun e _ => by
      have : lane ⟨1, by omega⟩ e = Fin.natAdd 64 e := Fin.ext (by show 1 * 64 + e.val = 64 + e.val; omega)
      rw [this]

/-- The sum over a row's columns. -/
theorem sumRow_apply (src : FVec Ideal S128x128 .f32) (i : Fin 128) :
    multiReduction .add [1] S128 src 0x00000000#32 reduces_S128x128_S128 (.inl rfl) rfl (ix1 i) = ∑ k : Fin 128, src (ix2 i k) := by
  refine (Ideal.multiReduction_add_single (s := S128x128) (t := S128) (a := 1) src 0x00000000#32 reduces_S128x128_S128 (.inl rfl) rfl
    (ix1 i)).trans ?_
  refine sum_congr rfl fun k _ => congrArg src ?_
  exact funext fun a => match a with | ⟨0, _⟩ => rfl | ⟨1, _⟩ => rfl

/-- A picked column of the statistics at a row. -/
theorem pick_apply (n : Fin 128) (l : BitVec 32) (hl : l = BitVec.ofNat 32 n.val) (st : FVec Ideal S128x128 .f32) (i : Fin 128) :
    pick l st (ix2 i 0) = st (ix2 i n) := by
  unfold pick
  rw [shapeCast_apply _ shapeCasts_S128_S128x1 (ix2 i 0) (ix1 i)
    (by rw [Shape.rowMajor_val_two, Shape.rowMajor_val_one]; show i.val = i.val * 1 + 0; omega)]
  refine (sumRow_apply _ i).trans ?_
  have hk : ∀ k : Fin 128, select (cmpi .eq lanes (broadcast S128x128 l)) st
      (broadcast S128x128 (Scalar.ofBits .f32 0x00000000#32)) (ix2 i k) = if k = n then st (ix2 i n) else 0 := by
    intro k
    show Scalar.select (IntOp.cmpi .eq (lanes (ix2 i k)) l) (st (ix2 i k)) (FloatOps.ofBits .f32 0x00000000#32) = _
    rw [lanes_apply, hl, cmpi_eq_eq_toNat]
    have e1 : (BitVec.ofNat 32 k.val).toNat = k.val := by
      rw [BitVec.toNat_ofNat]; have := k.isLt; omega
    have e2 : (BitVec.ofNat 32 n.val).toNat = n.val := by
      rw [BitVec.toNat_ofNat]; have := n.isLt; omega
    rw [e1, e2]
    by_cases h : k = n
    · subst h; simp [ValueIdx.select_one]
    · have h' : k.val ≠ n.val := fun h2 => h (Fin.ext h2)
      simp only [h, h', decide_false, BitVec.ofBool_false, if_false]
      exact Ideal.ofBits_zero_f32
  exact (sum_congr rfl fun k _ => hk k).trans (by simp)

theorem against_apply (x k : FVec Ideal S128x128 .bf16) (i j : Fin 128) :
    against x k (ix2 i j) = ∑ c : Fin 128, x (ix2 i c) * k (ix2 j c) := by
  refine (Ideal.matmul_constant_zero_apply dot_S128x128_S128x128_S128x128_1_1_0_0_n_n none x k (ix2 i j)).trans ?_
  refine (Fintype.sum_equiv (contrEquiv1 dot_S128x128_S128x128_S128x128_1_1_0_0_n_n 128 rfl rfl) _ _ fun c => ?_)
  congr 1
  · exact congrArg x (funext fun a => match a with | ⟨0, _⟩ => rfl | ⟨1, _⟩ => rfl)
  · exact congrArg k (funext fun a => match a with | ⟨0, _⟩ => rfl | ⟨1, _⟩ => rfl)

theorem times_apply (x k : FVec Ideal S128x128 .bf16) (i j : Fin 128) :
    FloatOps.matmul dot_S128x128_S128x128_S128x128_1_0_0_1_n_n none x k (constant S128x128 .f32 0x00000000#32) (ix2 i j)
      = ∑ c : Fin 128, x (ix2 i c) * k (ix2 c j) := by
  refine (Ideal.matmul_constant_zero_apply dot_S128x128_S128x128_S128x128_1_0_0_1_n_n none x k (ix2 i j)).trans ?_
  refine (Fintype.sum_equiv (contrEquiv1 dot_S128x128_S128x128_S128x128_1_0_0_1_n_n 128 rfl rfl) _ _ fun c => ?_)
  congr 1
  · exact congrArg x (funext fun a => match a with | ⟨0, _⟩ => rfl | ⟨1, _⟩ => rfl)
  · exact congrArg k (funext fun a => match a with | ⟨0, _⟩ => rfl | ⟨1, _⟩ => rfl)

/-- The mask's stand-in is minus infinity. -/
theorem mask_eq : Named.named (F := Ideal) κ "mask" (φ := .f32) 0xF149F2CA#32 = ⊥ :=
  IdealRules.named_const.ideal_named_scalar _ _ _ _ rfl

/-- The gradient of one score: row `i` against key `j`, over one head's columns. -/
def dscore (ok : Bool) (lse delta : EReal) (q g k v : Fin 64 → EReal) : EReal :=
  FloatOps.exp (F := Ideal) (φ := .f32) ((if ok then ∑ e, q e * k e else ⊥) - lse) * ((∑ e, g e * v e) - delta)

theorem slab_apply (half ok : IVec S128x128 1) (z : Fin 2)
    (hh : ∀ i j, half (ix2 i j) = BitVec.ofBool (decide (j.val / 64 = z.val)))
    (okb : Fin 128 → Fin 128 → Bool) (hok : ∀ i j, ok (ix2 i j) = BitVec.ofBool (okb i j))
    (lse delta : FVec Ideal S128x1 .f32) (q g k v : FVec Ideal S128x128 .bf16) (i j : Fin 128) :
    slab ok lse delta (only half q) (only half g) k v (ix2 i j)
      = dscore (okb i j) (lse (ix2 i 0)) (delta (ix2 i 0)) (fun e => q (ix2 i (lane z e))) (fun e => g (ix2 i (lane z e)))
          (fun e => k (ix2 j (lane z e))) (fun e => v (ix2 j (lane z e))) := by
  have hb : ∀ x : FVec Ideal S128x1 .f32, broadcastTo S128x128 x broadcasts_S128x1_S128x128 (ix2 i j) = x (ix2 i 0) := fun x =>
    broadcastTo_apply _ broadcasts_S128x1_S128x128 (ix2 i j) (ix2 i 0) (fun a => match a with | ⟨0, _⟩ => rfl | ⟨1, _⟩ => rfl)
  show FloatOps.exp (F := Ideal) (φ := .f32) (Scalar.select (ok (ix2 i j)) (against (only half q) k (ix2 i j))
      (Named.named (F := Ideal) κ "mask" (φ := .f32) 0xF149F2CA#32) - broadcastTo S128x128 lse broadcasts_S128x1_S128x128 (ix2 i j))
    * (against (only half g) v (ix2 i j) - broadcastTo S128x128 delta broadcasts_S128x1_S128x128 (ix2 i j)) = _
  rw [hb, hb, against_apply, against_apply, mask_eq, hok, sum_only half z hh q (fun c => k (ix2 j c)),
    sum_only half z hh g (fun c => v (ix2 j c))]
  unfold dscore
  cases okb i j
  · rfl
  · rfl

/-- One head's part at a row and one of its columns. -/
theorem side_apply (half okp : IVec S128x128 1) (z : Fin 2)
    (hh : ∀ i j, half (ix2 i j) = BitVec.ofBool (decide (j.val / 64 = z.val)))
    (okb : Fin 128 → Fin 128 → Bool) (hok : ∀ i j, okp (ix2 i j) = BitVec.ofBool (okb i j))
    (lse delta : FVec Ideal S128x1 .f32) (q g kp vp kc vc : FVec Ideal S128x128 .bf16) (i : Fin 128) (c : Fin 128) :
    side half okp upTo lse delta q g kp vp kc vc (ix2 i c)
      = (∑ j : Fin 128, dscore (okb i j) (lse (ix2 i 0)) (delta (ix2 i 0)) (fun e => q (ix2 i (lane z e)))
            (fun e => g (ix2 i (lane z e))) (fun e => kp (ix2 j (lane z e))) (fun e => vp (ix2 j (lane z e))) * kp (ix2 j c))
        + ∑ j : Fin 128, dscore (decide (j.val ≤ i.val)) (lse (ix2 i 0)) (delta (ix2 i 0)) (fun e => q (ix2 i (lane z e)))
            (fun e => g (ix2 i (lane z e))) (fun e => kc (ix2 j (lane z e))) (fun e => vc (ix2 j (lane z e))) * kc (ix2 j c) := by
  refine (congrArg₂ (· + ·) (times_apply _ kp i c) (times_apply _ kc i c)).trans ?_
  congr 1
  · exact sum_congr rfl fun j _ => by rw [slab_apply half okp z hh okb hok]
  · exact sum_congr rfl fun j _ => by
      rw [slab_apply half upTo z hh (fun i j => decide (j.val ≤ i.val)) upTo_apply]

theorem low_half (i j : Fin 128) : low (ix2 i j) = BitVec.ofBool (decide (j.val / 64 = (0 : Fin 2).val)) := by
  rw [low_apply]
  have : (j.val < 64) ↔ j.val / 64 = (0 : Fin 2).val := by
    show _ ↔ j.val / 64 = 0
    have := j.isLt; omega
  simp only [this]

theorem high_half (i j : Fin 128) : high (ix2 i j) = BitVec.ofBool (decide (j.val / 64 = (1 : Fin 2).val)) := by
  rw [high_apply]
  have : (64 ≤ j.val) ↔ j.val / 64 = (1 : Fin 2).val := by
    show _ ↔ j.val / 64 = 1
    have := j.isLt; omega
  simp only [this]

/-- THE CHUNK at row `i` and column `d` of head `z` of the two (heads `2 hp` and `2 hp + 1` of sixteen). -/
theorem chunk_apply (hp : Fin 8) (okp : IVec S128x128 1) (okb : Fin 128 → Fin 128 → Bool)
    (hok : ∀ i j, okp (ix2 i j) = BitVec.ofBool (okb i j)) (q g kp vp kc vc : FVec Ideal S128x128 .bf16)
    (st : FVec Ideal S128x128 .f32) (i : Fin 128) (z : Fin 2) (d : Fin 64) (lse delta : EReal)
    (hl : lse = st (ix2 i ⟨2 * hp.val + z.val, by have := hp.isLt; have := z.isLt; omega⟩))
    (hd : delta = st (ix2 i ⟨16 + (2 * hp.val + z.val), by have := hp.isLt; have := z.isLt; omega⟩)) :
    chunk (BitVec.ofNat 32 hp.val) okp q g kp vp kc vc st (ix2 i (lane z d))
      = (∑ j : Fin 128, dscore (okb i j) lse delta (fun e => q (ix2 i (lane z e)))
            (fun e => g (ix2 i (lane z e))) (fun e => kp (ix2 j (lane z e))) (fun e => vp (ix2 j (lane z e))) * kp (ix2 j (lane z d)))
        + ∑ j : Fin 128, dscore (decide (j.val ≤ i.val)) lse delta (fun e => q (ix2 i (lane z e)))
            (fun e => g (ix2 i (lane z e))) (fun e => kc (ix2 j (lane z e))) (fun e => vc (ix2 j (lane z e))) * kc (ix2 j (lane z d)) := by
  have w1 : ∀ (hp : Fin 8) (z : Fin 2), Scalar.addi (Scalar.muli 2#32 (BitVec.ofNat 32 hp.val)) (BitVec.ofNat 32 z.val)
      = BitVec.ofNat 32 (2 * hp.val + z.val) := by decide +kernel
  have w2 : ∀ (hp : Fin 8) (z : Fin 2), Scalar.addi (Scalar.addi 16#32 (Scalar.muli 2#32 (BitVec.ofNat 32 hp.val))) (BitVec.ofNat 32 z.val)
      = BitVec.ofNat 32 (16 + (2 * hp.val + z.val)) := by decide +kernel
  subst hl hd
  unfold chunk
  show Scalar.select (low (ix2 i (lane z d))) _ _ = _
  rw [low_half]
  have p1 : ∀ z : Fin 2, pick (Scalar.addi (Scalar.muli 2#32 (BitVec.ofNat 32 hp.val)) (BitVec.ofNat 32 z.val)) st (ix2 i 0) = _ :=
    fun z => pick_apply ⟨2 * hp.val + z.val, by have := hp.isLt; have := z.isLt; omega⟩ _ (w1 hp z) st i
  have p2 : ∀ z : Fin 2, pick (Scalar.addi (Scalar.addi 16#32 (Scalar.muli 2#32 (BitVec.ofNat 32 hp.val))) (BitVec.ofNat 32 z.val))
      st (ix2 i 0) = _ :=
    fun z => pick_apply ⟨16 + (2 * hp.val + z.val), by have := hp.isLt; have := z.isLt; omega⟩ _ (w2 hp z) st i
  rw [← p1 z, ← p2 z]
  match z with
  | ⟨0, hz⟩ =>
    have h : decide ((lane ⟨0, hz⟩ d).val / 64 = (0 : Fin 2).val) = true :=
      decide_eq_true (by show (0 * 64 + d.val) / 64 = 0; have := d.isLt; omega)
    rw [h]
    exact side_apply low okp 0 low_half okb hok _ _ q g kp vp kc vc i _
  | ⟨1, hz⟩ =>
    have h : decide ((lane ⟨1, hz⟩ d).val / 64 = (0 : Fin 2).val) = false :=
      decide_eq_false (by show ¬(1 * 64 + d.val) / 64 = 0; omega)
    rw [h]
    exact side_apply high okp 1 high_half okb hok _ _ q g kp vp kc vc i _

end Cert.Dilated

end
-- ==== Proof.Pieces.lean ====
/-
  WHAT ONE GRID POINT LEAVES IN ITS OUTPUT BLOCK. The body stores eight times 128 rows, and each of the eight is the
  computation for 128 rows on slabs of the point's blocks.
-/
module

public import proofs.«01_k».proof.Proof.Chunk
public import proofs.«01_k».proof.Proof.Layout
public import proofs.«01_k».proof.Proof.Gen.KernelIdeal.Value

@[expose] public section

set_option maxRecDepth 16384
set_option maxHeartbeats 4000000

noncomputable section

namespace Cert.Dilated

open Cert.KernelIdeal Cert.KernelIdeal.Gen Idealize.ShloMosaic Idealize.ShloMosaic.ValueIdx

/-- Rows of a block, as a slab of 128. -/
def slabOf {s : Shape} {e : EltTy} (x : s.Idx → Elt Ideal e) (r : Rect s) (h : r.shape.ShapeCasts S128x128) : S128x128.Idx → Elt Ideal e :=
  shapeCast S128x128 (View.ld x r) h

variable (i : grid0.Coords) (x0 x1 x2 : Vec Ideal S1024x128 .bf16) (x3 x4 : Vec Ideal S128x128 .bf16) (x5 : Vec Ideal S1024x128 .bf16)
  (x6 : Vec Ideal S1024x128 .f32)

/-- The computation on the slabs at two places. -/
def at2 (r r' : Rect S1024x128) (h : r.shape.ShapeCasts S128x128) (h' : r'.shape.ShapeCasts S128x128) : FVec Ideal S128x128 .bf16 :=
  chunk (BitVec.ofNat 32 (i 0).val) (atLeast 0#32) (slabOf x0 r h) (slabOf x5 r h) (slabOf x1 r' h') (slabOf x2 r' h')
    (slabOf x1 r h) (slabOf x2 r h) (slabOf x6 r h)

/-- The first piece of a residue looks at no key before it: the bound it is given is out of reach. -/
theorem first_ok : k0_pay6 i = atLeast 256#32 := by
  have h : Scalar.select (Scalar.cmpi .eq (Scalar.andi (BitVec.ofNat 32 (i 1).val) 0#32) 0#32) 256#32 0#32 = 256#32 := by
    rw [show Scalar.andi (BitVec.ofNat 32 (i 1).val) 0#32 = 0#32 from BitVec.and_zero]
    rfl
  exact congrArg (fun w => cmpi .sge (subi lanes rows) (broadcast S128x128 w)) h

theorem out_eq : out0_7 i x0 x1 x2 x3 x4 x5 x6 = View.canon
    [⟨r0_8, at2 i x0 x1 x2 x5 x6 r0_8 r0_7 shapeCasts_S128x128_S128x128 shapeCasts_S128x128_S128x128⟩,
     ⟨r0_7, at2 i x0 x1 x2 x5 x6 r0_7 r0_6 shapeCasts_S128x128_S128x128 shapeCasts_S128x128_S128x128⟩,
     ⟨r0_6, at2 i x0 x1 x2 x5 x6 r0_6 r0_5 shapeCasts_S128x128_S128x128 shapeCasts_S128x128_S128x128⟩,
     ⟨r0_5, at2 i x0 x1 x2 x5 x6 r0_5 r0_4 shapeCasts_S128x128_S128x128 shapeCasts_S128x128_S128x128⟩,
     ⟨r0_4, at2 i x0 x1 x2 x5 x6 r0_4 r0_3 shapeCasts_S128x128_S128x128 shapeCasts_S128x128_S128x128⟩,
     ⟨r0_3, at2 i x0 x1 x2 x5 x6 r0_3 r0_2 shapeCasts_S128x128_S128x128 shapeCasts_S128x128_S128x128⟩,
     ⟨r0_2, at2 i x0 x1 x2 x5 x6 r0_2 r0_0 shapeCasts_S128x128_S128x128 shapeCasts_S128x128_S128x128⟩,
     ⟨r0_0, chunk (BitVec.ofNat 32 (i 0).val) (k0_pay6 i) (slabOf x0 r0_0 shapeCasts_S128x128_S128x128)
        (slabOf x5 r0_0 shapeCasts_S128x128_S128x128) (slabOf x3 r0_1 shapeCasts_S128x128_S128x128)
        (slabOf x4 r0_1 shapeCasts_S128x128_S128x128) (slabOf x1 r0_0 shapeCasts_S128x128_S128x128)
        (slabOf x2 r0_0 shapeCasts_S128x128_S128x128) (slabOf x6 r0_0 shapeCasts_S128x128_S128x128)⟩] := by
  unfold_out out0_7
  refine congrArg View.canon ?_
  refine congrArg₂ List.cons (congrArg (Sigma.mk r0_8) ?_) ?_
  · rfl
  refine congrArg₂ List.cons (congrArg (Sigma.mk r0_7) ?_) ?_
  · rfl
  refine congrArg₂ List.cons (congrArg (Sigma.mk r0_6) ?_) ?_
  · rfl
  refine congrArg₂ List.cons (congrArg (Sigma.mk r0_5) ?_) ?_
  · rfl
  refine congrArg₂ List.cons (congrArg (Sigma.mk r0_4) ?_) ?_
  · rfl
  refine congrArg₂ List.cons (congrArg (Sigma.mk r0_3) ?_) ?_
  · rfl
  refine congrArg₂ List.cons (congrArg (Sigma.mk r0_2) ?_) ?_
  · rfl
  refine congrArg₂ List.cons (congrArg (Sigma.mk r0_0) ?_) ?_
  · rfl
  rfl

/-! ## The block at an index -/

/-- The 128 rows of piece `b` of a block. -/
def rowsOf {α : Type} (x : S1024x128.Idx → α) (b : Fin 8) : S128x128.Idx → α := fun j => x (ix2 (inner b (j 0)) (j 1))

/-- A slab read off a block is the piece's rows. -/
theorem slabOf_eq {e : EltTy} (x : S1024x128.Idx → Elt Ideal e) (b : Fin 8) (inb : ∀ a, (![b.val * 128, 0] : Fin 2 → ℕ) a + S128x128.size a ≤ S1024x128.size a)
    (h : S128x128.ShapeCasts S128x128) :
    slabOf x (Rect.unit (s := S1024x128) ![b.val * 128, 0] S128x128.size inb) h = rowsOf x b := by
  funext j
  unfold slabOf rowsOf
  refine (congrFun (shapeCast_self (s := S128x128) _ h) j).trans ?_
  show x _ = x _
  congr 1
  funext a
  apply Fin.ext
  match a with
  | ⟨0, _⟩ => show b.val * 128 + 1 * (j 0).val = b.val * 128 + (j 0).val; omega
  | ⟨1, _⟩ => show 0 + 1 * (j 1).val = (j 1).val; omega

/-- The piece before (the first has none, and stands for itself). -/
def before (b : Fin 8) : Fin 8 := ⟨b.val - 1, by have := b.isLt; omega⟩

/-- Which of the keys before a row looks at. -/
def okBefore (b : Fin 8) (i j : Fin 128) : Bool := decide (0 < b.val ∧ i.val ≤ j.val)

/-- Piece `b`: the computation on its rows. -/
def pieceAt (b : Fin 8) : FVec Ideal S128x128 .bf16 :=
  chunk (BitVec.ofNat 32 (i 0).val) (if b.val = 0 then atLeast 256#32 else atLeast 0#32) (rowsOf x0 b) (rowsOf x5 b)
    (if b.val = 0 then x3 else rowsOf x1 (before b)) (if b.val = 0 then x4 else rowsOf x2 (before b))
    (rowsOf x1 b) (rowsOf x2 b) (rowsOf x6 b)

/-- The whole block. -/
def blockAt : FVec Ideal S1024x128 .bf16 := fun y =>
  pieceAt i x0 x1 x2 x3 x4 x5 x6 ⟨(y 0).val / 128, by have : (y 0).val < 1024 := (y 0).isLt; omega⟩
    (ix2 ⟨(y 0).val % 128, Nat.mod_lt _ (by omega)⟩ ⟨(y 1).val, (y 1).isLt⟩)

theorem blockAt_piece (b : Fin 8) (x y : Fin 128) :
    blockAt i x0 x1 x2 x3 x4 x5 x6 (ix2 (inner b x) y) = pieceAt i x0 x1 x2 x3 x4 x5 x6 b (ix2 x y) := by
  have hx := x.isLt
  unfold blockAt
  have h1 : (⟨((ix2 (inner b x) y : S1024x128.Idx) 0).val / 128, by have : ((ix2 (inner b x) y : S1024x128.Idx) 0).val < 1024 := (inner b x).isLt; omega⟩ : Fin 8) = b :=
    Fin.ext (by show (b.val * 128 + x.val) / 128 = b.val; omega)
  have h2 : (⟨((ix2 (inner b x) y : S1024x128.Idx) 0).val % 128, Nat.mod_lt _ (by omega)⟩ : Fin 128) = x :=
    Fin.ext (by show (b.val * 128 + x.val) % 128 = x.val; omega)
  rw [h1, h2]

/-- A store at a piece's rows that holds the piece agrees with the whole block. -/
theorem store_eq (b : Fin 8) (inb : ∀ a, (![b.val * 128, 0] : Fin 2 → ℕ) a + S128x128.size a ≤ S1024x128.size a)
    (w : S128x128.Idx → EReal) (hw : w = pieceAt i x0 x1 x2 x3 x4 x5 x6 b) (x : S128x128.Idx) :
    w x = blockAt i x0 x1 x2 x3 x4 x5 x6 ((Rect.unit (s := S1024x128) ![b.val * 128, 0] S128x128.size inb).emb x) := by
  have he : (Rect.unit (s := S1024x128) ![b.val * 128, 0] S128x128.size inb).emb x = ix2 (inner b (x 0)) (x 1) := by
    funext a
    apply Fin.ext
    match a with
    | ⟨0, _⟩ => show b.val * 128 + 1 * (x 0).val = b.val * 128 + (x 0).val; omega
    | ⟨1, _⟩ => show 0 + 1 * (x 1).val = (x 1).val; omega
  rw [he, hw]
  refine Eq.trans ?_ (blockAt_piece i x0 x1 x2 x3 x4 x5 x6 b (x 0) (x 1)).symm
  exact congrArg _ (eq_ix2 x)

/-- Away from the first piece, the stored slab is the piece. -/
theorem at2_eq (b b' : Fin 8) (hb : b.val = b'.val + 1) (inb : ∀ a, (![b.val * 128, 0] : Fin 2 → ℕ) a + S128x128.size a ≤ S1024x128.size a)
    (inb' : ∀ a, (![b'.val * 128, 0] : Fin 2 → ℕ) a + S128x128.size a ≤ S1024x128.size a) (h h' : S128x128.ShapeCasts S128x128) :
    at2 i x0 x1 x2 x5 x6 (Rect.unit (s := S1024x128) ![b.val * 128, 0] S128x128.size inb)
      (Rect.unit (s := S1024x128) ![b'.val * 128, 0] S128x128.size inb') h h' = pieceAt i x0 x1 x2 x3 x4 x5 x6 b := by
  have e : before b = b' := Fin.ext (by show b.val - 1 = b'.val; omega)
  have hn : ¬ b.val = 0 := by omega
  unfold at2 pieceAt
  rw [if_neg hn, if_neg hn, if_neg hn, e, slabOf_eq x0 b, slabOf_eq x5 b, slabOf_eq x1 b', slabOf_eq x2 b', slabOf_eq x1 b, slabOf_eq x2 b, slabOf_eq x6 b]

/-- A slab read off a block of 128 rows is the block. -/
theorem whole_eq (x : Vec Ideal S128x128 .bf16) (h : S128x128.ShapeCasts S128x128) : slabOf (s := S128x128) (e := .bf16) x r0_1 h = x := by
  unfold slabOf
  refine (shapeCast_self (s := S128x128) _ h).trans ?_
  exact View.ld_unit_zero (S := S128x128) (by funext a; match a with | ⟨0, _⟩ => rfl | ⟨1, _⟩ => rfl) _ _

/-- The first piece's stored slab is the piece. -/
theorem first_eq (inb : ∀ a, (![(0 : Fin 8).val * 128, 0] : Fin 2 → ℕ) a + S128x128.size a ≤ S1024x128.size a) (h : S128x128.ShapeCasts S128x128) :
    chunk (BitVec.ofNat 32 (i 0).val) (atLeast 256#32) (slabOf x0 (Rect.unit (s := S1024x128) ![(0 : Fin 8).val * 128, 0] S128x128.size inb) h)
        (slabOf x5 (Rect.unit (s := S1024x128) ![(0 : Fin 8).val * 128, 0] S128x128.size inb) h) (slabOf x3 r0_1 h)
        (slabOf x4 r0_1 h) (slabOf x1 (Rect.unit (s := S1024x128) ![(0 : Fin 8).val * 128, 0] S128x128.size inb) h)
        (slabOf x2 (Rect.unit (s := S1024x128) ![(0 : Fin 8).val * 128, 0] S128x128.size inb) h)
        (slabOf x6 (Rect.unit (s := S1024x128) ![(0 : Fin 8).val * 128, 0] S128x128.size inb) h) = pieceAt i x0 x1 x2 x3 x4 x5 x6 0 := by
  have h0 : (0 : Fin 8).val = 0 := rfl
  unfold pieceAt
  rw [if_pos h0, if_pos h0, if_pos h0, slabOf_eq x0 0, slabOf_eq x5 0, slabOf_eq x1 0, slabOf_eq x2 0, slabOf_eq x6 0, whole_eq, whole_eq]

theorem out_apply (y : S1024x128.Idx) : out0_7 i x0 x1 x2 x3 x4 x5 x6 y = blockAt i x0 x1 x2 x3 x4 x5 x6 y := by
  rw [out_eq, first_ok]
  refine View.canon_apply_of_pieces (Val := Elt Ideal) (e := .bf16) (blockAt i x0 x1 x2 x3 x4 x5 x6) _ ?_ y (cover0_7 _ _ _ _ _ _ _ _ y)
  intro p hp
  simp only [List.mem_cons, List.not_mem_nil, or_false] at hp
  rcases hp with rfl | rfl | rfl | rfl | rfl | rfl | rfl | rfl
  · exact store_eq i x0 x1 x2 x3 x4 x5 x6 7 inb_S1024x128_S128x128_896_0 _ (at2_eq i x0 x1 x2 x3 x4 x5 x6 7 6 rfl _ _ _ _)
  · exact store_eq i x0 x1 x2 x3 x4 x5 x6 6 inb_S1024x128_S128x128_768_0 _ (at2_eq i x0 x1 x2 x3 x4 x5 x6 6 5 rfl _ _ _ _)
  · exact store_eq i x0 x1 x2 x3 x4 x5 x6 5 inb_S1024x128_S128x128_640_0 _ (at2_eq i x0 x1 x2 x3 x4 x5 x6 5 4 rfl _ _ _ _)
  · exact store_eq i x0 x1 x2 x3 x4 x5 x6 4 inb_S1024x128_S128x128_512_0 _ (at2_eq i x0 x1 x2 x3 x4 x5 x6 4 3 rfl _ _ _ _)
  · exact store_eq i x0 x1 x2 x3 x4 x5 x6 3 inb_S1024x128_S128x128_384_0 _ (at2_eq i x0 x1 x2 x3 x4 x5 x6 3 2 rfl _ _ _ _)
  · exact store_eq i x0 x1 x2 x3 x4 x5 x6 2 inb_S1024x128_S128x128_256_0 _ (at2_eq i x0 x1 x2 x3 x4 x5 x6 2 1 rfl _ _ _ _)
  · exact store_eq i x0 x1 x2 x3 x4 x5 x6 1 inb_S1024x128_S128x128_128_0 _ (at2_eq i x0 x1 x2 x3 x4 x5 x6 1 0 rfl _ _ _ _)
  · exact store_eq i x0 x1 x2 x3 x4 x5 x6 0 inb_S1024x128_S128x128_0_0 _ (first_eq i x0 x1 x2 x3 x4 x5 x6 _ _)

end Cert.Dilated

end
-- ==== Proof.Output.lean ====
/-
  WHAT THE KERNEL'S ARRAY HOLDS. Grid point (hp, r) reads residue `r`'s rows and the columns of heads `2 hp` and
  `2 hp + 1`; each entry of the array it writes is the sum over the keys of the two blocks of the scores' gradient times
  the key.
-/
module

public import proofs.«01_k».proof.Proof.Pieces

@[expose] public section

set_option maxRecDepth 16384
set_option maxHeartbeats 1000000

noncomputable section

namespace Cert.Dilated

open Cert.KernelIdeal Cert.KernelIdeal.Gen Cert.KernelIdeal.Value Idealize.ShloMosaic Idealize.ShloMosaic.ValueIdx Idealize.ShloMosaic.TcCoe Finset

/-- The grid point of two heads and a residue. -/
def point (hp : Fin 8) (r : Fin 16) : Fin cfg0.N := ⟨hp.val * 16 + r.val, by have := hp.isLt; have := r.isLt; show _ < 128; omega⟩

theorem point_coords : ∀ (hp : Fin 8) (r : Fin 16), (grid0.coords (point hp r) 0).val = hp.val ∧ (grid0.coords (point hp r) 1).val = r.val := by
  decide +kernel

theorem index0 : ∀ (hp : Fin 8) (r : Fin 16), win0_0.index (point hp r) 0 = r.val ∧ win0_0.index (point hp r) 1 = hp.val := by decide +kernel
theorem index1 : ∀ (hp : Fin 8) (r : Fin 16), win0_1.index (point hp r) 0 = r.val ∧ win0_1.index (point hp r) 1 = hp.val := by decide +kernel
theorem index2 : ∀ (hp : Fin 8) (r : Fin 16), win0_2.index (point hp r) 0 = r.val ∧ win0_2.index (point hp r) 1 = hp.val := by decide +kernel
theorem index5 : ∀ (hp : Fin 8) (r : Fin 16), win0_5.index (point hp r) 0 = r.val ∧ win0_5.index (point hp r) 1 = hp.val := by decide +kernel
theorem index6 : ∀ (hp : Fin 8) (r : Fin 16), win0_6.index (point hp r) 0 = r.val ∧ win0_6.index (point hp r) 1 = 0 := by decide +kernel
theorem index7 : ∀ (hp : Fin 8) (r : Fin 16), win0_7.index (point hp r) 0 = r.val ∧ win0_7.index (point hp r) 1 = hp.val := by decide +kernel

/-- Head `z` of the pair `hp`. -/
def headOf (hp : Fin 8) (z : Fin 2) : Fin 16 := ⟨2 * hp.val + z.val, by have := hp.isLt; have := z.isLt; omega⟩

/-- Row `y` of a residue. -/
def resAt (r : Fin 16) (y : Fin 1024) : Fin 16384 := ⟨r.val * 1024 + y.val, by have := r.isLt; have := y.isLt; omega⟩

/-- Column `y` of a pair of heads. -/
def pairCol (hp : Fin 8) (y : Fin 128) : Fin 1024 := ⟨hp.val * 128 + y.val, by have := hp.isLt; have := y.isLt; omega⟩

theorem resAt_inner (r : Fin 16) (b : Fin 8) (i : Fin 128) : resAt r (inner b i) = resRow r b i :=
  Fin.ext (by show r.val * 1024 + (b.val * 128 + i.val) = r.val * 1024 + b.val * 128 + i.val; omega)

theorem pairCol_lane (hp : Fin 8) (z : Fin 2) (d : Fin 64) : pairCol hp (lane z d) = col (headOf hp z) d :=
  Fin.ext (by show hp.val * 128 + (z.val * 64 + d.val) = (2 * hp.val + z.val) * 64 + d.val; omega)

variable (m : (ℓ : Loc nD τ sig) → Buf (Elt Ideal) ℓ) (c : Dev nD)

/-! ## The blocks of a grid point -/

theorem block0 (hp : Fin 8) (r : Fin 16) (y : Fin 1024) (w : Fin 128) :
    (iblk m c 0 (point hp r) : S1024x128.Idx → EReal) (ix2 y w) = (V m c main_v245 : S16384x1024.Idx → EReal) (ix2 (resAt r y) (pairCol hp w)) := by
  show V m c main_v245 _ = V m c main_v245 _
  congr 1
  funext a
  apply Fin.ext
  match a with
  | ⟨0, _⟩ => show win0_0.index (point hp r) 0 * 1024 + 1 * y.val = r.val * 1024 + y.val; rw [(index0 hp r).1]; omega
  | ⟨1, _⟩ => show win0_0.index (point hp r) 1 * 128 + 1 * w.val = hp.val * 128 + w.val; rw [(index0 hp r).2]; omega

theorem block1 (hp : Fin 8) (r : Fin 16) (y : Fin 1024) (w : Fin 128) :
    (iblk m c 1 (point hp r) : S1024x128.Idx → EReal) (ix2 y w) = (V m c main_v248 : S16384x1024.Idx → EReal) (ix2 (resAt r y) (pairCol hp w)) := by
  show V m c main_v248 _ = V m c main_v248 _
  congr 1
  funext a
  apply Fin.ext
  match a with
  | ⟨0, _⟩ => show win0_1.index (point hp r) 0 * 1024 + 1 * y.val = r.val * 1024 + y.val; rw [(index1 hp r).1]; omega
  | ⟨1, _⟩ => show win0_1.index (point hp r) 1 * 128 + 1 * w.val = hp.val * 128 + w.val; rw [(index1 hp r).2]; omega

theorem block2 (hp : Fin 8) (r : Fin 16) (y : Fin 1024) (w : Fin 128) :
    (iblk m c 2 (point hp r) : S1024x128.Idx → EReal) (ix2 y w) = (V m c main_v251 : S16384x1024.Idx → EReal) (ix2 (resAt r y) (pairCol hp w)) := by
  show V m c main_v251 _ = V m c main_v251 _
  congr 1
  funext a
  apply Fin.ext
  match a with
  | ⟨0, _⟩ => show win0_2.index (point hp r) 0 * 1024 + 1 * y.val = r.val * 1024 + y.val; rw [(index2 hp r).1]; omega
  | ⟨1, _⟩ => show win0_2.index (point hp r) 1 * 128 + 1 * w.val = hp.val * 128 + w.val; rw [(index2 hp r).2]; omega

theorem block5 (hp : Fin 8) (r : Fin 16) (y : Fin 1024) (w : Fin 128) :
    (iblk m c 5 (point hp r) : S1024x128.Idx → EReal) (ix2 y w) = (V m c main_v254 : S16384x1024.Idx → EReal) (ix2 (resAt r y) (pairCol hp w)) := by
  show V m c main_v254 _ = V m c main_v254 _
  congr 1
  funext a
  apply Fin.ext
  match a with
  | ⟨0, _⟩ => show win0_5.index (point hp r) 0 * 1024 + 1 * y.val = r.val * 1024 + y.val; rw [(index5 hp r).1]; omega
  | ⟨1, _⟩ => show win0_5.index (point hp r) 1 * 128 + 1 * w.val = hp.val * 128 + w.val; rw [(index5 hp r).2]; omega

theorem block6 (hp : Fin 8) (r : Fin 16) (y : Fin 1024) (w : Fin 128) :
    (iblk m c 6 (point hp r) : S1024x128.Idx → EReal) (ix2 y w) = (V m c main_v257 : S16384x128.Idx → EReal) (ix2 (resAt r y) w) := by
  show V m c main_v257 _ = V m c main_v257 _
  congr 1
  funext a
  apply Fin.ext
  match a with
  | ⟨0, _⟩ => show win0_6.index (point hp r) 0 * 1024 + 1 * y.val = r.val * 1024 + y.val; rw [(index6 hp r).1]; omega
  | ⟨1, _⟩ => show win0_6.index (point hp r) 1 * 128 + 1 * w.val = w.val; rw [(index6 hp r).2]; omega

/-- A key a row does not look at gives nothing: its weight is the exponential of minus infinity. -/
theorem dscore_false (lse delta : EReal) (q g k v : Fin 64 → EReal) : dscore false lse delta q g k v = 0 := by
  unfold dscore
  have h : FloatOps.exp (F := Ideal) (φ := .f32) ((if (false : Bool) = true then ∑ e, q e * k e else ⊥) - lse) = 0 := by
    rw [if_neg (by simp), sub_eq_add_neg, EReal.bot_add]
    exact Ideal.exp_bot
  exact (congrArg (· * _) h).trans (zero_mul _)

/-! ## The array -/

/-- What the kernel computes at a row of a head and a column, from its arguments. -/
def entry (Q K W G : S16384x1024.Idx → EReal) (T : S16384x128.Idx → EReal) (r : Fin 16) (b : Fin 8) (i : Fin 128) (h : Fin 16) (d : Fin 64) : EReal :=
  (∑ j : Fin 128, dscore (okBefore b i j) (T (ix2 (resRow r b i) ⟨h.val, by have := h.isLt; omega⟩))
      (T (ix2 (resRow r b i) ⟨16 + h.val, by have := h.isLt; omega⟩))
      (fun e => Q (ix2 (resRow r b i) (col h e))) (fun e => G (ix2 (resRow r b i) (col h e)))
      (fun e => K (ix2 (resRow r (before b) j) (col h e))) (fun e => W (ix2 (resRow r (before b) j) (col h e)))
    * K (ix2 (resRow r (before b) j) (col h d)))
  + ∑ j : Fin 128, dscore (decide (j.val ≤ i.val)) (T (ix2 (resRow r b i) ⟨h.val, by have := h.isLt; omega⟩))
      (T (ix2 (resRow r b i) ⟨16 + h.val, by have := h.isLt; omega⟩))
      (fun e => Q (ix2 (resRow r b i) (col h e))) (fun e => G (ix2 (resRow r b i) (col h e)))
      (fun e => K (ix2 (resRow r b j) (col h e))) (fun e => W (ix2 (resRow r b j) (col h e)))
    * K (ix2 (resRow r b j) (col h d))

/-- A piece's entry, its blocks being parts of the arrays. -/
theorem piece_entry (p : grid0.Coords) (hp : Fin 8) (r : Fin 16) (hi : (p 0).val = hp.val)
    (x0 x1 x2 : Vec Ideal S1024x128 .bf16) (x3 x4 : Vec Ideal S128x128 .bf16) (x5 : Vec Ideal S1024x128 .bf16) (x6 : Vec Ideal S1024x128 .f32)
    (Q K W G : S16384x1024.Idx → EReal) (T : S16384x128.Idx → EReal)
    (e0 : ∀ y w, x0 (ix2 y w) = Q (ix2 (resAt r y) (pairCol hp w))) (e1 : ∀ y w, x1 (ix2 y w) = K (ix2 (resAt r y) (pairCol hp w)))
    (e2 : ∀ y w, x2 (ix2 y w) = W (ix2 (resAt r y) (pairCol hp w))) (e5 : ∀ y w, x5 (ix2 y w) = G (ix2 (resAt r y) (pairCol hp w)))
    (e6 : ∀ y w, x6 (ix2 y w) = T (ix2 (resAt r y) w)) (b : Fin 8) (i : Fin 128) (z : Fin 2) (d : Fin 64) :
    pieceAt p x0 x1 x2 x3 x4 x5 x6 b (ix2 i (lane z d)) = entry Q K W G T r b i (headOf hp z) d := by
  have hok : ∀ i j : Fin 128, (if b.val = 0 then atLeast 256#32 else atLeast 0#32) (ix2 i j) = BitVec.ofBool (okBefore b i j) := by
    intro i j
    unfold okBefore
    by_cases h : b.val = 0
    · rw [if_pos h, atLeast_far_apply, decide_eq_false (by omega)]; rfl
    · rw [if_neg h, atLeast_zero_apply]; congr 1; exact decide_eq_decide.mpr (by omega)
  have f0 : ∀ w : Fin 128, rowsOf x0 b (ix2 i w) = Q (ix2 (resRow r b i) (pairCol hp w)) := fun w => by
    rw [← resAt_inner]; exact e0 (inner b i) w
  have f5 : ∀ w : Fin 128, rowsOf x5 b (ix2 i w) = G (ix2 (resRow r b i) (pairCol hp w)) := fun w => by
    rw [← resAt_inner]; exact e5 (inner b i) w
  have f6 : ∀ w : Fin 128, rowsOf x6 b (ix2 i w) = T (ix2 (resRow r b i) w) := fun w => by
    rw [← resAt_inner]; exact e6 (inner b i) w
  have f1 : ∀ (b : Fin 8) (j w : Fin 128), rowsOf x1 b (ix2 j w) = K (ix2 (resRow r b j) (pairCol hp w)) := fun b j w => by
    rw [← resAt_inner]; exact e1 (inner b j) w
  have f2 : ∀ (b : Fin 8) (j w : Fin 128), rowsOf x2 b (ix2 j w) = W (ix2 (resRow r b j) (pairCol hp w)) := fun b j w => by
    rw [← resAt_inner]; exact e2 (inner b j) w
  unfold pieceAt
  rw [hi]
  refine (chunk_apply hp _ (okBefore b) hok _ _ _ _ _ _ _ i z d (T (ix2 (resRow r b i) ⟨(headOf hp z).val, _⟩))
    (T (ix2 (resRow r b i) ⟨16 + (headOf hp z).val, _⟩)) (f6 _).symm (f6 _).symm).trans ?_
  simp only [f0, f5, pairCol_lane]
  refine congrArg₂ (· + ·) (sum_congr rfl fun j _ => ?_) (sum_congr rfl fun j _ => ?_)
  · by_cases h : b.val = 0
    · have hf : okBefore b i j = false := decide_eq_false (by omega)
      rw [hf, dscore_false, dscore_false, zero_mul, zero_mul]
    · rw [if_neg h, if_neg h]
      simp only [f1, f2, pairCol_lane]
  · simp only [f1, f2, pairCol_lane]

/-- The array after the run. -/
theorem output (r : Fin 16) (b : Fin 8) (i : Fin 128) (h : Fin 16) (d : Fin 64) :
    ((dats m 0 c).arrAt 7 cfg0.N : S16384x1024.Idx → EReal) (ix2 (resRow r b i) (col h d))
      = entry (V m c main_v245) (V m c main_v248) (V m c main_v251) (V m c main_v254) (V m c main_v257) r b i h d := by
  have hh := h.isLt
  obtain ⟨hp, z, rfl⟩ : ∃ (hp : Fin 8) (z : Fin 2), h = headOf hp z :=
    ⟨⟨h.val / 2, by omega⟩, ⟨h.val % 2, by omega⟩, Fin.ext (by show h.val = 2 * (h.val / 2) + h.val % 2; omega)⟩
  have hb := blocks7 m c (point hp r) (flush0_7 _)
  rw [flushed7] at hb
  have := congrFun hb (ix2 (inner b i) (lane z d) : S1024x128.Idx)
  refine Eq.trans ?_ (this.trans ?_)
  · show ((dats m 0 c).arrAt 7 cfg0.N : S16384x1024.Idx → EReal) _ = ((dats m 0 c).arrAt 7 cfg0.N : S16384x1024.Idx → EReal) _
    congr 1
    rw [← resAt_inner, ← pairCol_lane]
    funext a
    apply Fin.ext
    match a with
    | ⟨0, _⟩ => show r.val * 1024 + (inner b i).val = win0_7.index (point hp r) 0 * 1024 + 1 * (inner b i).val; rw [(index7 hp r).1]; omega
    | ⟨1, _⟩ => show hp.val * 128 + (lane z d).val = win0_7.index (point hp r) 1 * 128 + 1 * (lane z d).val; rw [(index7 hp r).2]; omega
  · refine (out_apply (grid0.coords (point hp r)) _ _ _ _ _ _ _ (ix2 (inner b i) (lane z d))).trans ?_
    refine (blockAt_piece _ _ _ _ _ _ _ _ b i (lane z d)).trans ?_
    exact piece_entry _ hp r (point_coords hp r).1 _ _ _ _ _ _ _ _ _ _ _ _ (block0 m c hp r) (block1 m c hp r) (block2 m c hp r) (block5 m c hp r)
      (block6 m c hp r) b i z d

end Cert.Dilated

end
-- ==== Proof.Prefix.lean ====
/-
  WHAT THE KERNEL'S PROGRAM HOLDS BEFORE ITS KERNEL RUNS. The host lines before the kernel are the forward pass of the
  mixture, the same operations in the same order as the reference's. This module reads them list by list: after each, the
  buffers still to be used hold the reference's values of the same name.
-/
module

public import proofs.«01_k».proof.Proof.Gen.KernelIdeal.Launch
public import proofs.«01_k».proof.Proof.Gen.ReferenceIdeal.Read
public import Idealize.ShloMosaic.Lib.StableHlo.Run
public import Idealize.ShloMosaic.Lib.StableHlo.RunRead
public import Idealize.ShloMosaic.Lib.Pipeline.Frame

@[expose] public section

set_option maxRecDepth 16384
set_option maxHeartbeats 4000000

noncomputable section

namespace Cert.Dilated

open Cert.KernelIdeal Cert.KernelIdeal.Gen Idealize.ShloMosaic Idealize.ShloMosaic.TcCoe Idealize.ShloMosaic.StableHlo
open Cert.ReferenceIdeal.Read

variable (W : Valuation τ sig (Elt Ideal))
variable (x0 x1 x2 x3 : (⟨S16384x1024, .bf16⟩ : BufTy).Contents (Elt Ideal))

/-- The contents of a buffer. -/
abbrev at' (W : Valuation τ sig (Elt Ideal)) (b : Ref sig .tc) := W (Proc.devRef .tc b)

/-- Two joined arrays are equal where their parts are. -/
theorem joined2 {α : Type} {t s₁ s₂ : Shape} {d : Fin t.rank} {a a' : s₁.Idx → α} {b b' : s₂.Idx → α}
    (h : Shape.Concatenates [s₁, s₂] t d) (ha : a = a') (hb : b = b') :
    concatenate t d [⟨s₁, a⟩, ⟨s₂, b⟩] h = concatenate t d [⟨s₁, a'⟩, ⟨s₂, b'⟩] h := by
  subst ha hb; rfl

/-- Three joined arrays are equal where their parts are. -/
theorem joined3 {α : Type} {t s₁ s₂ s₃ : Shape} {d : Fin t.rank} {a a' : s₁.Idx → α} {b b' : s₂.Idx → α} {e e' : s₃.Idx → α}
    (h : Shape.Concatenates [s₁, s₂, s₃] t d) (ha : a = a') (hb : b = b') (he : e = e') :
    concatenate t d [⟨s₁, a⟩, ⟨s₂, b⟩, ⟨s₃, e⟩] h = concatenate t d [⟨s₁, a'⟩, ⟨s₂, b'⟩, ⟨s₃, e'⟩] h := by
  subst ha hb he; rfl

/-- The heads hold the reference's values. -/
structure Heads : Prop where
  q : at' W main_v2 = val_main_v2 x0
  k : at' W main_v5 = val_main_v5 x1
  v : at' W main_v8 = val_main_v8 x2
  g : at' W main_v11 = val_main_v11 x3

/-- Branch 0's maximum, sum of weights and sum of weighted values hold the reference's. -/
structure Branch0 : Prop where
  m : at' W main_v67 = val_main_v67 x0 x1
  d : at' W main_v70 = val_main_v70 x0 x1
  n : at' W main_v73 = val_main_v73 x0 x1 x2

/-- Branch 1's. -/
structure Branch1 : Prop where
  m : at' W main_v129 = val_main_v129 x0 x1
  d : at' W main_v132 = val_main_v132 x0 x1
  n : at' W main_v135 = val_main_v135 x0 x1 x2

/-- The arguments. -/
structure Args : Prop where
  q : at' W main_arg0 = x0
  k : at' W main_arg1 = x1
  v : at' W main_arg2 = x2
  g : at' W main_arg3 = x3

/-- After the first four lists: the heads, and branch 0's blocks. -/
def afterA : Valuation τ sig (Elt Ideal) := after hostOps0_3 (after hostOps0_2 (after hostOps0_1 (after hostOps0 W)))

theorem stageA_args (h : Args W x0 x1 x2 x3) : Args (afterA W) x0 x1 x2 x3 := by
  obtain ⟨h0, h1, h2, h3⟩ := h
  constructor <;> (simp only [at', afterA] at *; after_reads_simp; assumption)

theorem stageA_heads (h : Args W x0 x1 x2 x3) : Heads (afterA W) x0 x1 x2 x3 := by
  obtain ⟨rfl, rfl, rfl, rfl⟩ := h
  constructor <;> (simp only [at', afterA]; after_reads_simp; rfl)

theorem stageA (h : Args W x0 x1 x2 x3) :
    at' (afterA W) main_v14 = val_main_v14 x0 ∧ at' (afterA W) main_v20 = val_main_v20 x1
      ∧ at' (afterA W) main_v23 = val_main_v23 x2 ∧ at' (afterA W) main_v24 = val_main_v24 x2 := by
  obtain ⟨rfl, rfl, rfl, rfl⟩ := h
  refine ⟨?_, ?_, ?_, ?_⟩
  · simp only [at', afterA]; after_reads_simp; rfl
  · simp only [at', afterA]; after_reads_simp
    refine joined2 _ ?_ ?_
    · after_reads_simp; rfl
    · after_reads_simp; rfl
  · simp only [at', afterA]; after_reads_simp; rfl
  · simp only [at', afterA]; after_reads_simp; rfl

/-- After branch 0's masked scores. -/
def afterB : Valuation τ sig (Elt Ideal) := after hostOps0_5 (after hostOps0_4 W)

theorem stageB_args (h : Args W x0 x1 x2 x3) : Args (afterB W) x0 x1 x2 x3 := by
  obtain ⟨h0, h1, h2, h3⟩ := h
  constructor <;> (simp only [at', afterB] at *; after_reads_simp; assumption)

theorem stageB_heads (h : Heads W x0 x1 x2 x3) : Heads (afterB W) x0 x1 x2 x3 := by
  obtain ⟨h0, h1, h2, h3⟩ := h
  constructor <;> (simp only [at', afterB] at *; after_reads_simp; assumption)

theorem stageB (h14 : at' W main_v14 = val_main_v14 x0) (h20 : at' W main_v20 = val_main_v20 x1)
    (h23 : at' W main_v23 = val_main_v23 x2) (h24 : at' W main_v24 = val_main_v24 x2) :
    at' (afterB W) main_v26 = val_main_v26 x2 ∧ at' (afterB W) main_v56 = val_main_v56 x0 x1 := by
  simp only [at'] at h14 h20 h23 h24
  refine ⟨?_, ?_⟩
  · simp only [at', afterB]; after_reads_simp
    refine joined2 _ ?_ ?_
    · after_reads_simp; simp only [h24]; rfl
    · after_reads_simp; simp only [h23]
  · simp only [at', afterB]; after_reads_simp; simp only [h14, h20]; rfl

/-- After branch 0, and branch 1's blocks. -/
def afterC : Valuation τ sig (Elt Ideal) := after hostOps0_9 (after hostOps0_8 (after hostOps0_7 (after hostOps0_6 W)))

theorem stageC_args (h : Args W x0 x1 x2 x3) : Args (afterC W) x0 x1 x2 x3 := by
  obtain ⟨h0, h1, h2, h3⟩ := h
  constructor <;> (simp only [at', afterC] at *; after_reads_simp; assumption)

theorem stageC_heads (h : Heads W x0 x1 x2 x3) : Heads (afterC W) x0 x1 x2 x3 := by
  obtain ⟨h0, h1, h2, h3⟩ := h
  constructor <;> (simp only [at', afterC] at *; after_reads_simp; assumption)

theorem stageC_branch (h26 : at' W main_v26 = val_main_v26 x2) (h56 : at' W main_v56 = val_main_v56 x0 x1) :
    Branch0 (afterC W) x0 x1 x2 := by
  simp only [at'] at h26 h56
  constructor
  · simp only [at', afterC]; after_reads_simp; simp only [h56]; rfl
  · simp only [at', afterC]; after_reads_simp; simp only [h56]; rfl
  · simp only [at', afterC]; after_reads_simp; simp only [h26, h56]; rfl

theorem stageC (h : Heads W x0 x1 x2 x3) :
    at' (afterC W) main_v76 = val_main_v76 x0 ∧ at' (afterC W) main_v82 = val_main_v82 x1
      ∧ at' (afterC W) main_v85 = val_main_v85 x2 ∧ at' (afterC W) main_v86 = val_main_v86 x2 := by
  obtain ⟨h0, h1, h2, h3⟩ := h
  simp only [at'] at h0 h1 h2 h3
  refine ⟨?_, ?_, ?_, ?_⟩
  · simp only [at', afterC]; after_reads_simp; simp only [h0]; rfl
  · simp only [at', afterC]; after_reads_simp
    refine joined2 _ ?_ ?_
    · after_reads_simp; simp only [h1]; rfl
    · after_reads_simp; simp only [h1]; rfl
  · simp only [at', afterC]; after_reads_simp; simp only [h2]; rfl
  · simp only [at', afterC]; after_reads_simp; simp only [h2]; rfl

/-- After branch 1's masked scores. -/
def afterD : Valuation τ sig (Elt Ideal) := after hostOps0_11 (after hostOps0_10 W)

theorem stageD_args (h : Args W x0 x1 x2 x3) : Args (afterD W) x0 x1 x2 x3 := by
  obtain ⟨h0, h1, h2, h3⟩ := h
  constructor <;> (simp only [at', afterD] at *; after_reads_simp; assumption)

theorem stageD_heads (h : Heads W x0 x1 x2 x3) : Heads (afterD W) x0 x1 x2 x3 := by
  obtain ⟨h0, h1, h2, h3⟩ := h
  constructor <;> (simp only [at', afterD] at *; after_reads_simp; assumption)

theorem stageD_branch (h : Branch0 W x0 x1 x2) : Branch0 (afterD W) x0 x1 x2 := by
  obtain ⟨h0, h1, h2⟩ := h
  constructor <;> (simp only [at', afterD] at *; after_reads_simp; assumption)

theorem stageD (h76 : at' W main_v76 = val_main_v76 x0) (h82 : at' W main_v82 = val_main_v82 x1)
    (h85 : at' W main_v85 = val_main_v85 x2) (h86 : at' W main_v86 = val_main_v86 x2) :
    at' (afterD W) main_v88 = val_main_v88 x2 ∧ at' (afterD W) main_v118 = val_main_v118 x0 x1 := by
  simp only [at'] at h76 h82 h85 h86
  refine ⟨?_, ?_⟩
  · simp only [at', afterD]; after_reads_simp
    refine joined2 _ ?_ ?_
    · after_reads_simp; simp only [h86]; rfl
    · after_reads_simp; simp only [h85]
  · simp only [at', afterD]; after_reads_simp; simp only [h76, h82]; rfl

/-- After branch 1, and branch 2's blocks. -/
def afterE : Valuation τ sig (Elt Ideal) := after hostOps0_15 (after hostOps0_14 (after hostOps0_13 (after hostOps0_12 W)))

theorem stageE_args (h : Args W x0 x1 x2 x3) : Args (afterE W) x0 x1 x2 x3 := by
  obtain ⟨h0, h1, h2, h3⟩ := h
  constructor <;> (simp only [at', afterE] at *; after_reads_simp; assumption)

theorem stageE_heads (h : Heads W x0 x1 x2 x3) : Heads (afterE W) x0 x1 x2 x3 := by
  obtain ⟨h0, h1, h2, h3⟩ := h
  constructor <;> (simp only [at', afterE] at *; after_reads_simp; assumption)

theorem stageE_branch0 (h : Branch0 W x0 x1 x2) : Branch0 (afterE W) x0 x1 x2 := by
  obtain ⟨h0, h1, h2⟩ := h
  constructor <;> (simp only [at', afterE] at *; after_reads_simp; assumption)

theorem stageE_branch1 (h88 : at' W main_v88 = val_main_v88 x2) (h118 : at' W main_v118 = val_main_v118 x0 x1) :
    Branch1 (afterE W) x0 x1 x2 := by
  simp only [at'] at h88 h118
  constructor
  · simp only [at', afterE]; after_reads_simp; simp only [h118]; rfl
  · simp only [at', afterE]; after_reads_simp; simp only [h118]; rfl
  · simp only [at', afterE]; after_reads_simp; simp only [h88, h118]; rfl

theorem stageE (h : Heads W x0 x1 x2 x3) :
    at' (afterE W) main_v138 = val_main_v138 x0 ∧ at' (afterE W) main_v144 = val_main_v144 x1
      ∧ at' (afterE W) main_v147 = val_main_v147 x2 ∧ at' (afterE W) main_v148 = val_main_v148 x2 := by
  obtain ⟨h0, h1, h2, h3⟩ := h
  simp only [at'] at h0 h1 h2 h3
  refine ⟨?_, ?_, ?_, ?_⟩
  · simp only [at', afterE]; after_reads_simp; simp only [h0]; rfl
  · simp only [at', afterE]; after_reads_simp
    refine joined2 _ ?_ ?_
    · after_reads_simp; simp only [h1]; rfl
    · after_reads_simp; simp only [h1]; rfl
  · simp only [at', afterE]; after_reads_simp; simp only [h2]; rfl
  · simp only [at', afterE]; after_reads_simp; simp only [h2]; rfl

/-- After branch 2's masked scores. -/
def afterF : Valuation τ sig (Elt Ideal) := after hostOps0_17 (after hostOps0_16 W)

theorem stageF_args (h : Args W x0 x1 x2 x3) : Args (afterF W) x0 x1 x2 x3 := by
  obtain ⟨h0, h1, h2, h3⟩ := h
  constructor <;> (simp only [at', afterF] at *; after_reads_simp; assumption)

theorem stageF_heads (h : Heads W x0 x1 x2 x3) : Heads (afterF W) x0 x1 x2 x3 := by
  obtain ⟨h0, h1, h2, h3⟩ := h
  constructor <;> (simp only [at', afterF] at *; after_reads_simp; assumption)

theorem stageF_branch0 (h : Branch0 W x0 x1 x2) : Branch0 (afterF W) x0 x1 x2 := by
  obtain ⟨h0, h1, h2⟩ := h
  constructor <;> (simp only [at', afterF] at *; after_reads_simp; assumption)

theorem stageF_branch1 (h : Branch1 W x0 x1 x2) : Branch1 (afterF W) x0 x1 x2 := by
  obtain ⟨h0, h1, h2⟩ := h
  constructor <;> (simp only [at', afterF] at *; after_reads_simp; assumption)

theorem stageF (h138 : at' W main_v138 = val_main_v138 x0) (h144 : at' W main_v144 = val_main_v144 x1)
    (h147 : at' W main_v147 = val_main_v147 x2) (h148 : at' W main_v148 = val_main_v148 x2) :
    at' (afterF W) main_v150 = val_main_v150 x2 ∧ at' (afterF W) main_v180 = val_main_v180_0 x0 x1 := by
  simp only [at'] at h138 h144 h147 h148
  refine ⟨?_, ?_⟩
  · simp only [at', afterF]; after_reads_simp
    refine joined2 _ ?_ ?_
    · after_reads_simp; simp only [h148]; rfl
    · after_reads_simp; simp only [h147]
  · simp only [at', afterF]; after_reads_simp; simp only [h138, h144]; rfl

/-- After branch 2 and the three maxima joined. -/
def afterG : Valuation τ sig (Elt Ideal) := after (hostOps0_18.take 20) W

theorem stageG_args (h : Args W x0 x1 x2 x3) : Args (afterG W) x0 x1 x2 x3 := by
  obtain ⟨h0, h1, h2, h3⟩ := h
  constructor <;> (simp only [at', afterG] at *; after_reads_simp; assumption)

theorem stageG_heads (h : Heads W x0 x1 x2 x3) : Heads (afterG W) x0 x1 x2 x3 := by
  obtain ⟨h0, h1, h2, h3⟩ := h
  constructor <;> (simp only [at', afterG] at *; after_reads_simp; assumption)

theorem stageG_branch0 (h : Branch0 W x0 x1 x2) : Branch0 (afterG W) x0 x1 x2 := by
  obtain ⟨h0, h1, h2⟩ := h
  constructor <;> (simp only [at', afterG] at *; after_reads_simp; assumption)

theorem stageG_branch1 (h : Branch1 W x0 x1 x2) : Branch1 (afterG W) x0 x1 x2 := by
  obtain ⟨h0, h1, h2⟩ := h
  constructor <;> (simp only [at', afterG] at *; after_reads_simp; assumption)

theorem stageG (h150 : at' W main_v150 = val_main_v150 x2) (h180 : at' W main_v180 = val_main_v180_0 x0 x1)
    (b0 : Branch0 W x0 x1 x2) (b1 : Branch1 W x0 x1 x2) :
    at' (afterG W) main_v191 = val_main_v196 x0 x1 ∧ at' (afterG W) main_v194 = val_main_v199 x0 x1
      ∧ at' (afterG W) main_v197 = val_main_v202 x0 x1 x2 ∧ at' (afterG W) main_v198 = val_main_v203 x0 x1 := by
  have hm := b0.m
  have hm' := b1.m
  simp only [at'] at h150 h180 hm hm'
  refine ⟨?_, ?_, ?_, ?_⟩
  · simp only [at', afterG]; after_reads_simp; simp only [h180]; rfl
  · simp only [at', afterG]; after_reads_simp; simp only [h180]; rfl
  · simp only [at', afterG]; after_reads_simp; simp only [h150, h180]; rfl
  · simp only [at', afterG]; after_reads_simp
    refine joined3 _ ?_ ?_ ?_
    · show upto _ W _ (Proc.devRef .tc main_v67) = val_main_v67 x0 x1
      after_reads_simp; exact hm
    · show upto _ W _ (Proc.devRef .tc main_v129) = val_main_v129 x0 x1
      after_reads_simp; exact hm'
    · show upto _ W _ (Proc.devRef .tc main_v191) = val_main_v196 x0 x1
      after_reads_simp; simp only [h180]; rfl

/-- A row's logarithm of the summed weights: the maximum plus the logarithm of the denominator. -/
def lseArr : FVec Ideal S16x16384x1 .f32 := addf (val_main_v212 x0 x1) (Host.log (val_main_v241 x0 x1))

/-- A row's sum of the output times its gradient. -/
def deltaArr : FVec Ideal S16x16384x1 .f32 :=
  broadcastInDim S16x16384x1 ![0, 1] bcast_S16x16384_S16x16384x1_0_1
    (Host.reduceAdd (mulf (val_main_v11 x3) (val_main_v243 x0 x1 x2)) (constant S_ .f32 0x00000000#32) reducesTo_S16x16384x64_S16x16384_d2 h_S_)

/-- The heads' rows as columns. -/
def asColumns (x : FVec Ideal S16x16384x1 .f32) : FVec Ideal S16384x16 .f32 :=
  transpose S16384x16 [1, 0] (shapeCast S16x16384 x shapeCasts_S16x16384x1_S16x16384) transposes_S16x16384_S16384x16_1_0

/-- The statistics in one array: logarithms, then sums, then zeros. -/
def packed : FVec Ideal S16384x128 .f32 :=
  concatenate S16384x128 1 [⟨S16384x16, asColumns (lseArr x0 x1)⟩, ⟨S16384x16, asColumns (deltaArr x0 x1 x2 x3)⟩,
    ⟨S16384x96, broadcastInDim S16384x96 ![] bcast_S_S16384x96 (constant S_ .f32 0x00000000#32)⟩]
    concatenates_S16384x16_S16384x16_S16384x96_S16384x128_d1

/-- After the statistics. -/
def afterH : Valuation τ sig (Elt Ideal) := after ((hostOps0_18.drop 20).take 49) W

theorem stageH_args (h : Args W x0 x1 x2 x3) : Args (afterH W) x0 x1 x2 x3 := by
  obtain ⟨h0, h1, h2, h3⟩ := h
  constructor <;> (simp only [at', afterH] at *; after_reads_simp; assumption)

theorem stageH (hh : Heads W x0 x1 x2 x3) (b0 : Branch0 W x0 x1 x2) (b1 : Branch1 W x0 x1 x2)
    (h191 : at' W main_v191 = val_main_v196 x0 x1) (h194 : at' W main_v194 = val_main_v199 x0 x1)
    (h197 : at' W main_v197 = val_main_v202 x0 x1 x2) (h198 : at' W main_v198 = val_main_v203 x0 x1) :
    at' (afterH W) main_v242 = packed x0 x1 x2 x3 := by
  obtain ⟨m0, d0, n0⟩ := b0
  obtain ⟨m1, d1, n1⟩ := b1
  have hg := hh.g
  simp only [at'] at m0 d0 n0 m1 d1 n1 hg h191 h194 h197 h198
  simp only [at', afterH]; after_reads_simp
  refine joined3 _ ?_ ?_ ?_
  · show upto _ W _ (Proc.devRef .tc main_v238) = asColumns (lseArr x0 x1)
    after_reads_simp; simp only [m0, d0, m1, d1, h191, h194, h198]; rfl
  · show upto _ W _ (Proc.devRef .tc main_v240) = asColumns (deltaArr x0 x1 x2 x3)
    after_reads_simp; simp only [m0, d0, n0, m1, d1, n1, hg, h191, h194, h197, h198]; rfl
  · show upto _ W _ (Proc.devRef .tc main_v241) = _
    after_reads_simp

/-- The rows in the order of the residues. -/
def resOrder (x : FVec Ideal S16384x1024 .bf16) : FVec Ideal S16384x1024 .bf16 :=
  shapeCast S16384x1024 (transpose S16x1024x1024 [1, 0, 2] (shapeCast S1024x16x1024 x shapeCasts_S16384x1024_S1024x16x1024)
    transposes_S1024x16x1024_S16x1024x1024_1_0_2) shapeCasts_S16x1024x1024_S16384x1024

/-- The statistics' rows in that order. -/
def resOrder' (x : FVec Ideal S16384x128 .f32) : FVec Ideal S16384x128 .f32 :=
  shapeCast S16384x128 (transpose S16x1024x128 [1, 0, 2] (shapeCast S1024x16x128 x shapeCasts_S16384x128_S1024x16x128)
    transposes_S1024x16x128_S16x1024x128_1_0_2) shapeCasts_S16x1024x128_S16384x128

/-- At the kernel: its arguments are the four arrays and the statistics, in the order of the residues. -/
def afterI : Valuation τ sig (Elt Ideal) := after ((hostOps0_18.drop 20).drop 49) W

theorem stageI (h : Args W x0 x1 x2 x3) (h242 : at' W main_v242 = packed x0 x1 x2 x3) :
    at' (afterI W) main_v245 = resOrder x0 ∧ at' (afterI W) main_v248 = resOrder x1 ∧ at' (afterI W) main_v251 = resOrder x2
      ∧ at' (afterI W) main_v254 = resOrder x3 ∧ at' (afterI W) main_v257 = resOrder' (packed x0 x1 x2 x3) := by
  obtain ⟨h0, h1, h2, h3⟩ := h
  simp only [at'] at h0 h1 h2 h3 h242
  refine ⟨?_, ?_, ?_, ?_, ?_⟩
  · simp only [at', afterI]; after_reads_simp; simp only [h0]; rfl
  · simp only [at', afterI]; after_reads_simp; simp only [h1]; rfl
  · simp only [at', afterI]; after_reads_simp; simp only [h2]; rfl
  · simp only [at', afterI]; after_reads_simp; simp only [h3]; rfl
  · simp only [at', afterI]; after_reads_simp; simp only [h242]; rfl

/-- The whole prefix is those steps in turn. -/
theorem after_prefix : after (List.flatten [hostOps0, hostOps0_1, hostOps0_2, hostOps0_3, hostOps0_4, hostOps0_5, hostOps0_6,
      hostOps0_7, hostOps0_8, hostOps0_9, hostOps0_10, hostOps0_11, hostOps0_12, hostOps0_13, hostOps0_14, hostOps0_15,
      hostOps0_16, hostOps0_17, hostOps0_18]) W
    = afterI (afterH (afterG (afterF (afterE (afterD (afterC (afterB (afterA W)))))))) := by
  have h : (hostOps0_18 (F := Ideal))
      = hostOps0_18.take 20 ++ ((hostOps0_18.drop 20).take 49 ++ (hostOps0_18.drop 20).drop 49) := by
    rw [List.take_append_drop, List.take_append_drop]
  simp only [List.flatten_cons, List.flatten_nil, List.append_nil, after_append]
  rw [h]
  simp only [after_append]
  rfl

/-- What the kernel is launched on. -/
theorem launched (h : Args W x0 x1 x2 x3) :
    ∀ U, U = after (List.flatten [hostOps0, hostOps0_1, hostOps0_2, hostOps0_3, hostOps0_4, hostOps0_5, hostOps0_6,
      hostOps0_7, hostOps0_8, hostOps0_9, hostOps0_10, hostOps0_11, hostOps0_12, hostOps0_13, hostOps0_14, hostOps0_15,
      hostOps0_16, hostOps0_17, hostOps0_18]) W →
    at' U main_v245 = resOrder x0 ∧ at' U main_v248 = resOrder x1 ∧ at' U main_v251 = resOrder x2
      ∧ at' U main_v254 = resOrder x3 ∧ at' U main_v257 = resOrder' (packed x0 x1 x2 x3) := by
  rintro U rfl
  rw [after_prefix]
  obtain ⟨a1, a2, a3, a4⟩ := stageA W x0 x1 x2 x3 h
  obtain ⟨c1, c2⟩ := stageB _ x0 x1 x2 a1 a2 a3 a4
  have argB := stageB_args _ _ _ _ _ (stageA_args W x0 x1 x2 x3 h)
  have hB := stageB_heads _ _ _ _ _ (stageA_heads W x0 x1 x2 x3 h)
  have br0 := stageC_branch _ _ _ _ c1 c2
  obtain ⟨d1, d2, d3, d4⟩ := stageC _ _ _ _ _ hB
  have argD := stageD_args _ _ _ _ _ (stageC_args _ _ _ _ _ argB)
  have hD := stageD_heads _ _ _ _ _ (stageC_heads _ _ _ _ _ hB)
  have br0 := stageD_branch _ _ _ _ br0
  obtain ⟨e1, e2⟩ := stageD _ _ _ _ d1 d2 d3 d4
  have br1 := stageE_branch1 _ _ _ _ e1 e2
  obtain ⟨f1, f2, f3, f4⟩ := stageE _ _ _ _ _ hD
  obtain ⟨g1, g2⟩ := stageF _ _ _ _ f1 f2 f3 f4
  have br0 := stageF_branch0 _ _ _ _ (stageE_branch0 _ _ _ _ br0)
  have br1 := stageF_branch1 _ _ _ _ br1
  have argF := stageF_args _ _ _ _ _ (stageE_args _ _ _ _ _ argD)
  have hF := stageF_heads _ _ _ _ _ (stageE_heads _ _ _ _ _ hD)
  obtain ⟨k1, k2, k3, k4⟩ := stageG _ _ _ _ g1 g2 br0 br1
  have hH := stageH _ _ _ _ _ (stageG_heads _ _ _ _ _ hF) (stageG_branch0 _ _ _ _ br0) (stageG_branch1 _ _ _ _ br1) k1 k2 k3 k4
  exact stageI _ _ _ _ _ (stageH_args _ _ _ _ _ (stageG_args _ _ _ _ _ argF)) hH

end Cert.Dilated

end
-- ==== Proof.Equation.lean ====
/-
  THE EQUATION. What the kernel sums over the keys of two blocks is what the reference sums over the same keys: each
  score's gradient, `p (dp - delta)`, times the key.
-/
module

public import proofs.«01_k».proof.Proof.Gradient
public import proofs.«01_k».proof.Proof.Output
public import proofs.«01_k».proof.Proof.Prefix

@[expose] public section

set_option maxRecDepth 16384
set_option maxHeartbeats 1000000

noncomputable section

namespace Cert.Dilated

open Cert.ReferenceIdeal Cert.ReferenceIdeal.Gen Cert.ReferenceIdeal.Read Idealize.ShloMosaic Idealize.ShloMosaic.ValueIdx Finset

variable {x0 x1 x2 x3 : S16384x1024.Idx → EReal}

/-! ## The arguments' rows -/

theorem queries (hd r : Fin 16) (b : Fin 8) (i : Fin 128) (e : Fin 64) :
    val_main_v138 (F := Ideal) x0 (ix5 hd r b i e) = x0 (ix2 (row r b i) (col hd e)) := by
  unfold val_main_v138 val_main_v137 val_main_v136
  rw [toRes64]
  unfold val_main_v2 val_main_v1
  rw [heads_apply]
  rfl

theorem upstream (hd r : Fin 16) (b : Fin 8) (i : Fin 128) (e : Fin 64) :
    val_main_v11 (F := Ideal) x3 (ix3 hd (row r b i) e) = x3 (ix2 (row r b i) (col hd e)) := by
  unfold val_main_v11 val_main_v10
  rw [heads_apply]
  rfl

theorem ownKeys (hd r : Fin 16) (b : Fin 8) (i : Fin 128) (e : Fin 64) :
    val_main_v141 (F := Ideal) x1 (ix5 hd r b i e) = x1 (ix2 (row r b i) (col hd e)) := by
  unfold val_main_v141 val_main_v140 val_main_v139
  rw [toRes64]
  unfold val_main_v5 val_main_v4
  rw [heads_apply]
  rfl

theorem ownValues (hd r : Fin 16) (b : Fin 8) (i : Fin 128) (e : Fin 64) :
    val_main_v147 (F := Ideal) x2 (ix5 hd r b i e) = x2 (ix2 (row r b i) (col hd e)) := by
  unfold val_main_v147 val_main_v146 val_main_v145
  rw [toRes64]
  unfold val_main_v8 val_main_v7
  rw [heads_apply]
  rfl

theorem keys_own (hd r : Fin 16) (b : Fin 8) (j : Fin 128) (e : Fin 64) :
    val_main_v144 (F := Ideal) x1 (ix5 hd r b (Fin.natAdd 128 j) e) = x1 (ix2 (row r b j) (col hd e)) := by
  unfold val_main_v144 val_main_v143 val_main_v142
  exact ((keys64 _ _ _ _ _ _ hd r b e).2 j).trans (ownKeys hd r b j e)

theorem keys_before (hd r : Fin 16) (b : Fin 8) (hb : 0 < b.val) (j : Fin 128) (e : Fin 64) :
    val_main_v144 (F := Ideal) x1 (ix5 hd r b (Fin.castAdd 128 j) e) = x1 (ix2 (row r (before b) j) (col hd e)) := by
  unfold val_main_v144 val_main_v143 val_main_v142
  refine ((keys64 _ _ _ _ _ _ hd r b e).1 j).trans ?_
  rw [dif_pos hb]
  exact ownKeys hd r (before b) j e

theorem values_own (hd r : Fin 16) (b : Fin 8) (j : Fin 128) (e : Fin 64) :
    val_main_v150 (F := Ideal) x2 (ix5 hd r b (Fin.natAdd 128 j) e) = x2 (ix2 (row r b j) (col hd e)) := by
  unfold val_main_v150 val_main_v149 val_main_v148
  exact ((keys64 _ _ _ _ _ _ hd r b e).2 j).trans (ownValues hd r b j e)

theorem values_before (hd r : Fin 16) (b : Fin 8) (hb : 0 < b.val) (j : Fin 128) (e : Fin 64) :
    val_main_v150 (F := Ideal) x2 (ix5 hd r b (Fin.castAdd 128 j) e) = x2 (ix2 (row r (before b) j) (col hd e)) := by
  unfold val_main_v150 val_main_v149 val_main_v148
  refine ((keys64 _ _ _ _ _ _ hd r b e).1 j).trans ?_
  rw [dif_pos hb]
  exact ownValues hd r (before b) j e

/-! ## The saved statistics -/

theorem asColumns_apply (x : S16x16384x1.Idx → EReal) (hd : Fin 16) (n : Fin 16384) : asColumns x (ix2 n hd) = x (ix3 hd n 0) := by
  unfold asColumns
  rw [transpose_apply [1, 0] _ _ (ix2 n hd) (ix2 hd n) (fun a => match a with | ⟨0, _⟩ => rfl | ⟨1, _⟩ => rfl)]
  exact shapeCast_apply x _ (ix2 hd n) (ix3 hd n 0) (by
    rw [Shape.rowMajor_val_two, Shape.rowMajor_val_three]
    show (hd.val * 16384 + n.val) * 1 + 0 = hd.val * 16384 + n.val
    omega)

section
variable (A B : KernelIdeal.S16384x16.Idx → EReal) (C : KernelIdeal.S16384x96.Idx → EReal)
  (hc : Shape.Concatenates [KernelIdeal.S16384x16, KernelIdeal.S16384x16, KernelIdeal.S16384x96] KernelIdeal.S16384x128 1)
  (n : Fin 16384) (c : Fin 16)

theorem first_columns : concatenate KernelIdeal.S16384x128 1 [⟨KernelIdeal.S16384x16, A⟩, ⟨KernelIdeal.S16384x16, B⟩, ⟨KernelIdeal.S16384x96, C⟩] hc
    (ix2 n ⟨c.val, by have := c.isLt; omega⟩) = A (ix2 n c) :=
  concatenate_apply_piece 1 [⟨KernelIdeal.S16384x16, A⟩, ⟨KernelIdeal.S16384x16, B⟩, ⟨KernelIdeal.S16384x96, C⟩] hc
    (ix2 n ⟨c.val, by have := c.isLt; omega⟩) 0 (by show 0 < 3; omega) KernelIdeal.S16384x16 A rfl rfl 0 rfl (ix2 n c)
    (fun a => match a with | ⟨0, _⟩ => fun _ => rfl | ⟨1, _⟩ => fun hne => absurd rfl hne) (Nat.zero_add _)

theorem next_columns : concatenate KernelIdeal.S16384x128 1 [⟨KernelIdeal.S16384x16, A⟩, ⟨KernelIdeal.S16384x16, B⟩, ⟨KernelIdeal.S16384x96, C⟩] hc
    (ix2 n ⟨16 + c.val, by have := c.isLt; omega⟩) = B (ix2 n c) :=
  concatenate_apply_piece 1 [⟨KernelIdeal.S16384x16, A⟩, ⟨KernelIdeal.S16384x16, B⟩, ⟨KernelIdeal.S16384x96, C⟩] hc
    (ix2 n ⟨16 + c.val, by have := c.isLt; omega⟩) 1 (by show 1 < 3; omega) KernelIdeal.S16384x16 B rfl rfl 16 rfl (ix2 n c)
    (fun a => match a with | ⟨0, _⟩ => fun _ => rfl | ⟨1, _⟩ => fun hne => absurd rfl hne) rfl

end

theorem packed_lse (n : Fin 16384) (hd : Fin 16) :
    packed x0 x1 x2 x3 (ix2 n ⟨hd.val, by have := hd.isLt; omega⟩) = lseArr x0 x1 (ix3 hd n 0) := by
  unfold packed
  rw [first_columns, asColumns_apply]

theorem packed_delta (n : Fin 16384) (hd : Fin 16) :
    packed x0 x1 x2 x3 (ix2 n ⟨16 + hd.val, by have := hd.isLt; omega⟩) = deltaArr x0 x1 x2 x3 (ix3 hd n 0) := by
  unfold packed
  rw [next_columns, asColumns_apply]

theorem addLog (x y : FVec Ideal S16x16384x1 .f32) (k : S16x16384x1.Idx) :
    addf x (Host.log y) k = FloatOps.addf (F := Ideal) (φ := .f32) (x k) (Ideal.log (y k)) := rfl

theorem times (x y : FVec Ideal S16x16384x64 .f32) (k : S16x16384x64.Idx) : mulf x y k = FloatOps.mulf (F := Ideal) (φ := .f32) (x k) (y k) := rfl

variable (h : AllArgs x0 x1 x2 x3) (hd r : Fin 16) (b : Fin 8) (i : Fin 128)
include h

theorem lse_eq : lseArr x0 x1 (ix3 hd (row r b i) 0) = (((rowOf h hd r b i).lse : ℝ) : EReal) := by
  unfold lseArr
  rw [addLog, M_eq h, D_eq h, log_coe (D_pos h hd r b i), addf_coe, Row.lse]

theorem delta_eq : deltaArr x0 x1 x2 x3 (ix3 hd (row r b i) 0) = (((rowOf h hd r b i).delta : ℝ) : EReal) := by
  have hq (e : Fin 64) : mulf (F := Ideal) (φ := .f32) (s := S16x16384x64) (val_main_v11 (F := Ideal) x3) (val_main_v243 (F := Ideal) x0 x1 x2) (ix3 hd (row r b i) e)
      = (((rowOf h hd r b i).g e * ((rowOf h hd r b i).N e / (rowOf h hd r b i).D) : ℝ) : EReal) := by
    have hD : val_main_v242 (F := Ideal) x0 x1 (ix3 hd (row r b i) e) = (((rowOf h hd r b i).D : ℝ) : EReal) := by
      rw [val_main_v242_apply]
      exact (congrArg (val_main_v241 (F := Ideal) x0 x1) (eq_ix3 _)).trans (D_eq h hd r b i)
    rw [times, val_main_v243_apply, hD, N_eq h, g_eq h, divf_coe _ (D_pos h hd r b i).ne', mulf_coe]
  unfold deltaArr
  revert hq
  generalize mulf (F := Ideal) (φ := .f32) (s := S16x16384x64) (val_main_v11 (F := Ideal) x3) (val_main_v243 (F := Ideal) x0 x1 x2) = y0
  intro hq
  rw [broadcastInDim_apply _ _ _ (ix3 hd (row r b i) 0) (ix2 hd (row r b i)) (fun a => match a with
    | ⟨0, _⟩ => by show hd.val = if (16 : Nat) = 1 then 0 else hd.val; rw [if_neg (by decide)]
    | ⟨1, _⟩ => by show (row r b i).val = if (16384 : Nat) = 1 then 0 else (row r b i).val; rw [if_neg (by decide)])]
  simp only [Host.reduceAdd, Ideal.hostReduceAdd_def]
  rw [Ideal.hostReduceAdd_single reducesTo_S16x16384x64_S16x16384_d2 (by decide)]
  refine sum_coe zero_f32 fun e => ?_
  refine Eq.trans (congrArg y0 (funext fun a => Fin.ext ?_)) (hq e)
  match a with
  | ⟨0, _⟩ => rfl
  | ⟨1, _⟩ => rfl
  | ⟨2, _⟩ => rfl

/-! ## One score -/

/-- A score's gradient, as the kernel computes it from the saved statistics, is the reference's. -/
theorem one_score (j : Fin 256) :
    dscore (ok b.val i j) (lseArr x0 x1 (ix3 hd (row r b i) 0)) (deltaArr x0 x1 x2 x3 (ix3 hd (row r b i) 0))
        (fun e => x0 (ix2 (row r b i) (col hd e))) (fun e => x3 (ix2 (row r b i) (col hd e)))
        (fun e => val_main_v144 (F := Ideal) x1 (ix5 hd r b j e)) (fun e => val_main_v150 (F := Ideal) x2 (ix5 hd r b j e))
      = val_main_v319 (F := Ideal) x0 x1 x2 x3 (ix5 hd r b i j) := by
  rw [score_gradient h]
  by_cases hj : ok b.val i j = true
  · have hs : ∑ e, x0 (ix2 (row r b i) (col hd e)) * val_main_v144 (F := Ideal) x1 (ix5 hd r b j e) = (((rowOf h hd r b i).s j : ℝ) : EReal) := by
      rw [← s_eq h, val_main_v151_apply]
      refine Finset.sum_congr rfl fun e _ => ?_
      have e1 : lidx_main_v151 (ix5 hd r b i j) e = ix5 hd r b i e := eq_ix5 _
      have e2 : ridx_main_v151 (ix5 hd r b i j) e = ix5 hd r b j e := eq_ix5 _
      rw [e1, e2, queries]
    have hg : ∑ e, x3 (ix2 (row r b i) (col hd e)) * val_main_v150 (F := Ideal) x2 (ix5 hd r b j e)
        = ((∑ e, (rowOf h hd r b i).g e * (rowOf h hd r b i).v j e : ℝ) : EReal) :=
      dot_coe (fun e => (upstream hd r b i e).symm.trans (g_eq h hd r b i e)) (fun e => v_eq h hd r b i j e)
    rw [if_pos hj, hj, lse_eq h, delta_eq h]
    unfold dscore
    rw [if_pos rfl, hs, hg, (rowOf h hd r b i).ds_eq (D_pos h hd r b i) hj, ← EReal.coe_sub, ← EReal.coe_sub, EReal.coe_mul]
    exact congrArg (· * _) (Ideal.exp_coe _)
  · rw [if_neg hj, Bool.eq_false_iff.2 hj, dscore_false]

/-! ## The whole row -/

omit h in
theorem ok_before (j : Fin 128) : ok b.val i (Fin.castAdd 128 j) = okBefore b i j := by
  unfold ok okBefore
  rw [decide_eq_decide]
  have h1 : (Fin.castAdd 128 j : Fin (128 + 128)).val = j.val := rfl
  have h2 := j.isLt
  rw [h1]
  omega

omit h in
theorem ok_own (j : Fin 128) : ok b.val i (Fin.natAdd 128 j) = decide (j.val ≤ i.val) := by
  unfold ok
  rw [decide_eq_decide]
  have h1 : (Fin.natAdd 128 j : Fin (128 + 128)).val = 128 + j.val := rfl
  have h2 := i.isLt
  rw [h1]
  omega

/-- THE EQUATION at one row of one head and one column. -/
theorem equation (d : Fin 64) :
    entry (resOrder x0) (resOrder x1) (resOrder x2) (resOrder x3) (resOrder' (packed x0 x1 x2 x3)) r b i hd d
      = val_main_v320 (F := Ideal) x0 x1 x2 x3 (ix5 hd r b i d) := by
  have ord (x : S16384x1024.Idx → EReal) (b : Fin 8) (i : Fin 128) (k : Fin 1024) : resOrder x (ix2 (resRow r b i) k) = x (ix2 (row r b i) k) :=
    residues_apply x _ _ _ r b i k
  have ord' (x : KernelIdeal.S16384x128.Idx → EReal) (b : Fin 8) (i k : Fin 128) : resOrder' x (ix2 (resRow r b i) k) = x (ix2 (row r b i) k) :=
    residues_apply x _ _ _ r b i k
  unfold entry
  simp only [ord, ord', packed_lse, packed_delta]
  rw [val_main_v320_apply]
  have e1 : ∀ k : Fin 256, lidx_main_v320 (ix5 hd r b i d) k = ix5 hd r b i k := fun k => eq_ix5 _
  have e2 : ∀ k : Fin 256, ridx_main_v320 (ix5 hd r b i d) k = ix5 hd r b k d := fun k => eq_ix5 _
  simp only [e1, e2]
  refine Eq.trans ?_ (Fin.sum_univ_add (a := 128) (b := 128) fun k : Fin (128 + 128) =>
    val_main_v319 (F := Ideal) x0 x1 x2 x3 (ix5 hd r b i k) * val_main_v144 (F := Ideal) x1 (ix5 hd r b k d)).symm
  refine congrArg₂ (· + ·) (Finset.sum_congr rfl fun j _ => ?_) (Finset.sum_congr rfl fun j _ => ?_)
  · rw [← one_score h, ok_before]
    by_cases hj : okBefore b i j = true
    · have hb : 0 < b.val := (of_decide_eq_true hj).1
      simp only [keys_before hd r b hb, values_before hd r b hb]
    · rw [Bool.eq_false_iff.2 hj, dscore_false, dscore_false, zero_mul, zero_mul]
  · rw [← one_score h, ok_own]
    simp only [keys_own, values_own]

/-- The reference's array, at that row and column. -/
theorem reference_entry (d : Fin 64) :
    val_main_v329 (F := Ideal) x0 x1 x2 x3 (ix2 (resRow r b i) (col hd d)) = val_main_v320 (F := Ideal) x0 x1 x2 x3 (ix5 hd r b i d) := by
  refine Eq.trans (b := val_main_v328 (F := Ideal) x0 x1 x2 x3 (ix2 (resRow r b i) (col hd d))) rfl ?_
  unfold val_main_v328 val_main_v327 val_main_v326
  refine (residues_apply _ _ _ _ r b i (col hd d)).trans ?_
  unfold val_main_v325 val_main_v324
  rw [merge_apply]
  unfold val_main_v323 val_main_v322 val_main_v321
  rw [fromRes64]

end Cert.Dilated

end
-- ==== Proof.Result.lean ====
/-
  THE TWO ARRAYS ARE EQUAL. On arguments of finite numbers, every entry of the kernel's array is the reference's.
-/
module

public import proofs.«01_k».proof.Defs
public import proofs.«01_k».proof.Proof.Equation

@[expose] public section

set_option maxRecDepth 16384
set_option maxHeartbeats 1000000

noncomputable section

namespace Cert.Dilated

open Cert.ReferenceIdeal Cert.ReferenceIdeal.Gen Cert.ReferenceIdeal.Read Idealize.ShloMosaic Idealize.ShloMosaic.ValueIdx
open Idealize.ShloMosaic.TcCoe

/-! ## Finite arguments -/

theorem infinity_bf16 : Ideal.ofBits .bf16 0x7F80#16 = ⊤ := by simp [Ideal.ofBits, Ideal.ieee]

theorem both_ones {a b : BitVec 1} (h : a &&& b = 1#1) : a = 1#1 ∧ b = 1#1 := by
  revert a b; decide

theorem real_of_below {x : EReal} (h : Ideal.cmp .olt (max x (-x)) ⊤ = 1#1) : IsReal x := by
  refine isReal_of_abs_lt ?_
  by_contra hn
  simp [Ideal.cmp, hn] at h

/-- The facts the predicate's own program states. -/
theorem finite_facts : Cert.Pre_finite.Facts := ⟨by decide⟩

theorem allArgs [Cert.Pre_finite.Facts] {x0 x1 x2 x3 : S16384x1024.Idx → EReal}
    (h : Cert.Pre_finite.fn (F := Ideal) x0 x1 x2 x3 = fun _ => 1#1) : AllArgs x0 x1 x2 x3 := by
  have at_ (j : S16384x1024.Idx) : ((Ideal.cmp .olt (max (x0 j) (-(x0 j))) (Ideal.ofBits .bf16 0x7F80#16)
      &&& Ideal.cmp .olt (max (x1 j) (-(x1 j))) (Ideal.ofBits .bf16 0x7F80#16))
      &&& Ideal.cmp .olt (max (x2 j) (-(x2 j))) (Ideal.ofBits .bf16 0x7F80#16))
      &&& Ideal.cmp .olt (max (x3 j) (-(x3 j))) (Ideal.ofBits .bf16 0x7F80#16) = 1#1 := congrFun h j
  simp only [infinity_bf16] at at_
  exact ⟨fun j => real_of_below (both_ones (both_ones (both_ones (at_ j)).1).1).1,
    fun j => real_of_below (both_ones (both_ones (both_ones (at_ j)).1).1).2,
    fun j => real_of_below (both_ones (both_ones (at_ j)).1).2,
    fun j => real_of_below (both_ones (at_ j)).2⟩

/-! ## The arrays -/

/-- Every row is a row of a block of a residue, every column a column of a head. -/
theorem every_entry (j : S16384x1024.Idx) :
    ∃ (r : Fin 16) (b : Fin 8) (i : Fin 128) (h : Fin 16) (d : Fin 64), j = ix2 (resRow r b i) (col h d) := by
  have h0 := idx2_lt0 j
  have h1 := idx2_lt1 j
  refine ⟨⟨(j 0).val / 1024, by omega⟩, ⟨(j 0).val % 1024 / 128, by omega⟩, ⟨(j 0).val % 128, by omega⟩,
    ⟨(j 1).val / 64, by omega⟩, ⟨(j 1).val % 64, by omega⟩, ?_⟩
  refine (eq_ix2 j).trans (congrArg₂ ix2 ?_ ?_)
  · apply Fin.ext
    show (j 0).val = (j 0).val / 1024 * 1024 + (j 0).val % 1024 / 128 * 128 + (j 0).val % 128
    omega
  · apply Fin.ext
    show (j 1).val = (j 1).val / 64 * 64 + (j 1).val % 64
    omega

/-- Equal arrays have equal entries. -/
theorem entry_congr {Q K W G Q' K' W' G' : S16384x1024.Idx → EReal} {T T' : KernelIdeal.S16384x128.Idx → EReal}
    (hq : Q = Q') (hk : K = K') (hw : W = W') (hg : G = G') (ht : T = T') {r : Fin 16} {b : Fin 8} {i : Fin 128} {h : Fin 16}
    {d : Fin 64} : entry Q K W G T r b i h d = entry Q' K' W' G' T' r b i h d := by
  subst hq hk hw hg ht; rfl

/-- Equal arguments have equal gradients. -/
theorem reference_congr {x0 x1 x2 x3 y0 y1 y2 y3 : S16384x1024.Idx → EReal} (h0 : y0 = x0) (h1 : y1 = x1) (h2 : y2 = x2)
    (h3 : y3 = x3) : val_main_v329 (F := Ideal) x0 x1 x2 x3 = val_main_v329 (F := Ideal) y0 y1 y2 y3 := by
  subst h0 h1 h2 h3; rfl

section
variable (m : (ℓ : Loc Cert.KernelIdeal.nD Cert.KernelIdeal.τ Cert.KernelIdeal.sig) → Buf (Elt Ideal) ℓ)
variable (c : Dev Cert.KernelIdeal.nD)

theorem same_array (x0 x1 x2 x3 : S16384x1024.Idx → EReal) (hx : AllArgs x0 x1 x2 x3)
    (hW : Args (fun b => m (c, b)) x0 x1 x2 x3) :
    ((Cert.KernelIdeal.Gen.dats m 0 c).arrAt 7 Cert.KernelIdeal.cfg0.N : S16384x1024.Idx → EReal)
      = val_main_v329 (F := Ideal) x0 x1 x2 x3 := by
  obtain ⟨l0, l1, l2, l3, l4⟩ := launched (fun b => m (c, b)) x0 x1 x2 x3 hW _ rfl
  refine funext fun j => ?_
  obtain ⟨r, b, i, h, d, rfl⟩ := every_entry j
  refine (output m c r b i h d).trans ?_
  refine Eq.trans ?_ ((equation hx h r b i d).trans (reference_entry hx h r b i d).symm)
  exact entry_congr l0 l1 l2 l3 l4
end

end Cert.Dilated

end
-- ==== Proof.Gate.lean ====
/-
  THE GATE'S GRADIENT: the feed-forward block's second product run back to the pre-activation. The kernel tiles the rows
  and the columns by 1024 and multiplies each tile of the product by twice the positive part of the pre-activation; the
  reference differentiates the square of the positive part, a case split at zero.
-/
module

public import proofs.«01_k».proof.Proof.Gen.GateIdeal.Value
public import proofs.«01_k».proof.Proof.Gen.GateRefIdeal.Read
public import Idealize.ShloMosaic.Lib.ValueIdx
public import Idealize.ShloMosaic.Lib.WordCmp
public import Idealize.ShloMosaic.PureOps.Ideal.Laws

@[expose] public section

set_option maxRecDepth 16384

noncomputable section

namespace Cert.GateGradient

open Idealize.ShloMosaic Idealize.ShloMosaic.ValueIdx Idealize.ShloMosaic.TcCoe Finset

section Kernel

open Cert.GateIdeal Cert.GateIdeal.Gen Cert.GateIdeal.Value

/-- One tile: the product's entry times twice the positive part. -/
theorem tile_apply (x w e : FVec Ideal S1024x1024 .bf16) (i j : Fin 1024) :
    k0_pay1 (F := Ideal) x w e (ix2 i j) = (∑ k : Fin 1024, x (ix2 i k) * w (ix2 j k))
      * (FloatOps.ofBits (F := Ideal) .f32 0x40000000#32 * max (e (ix2 i j)) (FloatOps.ofBits (F := Ideal) .f32 0x00000000#32)) := by
  refine congrArg (· * (FloatOps.ofBits (F := Ideal) .f32 0x40000000#32 * max (e (ix2 i j)) (FloatOps.ofBits (F := Ideal) .f32 0x00000000#32)))
    ((Ideal.matmul_constant_zero_apply dot_S1024x1024_S1024x1024_S1024x1024_1_1_0_0_n_n none x w (ix2 i j)).trans ?_)
  refine (Fintype.sum_equiv (contrEquiv1 dot_S1024x1024_S1024x1024_S1024x1024_1_1_0_0_n_n 1024 rfl rfl) _ _ fun c => ?_)
  congr 1
  · exact congrArg x (funext fun a => match a with | ⟨0, _⟩ => rfl | ⟨1, _⟩ => rfl)
  · exact congrArg w (funext fun a => match a with | ⟨0, _⟩ => rfl | ⟨1, _⟩ => rfl)

/-- The grid point of a row tile and a column tile. -/
def point (a : Fin 16) (b : Fin 4) : Fin cfg0.N := ⟨a.val * 4 + b.val, by have := a.isLt; have := b.isLt; show _ < 64; omega⟩

theorem index0 : ∀ (a : Fin 16) (b : Fin 4), win0_0.index (point a b) 0 = a.val ∧ win0_0.index (point a b) 1 = 0 := by decide +kernel
theorem index1 : ∀ (a : Fin 16) (b : Fin 4), win0_1.index (point a b) 0 = b.val ∧ win0_1.index (point a b) 1 = 0 := by decide +kernel
theorem index2 : ∀ (a : Fin 16) (b : Fin 4), win0_2.index (point a b) 0 = a.val ∧ win0_2.index (point a b) 1 = b.val := by decide +kernel
theorem index3 : ∀ (a : Fin 16) (b : Fin 4), win0_3.index (point a b) 0 = a.val ∧ win0_3.index (point a b) 1 = b.val := by decide +kernel
theorem flush3 : ∀ (a : Fin 16) (b : Fin 4), (cfg0.win 3).flush (point a b) = true := by decide +kernel

/-- Row `i` of row tile `a`. -/
def row (a : Fin 16) (i : Fin 1024) : Fin 16384 := ⟨a.val * 1024 + i.val, by have := a.isLt; have := i.isLt; omega⟩
/-- Column `j` of column tile `b`. -/
def column (b : Fin 4) (j : Fin 1024) : Fin 4096 := ⟨b.val * 1024 + j.val, by have := b.isLt; have := j.isLt; omega⟩

variable (m : (ℓ : Loc nD τ sig) → Buf (Elt Ideal) ℓ) (c : Dev nD)

theorem block0 (a : Fin 16) (b : Fin 4) (i k : Fin 1024) :
    (iblk m c 0 (point a b) : S1024x1024.Idx → EReal) (ix2 i k) = (V m c main_arg0 : S16384x1024.Idx → EReal) (ix2 (row a i) k) := by
  show V m c main_arg0 _ = V m c main_arg0 _
  congr 1
  funext z
  apply Fin.ext
  match z with
  | ⟨0, _⟩ => show win0_0.index (point a b) 0 * 1024 + 1 * i.val = a.val * 1024 + i.val; rw [(index0 a b).1]; omega
  | ⟨1, _⟩ => show win0_0.index (point a b) 1 * 1024 + 1 * k.val = k.val; rw [(index0 a b).2]; omega

theorem block1 (a : Fin 16) (b : Fin 4) (j k : Fin 1024) :
    (iblk m c 1 (point a b) : S1024x1024.Idx → EReal) (ix2 j k) = (V m c main_arg1 : S4096x1024.Idx → EReal) (ix2 (column b j) k) := by
  show V m c main_arg1 _ = V m c main_arg1 _
  congr 1
  funext z
  apply Fin.ext
  match z with
  | ⟨0, _⟩ => show win0_1.index (point a b) 0 * 1024 + 1 * j.val = b.val * 1024 + j.val; rw [(index1 a b).1]; omega
  | ⟨1, _⟩ => show win0_1.index (point a b) 1 * 1024 + 1 * k.val = k.val; rw [(index1 a b).2]; omega

theorem block2 (a : Fin 16) (b : Fin 4) (i j : Fin 1024) :
    (iblk m c 2 (point a b) : S1024x1024.Idx → EReal) (ix2 i j) = (V m c main_arg2 : S16384x4096.Idx → EReal) (ix2 (row a i) (column b j)) := by
  show V m c main_arg2 _ = V m c main_arg2 _
  congr 1
  funext z
  apply Fin.ext
  match z with
  | ⟨0, _⟩ => show win0_2.index (point a b) 0 * 1024 + 1 * i.val = a.val * 1024 + i.val; rw [(index2 a b).1]; omega
  | ⟨1, _⟩ => show win0_2.index (point a b) 1 * 1024 + 1 * j.val = b.val * 1024 + j.val; rw [(index2 a b).2]; omega

end Kernel

/-- The gradient at a row and a column, of the incoming gradient `g`, the weights `w` and the pre-activation `h`. -/
def gradient (g : (⟨2, ![16384, 1024]⟩ : Shape).Idx → EReal) (w : (⟨2, ![4096, 1024]⟩ : Shape).Idx → EReal)
    (h : (⟨2, ![16384, 4096]⟩ : Shape).Idx → EReal) (s : Fin 16384) (f : Fin 4096) : EReal :=
  (∑ k : Fin 1024, g (ix2 s k) * w (ix2 f k))
    * (FloatOps.ofBits (F := Ideal) .f32 0x40000000#32 * max (h (ix2 s f)) (FloatOps.ofBits (F := Ideal) .f32 0x00000000#32))

section Array

open Cert.GateIdeal Cert.GateIdeal.Gen Cert.GateIdeal.Value

variable (m : (ℓ : Loc nD τ sig) → Buf (Elt Ideal) ℓ) (c : Dev nD)

theorem origin : (![0, 0] : Fin 2 → Nat) = fun _ => 0 := funext fun a => match a with | ⟨0, _⟩ => rfl | ⟨1, _⟩ => rfl

/-- The body's one store covers the block and its loads read the blocks whole. -/
theorem out_eq (x w e : FVec Ideal S1024x1024 .bf16) : out0_3 (F := Ideal) x w e = k0_pay1 (F := Ideal) x w e := by
  unfold out0_3
  rw [View.canon_unit_zero (S := S1024x1024) origin]
  simp only [View.ld_unit_zero (S := S1024x1024) origin]

/-- What the kernel's array holds. -/
theorem array_apply (a : Fin 16) (b : Fin 4) (i j : Fin 1024) :
    ((dats m 0 c).arrAt 3 cfg0.N : S16384x4096.Idx → EReal) (ix2 (row a i) (column b j))
      = gradient (V m c main_arg0) (V m c main_arg1) (V m c main_arg2) (row a i) (column b j) := by
  have hb := blocks3 m c (point a b) (flush3 a b)
  rw [flushed3] at hb
  have hv := congrFun hb (ix2 i j : S1024x1024.Idx)
  refine Eq.trans ?_ (hv.trans ?_)
  · show ((dats m 0 c).arrAt 3 cfg0.N : S16384x4096.Idx → EReal) _ = ((dats m 0 c).arrAt 3 cfg0.N : S16384x4096.Idx → EReal) _
    congr 1
    funext z
    apply Fin.ext
    match z with
    | ⟨0, _⟩ => show a.val * 1024 + i.val = win0_3.index (point a b) 0 * 1024 + 1 * i.val; rw [(index3 a b).1]; omega
    | ⟨1, _⟩ => show b.val * 1024 + j.val = win0_3.index (point a b) 1 * 1024 + 1 * j.val; rw [(index3 a b).2]; omega
  · refine (congrFun (out_eq _ _ _) (ix2 i j : S1024x1024.Idx)).trans ((tile_apply _ _ _ i j).trans ?_)
    unfold gradient
    refine congrArg₂ (· * ·) (sum_congr rfl fun k _ => congrArg₂ (· * ·) (block0 m c a b i k) (block1 m c a b j k)) ?_
    exact congrArg (fun z => FloatOps.ofBits (F := Ideal) .f32 0x40000000#32 * max z (FloatOps.ofBits (F := Ideal) .f32 0x00000000#32)) (block2 m c a b i j)

/-- … at every index. -/
theorem array_eq (y : S16384x4096.Idx) :
    ((dats m 0 c).arrAt 3 cfg0.N : S16384x4096.Idx → EReal) y = gradient (V m c main_arg0) (V m c main_arg1) (V m c main_arg2) (y 0) (y 1) := by
  have h0 := (y 0).isLt
  have h1 := (y 1).isLt
  have e0 : row ⟨(y 0).val / 1024, by change (y 0).val < 16384 at h0; omega⟩ ⟨(y 0).val % 1024, Nat.mod_lt _ (by decide)⟩ = y 0 :=
    Fin.ext (by show (y 0).val / 1024 * 1024 + (y 0).val % 1024 = (y 0).val; omega)
  have e1 : column ⟨(y 1).val / 1024, by change (y 1).val < 4096 at h1; omega⟩ ⟨(y 1).val % 1024, Nat.mod_lt _ (by decide)⟩ = y 1 :=
    Fin.ext (by show (y 1).val / 1024 * 1024 + (y 1).val % 1024 = (y 1).val; omega)
  have h := array_apply m c ⟨(y 0).val / 1024, by change (y 0).val < 16384 at h0; omega⟩ ⟨(y 1).val / 1024, by change (y 1).val < 4096 at h1; omega⟩
    ⟨(y 0).val % 1024, Nat.mod_lt _ (by decide)⟩ ⟨(y 1).val % 1024, Nat.mod_lt _ (by decide)⟩
  rw [e0, e1] at h
  exact (congrArg ((dats m 0 c).arrAt 3 cfg0.N : S16384x4096.Idx → EReal) (eq_ix2 y)).trans h

end Array

section Reference

open Cert.GateRefIdeal Cert.GateRefIdeal.Gen Cert.GateRefIdeal.Read

/-- Twice the positive part where the pre-activation is positive and nothing elsewhere is twice the positive part. -/
theorem split (p z : EReal) :
    (if z > 0 then p * (FloatOps.ofBits (F := Ideal) .f32 0x40000000#32 * max z 0) else 0) = p * (FloatOps.ofBits (F := Ideal) .f32 0x40000000#32 * max z 0) := by
  by_cases h : z > 0
  · rw [if_pos h]
  · rw [if_neg h, max_eq_right (not_lt.1 h), mul_zero, mul_zero]

/-- What the reference's array holds. -/
theorem reference_apply (g : FVec Ideal S16384x1024 .bf16) (w : FVec Ideal S4096x1024 .bf16) (h : FVec Ideal S16384x4096 .bf16) (y : S16384x4096.Idx) :
    val_main_v15 (F := Ideal) g w h y = gradient g w h (y 0) (y 1) := by
  have hz : FloatOps.ofBits (F := Ideal) .f32 0x00000000#32 = 0 := Ideal.ofBits_zero_f32
  have hy : h (ix2 (y 0) (y 1)) = h y := congrArg h (eq_ix2 y).symm
  have hp : val_main_v11 (F := Ideal) g w y = ∑ k : Fin 1024, g (ix2 (y 0) k) * w (ix2 (y 1) k) := by
    rw [val_main_v11_apply]
    exact sum_congr rfl fun k _ => congrArg₂ (· * ·) (congrArg g (eq_ix2 _)) (congrArg w (eq_ix2 _))
  have h13 : val_main_v13 (F := Ideal) y = 0 := by rw [val_main_v13_apply, val_main_cst_2_apply, hz]
  have h4 : val_main_v4 (F := Ideal) y = 0 := by rw [val_main_v4_apply, val_main_cst_apply, hz]
  have h8 : val_main_v8 (F := Ideal) y = FloatOps.ofBits (F := Ideal) .f32 0x40000000#32 := by rw [val_main_v8_apply, val_main_cst_1_apply]
  have h3 : val_main_v3 (F := Ideal) h y = max (h y) 0 := by
    rw [val_main_v3_apply, val_main_call0_v0_apply, val_main_call0_cst_apply, hz]; rfl
  have h5 : val_main_v5 (F := Ideal) h y = BitVec.ofBool (decide (h y > 0)) := by rw [val_main_v5_apply, h4]; rfl
  have h12 : val_main_v12 (F := Ideal) g w h y
      = (∑ k : Fin 1024, g (ix2 (y 0) k) * w (ix2 (y 1) k)) * (FloatOps.ofBits (F := Ideal) .f32 0x40000000#32 * max (h y) 0) := by
    rw [val_main_v12_apply, val_main_v9_apply, hp, h8, h3]; rfl
  have h14 : val_main_v14 (F := Ideal) g w h y
      = (∑ k : Fin 1024, g (ix2 (y 0) k) * w (ix2 (y 1) k)) * (FloatOps.ofBits (F := Ideal) .f32 0x40000000#32 * max (h y) 0) := by
    rw [val_main_v14_apply, h5, h13, WordCmp.select_decide, h12]
    exact split _ _
  rw [val_main_v15_apply, h14]
  unfold gradient
  rw [hy, hz]
  rfl

end Reference

end Cert.GateGradient

end
-- ==== Proof.Weight.lean ====
/-
  THE SECOND FEED-FORWARD WEIGHT'S GRADIENT: the squared positive part of the pre-activation, transposed, times the
  incoming gradient. The kernel tiles the hidden columns by 1024 and adds up the products of eight blocks of 2048 rows;
  the reference takes the vector-Jacobian product of the forward product, one sum over all rows.
-/
module

public import proofs.«01_k».proof.Proof.Gen.WeightIdeal.Value
public import proofs.«01_k».proof.Proof.Gen.WeightRefIdeal.Read
public import Idealize.ShloMosaic.Lib.ValueIdx
public import Idealize.ShloMosaic.Lib.ValueLayout
public import Idealize.ShloMosaic.Lib.Tactic
public import Idealize.ShloMosaic.PureOps.Ideal.Laws

@[expose] public section

set_option maxRecDepth 16384

noncomputable section

namespace Cert.WeightGradient

open Idealize.ShloMosaic Idealize.ShloMosaic.ValueIdx Idealize.ShloMosaic.TcCoe Finset

/-- Row `k` of the block of 2048 rows numbered `s` (blocks are counted modulo eight). -/
def row (s : ℕ) (k : Fin 2048) : Fin 16384 := ⟨s % 8 * 2048 + k.val, by have := k.isLt; have := Nat.mod_lt s (show 0 < 8 by decide); omega⟩

/-- A sum over all rows is the sum over the eight blocks of the sums over their rows. -/
theorem sum_rows (f : Fin 16384 → EReal) : ∑ n : Fin 16384, f n = ∑ s ∈ range 8, ∑ k : Fin 2048, f (row s k) := by
  rw [sum_range, ← Fintype.sum_prod_type']
  refine (Fintype.sum_equiv (finProdFinEquiv (m := 8) (n := 2048)) _ _ fun p => ?_).symm
  refine congrArg f (Fin.ext ?_)
  show p.1.val % 8 * 2048 + p.2.val = p.2.val + 2048 * p.1.val
  rw [Nat.mod_eq_of_lt p.1.isLt]
  omega

/-- The square of the positive part. -/
def squared (z : EReal) : EReal :=
  max z (FloatOps.ofBits (F := Ideal) .f32 0x00000000#32) * max z (FloatOps.ofBits (F := Ideal) .f32 0x00000000#32)

/-- The gradient at a hidden column and an output column, of the pre-activation `h` and the incoming gradient `g`. -/
def gradient (h : (⟨2, ![16384, 4096]⟩ : Shape).Idx → EReal) (g : (⟨2, ![16384, 1024]⟩ : Shape).Idx → EReal) (f : Fin 4096) (d : Fin 1024) : EReal :=
  ∑ n : Fin 16384, squared (h (ix2 n f)) * g (ix2 n d)

section Kernel

open Cert.WeightIdeal Cert.WeightIdeal.Gen Cert.WeightIdeal.Value

/-- One block of rows: the product's entry. -/
theorem tile_apply (x y : FVec Ideal S2048x1024 .bf16) (i j : Fin 1024) :
    k0_pay1 (F := Ideal) x y (ix2 i j) = ∑ k : Fin 2048, squared (x (ix2 k i)) * y (ix2 k j) := by
  refine (Ideal.matmul_constant_zero_apply dot_S2048x1024_S2048x1024_S1024x1024_0_0_1_1_n_n none _ y (ix2 i j)).trans ?_
  refine (Fintype.sum_equiv (contrEquiv1 dot_S2048x1024_S2048x1024_S1024x1024_0_0_1_1_n_n 2048 rfl rfl) _ _ fun c => ?_)
  refine congrArg₂ (· * ·) (congrArg (fun z => squared (x z)) ?_) (congrArg y ?_)
  · exact funext fun a => match a with | ⟨0, _⟩ => rfl | ⟨1, _⟩ => rfl
  · exact funext fun a => match a with | ⟨0, _⟩ => rfl | ⟨1, _⟩ => rfl

/-! ## What a point leaves in the accumulator and in the block -/

theorem origin2 : (![0, 0] : Fin 2 → Nat) = fun _ => 0 := funext fun a => match a with | ⟨0, _⟩ => rfl | ⟨1, _⟩ => rfl
theorem origin3 : (![0, 0, 0] : Fin 3 → Nat) = fun _ => 0 := funext fun a => match a with | ⟨0, _⟩ => rfl | ⟨1, _⟩ => rfl | ⟨2, _⟩ => rfl

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .f32) (h5 : a5.IsWhole)
  (a6 : Memref sig .tc .vmem S1024x1024 .f32) (h6 : a6.IsWhole) (x y : Vec Ideal S2048x1024 .bf16) (acc : Vec Ideal S1024x1024 .f32)

/-- The first block of rows starts the accumulator. -/
theorem first (hc0 : cond0_0 i) (hc1 : ¬cond0_1 i) (hc2 : ¬cond0_2 i) :
    sout0_A_0 (F := Ideal) c i a3 h3 a4 h4 a5 h5 a6 h6 hc0 hc1 hc2 x y = k0_pay1 (F := Ideal) x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero origin2]
  unfold k0_pay2
  simp only [View.readAt_eq_ld, h3.read_unread, h4.read_unread, View.ld_unit_zero (S := S2048x1024) origin2, shapeCast_self]

/-- A later block of rows adds its product. -/
theorem later (hc0 : ¬cond0_0 i) (hc1 : cond0_1 i) (hc2 : ¬cond0_2 i) :
    sout0_B_0 (F := Ideal) c i a3 h3 a4 h4 a5 h5 a6 h6 hc0 hc1 hc2 x y acc = addf acc (k0_pay1 (F := Ideal) x y) := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S1024x1024) origin2, shapeCast_self]

/-- The last block of rows writes the sum out. -/
theorem last (hc0 : ¬cond0_0 i) (hc1 : cond0_1 i) (hc2 : cond0_2 i) :
    out0_C_2 (F := Ideal) c i a3 h3 a4 h4 a5 h5 a6 h6 hc0 hc1 hc2 x y acc
      = shapeCast S1x1024x1024 (addf acc (k0_pay1 (F := Ideal) x y)) shapeCasts_S1024x1024_S1x1024x1024 := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero (S := S1x1024x1024) origin3, View.readCov_unit_zero (S := S1024x1024) _ origin2]
  unfold k0_pay4 k0_pay3
  simp only [View.readAt_eq_ld, h3.read_unread, h4.read_unread, h6.read_unread, View.ld_unit_zero (S := S2048x1024) origin2,
    View.ld_unit_zero (S := S1024x1024) origin2, shapeCast_self]

end Cases

/-! ## The accumulator, point by point -/

variable (m : (ℓ : Loc nD τ sig) → Buf (Elt Ideal) ℓ) (c : Dev nD)

/-- The grid point of a tile of hidden columns and a block of rows. -/
def point (q : Fin 4) (s : Fin 8) : Fin cfg0.N := ⟨8 * q.val + s.val, by have := q.isLt; have := s.isLt; show _ < 32; omega⟩

theorem index0 : ∀ (q : Fin 4) (s : Fin 8), win0_0.index (point q s) 0 = s.val ∧ win0_0.index (point q s) 1 = q.val := by decide +kernel
theorem index1 : ∀ (q : Fin 4) (s : Fin 8), win0_1.index (point q s) 0 = s.val ∧ win0_1.index (point q s) 1 = 0 := by decide +kernel

/-- Column `i` of the tile of hidden columns `q`. -/
def column (q : Fin 4) (i : Fin 1024) : Fin 4096 := ⟨q.val * 1024 + i.val, by have := q.isLt; have := i.isLt; omega⟩

theorem block0 (q : Fin 4) (s : Fin 8) (k : Fin 2048) (i : Fin 1024) :
    (iblk m c 0 (point q s) : S2048x1024.Idx → EReal) (ix2 k i) = (V m c main_arg0 : S16384x4096.Idx → EReal) (ix2 (row s.val k) (column q i)) := by
  show V m c main_arg0 _ = V m c main_arg0 _
  congr 1
  funext z
  apply Fin.ext
  have hs := Nat.mod_eq_of_lt s.isLt
  match z with
  | ⟨0, _⟩ => show win0_0.index (point q s) 0 * 2048 + 1 * k.val = s.val % 8 * 2048 + k.val; rw [(index0 q s).1]; omega
  | ⟨1, _⟩ => show win0_0.index (point q s) 1 * 1024 + 1 * i.val = q.val * 1024 + i.val; rw [(index0 q s).2]; omega

theorem block1 (q : Fin 4) (s : Fin 8) (k : Fin 2048) (j : Fin 1024) :
    (iblk m c 1 (point q s) : S2048x1024.Idx → EReal) (ix2 k j) = (V m c main_arg1 : S16384x1024.Idx → EReal) (ix2 (row s.val k) j) := by
  show V m c main_arg1 _ = V m c main_arg1 _
  congr 1
  funext z
  apply Fin.ext
  have hs := Nat.mod_eq_of_lt s.isLt
  match z with
  | ⟨0, _⟩ => show win0_1.index (point q s) 0 * 2048 + 1 * k.val = s.val % 8 * 2048 + k.val; rw [(index1 q s).1]; omega
  | ⟨1, _⟩ => show win0_1.index (point q s) 1 * 1024 + 1 * j.val = j.val; rw [(index1 q s).2]; omega

/-- What a block of rows contributes. -/
def part (q : Fin 4) (i j : Fin 1024) (s : ℕ) : EReal :=
  ∑ k : Fin 2048, squared ((V m c main_arg0 : S16384x4096.Idx → EReal) (ix2 (row s k) (column q i))) * (V m c main_arg1 : S16384x1024.Idx → EReal) (ix2 (row s k) j)

theorem part_eq (q : Fin 4) (s : Fin 8) (i j : Fin 1024) :
    k0_pay1 (F := Ideal) (iblk m c 0 (point q s)) (iblk m c 1 (point q s)) (ix2 i j) = part m c q i j s.val :=
  (tile_apply _ _ i j).trans (sum_congr rfl fun k _ => congrArg₂ (· * ·) (congrArg squared (block0 m c q s k i)) (block1 m c q s k j))

/-- Before the last block, the accumulator holds the sum of the blocks so far. -/
theorem accumulated (q : Fin 4) (i j : Fin 1024) : ∀ (n : ℕ) (h : n < 7),
    (outsAt0 m c (point q ⟨n, by omega⟩).val (point q ⟨n, by omega⟩).isLt).2 (ix2 i j) = ∑ s ∈ range (n + 1), part m c q i j s := by
  intro n
  induction n with
  | zero =>
    intro h
    rw [outsAt0_A m c (point q ⟨0, by omega⟩) (by show (8 * q.val + 0) % 8 = 0; omega) (by show ¬1 ≤ (8 * q.val + 0) % 8; omega)
      (by show ¬(8 * q.val + 0) % 8 = 7; omega)]
    dsimp only
    rw [first, sum_range_one]
    exact part_eq m c q 0 i j
  | succ n ih =>
    intro h
    rw [outsAt0_B m c (point q ⟨n + 1, by omega⟩) (by show ¬(8 * q.val + (n + 1)) % 8 = 0; omega) (by show 1 ≤ (8 * q.val + (n + 1)) % 8; omega)
      (by show ¬(8 * q.val + (n + 1)) % 8 = 7; omega)]
    dsimp only
    rw [later, sum_range_succ]
    exact congrArg₂ (· + ·) (ih (by omega)) (part_eq m c q ⟨n + 1, by omega⟩ i j)

/-- The last block's point leaves the whole sum in the output's block. -/
theorem written (q : Fin 4) (i j : Fin 1024) :
    (outsAt0 m c (point q 7).val (point q 7).isLt).1 (ix3 (0 : Fin 1) i j) = gradient (V m c main_arg0) (V m c main_arg1) (column q i) j := by
  rw [outsAt0_C m c (point q 7) (by show ¬(8 * q.val + 7) % 8 = 0; omega) (by show 1 ≤ (8 * q.val + 7) % 8; omega) (by show (8 * q.val + 7) % 8 = 7; omega)]
  dsimp only
  rw [last]
  refine (shapeCast_ab_1ab_apply _ _ 0 i j).trans ?_
  unfold gradient
  rw [sum_rows, sum_range_succ]
  exact congrArg₂ (· + ·) (accumulated m c q i j 6 (by omega)) (part_eq m c q 7 i j)

/-- What the kernel's array holds. -/
theorem array_apply (q : Fin 4) (i j : Fin 1024) :
    ((dats m 0 c).arrAt 2 cfg0.N : S1x4096x1024.Idx → EReal) (ix3 (0 : Fin 1) (column q i) j)
      = gradient (V m c main_arg0) (V m c main_arg1) (column q i) j := by
  rw [final2]
  have hp : pt2Of (ix3 (0 : Fin 1) (column q i) j : S1x4096x1024.Idx) = (point q 7).val := by
    show 8 * (4 * (0 / 1 - 0) + 1 * ((q.val * 1024 + i.val) / 1024 - 0) + 1 * (j.val / 1024 - 0)) + 7 = 8 * q.val + 7
    have := i.isLt; have := j.isLt; omega
  have hl : loc2Of (ix3 (0 : Fin 1) (column q i) j : S1x4096x1024.Idx) = ix3 (0 : Fin 1) i j := by
    funext a
    apply Fin.ext
    have := i.isLt
    have := j.isLt
    match a with
    | ⟨0, _⟩ => rfl
    | ⟨1, _⟩ => show (q.val * 1024 + i.val) % 1024 = i.val; omega
    | ⟨2, _⟩ => show j.val % 1024 = j.val; omega
  unfold G2
  rw [dif_pos (by rw [hp]; exact (point q 7).isLt), hl, fold0_congr m c _ _ (point q 7).val (by rw [Nat.zero_add]; exact (point q 7).isLt) hp, ← outsAt0_sweep]
  exact written m c q i j

/-- … at every index. -/
theorem array_eq (y : S1x4096x1024.Idx) :
    ((dats m 0 c).arrAt 2 cfg0.N : S1x4096x1024.Idx → EReal) y = gradient (V m c main_arg0) (V m c main_arg1) (y 1) (y 2) := by
  have h1 : (y 1).val < 4096 := (y 1).isLt
  have e0 : (0 : Fin 1) = y 0 := Fin.ext (by have h0 : (y 0).val < 1 := (y 0).isLt; show 0 = (y 0).val; omega)
  have e1 : column ⟨(y 1).val / 1024, by omega⟩ ⟨(y 1).val % 1024, Nat.mod_lt _ (by decide)⟩ = y 1 :=
    Fin.ext (by show (y 1).val / 1024 * 1024 + (y 1).val % 1024 = (y 1).val; omega)
  have h := array_apply m c ⟨(y 1).val / 1024, by omega⟩ ⟨(y 1).val % 1024, Nat.mod_lt _ (by decide)⟩ (y 2)
  rw [e1, e0] at h
  exact (congrArg ((dats m 0 c).arrAt 2 cfg0.N : S1x4096x1024.Idx → EReal) (eq_ix3 y)).trans h

end Kernel

section Reference

open Cert.WeightRefIdeal Cert.WeightRefIdeal.Gen Cert.WeightRefIdeal.Read

/-- What the reference's array holds. -/
theorem reference_apply (h : FVec Ideal S16384x4096 .bf16) (g : FVec Ideal S16384x1024 .bf16) (y : S1x4096x1024.Idx) :
    val_main_v8 (F := Ideal) h g y = gradient h g (y 1) (y 2) := by
  have h4 : ∀ n : S16384x4096.Idx, val_main_v4 (F := Ideal) h n = squared (h n) := by
    intro n
    rw [val_main_v4_apply, val_main_v3_apply, val_main_call0_v0_apply, val_main_call0_cst_apply]
    rfl
  rw [val_main_v8_apply, val_main_v7_apply, val_main_v6_apply]
  unfold gradient
  refine sum_congr rfl fun n _ => ?_
  rw [h4, mul_comm]
  exact congrArg₂ (· * ·) (congrArg (fun z => squared (h z)) (eq_ix2 _)) (congrArg g (eq_ix2 _))

end Reference

end Cert.WeightGradient

end
-- ==== Proof.First.lean ====
/-
  THE FIRST FEED-FORWARD WEIGHT'S GRADIENT, in the order of its shards: the layer's input, transposed, times the
  pre-activation's gradient. The kernel goes over the shards' columns and adds up the products of eight blocks of 2048
  rows; the reference takes the vector-Jacobian product of the forward product and cuts its columns into four shards.
-/
module

public import proofs.«01_k».proof.Proof.Gen.FirstIdeal.Value
public import proofs.«01_k».proof.Proof.Gen.FirstRefIdeal.Read
public import proofs.«01_k».proof.Proof.Weight
public import Idealize.ShloMosaic.Lib.ValueIdx
public import Idealize.ShloMosaic.Lib.ValueLayout
public import Idealize.ShloMosaic.Lib.Tactic
public import Idealize.ShloMosaic.PureOps.Ideal.Laws

@[expose] public section

set_option maxRecDepth 16384

noncomputable section

namespace Cert.FirstGradient

open Idealize.ShloMosaic Idealize.ShloMosaic.ValueIdx Idealize.ShloMosaic.TcCoe Finset

open Cert.WeightGradient (row sum_rows origin2 origin3)

/-- The gradient at an input column and a hidden column, of the layer's input `x` and the pre-activation's gradient `g`. -/
def gradient (x : (⟨2, ![16384, 1024]⟩ : Shape).Idx → EReal) (g : (⟨2, ![16384, 4096]⟩ : Shape).Idx → EReal) (d : Fin 1024) (f : Fin 4096) : EReal :=
  ∑ n : Fin 16384, x (ix2 n d) * g (ix2 n f)

/-- Column `j` of the shard `q` of the hidden columns. -/
def column (q : Fin 4) (j : Fin 1024) : Fin 4096 := ⟨q.val * 1024 + j.val, by have := q.isLt; have := j.isLt; omega⟩

/-- What a block of rows contributes to a shard's entry. -/
def part (x : (⟨2, ![16384, 1024]⟩ : Shape).Idx → EReal) (g : (⟨2, ![16384, 4096]⟩ : Shape).Idx → EReal) (q : Fin 4) (i j : Fin 1024) (s : ℕ) : EReal :=
  ∑ k : Fin 2048, x (ix2 (row s k) i) * g (ix2 (row s k) (column q j))

section Kernel

open Cert.FirstIdeal Cert.FirstIdeal.Gen Cert.FirstIdeal.Value

/-- One block of rows: the product's entry. -/
theorem tile_apply (x y : FVec Ideal S2048x1024 .bf16) (i j : Fin 1024) :
    k0_pay1 (F := Ideal) x y (ix2 i j) = ∑ k : Fin 2048, x (ix2 k i) * y (ix2 k j) := by
  refine (Ideal.matmul_constant_zero_apply dot_S2048x1024_S2048x1024_S1024x1024_0_0_1_1_n_n none x y (ix2 i j)).trans ?_
  refine (Fintype.sum_equiv (contrEquiv1 dot_S2048x1024_S2048x1024_S1024x1024_0_0_1_1_n_n 2048 rfl rfl) _ _ fun c => ?_)
  refine congrArg₂ (· * ·) (congrArg x ?_) (congrArg y ?_)
  · exact funext fun a => match a with | ⟨0, _⟩ => rfl | ⟨1, _⟩ => rfl
  · exact funext fun a => match a with | ⟨0, _⟩ => rfl | ⟨1, _⟩ => rfl

/-! ## What a point leaves in the accumulator and in the block -/

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .f32) (h5 : a5.IsWhole)
  (a6 : Memref sig .tc .vmem S1024x1024 .f32) (h6 : a6.IsWhole) (x y : Vec Ideal S2048x1024 .bf16) (acc : Vec Ideal S1024x1024 .f32)

/-- The first block of rows starts the accumulator. -/
theorem first (hc0 : cond0_0 i) (hc1 : ¬cond0_1 i) (hc2 : ¬cond0_2 i) :
    sout0_A_0 (F := Ideal) c i a3 h3 a4 h4 a5 h5 a6 h6 hc0 hc1 hc2 x y = k0_pay1 (F := Ideal) x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero origin2]
  unfold k0_pay2
  simp only [View.readAt_eq_ld, h3.read_unread, h4.read_unread, View.ld_unit_zero (S := S2048x1024) origin2, shapeCast_self]

/-- A later block of rows adds its product. -/
theorem later (hc0 : ¬cond0_0 i) (hc1 : cond0_1 i) (hc2 : ¬cond0_2 i) :
    sout0_B_0 (F := Ideal) c i a3 h3 a4 h4 a5 h5 a6 h6 hc0 hc1 hc2 x y acc = addf acc (k0_pay1 (F := Ideal) x y) := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S1024x1024) origin2, shapeCast_self]

/-- The last block of rows writes the sum out. -/
theorem last (hc0 : ¬cond0_0 i) (hc1 : cond0_1 i) (hc2 : cond0_2 i) :
    out0_C_2 (F := Ideal) c i a3 h3 a4 h4 a5 h5 a6 h6 hc0 hc1 hc2 x y acc
      = shapeCast S1x1024x1024 (addf acc (k0_pay1 (F := Ideal) x y)) shapeCasts_S1024x1024_S1x1024x1024 := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero (S := S1x1024x1024) origin3, View.readCov_unit_zero (S := S1024x1024) _ origin2]
  unfold k0_pay4 k0_pay3
  simp only [View.readAt_eq_ld, h3.read_unread, h4.read_unread, h6.read_unread, View.ld_unit_zero (S := S2048x1024) origin2,
    View.ld_unit_zero (S := S1024x1024) origin2, shapeCast_self]

end Cases

/-! ## The accumulator, point by point -/

variable (m : (ℓ : Loc nD τ sig) → Buf (Elt Ideal) ℓ) (c : Dev nD)

/-- The grid point of a shard and a block of rows. -/
def point (q : Fin 4) (s : Fin 8) : Fin cfg0.N := ⟨8 * q.val + s.val, by have := q.isLt; have := s.isLt; show _ < 32; omega⟩

theorem index0 : ∀ (q : Fin 4) (s : Fin 8), win0_0.index (point q s) 0 = s.val ∧ win0_0.index (point q s) 1 = 0 := by decide +kernel
theorem index1 : ∀ (q : Fin 4) (s : Fin 8), win0_1.index (point q s) 0 = s.val ∧ win0_1.index (point q s) 1 = q.val := by decide +kernel

theorem block0 (q : Fin 4) (s : Fin 8) (k : Fin 2048) (i : Fin 1024) :
    (iblk m c 0 (point q s) : S2048x1024.Idx → EReal) (ix2 k i) = (V m c main_arg0 : S16384x1024.Idx → EReal) (ix2 (row s.val k) i) := by
  show V m c main_arg0 _ = V m c main_arg0 _
  congr 1
  funext z
  apply Fin.ext
  have hs := Nat.mod_eq_of_lt s.isLt
  match z with
  | ⟨0, _⟩ => show win0_0.index (point q s) 0 * 2048 + 1 * k.val = s.val % 8 * 2048 + k.val; rw [(index0 q s).1]; omega
  | ⟨1, _⟩ => show win0_0.index (point q s) 1 * 1024 + 1 * i.val = i.val; rw [(index0 q s).2]; omega

theorem block1 (q : Fin 4) (s : Fin 8) (k : Fin 2048) (j : Fin 1024) :
    (iblk m c 1 (point q s) : S2048x1024.Idx → EReal) (ix2 k j) = (V m c main_arg1 : S16384x4096.Idx → EReal) (ix2 (row s.val k) (column q j)) := by
  show V m c main_arg1 _ = V m c main_arg1 _
  congr 1
  funext z
  apply Fin.ext
  have hs := Nat.mod_eq_of_lt s.isLt
  match z with
  | ⟨0, _⟩ => show win0_1.index (point q s) 0 * 2048 + 1 * k.val = s.val % 8 * 2048 + k.val; rw [(index1 q s).1]; omega
  | ⟨1, _⟩ => show win0_1.index (point q s) 1 * 1024 + 1 * j.val = q.val * 1024 + j.val; rw [(index1 q s).2]; omega

theorem part_eq (q : Fin 4) (s : Fin 8) (i j : Fin 1024) :
    k0_pay1 (F := Ideal) (iblk m c 0 (point q s)) (iblk m c 1 (point q s)) (ix2 i j) = part (V m c main_arg0) (V m c main_arg1) q i j s.val :=
  (tile_apply _ _ i j).trans (sum_congr rfl fun k _ => congrArg₂ (fun a b : EReal => a * b) (block0 m c q s k i) (block1 m c q s k j))

/-- Before the last block, the accumulator holds the sum of the blocks so far. -/
theorem accumulated (q : Fin 4) (i j : Fin 1024) : ∀ (n : ℕ) (h : n < 7),
    (outsAt0 m c (point q ⟨n, by omega⟩).val (point q ⟨n, by omega⟩).isLt).2 (ix2 i j) = ∑ s ∈ range (n + 1), part (V m c main_arg0) (V m c main_arg1) q i j s := by
  intro n
  induction n with
  | zero =>
    intro h
    rw [outsAt0_A m c (point q ⟨0, by omega⟩) (by show (8 * q.val + 0) % 8 = 0; omega) (by show ¬1 ≤ (8 * q.val + 0) % 8; omega)
      (by show ¬(8 * q.val + 0) % 8 = 7; omega)]
    dsimp only
    rw [first, sum_range_one]
    exact part_eq m c q 0 i j
  | succ n ih =>
    intro h
    rw [outsAt0_B m c (point q ⟨n + 1, by omega⟩) (by show ¬(8 * q.val + (n + 1)) % 8 = 0; omega) (by show 1 ≤ (8 * q.val + (n + 1)) % 8; omega)
      (by show ¬(8 * q.val + (n + 1)) % 8 = 7; omega)]
    dsimp only
    rw [later, sum_range_succ]
    exact congrArg₂ (· + ·) (ih (by omega)) (part_eq m c q ⟨n + 1, by omega⟩ i j)

/-- The last block's point leaves the whole sum in the output's block. -/
theorem written (q : Fin 4) (i j : Fin 1024) :
    (outsAt0 m c (point q 7).val (point q 7).isLt).1 (ix3 (0 : Fin 1) i j) = gradient (V m c main_arg0) (V m c main_arg1) i (column q j) := by
  rw [outsAt0_C m c (point q 7) (by show ¬(8 * q.val + 7) % 8 = 0; omega) (by show 1 ≤ (8 * q.val + 7) % 8; omega) (by show (8 * q.val + 7) % 8 = 7; omega)]
  dsimp only
  rw [last]
  refine (shapeCast_ab_1ab_apply _ _ 0 i j).trans ?_
  unfold gradient
  rw [sum_rows, sum_range_succ]
  exact congrArg₂ (· + ·) (accumulated m c q i j 6 (by omega)) (part_eq m c q 7 i j)

/-- What the kernel's array holds. -/
theorem array_apply (q : Fin 4) (i j : Fin 1024) :
    ((dats m 0 c).arrAt 2 cfg0.N : S4x1024x1024.Idx → EReal) (ix3 q i j) = gradient (V m c main_arg0) (V m c main_arg1) i (column q j) := by
  rw [final2]
  have hp : pt2Of (ix3 q i j : S4x1024x1024.Idx) = (point q 7).val := by
    show 8 * (1 * (q.val / 1 - 0) + 1 * (i.val / 1024 - 0) + 1 * (j.val / 1024 - 0)) + 7 = 8 * q.val + 7
    have := i.isLt; have := j.isLt; omega
  have hl : loc2Of (ix3 q i j : S4x1024x1024.Idx) = ix3 (0 : Fin 1) i j := by
    funext a
    apply Fin.ext
    have := i.isLt
    have := j.isLt
    match a with
    | ⟨0, _⟩ => show q.val % 1 = 0; omega
    | ⟨1, _⟩ => show i.val % 1024 = i.val; omega
    | ⟨2, _⟩ => show j.val % 1024 = j.val; omega
  unfold G2
  rw [dif_pos (by rw [hp]; exact (point q 7).isLt), hl, fold0_congr m c _ _ (point q 7).val (by rw [Nat.zero_add]; exact (point q 7).isLt) hp, ← outsAt0_sweep]
  exact written m c q i j

/-- … at every index. -/
theorem array_eq (y : S4x1024x1024.Idx) :
    ((dats m 0 c).arrAt 2 cfg0.N : S4x1024x1024.Idx → EReal) y = gradient (V m c main_arg0) (V m c main_arg1) (y 1) (column (y 0) (y 2)) :=
  (congrArg ((dats m 0 c).arrAt 2 cfg0.N : S4x1024x1024.Idx → EReal) (eq_ix3 y)).trans (array_apply m c (y 0) (y 1) (y 2))

end Kernel

section Reference

open Cert.FirstRefIdeal Cert.FirstRefIdeal.Gen Cert.FirstRefIdeal.Read

/-- What the reference's array holds. -/
theorem reference_apply (x : FVec Ideal S16384x1024 .bf16) (g : FVec Ideal S16384x4096 .bf16) (y : S4x1024x1024.Idx) :
    val_main_v7 (F := Ideal) x g y = gradient x g (y 1) (column (y 0) (y 2)) := by
  have h0 : (y 0).val < 4 := (y 0).isLt
  have h1 : (y 1).val < 1024 := (y 1).isLt
  have h2 : (y 2).val < 1024 := (y 2).isLt
  rw [val_main_v7_apply, val_main_v6_apply, val_main_v5_apply, val_main_v4_apply]
  unfold gradient
  refine sum_congr rfl fun n _ => ?_
  rw [mul_comm]
  refine congrArg₂ (· * ·) (congrArg x ((eq_ix2 _).trans (congrArg (ix2 n) (Fin.ext ?_)))) (congrArg g ((eq_ix2 _).trans (congrArg (ix2 n) (Fin.ext ?_))))
  · show (((y 1).val * 4 + (y 0).val) * 1024 + (y 2).val) / 4096 = (y 1).val; omega
  · show (((y 1).val * 4 + (y 0).val) * 1024 + (y 2).val) % 4096 = (y 0).val * 1024 + (y 2).val; omega

end Reference

end Cert.FirstGradient

end
-- ==== Proof.LayerNorm.lean ====
/-
  LAYER NORM OF A ROW of 1024 numbers: its mean, the row with its mean taken off, the reciprocal root of its variance and
  the normal row; and what a kernel's operations on a tile of 512 rows make of each of them.
-/
module

public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 16384

noncomputable section

namespace Cert.LayerNorm

open Idealize.ShloMosaic Idealize.ShloMosaic.ValueIdx Finset

/-- The number of columns, 1024. -/
def width : EReal := FloatOps.ofBits (F := Ideal) .f32 0x44800000#32
/-- What is added to the variance. -/
def tiny : EReal := FloatOps.ofBits (F := Ideal) .f32 0x3727C5AC#32
/-- The factor of the residual connection, the square root of two. -/
def alpha : EReal := FloatOps.ofBits (F := Ideal) .f32 0x3FB504F3#32

def mean (y : Fin 1024 → EReal) : EReal := Ideal.div (∑ k, y k) width
def centred (y : Fin 1024 → EReal) (d : Fin 1024) : EReal := y d - mean y
def scale (y : Fin 1024 → EReal) : EReal := Ideal.rsqrt (mean (fun k => centred y k * centred y k) + tiny)
def normal (y : Fin 1024 → EReal) (d : Fin 1024) : EReal := centred y d * scale y

/-! ## A tile of 512 rows -/

abbrev Tile : Shape := ⟨2, ![512, 1024]⟩
abbrev Rows : Shape := ⟨1, ![512]⟩
abbrev Column : Shape := ⟨2, ![512, 1]⟩

/-- Row `i` of a tile. -/
abbrev rowOf (v : FVec Ideal Tile .f32) (i : Fin 512) : Fin 1024 → EReal := fun k => v (ix2 i k)

variable (v : FVec Ideal Tile .f32) (hr : Tile.Reduces [1] Rows) (hs : Rows.ShapeCasts Column) (hb : Column.Broadcasts Tile) (i : Fin 512) (d : Fin 1024) (u : Fin 1)

theorem sum_tile : multiReduction .add [1] Rows v 0x00000000#32 hr (.inl rfl) rfl (ix1 i) = ∑ k : Fin 1024, v (ix2 i k) := by
  refine (Ideal.multiReduction_add_single (s := Tile) (t := Rows) (a := 1) v 0x00000000#32 hr (.inl rfl) rfl (ix1 i)).trans ?_
  exact sum_congr rfl fun k _ => congrArg v (funext fun a => Fin.ext (match a with | ⟨0, _⟩ => rfl | ⟨1, _⟩ => rfl))

theorem mean_tile : divf (shapeCast Column (multiReduction .add [1] Rows v 0x00000000#32 hr (.inl rfl) rfl) hs)
    (broadcast Column (Scalar.ofBits (F := Ideal) .f32 0x44800000#32)) (ix2 i u) = mean (rowOf v i) :=
  congrArg (fun z => Ideal.div z width) ((shapeCast_a_a1_apply _ hs i u).trans (sum_tile v hr i))

/-- A column of row values spread over the tile. -/
theorem spread_tile (x : FVec Ideal Column .f32) : broadcastTo Tile x hb (ix2 i d) = x (ix2 i 0) :=
  broadcastTo_apply x hb (ix2 i d) (ix2 i 0) (fun a => match a with | ⟨0, _⟩ => rfl | ⟨1, _⟩ => rfl)

theorem centred_tile : subf v (broadcastTo Tile (divf (shapeCast Column (multiReduction .add [1] Rows v 0x00000000#32 hr (.inl rfl) rfl) hs)
    (broadcast Column (Scalar.ofBits (F := Ideal) .f32 0x44800000#32))) hb) (ix2 i d) = centred (rowOf v i) d :=
  congrArg (fun z => v (ix2 i d) - z) ((spread_tile hb i d _).trans (mean_tile v hr hs i 0))

theorem scale_tile (c : FVec Ideal Tile .f32) (hc : ∀ d, c (ix2 i d) = centred (rowOf v i) d) :
    rsqrt (addf (divf (shapeCast Column (multiReduction .add [1] Rows (mulf c c) 0x00000000#32 hr (.inl rfl) rfl) hs)
      (broadcast Column (Scalar.ofBits (F := Ideal) .f32 0x44800000#32))) (broadcast Column (Scalar.ofBits (F := Ideal) .f32 0x3727C5AC#32))) (ix2 i u)
      = scale (rowOf v i) :=
  congrArg (fun z => Ideal.rsqrt (z + tiny)) ((mean_tile (mulf c c) hr hs i u).trans
    (congrArg mean (funext fun k => congrArg₂ (fun a b : EReal => a * b) (hc k) (hc k))))

end Cert.LayerNorm

end
-- ==== Proof.NormAlgebra.lean ====
/-
  THE GRADIENT OF A LAYER NORM'S ROW. `back` is the formula of a hand-written backward pass; `chain` follows the chain
  rule through the centred row, its variance, the reciprocal root and the product. They agree on rows of real numbers:
  the centred row sums to zero, and the square of the reciprocal root times the variance is one.
-/
module

public import proofs.«01_k».proof.Proof.LayerNorm
public import proofs.«01_k».proof.Proof.Reals

@[expose] public section

set_option maxRecDepth 16384

noncomputable section

namespace Cert.LayerNorm

open Idealize.ShloMosaic Finset
open Cert.Dilated (IsReal coe_sum div_coe)

/-- Half, taken off. -/
def minusHalf : EReal := FloatOps.ofBits (F := Ideal) .f32 0xBF000000#32
def two : EReal := FloatOps.ofBits (F := Ideal) .f32 0x40000000#32

/-- The gradient of a row `y` at the gradient `p` of its normal row, in one formula. -/
def back (y p : Fin 1024 → EReal) (d : Fin 1024) : EReal :=
  scale y * (p d - mean p - normal y d * mean (fun k => p k * normal y k))

/-- The number the gradient of the variance is, divided by the number of columns. -/
def spread (y p : Fin 1024 → EReal) : EReal :=
  Ideal.div ((∑ k, centred y k * p k) * (minusHalf * Ideal.div (scale y) (mean (fun k => centred y k * centred y k) + tiny))) width

/-- The gradient of a row by the chain rule. -/
def chain (y p : Fin 1024 → EReal) (d : Fin 1024) : EReal :=
  p d * scale y + spread y p * (two * centred y d)
    + Ideal.div ((∑ k, -(p k * scale y)) + ∑ k, -(spread y p * (two * centred y k))) width

/-! ## The constants -/

/-- The number a word stands for, from its sign, its exponent and its fraction. -/
theorem word_eq (b : BitVec 32) (n : Bool) (ex fr : ℕ) (hn : (b.extractLsb' 31 1 == 1#1) = n) (he : (b.extractLsb' 23 8).toNat = ex)
    (hf : (b.extractLsb' 0 23).toNat = fr) (h0 : ex ≠ 0) (h1 : ex ≠ 255) :
    Ideal.ofBits .f32 b = (((if n then -1 else 1) * (2 ^ 23 + fr : ℕ) * (2 : ℝ) ^ ((ex : ℤ) - 127 - 23) : ℝ) : EReal) := by
  unfold Ideal.ofBits Ideal.ieee
  simp only [Nat.reduceAdd, hn, he, hf]
  rw [if_neg (by simpa using h1), if_neg h0]
  norm_num

theorem width_eq : width = ((1024 : ℝ) : EReal) :=
  (word_eq 0x44800000#32 false 137 0 (by decide) (by decide) (by decide) (by decide) (by decide)).trans (by norm_num)

theorem two_eq : two = ((2 : ℝ) : EReal) :=
  (word_eq 0x40000000#32 false 128 0 (by decide) (by decide) (by decide) (by decide) (by decide)).trans (by norm_num)

theorem minusHalf_eq : minusHalf = ((-(1 / 2) : ℝ) : EReal) :=
  (word_eq 0xBF000000#32 true 126 0 (by decide) (by decide) (by decide) (by decide) (by decide)).trans (by norm_num)

theorem tiny_eq : ∃ e : ℝ, 0 < e ∧ tiny = (e : EReal) :=
  ⟨_, by norm_num, word_eq 0x3727C5AC#32 false 110 2606508 (by decide) (by decide) (by decide) (by decide) (by decide)⟩

/-! ## Rows of real numbers -/

section Real

variable (y p : Fin 1024 → ℝ) (d : Fin 1024)

theorem mean_coe : mean (fun k => (y k : EReal)) = ((∑ k, y k) / 1024 : ℝ) := by
  unfold mean
  rw [← coe_sum, width_eq, div_coe _ (by norm_num)]

/-- The centred row of real numbers. -/
def centre (d : Fin 1024) : ℝ := y d - (∑ k, y k) / 1024

theorem centred_coe : centred (fun k => (y k : EReal)) d = (centre y d : EReal) := by
  unfold centred centre
  rw [mean_coe, ← EReal.coe_sub]

theorem sum_centre : ∑ k, centre y k = 0 := by
  unfold centre
  rw [sum_sub_distrib, sum_const, card_univ, Fintype.card_fin, nsmul_eq_mul]
  push_cast
  ring

theorem square_coe : mean (fun k => centred (fun k => (y k : EReal)) k * centred (fun k => (y k : EReal)) k)
    = ((∑ k, centre y k * centre y k) / 1024 : ℝ) := by
  rw [← mean_coe]
  exact congrArg mean (funext fun k => by rw [centred_coe, EReal.coe_mul])

/-- The two formulas agree. -/
theorem chain_coe : chain (fun k => (y k : EReal)) (fun k => (p k : EReal)) d = back (fun k => (y k : EReal)) (fun k => (p k : EReal)) d := by
  obtain ⟨e, he, hte⟩ := tiny_eq
  have hv : 0 < (∑ k, centre y k * centre y k) / 1024 + e :=
    add_pos_of_nonneg_of_pos (div_nonneg (sum_nonneg fun k _ => mul_self_nonneg _) (by norm_num)) he
  obtain ⟨v, hve⟩ : ∃ v : ℝ, v = (∑ k, centre y k * centre y k) / 1024 + e := ⟨_, rfl⟩
  rw [← hve] at hv
  have hvar : mean (fun k => centred (fun k => (y k : EReal)) k * centred (fun k => (y k : EReal)) k) + tiny = (v : EReal) := by
    rw [square_coe, hte, ← EReal.coe_add, hve]
  obtain ⟨r, hr⟩ : ∃ r : ℝ, r = (√v)⁻¹ := ⟨_, rfl⟩
  have hs : scale (fun k => (y k : EReal)) = (r : EReal) := by
    unfold scale
    rw [hvar, Ideal.rsqrt_coe, if_neg (not_lt.2 hv.le), if_neg hv.ne', hr]
  have hrr : r * r * v = 1 := by
    rw [hr, ← mul_inv, Real.mul_self_sqrt hv.le, inv_mul_cancel₀ hv.ne']
  have hn : ∀ k, normal (fun k => (y k : EReal)) k = ((centre y k * r : ℝ) : EReal) := fun k => by
    unfold normal
    rw [centred_coe, hs, EReal.coe_mul]
  have hq : spread (fun k => (y k : EReal)) (fun k => (p k : EReal)) = (((∑ k, centre y k * p k) * (-(1 / 2) * (r / v)) / 1024 : ℝ) : EReal) := by
    unfold spread
    rw [hvar, hs, div_coe _ hv.ne', minusHalf_eq, width_eq,
      show ∑ k, centred (fun k => (y k : EReal)) k * (p k : EReal) = ((∑ k, centre y k * p k : ℝ) : EReal) by
        rw [coe_sum]; exact sum_congr rfl fun k _ => by rw [centred_coe, EReal.coe_mul],
      ← EReal.coe_mul, ← EReal.coe_mul, div_coe _ (by norm_num)]
  obtain ⟨q, hqe⟩ : ∃ q : ℝ, q = (∑ k, centre y k * p k) * (-(1 / 2) * (r / v)) / 1024 := ⟨_, rfl⟩
  rw [← hqe] at hq
  have hm : mean (fun k => (p k : EReal) * normal (fun k => (y k : EReal)) k) = (((∑ k, centre y k * p k) * r / 1024 : ℝ) : EReal) := by
    rw [sum_mul, ← mean_coe]
    exact congrArg mean (funext fun k => by rw [hn, ← EReal.coe_mul]; congr 1; ring)
  have h1 : ∑ k, -((p k : EReal) * (r : EReal)) = ((-((∑ k, p k) * r) : ℝ) : EReal) := by
    rw [sum_mul, ← sum_neg_distrib, coe_sum]
    exact sum_congr rfl fun k _ => by rw [EReal.coe_neg, EReal.coe_mul]
  have h2 : ∑ k, -((q : EReal) * (two * centred (fun k => (y k : EReal)) k)) = ((0 : ℝ) : EReal) := by
    rw [show (0 : ℝ) = ∑ k, -(q * (2 * centre y k)) by
      rw [sum_neg_distrib, ← mul_sum, ← mul_sum, sum_centre]; ring, coe_sum]
    exact sum_congr rfl fun k _ => by rw [two_eq, centred_coe, EReal.coe_neg, EReal.coe_mul, EReal.coe_mul]
  unfold chain back
  rw [hs, hq, h1, h2, two_eq, centred_coe, hn, hm, mean_coe, width_eq]
  simp only [← EReal.coe_mul, ← EReal.coe_add, ← EReal.coe_sub]
  rw [div_coe _ (by norm_num), ← EReal.coe_add]
  congr 1
  rw [hqe]
  have hrv : r / v = r * r * r := by
    rw [div_eq_iff hv.ne']
    calc r = r * (r * r * v) := by rw [hrr, mul_one]
      _ = r * r * r * v := by ring
  rw [hrv]
  ring

end Real

/-- They agree on rows whose every entry is real. -/
theorem chain_eq {y p : Fin 1024 → EReal} (hy : ∀ k, IsReal (y k)) (hp : ∀ k, IsReal (p k)) (d : Fin 1024) : chain y p d = back y p d := by
  choose y' hy' using hy
  choose p' hp' using hp
  obtain rfl : (fun k => (y' k : EReal)) = y := funext hy'
  obtain rfl : (fun k => (p' k : EReal)) = p := funext hp'
  exact chain_coe y' p' d

end Cert.LayerNorm

end
-- ==== Proof.Norm.lean ====
/-
  THE GRADIENT THROUGH THE FIRST LAYER NORM. The gradient that arrives at the layer norm's output is the scaled residual's
  gradient plus the product with the first weight, transposed. From it come the gradients of the rows before the layer norm,
  of the gain and of the bias. The kernel takes the rows in 32 blocks of 512 and adds the gain's and the bias's gradients up
  block by block; the reference takes the vector-Jacobian product of the forward lines over all rows.
-/
module

public import proofs.«01_k».proof.Proof.Gen.NormIdeal.Value
public import proofs.«01_k».proof.Proof.Gen.NormRefIdeal.Read
public import proofs.«01_k».proof.Proof.NormAlgebra
public import proofs.«01_k».proof.Proof.Weight
public import Idealize.ShloMosaic.Lib.StableHlo.RunRead

@[expose] public section

set_option maxRecDepth 16384

noncomputable section

namespace Cert.NormGradient

open Idealize.ShloMosaic Idealize.ShloMosaic.ValueIdx Idealize.ShloMosaic.TcCoe Finset

open Cert.LayerNorm
open Cert.Dilated (IsReal)
open Cert.WeightGradient (origin2)

/-- Row `i` of the block of 512 rows numbered `t` (blocks are counted modulo 32). -/
def row (t : ℕ) (i : Fin 512) : Fin 16384 := ⟨t % 32 * 512 + i.val, by have := i.isLt; have := Nat.mod_lt t (show 0 < 32 by decide); omega⟩

/-- A sum over all rows is the sum over the 32 blocks of the sums over their rows. -/
theorem sum_rows (f : Fin 16384 → EReal) : ∑ n : Fin 16384, f n = ∑ t ∈ range 32, ∑ i : Fin 512, f (row t i) := by
  rw [sum_range, ← Fintype.sum_prod_type']
  refine (Fintype.sum_equiv (finProdFinEquiv (m := 32) (n := 512)) _ _ fun p => ?_).symm
  refine congrArg f (Fin.ext ?_)
  show p.1.val % 32 * 512 + p.2.val = p.2.val + 512 * p.1.val
  rw [Nat.mod_eq_of_lt p.1.isLt]
  omega

section Gradient

variable {K : ℕ} (h : (⟨2, ![16384, K]⟩ : Shape).Idx → EReal) (w : (⟨2, ![1024, K]⟩ : Shape).Idx → EReal)
  (x y : (⟨2, ![16384, 1024]⟩ : Shape).Idx → EReal) (g : (⟨1, ![1024]⟩ : Shape).Idx → EReal)

/-- The gradient at the layer norm's output, at a row and a column. -/
def arriving (s : Fin 16384) (d : Fin 1024) : EReal := alpha * x (ix2 s d) + ∑ k : Fin K, h (ix2 s k) * w (ix2 d k)

/-- The gradient at the normal row. -/
def weighted (s : Fin 16384) (d : Fin 1024) : EReal := arriving h w x s d * g (ix1 d)

/-- A row before the layer norm. -/
def before (s : Fin 16384) (d : Fin 1024) : EReal := y (ix2 s d)

/-- What one row adds to the gradient of the gain. -/
def gainPart (d : Fin 1024) (s : Fin 16384) : EReal := arriving h w x s d * normal (before y s) d

end Gradient

section Kernel

open Cert.NormIdeal Cert.NormIdeal.Gen Cert.NormIdeal.Value

section Tile

variable (x : FVec Ideal S512x1024 .f32) (h : FVec Ideal S512x4096 .bf16) (w : FVec Ideal S1024x4096 .bf16) (y : FVec Ideal S512x1024 .f32)
  (g : FVec Ideal S1x1024 .f32) (i : Fin 512) (d : Fin 1024) (u : Fin 1)

theorem arriving_tile : k0_pay7 (F := Ideal) x h w (ix2 i d) = alpha * x (ix2 i d) + ∑ k : Fin 4096, h (ix2 i k) * w (ix2 d k) := by
  refine congrArg (fun z : EReal => alpha * x (ix2 i d) + z) ?_
  refine (Ideal.matmul_constant_zero_apply dot_S512x4096_S1024x4096_S512x1024_1_1_0_0_n_n none h w (ix2 i d)).trans ?_
  refine (Fintype.sum_equiv (contrEquiv1 dot_S512x4096_S1024x4096_S512x1024_1_1_0_0_n_n 4096 rfl rfl) _ _ fun c => ?_)
  refine congrArg₂ (· * ·) (congrArg h ?_) (congrArg w ?_)
  · exact funext fun a => match a with | ⟨0, _⟩ => rfl | ⟨1, _⟩ => rfl
  · exact funext fun a => match a with | ⟨0, _⟩ => rfl | ⟨1, _⟩ => rfl

theorem centred_part : k0_pay8 (F := Ideal) y (ix2 i d) = centred (rowOf y i) d :=
  centred_tile y reduces_S512x1024_S512 shapeCasts_S512_S512x1 broadcasts_S512x1_S512x1024 i d

theorem scale_part : k0_pay9 (F := Ideal) y (ix2 i u) = scale (rowOf y i) :=
  scale_tile y reduces_S512x1024_S512 shapeCasts_S512_S512x1 i u _ (centred_part y i)

theorem normal_part : k0_pay10 (F := Ideal) y (ix2 i d) = normal (rowOf y i) d :=
  congrArg₂ (fun p q : EReal => p * q) (centred_part y i d) ((spread_tile broadcasts_S512x1_S512x1024 i d _).trans (scale_part y i 0))

/-- A row of the weighted gradient's tile. -/
def tileRow (k : Fin 1024) : EReal := k0_pay7 (F := Ideal) x h w (ix2 i k) * g (ix2 0 k)

theorem weighted_part : k0_pay11 (F := Ideal) x h w g (ix2 i d) = tileRow x h w g i d :=
  congrArg (fun z : EReal => k0_pay7 (F := Ideal) x h w (ix2 i d) * z)
    ((broadcastTo_1b_ab_apply _ broadcasts_S1x1024_S512x1024 i d).trans (congrFun (shapeCast_self g _) _))

theorem product_part : k0_pay12 (F := Ideal) x h w y g (ix2 i u) = mean (fun k => tileRow x h w g i k * normal (rowOf y i) k) :=
  (mean_tile (mulf (k0_pay11 (F := Ideal) x h w g) (k0_pay10 (F := Ideal) y)) reduces_S512x1024_S512 shapeCasts_S512_S512x1 i u).trans
    (congrArg mean (funext fun k => congrArg₂ (fun p q : EReal => p * q) (weighted_part x h w g i k) (normal_part y i k)))

theorem mean_part : k0_pay13 (F := Ideal) x h w g (ix2 i d) = mean (tileRow x h w g i) :=
  (spread_tile broadcasts_S512x1_S512x1024 i d _).trans
    ((mean_tile (k0_pay11 (F := Ideal) x h w g) reduces_S512x1024_S512 shapeCasts_S512_S512x1 i 0).trans
      (congrArg mean (funext fun k => weighted_part x h w g i k)))

/-- The tile of the rows' gradients. -/
abbrev tile : FVec Ideal S512x1024 .f32 :=
  k0_pay1 (F := Ideal) (k0_pay9 y) (k0_pay10 y) (k0_pay11 x h w g) (k0_pay12 x h w y g) (k0_pay13 x h w g)

theorem tile_apply : tile x h w y g (ix2 i d) = back (rowOf y i) (tileRow x h w g i) d := by
  refine congrArg₂ (fun p q : EReal => p * q) ((spread_tile broadcasts_S512x1_S512x1024 i d _).trans (scale_part y i 0)) ?_
  refine congrArg₂ (fun p q : EReal => p - q) (congrArg₂ (fun p q : EReal => p - q) (weighted_part x h w g i d) (mean_part x h w g i d)) ?_
  exact congrArg₂ (fun p q : EReal => p * q) (normal_part y i d) ((spread_tile broadcasts_S512x1_S512x1024 i d _).trans (product_part x h w y g i 0))

theorem column_tile (v : FVec Ideal S512x1024 .f32) :
    shapeCast S1x1024 (multiReduction .add [0] S1024 v 0x00000000#32 reduces_S512x1024_S1024 (.inl rfl) rfl) shapeCasts_S1024_S1x1024 (ix2 0 d)
      = ∑ i : Fin 512, v (ix2 i d) := by
  refine (shapeCast_a_1a_apply _ shapeCasts_S1024_S1x1024 0 d).trans ?_
  refine (Ideal.multiReduction_add_single (s := S512x1024) (t := S1024) (a := 0) v 0x00000000#32 reduces_S512x1024_S1024 (.inl rfl) rfl (ix1 d)).trans ?_
  exact sum_congr rfl fun k _ => congrArg v (funext fun a => Fin.ext (match a with | ⟨0, _⟩ => rfl | ⟨1, _⟩ => rfl))

theorem gain_tile (a b : FVec Ideal S512x1024 .f32) (v : FVec Ideal S1x1024 .f32) :
    k0_pay5 (F := Ideal) a b v (ix2 0 d) = v (ix2 0 d) + ∑ i : Fin 512, a (ix2 i d) * b (ix2 i d) :=
  congrArg₂ (fun p q : EReal => p + q) (congrFun (shapeCast_self v _) _) (column_tile d (mulf a b))

theorem bias_tile (a : FVec Ideal S512x1024 .f32) (v : FVec Ideal S1x1024 .f32) :
    k0_pay6 (F := Ideal) a v (ix2 0 d) = v (ix2 0 d) + ∑ i : Fin 512, a (ix2 i d) :=
  congrArg₂ (fun p q : EReal => p + q) (congrFun (shapeCast_self v _) _) (column_tile d a)

end Tile

/-! ## What a point leaves in the blocks -/

section Cases

variable (c : Dev nD) (i : grid0.Coords)
  (a1 : Memref sig .tc .vmem S512x4096 .bf16) (h1 : a1.IsWhole)
  (a2 : Memref sig .tc .vmem S1024x4096 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (h : Vec Ideal S512x4096 .bf16) (w : Vec Ideal S1024x4096 .bf16) (x y : Vec Ideal S512x1024 .f32) (g : Vec Ideal S1x1024 .f32)
  (e f : Vec Ideal S1x1024 .f32)

theorem out5_A (hc : cond0_0 i) : out0_A_5 (F := Ideal) c i a1 h1 a2 h2 a3 h3 a4 h4 a5 h5 a6 h6 a7 h7 a8 h8 a9 h9 hc h w x y g
    = tile x h w y g := by
  unfold out0_A_5
  rw [View.read_writes_eq_canon _ _ _ (cover0_A_5 c i a1 h1 a2 h2 a3 h3 a4 h4 a5 h5 a6 h6 a7 h7 a8 h8 a9 h9 hc h w x y g)]
  unfold kernelRun0_A
  dsimp only
  sl_unfold_words
  rw [View.canon_unit_zero (S := S512x1024) origin2]
  simp only [View.readAt_eq_ld, h1.read_unread, h2.read_unread, h3.read_unread, h4.read_unread, h5.read_unread, View.ld_unit_zero (S := S512x4096) origin2,
    View.ld_unit_zero (S := S1024x4096) origin2, View.ld_unit_zero (S := S512x1024) origin2, View.ld_unit_zero (S := S1x1024) origin2]

theorem out5_B (hc : ¬cond0_0 i) : out0_B_5 (F := Ideal) c i a1 h1 a2 h2 a3 h3 a4 h4 a5 h5 a6 h6 a7 h7 a8 h8 a9 h9 hc h w x y g e f
    = tile x h w y g := by
  unfold out0_B_5
  rw [View.read_writes_eq_canon _ _ _ (cover0_B_5 c i a1 h1 a2 h2 a3 h3 a4 h4 a5 h5 a6 h6 a7 h7 a8 h8 a9 h9 hc h w x y g e f)]
  unfold kernelRun0_B
  dsimp only
  sl_unfold_words
  rw [View.canon_unit_zero (S := S512x1024) origin2]
  simp only [View.readAt_eq_ld, h1.read_unread, h2.read_unread, h3.read_unread, h4.read_unread, h5.read_unread, h8.read_unread, h9.read_unread, View.ld_unit_zero (S := S512x4096) origin2,
    View.ld_unit_zero (S := S1024x4096) origin2, View.ld_unit_zero (S := S512x1024) origin2, View.ld_unit_zero (S := S1x1024) origin2]

theorem out6_A (hc : cond0_0 i) : out0_A_6 (F := Ideal) c i a1 h1 a2 h2 a3 h3 a4 h4 a5 h5 a6 h6 a7 h7 a8 h8 a9 h9 hc h w x y g
    = k0_pay2 (F := Ideal) (k0_pay9 y) (k0_pay10 y) (k0_pay11 x h w g) (k0_pay12 x h w y g) (k0_pay13 x h w g) := by
  unfold out0_A_6
  rw [View.read_writes_eq_canon _ _ _ (cover0_A_6 c i a1 h1 a2 h2 a3 h3 a4 h4 a5 h5 a6 h6 a7 h7 a8 h8 a9 h9 hc h w x y g)]
  unfold kernelRun0_A
  dsimp only
  sl_unfold_words
  rw [View.canon_unit_zero (S := S512x1024) origin2]
  simp only [View.readAt_eq_ld, h1.read_unread, h2.read_unread, h3.read_unread, h4.read_unread, h5.read_unread, View.ld_unit_zero (S := S512x4096) origin2,
    View.ld_unit_zero (S := S1024x4096) origin2, View.ld_unit_zero (S := S512x1024) origin2, View.ld_unit_zero (S := S1x1024) origin2]

theorem out6_B (hc : ¬cond0_0 i) : out0_B_6 (F := Ideal) c i a1 h1 a2 h2 a3 h3 a4 h4 a5 h5 a6 h6 a7 h7 a8 h8 a9 h9 hc h w x y g e f
    = k0_pay2 (F := Ideal) (k0_pay9 y) (k0_pay10 y) (k0_pay11 x h w g) (k0_pay12 x h w y g) (k0_pay13 x h w g) := by
  unfold out0_B_6
  rw [View.read_writes_eq_canon _ _ _ (cover0_B_6 c i a1 h1 a2 h2 a3 h3 a4 h4 a5 h5 a6 h6 a7 h7 a8 h8 a9 h9 hc h w x y g e f)]
  unfold kernelRun0_B
  dsimp only
  sl_unfold_words
  rw [View.canon_unit_zero (S := S512x1024) origin2]
  simp only [View.readAt_eq_ld, h1.read_unread, h2.read_unread, h3.read_unread, h4.read_unread, h5.read_unread, h8.read_unread, h9.read_unread, View.ld_unit_zero (S := S512x4096) origin2,
    View.ld_unit_zero (S := S1024x4096) origin2, View.ld_unit_zero (S := S512x1024) origin2, View.ld_unit_zero (S := S1x1024) origin2]

theorem out7_A (hc : cond0_0 i) : out0_A_7 (F := Ideal) c i a1 h1 a2 h2 a3 h3 a4 h4 a5 h5 a6 h6 a7 h7 a8 h8 a9 h9 hc h w x y g
    = k0_pay5 (F := Ideal) (k0_pay7 x h w) (k0_pay10 y) (k0_pay3 (F := Ideal)) := by
  unfold out0_A_7
  rw [View.read_writes_eq_canon _ _ _ (cover0_A_7 c i a1 h1 a2 h2 a3 h3 a4 h4 a5 h5 a6 h6 a7 h7 a8 h8 a9 h9 hc h w x y g)]
  unfold kernelRun0_A
  dsimp only
  sl_unfold_words
  rw [View.canon_cons_unit_zero (S := S1x1024) origin2, View.readCov_unit_zero (S := S1x1024) _ origin2]
  simp only [View.readAt_eq_ld, h1.read_unread, h2.read_unread, h3.read_unread, h4.read_unread, h5.read_unread, View.ld_unit_zero (S := S512x4096) origin2,
    View.ld_unit_zero (S := S1024x4096) origin2, View.ld_unit_zero (S := S512x1024) origin2, View.ld_unit_zero (S := S1x1024) origin2]

theorem out7_B (hc : ¬cond0_0 i) : out0_B_7 (F := Ideal) c i a1 h1 a2 h2 a3 h3 a4 h4 a5 h5 a6 h6 a7 h7 a8 h8 a9 h9 hc h w x y g e f
    = k0_pay5 (F := Ideal) (k0_pay7 x h w) (k0_pay10 y) e := by
  unfold out0_B_7
  rw [View.read_writes_eq_canon _ _ _ (cover0_B_7 c i a1 h1 a2 h2 a3 h3 a4 h4 a5 h5 a6 h6 a7 h7 a8 h8 a9 h9 hc h w x y g e f)]
  unfold kernelRun0_B
  dsimp only
  sl_unfold_words
  rw [View.canon_unit_zero (S := S1x1024) origin2]
  simp only [View.readAt_eq_ld, h1.read_unread, h2.read_unread, h3.read_unread, h4.read_unread, h5.read_unread, h8.read_unread, h9.read_unread, View.ld_unit_zero (S := S512x4096) origin2,
    View.ld_unit_zero (S := S1024x4096) origin2, View.ld_unit_zero (S := S512x1024) origin2, View.ld_unit_zero (S := S1x1024) origin2]

theorem out8_A (hc : cond0_0 i) : out0_A_8 (F := Ideal) c i a1 h1 a2 h2 a3 h3 a4 h4 a5 h5 a6 h6 a7 h7 a8 h8 a9 h9 hc h w x y g
    = k0_pay6 (F := Ideal) (k0_pay7 x h w) (k0_pay4 (F := Ideal)) := by
  unfold out0_A_8
  rw [View.read_writes_eq_canon _ _ _ (cover0_A_8 c i a1 h1 a2 h2 a3 h3 a4 h4 a5 h5 a6 h6 a7 h7 a8 h8 a9 h9 hc h w x y g)]
  unfold kernelRun0_A
  dsimp only
  sl_unfold_words
  rw [View.canon_cons_unit_zero (S := S1x1024) origin2, View.readCov_unit_zero (S := S1x1024) _ origin2]
  simp only [View.readAt_eq_ld, h1.read_unread, h2.read_unread, h3.read_unread, h4.read_unread, h5.read_unread, View.ld_unit_zero (S := S512x4096) origin2,
    View.ld_unit_zero (S := S1024x4096) origin2, View.ld_unit_zero (S := S512x1024) origin2, View.ld_unit_zero (S := S1x1024) origin2]

theorem out8_B (hc : ¬cond0_0 i) : out0_B_8 (F := Ideal) c i a1 h1 a2 h2 a3 h3 a4 h4 a5 h5 a6 h6 a7 h7 a8 h8 a9 h9 hc h w x y g e f
    = k0_pay6 (F := Ideal) (k0_pay7 x h w) f := by
  unfold out0_B_8
  rw [View.read_writes_eq_canon _ _ _ (cover0_B_8 c i a1 h1 a2 h2 a3 h3 a4 h4 a5 h5 a6 h6 a7 h7 a8 h8 a9 h9 hc h w x y g e f)]
  unfold kernelRun0_B
  dsimp only
  sl_unfold_words
  rw [View.canon_unit_zero (S := S1x1024) origin2]
  simp only [View.readAt_eq_ld, h1.read_unread, h2.read_unread, h3.read_unread, h4.read_unread, h5.read_unread, h8.read_unread, h9.read_unread, View.ld_unit_zero (S := S512x4096) origin2,
    View.ld_unit_zero (S := S1024x4096) origin2, View.ld_unit_zero (S := S512x1024) origin2, View.ld_unit_zero (S := S1x1024) origin2]

end Cases

/-! ## The blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true ↔ t.val = 31 := by decide +kernel
theorem flush8 : ∀ t : Fin cfg0.N, (cfg0.win 8).flush t = true ↔ t.val = 31 := by decide +kernel

variable (m : (ℓ : Loc nD τ sig) → Buf (Elt Ideal) ℓ) (c : Dev nD)

theorem block0 (t : Fin cfg0.N) (i : Fin 512) (k : Fin 4096) :
    (iblk m c 0 t : S512x4096.Idx → EReal) (ix2 i k) = (V m c main_arg0 : S16384x4096.Idx → EReal) (ix2 (row t.val i) k) := by
  show V m c main_arg0 _ = V m c main_arg0 _
  congr 1
  funext z
  apply Fin.ext
  have ht := Nat.mod_eq_of_lt (show t.val < 32 from t.isLt)
  match z with
  | ⟨0, _⟩ => show win0_0.index t 0 * 512 + 1 * i.val = t.val % 32 * 512 + i.val; rw [(index0 t).1]; omega
  | ⟨1, _⟩ => show win0_0.index t 1 * 4096 + 1 * k.val = k.val; rw [(index0 t).2]; omega

theorem block1 (t : Fin cfg0.N) (d : Fin 1024) (k : Fin 4096) :
    (iblk m c 1 t : S1024x4096.Idx → EReal) (ix2 d k) = (V m c main_arg1 : S1024x4096.Idx → EReal) (ix2 d k) := by
  show V m c main_arg1 _ = V m c main_arg1 _
  congr 1
  funext z
  apply Fin.ext
  match z with
  | ⟨0, _⟩ => show win0_1.index t 0 * 1024 + 1 * d.val = d.val; rw [(index1 t).1]; omega
  | ⟨1, _⟩ => show win0_1.index t 1 * 4096 + 1 * k.val = k.val; rw [(index1 t).2]; omega

theorem block2 (t : Fin cfg0.N) (i : Fin 512) (d : Fin 1024) :
    (iblk m c 2 t : S512x1024.Idx → EReal) (ix2 i d) = (V m c main_arg2 : S16384x1024.Idx → EReal) (ix2 (row t.val i) d) := by
  show V m c main_arg2 _ = V m c main_arg2 _
  congr 1
  funext z
  apply Fin.ext
  have ht := Nat.mod_eq_of_lt (show t.val < 32 from t.isLt)
  match z with
  | ⟨0, _⟩ => show win0_2.index t 0 * 512 + 1 * i.val = t.val % 32 * 512 + i.val; rw [(index2 t).1]; omega
  | ⟨1, _⟩ => show win0_2.index t 1 * 1024 + 1 * d.val = d.val; rw [(index2 t).2]; omega

theorem block3 (t : Fin cfg0.N) (i : Fin 512) (d : Fin 1024) :
    (iblk m c 3 t : S512x1024.Idx → EReal) (ix2 i d) = (V m c main_arg3 : S16384x1024.Idx → EReal) (ix2 (row t.val i) d) := by
  show V m c main_arg3 _ = V m c main_arg3 _
  congr 1
  funext z
  apply Fin.ext
  have ht := Nat.mod_eq_of_lt (show t.val < 32 from t.isLt)
  match z with
  | ⟨0, _⟩ => show win0_3.index t 0 * 512 + 1 * i.val = t.val % 32 * 512 + i.val; rw [(index3 t).1]; omega
  | ⟨1, _⟩ => show win0_3.index t 1 * 1024 + 1 * d.val = d.val; rw [(index3 t).2]; omega

/-- The gain as the kernel finds it: the argument as one row. -/
theorem gain_eq (d : Fin 1024) : (V m c main_v0 : S1x1024.Idx → EReal) (ix2 0 d) = (V m c main_arg4 : S1024.Idx → EReal) (ix1 d) := by
  have h : (V m c main_v0 : S1x1024.Idx → EReal) = shapeCast S1x1024 (V m c main_arg4 : S1024.Idx → EReal) shapeCasts_S1024_S1x1024 := by
    rw [V_main_arg4]
    unfold V hostOps0
    after_reads_simp
    rfl
  exact (congrFun h (ix2 0 d)).trans (shapeCast_a_1a_apply _ shapeCasts_S1024_S1x1024 0 d)

theorem block4 (t : Fin cfg0.N) (d : Fin 1024) :
    (iblk m c 4 t : S1x1024.Idx → EReal) (ix2 0 d) = (V m c main_arg4 : S1024.Idx → EReal) (ix1 d) := by
  refine Eq.trans ?_ (gain_eq m c d)
  show V m c main_v0 _ = V m c main_v0 _
  congr 1
  funext z
  apply Fin.ext
  match z with
  | ⟨0, _⟩ => show win0_4.index t 0 * 1 + 1 * 0 = 0; rw [(index4 t).1]
  | ⟨1, _⟩ => show win0_4.index t 1 * 1024 + 1 * d.val = d.val; rw [(index4 t).2]; omega

/-- The arriving gradients of a block are those of its rows. -/
theorem arriving_block (t : Fin cfg0.N) (i : Fin 512) (d : Fin 1024) :
    k0_pay7 (F := Ideal) (iblk m c 2 t) (iblk m c 0 t) (iblk m c 1 t) (ix2 i d)
      = arriving (V m c main_arg0) (V m c main_arg1) (V m c main_arg2) (row t.val i) d := by
  refine (arriving_tile _ _ _ i d).trans ?_
  refine congrArg₂ (fun p q : EReal => p + q) (congrArg (fun z : EReal => alpha * z) (block2 m c t i d)) (sum_congr rfl fun k _ => ?_)
  exact congrArg₂ (fun p q : EReal => p * q) (block0 m c t i k) (block1 m c t d k)

theorem before_block (t : Fin cfg0.N) (i : Fin 512) : rowOf (iblk m c 3 t) i = before (V m c main_arg3) (row t.val i) :=
  funext fun k => block3 m c t i k

/-- So are the rows' gradients. -/
theorem back_block (t : Fin cfg0.N) (i : Fin 512) (d : Fin 1024) :
    tile (iblk m c 2 t) (iblk m c 0 t) (iblk m c 1 t) (iblk m c 3 t) (iblk m c 4 t) (ix2 i d)
      = back (before (V m c main_arg3) (row t.val i))
          (weighted (V m c main_arg0) (V m c main_arg1) (V m c main_arg2) (V m c main_arg4) (row t.val i)) d := by
  refine (tile_apply _ _ _ _ _ i d).trans ?_
  rw [before_block]
  refine congrArg (fun p => back (before (V m c main_arg3) (row t.val i)) p d) (funext fun k => ?_)
  exact congrArg₂ (fun p q : EReal => p * q) (arriving_block m c t i k) (block4 m c t k)

/-! ## The arrays -/

/-- At every point the first output's block is the tile of the rows' gradients. -/
theorem point5 (t : Fin cfg0.N) :
    (outsAt0 m c t.val t.isLt).1 = tile (iblk m c 2 t) (iblk m c 0 t) (iblk m c 1 t) (iblk m c 3 t) (iblk m c 4 t) := by
  by_cases h0 : t.val % 32 = 0
  · rw [outsAt0_A m c t h0]
    dsimp only
    exact out5_A ..
  · rw [outsAt0_B m c t h0]
    dsimp only
    exact out5_B ..

/-- The second's is the same tile in the shorter format. -/
theorem point6 (t : Fin cfg0.N) (z : S512x1024.Idx) :
    (outsAt0 m c t.val t.isLt).2.1 z = tile (iblk m c 2 t) (iblk m c 0 t) (iblk m c 1 t) (iblk m c 3 t) (iblk m c 4 t) z := by
  by_cases h0 : t.val % 32 = 0
  · rw [outsAt0_A m c t h0]
    dsimp only
    rw [out6_A]
    rfl
  · rw [outsAt0_B m c t h0]
    dsimp only
    rw [out6_B]
    rfl

theorem row_cover (s : Fin 16384) : ∃ (t : Fin cfg0.N) (i : Fin 512), row t.val i = s :=
  ⟨⟨s.val / 512, by have := s.isLt; show _ < 32; omega⟩, ⟨s.val % 512, Nat.mod_lt _ (by decide)⟩,
    Fin.ext (by have := s.isLt; show s.val / 512 % 32 * 512 + s.val % 512 = s.val; omega)⟩

/-- What the kernel's first array holds: the rows' gradients. -/
theorem array5 (y : S16384x1024.Idx) :
    ((dats m 0 c).arrAt 5 cfg0.N : S16384x1024.Idx → EReal) y
      = back (before (V m c main_arg3) (y 0)) (weighted (V m c main_arg0) (V m c main_arg1) (V m c main_arg2) (V m c main_arg4) (y 0)) (y 1) := by
  obtain ⟨t, i, ht⟩ := row_cover (y 0)
  have hv := congrFun ((blocks5 m c t (flush5 t)).trans (flushed5 m c t)) (ix2 i (y 1) : S512x1024.Idx)
  have hm := Nat.mod_eq_of_lt (show t.val < 32 from t.isLt)
  rw [← ht]
  refine Eq.trans ?_ (hv.trans ((congrFun (point5 m c t) (ix2 i (y 1) : S512x1024.Idx)).trans (back_block m c t i (y 1))))
  refine congrArg ((dats m 0 c).arrAt 5 cfg0.N : S16384x1024.Idx → EReal) (funext fun z => Fin.ext ?_)
  match z with
  | ⟨0, _⟩ => show (y 0).val = win0_5.index t 0 * 512 + 1 * i.val; rw [(index5 t).1, ← ht]; show t.val % 32 * 512 + i.val = _; omega
  | ⟨1, _⟩ => show (y 1).val = win0_5.index t 1 * 1024 + 1 * (y 1).val; rw [(index5 t).2]; omega

/-- The second holds them in the shorter format. -/
theorem array6 (y : S16384x1024.Idx) :
    ((dats m 0 c).arrAt 6 cfg0.N : S16384x1024.Idx → EReal) y
      = back (before (V m c main_arg3) (y 0)) (weighted (V m c main_arg0) (V m c main_arg1) (V m c main_arg2) (V m c main_arg4) (y 0)) (y 1) := by
  obtain ⟨t, i, ht⟩ := row_cover (y 0)
  have hv := congrFun ((blocks6 m c t (flush6 t)).trans (flushed6 m c t)) (ix2 i (y 1) : S512x1024.Idx)
  have hm := Nat.mod_eq_of_lt (show t.val < 32 from t.isLt)
  rw [← ht]
  refine Eq.trans ?_ (hv.trans ((point6 m c t (ix2 i (y 1) : S512x1024.Idx)).trans (back_block m c t i (y 1))))
  refine congrArg ((dats m 0 c).arrAt 6 cfg0.N : S16384x1024.Idx → EReal) (funext fun z => Fin.ext ?_)
  match z with
  | ⟨0, _⟩ => show (y 0).val = win0_6.index t 0 * 512 + 1 * i.val; rw [(index6 t).1, ← ht]; show t.val % 32 * 512 + i.val = _; omega
  | ⟨1, _⟩ => show (y 1).val = win0_6.index t 1 * 1024 + 1 * (y 1).val; rw [(index6 t).2]; omega

/-- A block adds its rows' part of the gain's gradient. -/
theorem gain_step (t : Fin cfg0.N) (d : Fin 1024) (v : FVec Ideal S1x1024 .f32) :
    k0_pay5 (F := Ideal) (k0_pay7 (iblk m c 2 t) (iblk m c 0 t) (iblk m c 1 t)) (k0_pay10 (iblk m c 3 t)) v (ix2 0 d)
      = v (ix2 0 d) + ∑ i : Fin 512, (gainPart (V m c main_arg0) (V m c main_arg1) (V m c main_arg2) (V m c main_arg3) d) (row t.val i) := by
  refine (gain_tile d _ _ v).trans (congrArg (fun z : EReal => v (ix2 0 d) + z) (sum_congr rfl fun i _ => ?_))
  exact congrArg₂ (fun p q : EReal => p * q) (arriving_block m c t i d)
    ((normal_part _ i d).trans (congrArg (fun r => normal r d) (before_block m c t i)))

/-- After each point the gain's block holds the sum over the rows so far. -/
theorem gain_accumulated (d : Fin 1024) : ∀ (n : ℕ) (h : n < cfg0.N),
    (outsAt0 m c n h).2.2.1 (ix2 0 d) = ∑ t ∈ range (n + 1), ∑ i : Fin 512, (gainPart (V m c main_arg0) (V m c main_arg1) (V m c main_arg2) (V m c main_arg3) d) (row t i) := by
  intro n
  induction n with
  | zero =>
    intro h
    rw [outsAt0_A m c ⟨0, h⟩ rfl]
    dsimp only
    rw [out7_A, sum_range_one]
    exact (gain_step m c ⟨0, h⟩ d _).trans ((congrArg (· + _) Ideal.ofBits_zero_f32).trans (zero_add _))
  | succ n ih =>
    intro h
    have hn : ¬(n + 1) % 32 = 0 := by have : n + 1 < 32 := h; omega
    rw [outsAt0_B m c ⟨n + 1, h⟩ hn]
    dsimp only
    rw [out7_B, sum_range_succ]
    exact (gain_step m c ⟨n + 1, h⟩ d _).trans (congrArg (· + _) (ih (Nat.lt_of_succ_lt h)))

/-- After the last point it holds the sum over all rows. -/
theorem gain_last (d : Fin 1024) (n : ℕ) (h : n < cfg0.N) (hn : n = 31) :
    (outsAt0 m c n h).2.2.1 (ix2 0 d) = ∑ s : Fin 16384, (gainPart (V m c main_arg0) (V m c main_arg1) (V m c main_arg2) (V m c main_arg3) d) s := by
  rw [sum_rows, gain_accumulated, hn]

theorem array7_apply (d : Fin 1024) :
    ((dats m 0 c).arrAt 7 cfg0.N : S1x1024.Idx → EReal) (ix2 0 d) = ∑ s : Fin 16384, (gainPart (V m c main_arg0) (V m c main_arg1) (V m c main_arg2) (V m c main_arg3) d) s := by
  have hl : 31 < cfg0.N := by show 31 < 32; decide
  obtain ⟨t, ht⟩ : ∃ t : Fin cfg0.N, t = ⟨31, hl⟩ := ⟨_, rfl⟩
  have hf : (cfg0.win 7).flush t = true := (flush7 t).2 (by rw [ht])
  have hb := ((dats m 0 c).read_blk_arrAt_eq_flushed 7 (fun t t' ht ht' hne => absurd (Fin.ext (((flush7 t).1 ht).trans ((flush7 t').1 ht').symm)) hne)
    cfg0.N t t.isLt hf).trans (flushed7 m c t)
  refine Eq.trans ?_ ((congrFun hb (ix2 0 d : S1x1024.Idx)).trans (gain_last m c d t.val t.isLt (congrArg Fin.val ht)))
  refine congrArg ((dats m 0 c).arrAt 7 cfg0.N : S1x1024.Idx → EReal) (funext fun z => Fin.ext ?_)
  match z with
  | ⟨0, _⟩ => show 0 = win0_7.index t 0 * 1 + 1 * 0; rw [(index7 t).1]
  | ⟨1, _⟩ => show d.val = win0_7.index t 1 * 1024 + 1 * d.val; rw [(index7 t).2]; omega

/-- What the kernel's array of the gain's gradient holds. -/
theorem array7 (y : S1x1024.Idx) :
    ((dats m 0 c).arrAt 7 cfg0.N : S1x1024.Idx → EReal) y = ∑ s : Fin 16384, (gainPart (V m c main_arg0) (V m c main_arg1) (V m c main_arg2) (V m c main_arg3) (y 1)) s := by
  have e0 : (0 : Fin 1) = y 0 := Fin.ext (by have h0 : (y 0).val < 1 := (y 0).isLt; show 0 = (y 0).val; omega)
  have h := array7_apply m c (y 1)
  rw [e0] at h
  exact (congrArg ((dats m 0 c).arrAt 7 cfg0.N : S1x1024.Idx → EReal) (eq_ix2 y)).trans h

/-- A block adds its rows' part of the bias's gradient. -/
theorem bias_step (t : Fin cfg0.N) (d : Fin 1024) (v : FVec Ideal S1x1024 .f32) :
    k0_pay6 (F := Ideal) (k0_pay7 (iblk m c 2 t) (iblk m c 0 t) (iblk m c 1 t)) v (ix2 0 d)
      = v (ix2 0 d) + ∑ i : Fin 512, (fun s => arriving (V m c main_arg0) (V m c main_arg1) (V m c main_arg2) s d) (row t.val i) := by
  refine (bias_tile d _ v).trans (congrArg (fun z : EReal => v (ix2 0 d) + z) (sum_congr rfl fun i _ => ?_))
  exact arriving_block m c t i d

/-- After each point the bias's block holds the sum over the rows so far. -/
theorem bias_accumulated (d : Fin 1024) : ∀ (n : ℕ) (h : n < cfg0.N),
    (outsAt0 m c n h).2.2.2 (ix2 0 d) = ∑ t ∈ range (n + 1), ∑ i : Fin 512, (fun s => arriving (V m c main_arg0) (V m c main_arg1) (V m c main_arg2) s d) (row t i) := by
  intro n
  induction n with
  | zero =>
    intro h
    rw [outsAt0_A m c ⟨0, h⟩ rfl]
    dsimp only
    rw [out8_A, sum_range_one]
    exact (bias_step m c ⟨0, h⟩ d _).trans ((congrArg (· + _) Ideal.ofBits_zero_f32).trans (zero_add _))
  | succ n ih =>
    intro h
    have hn : ¬(n + 1) % 32 = 0 := by have : n + 1 < 32 := h; omega
    rw [outsAt0_B m c ⟨n + 1, h⟩ hn]
    dsimp only
    rw [out8_B, sum_range_succ]
    exact (bias_step m c ⟨n + 1, h⟩ d _).trans (congrArg (· + _) (ih (Nat.lt_of_succ_lt h)))

/-- After the last point it holds the sum over all rows. -/
theorem bias_last (d : Fin 1024) (n : ℕ) (h : n < cfg0.N) (hn : n = 31) :
    (outsAt0 m c n h).2.2.2 (ix2 0 d) = ∑ s : Fin 16384, (fun s => arriving (V m c main_arg0) (V m c main_arg1) (V m c main_arg2) s d) s := by
  rw [sum_rows, bias_accumulated, hn]

theorem array8_apply (d : Fin 1024) :
    ((dats m 0 c).arrAt 8 cfg0.N : S1x1024.Idx → EReal) (ix2 0 d) = ∑ s : Fin 16384, (fun s => arriving (V m c main_arg0) (V m c main_arg1) (V m c main_arg2) s d) s := by
  have hl : 31 < cfg0.N := by show 31 < 32; decide
  obtain ⟨t, ht⟩ : ∃ t : Fin cfg0.N, t = ⟨31, hl⟩ := ⟨_, rfl⟩
  have hf : (cfg0.win 8).flush t = true := (flush8 t).2 (by rw [ht])
  have hb := ((dats m 0 c).read_blk_arrAt_eq_flushed 8 (fun t t' ht ht' hne => absurd (Fin.ext (((flush8 t).1 ht).trans ((flush8 t').1 ht').symm)) hne)
    cfg0.N t t.isLt hf).trans (flushed8 m c t)
  refine Eq.trans ?_ ((congrFun hb (ix2 0 d : S1x1024.Idx)).trans (bias_last m c d t.val t.isLt (congrArg Fin.val ht)))
  refine congrArg ((dats m 0 c).arrAt 8 cfg0.N : S1x1024.Idx → EReal) (funext fun z => Fin.ext ?_)
  match z with
  | ⟨0, _⟩ => show 0 = win0_8.index t 0 * 1 + 1 * 0; rw [(index8 t).1]
  | ⟨1, _⟩ => show d.val = win0_8.index t 1 * 1024 + 1 * d.val; rw [(index8 t).2]; omega

/-- What the kernel's array of the bias's gradient holds. -/
theorem array8 (y : S1x1024.Idx) :
    ((dats m 0 c).arrAt 8 cfg0.N : S1x1024.Idx → EReal) y = ∑ s : Fin 16384, (fun s => arriving (V m c main_arg0) (V m c main_arg1) (V m c main_arg2) s (y 1)) s := by
  have e0 : (0 : Fin 1) = y 0 := Fin.ext (by have h0 : (y 0).val < 1 := (y 0).isLt; show 0 = (y 0).val; omega)
  have h := array8_apply m c (y 1)
  rw [e0] at h
  exact (congrArg ((dats m 0 c).arrAt 8 cfg0.N : S1x1024.Idx → EReal) (eq_ix2 y)).trans h

end Kernel

section Reference

open Cert.NormRefIdeal Cert.NormRefIdeal.Gen Cert.NormRefIdeal.Read

/-- A host sum's constant is zero. -/
theorem from_zero {c : EReal} (h : c = 0) (f g : EReal) (e : f = g) : c + f = g := by rw [h, zero_add, e]

variable (h : FVec Ideal S16384x4096 .bf16) (w : FVec Ideal S1024x4096 .bf16) (x y : FVec Ideal S16384x1024 .f32) (g : FVec Ideal S1024 .f32)

/-- A column vector's entry is the vector's entry at its row. -/
theorem index50 (i : S16384x1.Idx) : idx_main_v50 i = ix1 (n := 16384) (i 0) := funext fun a => Fin.ext (by
  match a with
  | ⟨0, _⟩ => have h1 : (i 1).val < 1 := (i 1).isLt; show (i 0).val * 1 + (i 1).val = (i 0).val; omega)

theorem index56 (i : S16384x1.Idx) : idx_main_v56 i = ix1 (n := 16384) (i 0) := index50 i

theorem index64 (i : S16384x1.Idx) : idx_main_v64 i = ix1 (n := 16384) (i 0) := index50 i

/-- A row vector's entry is the vector's entry at its column. -/
theorem index44 (i : S1x1024.Idx) : idx_main_v44 i = ix1 (n := 1024) (i 1) := funext fun a => Fin.ext (by
  match a with
  | ⟨0, _⟩ => have h0 : (i 0).val < 1 := (i 0).isLt; show (i 0).val * 1024 + (i 1).val = (i 1).val; omega)

theorem index40 (i : S1x1024.Idx) : idx_main_v40 i = ix1 (n := 1024) (i 1) := index44 i

/-- The gradient that arrives at the layer norm's output. -/
theorem reference_arriving (z : S16384x1024.Idx) : val_main_v38 (F := Ideal) h w x z = arriving h w x (z 0) (z 1) := by
  rw [val_main_v38_apply, val_main_v35_apply, val_main_v37_apply, val_main_v36_apply]
  refine (add_comm (G := EReal) _ _).trans ?_
  refine congrArg₂ (fun p q : EReal => p + q) (congrArg (fun u => alpha * x u) (eq_ix2 z)) (sum_congr rfl fun k _ => ?_)
  rw [val_main_v0_apply, val_main_v1_apply]
  exact congrArg₂ (fun p q : EReal => p * q) (congrArg h (eq_ix2 _)) (congrArg w (eq_ix2 _))

theorem reference_before (z : S16384x1024.Idx) : y z = before y (z 0) (z 1) := congrArg y (eq_ix2 z)

theorem reference_mean (i : S16384x1.Idx) : val_main_v6 (F := Ideal) y i = mean (before y (i 0)) := by
  rw [val_main_v6_apply, val_main_v4_apply, val_main_v3_apply, val_main_v5_apply]
  exact congrArg (fun z => Ideal.div z width) (from_zero Ideal.ofBits_zero_f32 _ _ (sum_congr rfl fun k _ => reference_before y _))

theorem reference_centred (z : S16384x1024.Idx) : val_main_v8 (F := Ideal) y z = centred (before y (z 0)) (z 1) := by
  rw [val_main_v8_apply, val_main_v7_apply, reference_mean, reference_before y z]
  rfl

theorem reference_centred_again (z : S16384x1024.Idx) : val_main_v17 (F := Ideal) y z = centred (before y (z 0)) (z 1) := by
  rw [val_main_v17_apply, val_main_v16_apply, reference_mean, reference_before y z]
  rfl

theorem reference_variance (i : S16384x1.Idx) :
    val_main_v19 (F := Ideal) y i = mean (fun k => centred (before y (i 0)) k * centred (before y (i 0)) k) + tiny := by
  rw [val_main_v19_apply, val_main_v15_apply, val_main_v13_apply, val_main_v12_apply, val_main_v14_apply, val_main_v18_apply]
  refine congrArg (fun z => Ideal.div z width + tiny) (from_zero Ideal.ofBits_zero_f32 _ _ (sum_congr rfl fun k _ => ?_))
  rw [val_main_v9_apply, reference_centred]
  rfl

theorem reference_scale (i : S16384x1.Idx) : val_main_v20 (F := Ideal) y i = scale (before y (i 0)) := by
  rw [val_main_v20_apply, reference_variance]
  rfl

theorem reference_slope (i : S16384x1.Idx) : val_main_v23 (F := Ideal) y i
    = minusHalf * Ideal.div (scale (before y (i 0))) (mean (fun k => centred (before y (i 0)) k * centred (before y (i 0)) k) + tiny) := by
  rw [val_main_v23_apply, val_main_v22_apply, val_main_v21_apply, reference_scale, reference_variance]
  rfl

theorem reference_normal (z : S16384x1024.Idx) : val_main_v25 (F := Ideal) y z = normal (before y (z 0)) (z 1) := by
  rw [val_main_v25_apply, val_main_v24_apply, reference_centred_again, reference_scale]
  rfl

theorem reference_weighted (z : S16384x1024.Idx) : val_main_v46 (F := Ideal) h w x g z = weighted h w x g (z 0) (z 1) := by
  rw [val_main_v46_apply, val_main_v45_apply, val_main_v26_apply, reference_arriving]
  exact congrArg (fun u => arriving h w x (z 0) (z 1) * g u) (eq_ix1 _)

/-- The gradient of the variance, divided by the number of columns. -/
theorem reference_spread (i : S16384.Idx) : val_main_v59 (F := Ideal) h w x y g i = spread (before y (i 0)) (weighted h w x g (i 0)) := by
  rw [val_main_v59_apply]
  refine from_zero Ideal.ofBits_zero_f32 _ _ ((Fin.sum_univ_one _).trans ?_)
  rw [val_main_v58_apply, val_main_v53_apply, val_main_v50_apply, index50, val_main_v49_apply, val_main_v57_apply, reference_slope]
  refine congrArg (fun z : EReal => Ideal.div (z * _) width) (from_zero Ideal.ofBits_zero_f32 _ _ (sum_congr rfl fun k _ => ?_))
  rw [val_main_v48_apply, reference_centred_again, reference_weighted]
  rfl

theorem reference_scaled (z : S16384x1024.Idx) :
    val_main_v52 (F := Ideal) h w x y g z = weighted h w x g (z 0) (z 1) * scale (before y (z 0)) := by
  rw [val_main_v52_apply, val_main_v51_apply, reference_weighted, reference_scale]
  rfl

theorem reference_turned (z : S16384x1024.Idx) : val_main_v61 (F := Ideal) h w x y g z
    = spread (before y (z 0)) (weighted h w x g (z 0)) * (two * centred (before y (z 0)) (z 1)) := by
  rw [val_main_v61_apply, val_main_v60_apply, val_main_v11_apply, val_main_v10_apply, reference_spread, reference_centred]
  rfl

/-- The gradient of the rows, by the chain rule. -/
theorem reference_chain (z : S16384x1024.Idx) : val_main_v71 (F := Ideal) h w x y g z = chain (before y (z 0)) (weighted h w x g (z 0)) (z 1) := by
  rw [val_main_v71_apply, val_main_v65_apply, val_main_v70_apply, val_main_v69_apply, reference_scaled, reference_turned]
  refine congrArg (fun q : EReal => weighted h w x g (z 0) (z 1) * scale (before y (z 0))
    + spread (before y (z 0)) (weighted h w x g (z 0)) * (two * centred (before y (z 0)) (z 1)) + q) ?_
  refine from_zero Ideal.ofBits_zero_f32 _ _ ((Fin.sum_univ_one _).trans ?_)
  rw [val_main_v68_apply, val_main_v66_apply, val_main_v56_apply, index56, val_main_v55_apply, val_main_v64_apply, index64, val_main_v63_apply, val_main_v67_apply]
  refine congrArg₂ (fun p q : EReal => Ideal.div (p + q) width) (from_zero Ideal.ofBits_zero_f32 _ _ (sum_congr rfl fun k _ => ?_))
    (from_zero Ideal.ofBits_zero_f32 _ _ (sum_congr rfl fun k _ => ?_))
  · rw [val_main_v54_apply, reference_scaled]
    rfl
  · rw [val_main_v62_apply, reference_turned]
    rfl

/-- The same gradient a second time, for the product that follows. -/
theorem reference_chain_again (z : S16384x1024.Idx) : val_main_v72 (F := Ideal) h w x y g z = chain (before y (z 0)) (weighted h w x g (z 0)) (z 1) := by
  rw [val_main_v72_apply, reference_chain]
  rfl

/-- The gradient of the gain. -/
theorem reference_gain (z : S1x1024.Idx) : val_main_v73 (F := Ideal) h w x y z = ∑ s : Fin 16384, gainPart h w x y (z 1) s := by
  rw [val_main_v73_apply, val_main_v47_apply]
  refine from_zero Ideal.ofBits_zero_f32 _ _ ((Fin.sum_univ_one _).trans ?_)
  rw [val_main_v44_apply, index44, val_main_v43_apply]
  refine from_zero Ideal.ofBits_zero_f32 _ _ (sum_congr rfl fun s _ => ?_)
  rw [val_main_v42_apply, reference_normal, reference_arriving]
  exact mul_comm (G := EReal) _ _

/-- The gradient of the bias. -/
theorem reference_bias (z : S1x1024.Idx) : val_main_v74 (F := Ideal) h w x z = ∑ s : Fin 16384, arriving h w x s (z 1) := by
  rw [val_main_v74_apply, val_main_v41_apply]
  refine from_zero Ideal.ofBits_zero_f32 _ _ ((Fin.sum_univ_one _).trans ?_)
  rw [val_main_v40_apply, index40, val_main_v39_apply]
  exact from_zero Ideal.ofBits_zero_f32 _ _ (sum_congr rfl fun s _ => reference_arriving h w x _)

end Reference

/-! ## Real arguments -/

theorem alpha_real : IsReal alpha := ⟨_, word_eq 0x3FB504F3#32 false 127 3474675 (by decide) (by decide) (by decide) (by decide) (by decide)⟩

/-- On real arguments the gradient at the normal row is real. -/
theorem weighted_real {K : ℕ} {h : (⟨2, ![16384, K]⟩ : Shape).Idx → EReal} {w : (⟨2, ![1024, K]⟩ : Shape).Idx → EReal}
    {x : (⟨2, ![16384, 1024]⟩ : Shape).Idx → EReal} {g : (⟨1, ![1024]⟩ : Shape).Idx → EReal}
    (hh : ∀ i, IsReal (h i)) (hw : ∀ i, IsReal (w i)) (hx : ∀ i, IsReal (x i)) (hg : ∀ i, IsReal (g i)) (s : Fin 16384) (d : Fin 1024) :
    IsReal (weighted h w x g s d) :=
  ((alpha_real.mul (hx _)).add (IsReal.sum _ fun _ _ => (hh _).mul (hw _))).mul (hg _)

end Cert.NormGradient

end
-- ==== Proof.NormResult.lean ====
/-
  THE FIRST LAYER NORM'S GRADIENT ON FINITE ARGUMENTS. What the precondition says of the five arguments, and from it that the
  reference's chain rule and the kernel's closed form give the same gradient.
-/
module

public import proofs.«01_k».proof.Defs
public import proofs.«01_k».proof.Proof.Norm
public import proofs.«01_k».proof.Proof.Result
public import Idealize.ShloMosaic.Lib.ReduceAll

@[expose] public section

set_option maxRecDepth 16384

noncomputable section

namespace Cert.NormGradient

open Idealize.ShloMosaic Idealize.ShloMosaic.ValueIdx Idealize.ShloMosaic.TcCoe

open Cert.LayerNorm
open Cert.Dilated (IsReal both_ones real_of_below infinity_bf16)

/-! ## The precondition -/

theorem infinity_f32 : Ideal.ofBits .f32 0x7F800000#32 = ⊤ := by simp [Ideal.ofBits, Ideal.ieee]

/-- The facts the predicate's own program states. -/
theorem norm_facts : Cert.Pre_finite_norm.Facts :=
  ⟨by decide, by decide, by decide, by decide, by decide, by decide, by decide, by decide, by decide⟩

/-- An array whose magnitudes all lie below infinity is real. -/
theorem real_of_all {s u : Shape} {e : FTy} {axes : List (Fin s.rank)} {t : Shape} [Subsingleton t.Idx] (x : FVec Ideal s e) (v : s.Idx → EReal)
    (hv : ∀ i, v i = ⊤) (one : u.Idx → BitVec 1) (r : s.ReducesTo axes t) (hu : 0 < u.numel) (j : t.Idx)
    (h : Host.reduce IntOp.andi (fun i => Ideal.cmp .olt (max (x i) (-(x i))) (v i)) one r hu j = 1#1) (i : s.Idx) : IsReal (x i) :=
  real_of_below (by rw [← hv i]; exact Host.reduce_andi_all _ one r hu j h i)

theorem all_real [Cert.Pre_finite_norm.Facts] {h : FVec Ideal ⟨2, ![16384, 4096]⟩ .bf16} {w : FVec Ideal ⟨2, ![1024, 4096]⟩ .bf16}
    {x y : FVec Ideal ⟨2, ![16384, 1024]⟩ .f32} {g : FVec Ideal ⟨1, ![1024]⟩ .f32}
    (e : Cert.Pre_finite_norm.fn (F := Ideal) h w x y g = fun _ => 1#1) :
    (∀ i, IsReal (h i)) ∧ (∀ i, IsReal (w i)) ∧ (∀ i, IsReal (x i)) ∧ (∀ i, IsReal (y i)) ∧ (∀ i, IsReal (g i)) := by
  have j : Cert.Pre_finite_norm.S_.Idx := fun a => a.elim0
  haveI : Subsingleton Cert.Pre_finite_norm.S_.Idx := ⟨fun a b => funext fun k => k.elim0⟩
  have o := both_ones (congrFun e j)
  have o1 := both_ones o.1
  have o2 := both_ones o1.1
  have o3 := both_ones o1.2
  exact ⟨real_of_all h _ (fun _ => infinity_bf16) _ _ _ j o2.1, real_of_all w _ (fun _ => infinity_bf16) _ _ _ j o2.2,
    real_of_all x _ (fun _ => infinity_f32) _ _ _ j o3.1, real_of_all y _ (fun _ => infinity_f32) _ _ _ j o3.2,
    real_of_all g _ (fun _ => infinity_f32) _ _ _ j o.2⟩

/-- On real arguments the reference's gradient of the rows is the kernel's. -/
theorem reference_rows {h : FVec Ideal ⟨2, ![16384, 4096]⟩ .bf16} {w : FVec Ideal ⟨2, ![1024, 4096]⟩ .bf16}
    {x y : FVec Ideal ⟨2, ![16384, 1024]⟩ .f32} {g : FVec Ideal ⟨1, ![1024]⟩ .f32}
    (r : (∀ i, IsReal (h i)) ∧ (∀ i, IsReal (w i)) ∧ (∀ i, IsReal (x i)) ∧ (∀ i, IsReal (y i)) ∧ (∀ i, IsReal (g i)))
    (s : Fin 16384) (d : Fin 1024) : chain (before y s) (weighted h w x g s) d = back (before y s) (weighted h w x g s) d :=
  chain_eq (fun _ => r.2.2.2.1 _) (fun k => weighted_real r.1 r.2.1 r.2.2.1 r.2.2.2.2 s k) d

end Cert.NormGradient

end
-- ==== Proof.Hidden.lean ====
/-
  THE FEED-FORWARD BLOCK'S PRE-ACTIVATION: the layer's input times the first weight. The kernel tiles the rows and the
  hidden columns by 1024; the reference takes one product.
-/
module

public import proofs.«01_k».proof.Proof.Gen.HiddenIdeal.Value
public import proofs.«01_k».proof.Proof.Gen.HiddenRefIdeal.Read
public import proofs.«01_k».proof.Proof.Gate
public import Idealize.ShloMosaic.Lib.ValueIdx
public import Idealize.ShloMosaic.PureOps.Ideal.Laws

@[expose] public section

set_option maxRecDepth 16384

noncomputable section

namespace Cert.HiddenProduct

open Idealize.ShloMosaic Idealize.ShloMosaic.ValueIdx Idealize.ShloMosaic.TcCoe Finset

open Cert.GateGradient (row column origin)

/-- The product at a row and a hidden column. -/
def product (x : (⟨2, ![16384, 1024]⟩ : Shape).Idx → EReal) (w : (⟨2, ![1024, 4096]⟩ : Shape).Idx → EReal) (s : Fin 16384) (f : Fin 4096) : EReal :=
  ∑ k : Fin 1024, x (ix2 s k) * w (ix2 k f)

section Kernel

open Cert.HiddenIdeal Cert.HiddenIdeal.Gen Cert.HiddenIdeal.Value

/-- One tile: the product's entry. -/
theorem tile_apply (x w : FVec Ideal S1024x1024 .bf16) (i j : Fin 1024) :
    k0_pay1 (F := Ideal) x w (ix2 i j) = ∑ k : Fin 1024, x (ix2 i k) * w (ix2 k j) := by
  refine (Ideal.matmul_constant_zero_apply dot_S1024x1024_S1024x1024_S1024x1024_1_0_0_1_n_n none x w (ix2 i j)).trans ?_
  refine (Fintype.sum_equiv (contrEquiv1 dot_S1024x1024_S1024x1024_S1024x1024_1_0_0_1_n_n 1024 rfl rfl) _ _ fun c => ?_)
  congr 1
  · exact congrArg x (funext fun a => match a with | ⟨0, _⟩ => rfl | ⟨1, _⟩ => rfl)
  · exact congrArg w (funext fun a => match a with | ⟨0, _⟩ => rfl | ⟨1, _⟩ => rfl)

/-- The grid point of a row tile and a column tile. -/
def point (a : Fin 16) (b : Fin 4) : Fin cfg0.N := ⟨a.val * 4 + b.val, by have := a.isLt; have := b.isLt; show _ < 64; omega⟩

theorem index0 : ∀ (a : Fin 16) (b : Fin 4), win0_0.index (point a b) 0 = a.val ∧ win0_0.index (point a b) 1 = 0 := by decide +kernel
theorem index1 : ∀ (a : Fin 16) (b : Fin 4), win0_1.index (point a b) 0 = 0 ∧ win0_1.index (point a b) 1 = b.val := by decide +kernel
theorem index2 : ∀ (a : Fin 16) (b : Fin 4), win0_2.index (point a b) 0 = a.val ∧ win0_2.index (point a b) 1 = b.val := by decide +kernel
theorem flush2 : ∀ (a : Fin 16) (b : Fin 4), (cfg0.win 2).flush (point a b) = true := by decide +kernel

variable (m : (ℓ : Loc nD τ sig) → Buf (Elt Ideal) ℓ) (c : Dev nD)

theorem block0 (a : Fin 16) (b : Fin 4) (i k : Fin 1024) :
    (iblk m c 0 (point a b) : S1024x1024.Idx → EReal) (ix2 i k) = (V m c main_arg0 : S16384x1024.Idx → EReal) (ix2 (row a i) k) := by
  show V m c main_arg0 _ = V m c main_arg0 _
  congr 1
  funext z
  apply Fin.ext
  match z with
  | ⟨0, _⟩ => show win0_0.index (point a b) 0 * 1024 + 1 * i.val = a.val * 1024 + i.val; rw [(index0 a b).1]; omega
  | ⟨1, _⟩ => show win0_0.index (point a b) 1 * 1024 + 1 * k.val = k.val; rw [(index0 a b).2]; omega

theorem block1 (a : Fin 16) (b : Fin 4) (k j : Fin 1024) :
    (iblk m c 1 (point a b) : S1024x1024.Idx → EReal) (ix2 k j) = (V m c main_arg1 : S1024x4096.Idx → EReal) (ix2 k (column b j)) := by
  show V m c main_arg1 _ = V m c main_arg1 _
  congr 1
  funext z
  apply Fin.ext
  match z with
  | ⟨0, _⟩ => show win0_1.index (point a b) 0 * 1024 + 1 * k.val = k.val; rw [(index1 a b).1]; omega
  | ⟨1, _⟩ => show win0_1.index (point a b) 1 * 1024 + 1 * j.val = b.val * 1024 + j.val; rw [(index1 a b).2]; omega

/-- The body's one store covers the block and its loads read the blocks whole. -/
theorem out_eq (x w : FVec Ideal S1024x1024 .bf16) : out0_2 (F := Ideal) x w = k0_pay1 (F := Ideal) x w := by
  unfold out0_2
  rw [View.canon_unit_zero (S := S1024x1024) origin]
  simp only [View.ld_unit_zero (S := S1024x1024) origin]

/-- What the kernel's array holds. -/
theorem array_apply (a : Fin 16) (b : Fin 4) (i j : Fin 1024) :
    ((dats m 0 c).arrAt 2 cfg0.N : S16384x4096.Idx → EReal) (ix2 (row a i) (column b j))
      = product (V m c main_arg0) (V m c main_arg1) (row a i) (column b j) := by
  have hb := blocks2 m c (point a b) (flush2 a b)
  rw [flushed2] at hb
  have hv := congrFun hb (ix2 i j : S1024x1024.Idx)
  refine Eq.trans ?_ (hv.trans ?_)
  · show ((dats m 0 c).arrAt 2 cfg0.N : S16384x4096.Idx → EReal) _ = ((dats m 0 c).arrAt 2 cfg0.N : S16384x4096.Idx → EReal) _
    congr 1
    funext z
    apply Fin.ext
    match z with
    | ⟨0, _⟩ => show a.val * 1024 + i.val = win0_2.index (point a b) 0 * 1024 + 1 * i.val; rw [(index2 a b).1]; omega
    | ⟨1, _⟩ => show b.val * 1024 + j.val = win0_2.index (point a b) 1 * 1024 + 1 * j.val; rw [(index2 a b).2]; omega
  · refine (congrFun (out_eq _ _) (ix2 i j : S1024x1024.Idx)).trans ((tile_apply _ _ i j).trans ?_)
    exact sum_congr rfl fun k _ => congrArg₂ (· * ·) (block0 m c a b i k) (block1 m c a b k j)

/-- Every row is a row of a tile, every hidden column a column of one. -/
theorem rows_columns (s : Fin 16384) (f : Fin 4096) : ∃ (a : Fin 16) (b : Fin 4) (i j : Fin 1024), row a i = s ∧ column b j = f :=
  ⟨⟨s.val / 1024, by have := s.isLt; omega⟩, ⟨f.val / 1024, by have := f.isLt; omega⟩, ⟨s.val % 1024, Nat.mod_lt _ (by decide)⟩,
    ⟨f.val % 1024, Nat.mod_lt _ (by decide)⟩, Fin.ext (by show s.val / 1024 * 1024 + s.val % 1024 = s.val; omega),
    Fin.ext (by show f.val / 1024 * 1024 + f.val % 1024 = f.val; omega)⟩

/-- … at every index. -/
theorem array_eq (y : S16384x4096.Idx) :
    ((dats m 0 c).arrAt 2 cfg0.N : S16384x4096.Idx → EReal) y = product (V m c main_arg0) (V m c main_arg1) (y 0) (y 1) := by
  obtain ⟨a, b, i, j, e0, e1⟩ := rows_columns (y 0) (y 1)
  have h := array_apply m c a b i j
  rw [e0, e1] at h
  exact (congrArg ((dats m 0 c).arrAt 2 cfg0.N : S16384x4096.Idx → EReal) (eq_ix2 y)).trans h

end Kernel

section Reference

open Cert.HiddenRefIdeal Cert.HiddenRefIdeal.Gen Cert.HiddenRefIdeal.Read

/-- What the reference's array holds. -/
theorem reference_apply (x : FVec Ideal S16384x1024 .bf16) (w : FVec Ideal S1024x4096 .bf16) (y : S16384x4096.Idx) :
    val_main_v3 (F := Ideal) x w y = product x w (y 0) (y 1) := by
  rw [val_main_v3_apply, val_main_v2_apply]
  exact sum_congr rfl fun k _ => congrArg₂ (· * ·) (congrArg x (eq_ix2 _)) (congrArg w (eq_ix2 _))

end Reference

end Cert.HiddenProduct

end
-- ==== Proof.Feed.lean ====
/-
  THE FEED-FORWARD BLOCK'S SECOND HALF: the squared positive part of the pre-activation times the second weight, added to
  the scaled residual, and the layer norm of the rows. The kernel takes the rows in 32 blocks of 512; the reference takes
  one product and normalises all rows.
-/
module

public import proofs.«01_k».proof.Proof.Gen.FeedIdeal.Value
public import proofs.«01_k».proof.Proof.Gen.FeedRefIdeal.Read
public import proofs.«01_k».proof.Proof.LayerNorm
public import proofs.«01_k».proof.Proof.Weight
public import Idealize.ShloMosaic.Lib.StableHlo.RunRead

@[expose] public section

set_option maxRecDepth 16384

noncomputable section

namespace Cert.FeedForward

open Idealize.ShloMosaic Idealize.ShloMosaic.ValueIdx Idealize.ShloMosaic.TcCoe Finset

open Cert.LayerNorm
open Cert.WeightGradient (squared origin2)

/-- Row `i` of the block of 512 rows numbered `t`. -/
def row (t : Fin 32) (i : Fin 512) : Fin 16384 := ⟨t.val * 512 + i.val, by have := i.isLt; have := t.isLt; omega⟩

/-- The scaled residual and the product, at a row and a column. -/
def total (h : (⟨2, ![16384, 4096]⟩ : Shape).Idx → EReal) (w : (⟨2, ![4096, 1024]⟩ : Shape).Idx → EReal)
    (x : (⟨2, ![16384, 1024]⟩ : Shape).Idx → EReal) (s : Fin 16384) (d : Fin 1024) : EReal :=
  alpha * x (ix2 s d) + ∑ k : Fin 4096, squared (h (ix2 s k)) * w (ix2 k d)

/-- The layer norm of a row with its gain and its bias. -/
def output (y : Fin 1024 → EReal) (g b : (⟨1, ![1024]⟩ : Shape).Idx → EReal) (d : Fin 1024) : EReal := normal y d * g (ix1 d) + b (ix1 d)

section Kernel

open Cert.FeedIdeal Cert.FeedIdeal.Gen Cert.FeedIdeal.Value

/-- One block of rows: the sum before the layer norm. -/
theorem total_tile (h : FVec Ideal S512x4096 .bf16) (w : FVec Ideal S4096x1024 .bf16) (x : FVec Ideal S512x1024 .f32) (i : Fin 512) (d : Fin 1024) :
    k0_pay2 (F := Ideal) h w x (ix2 i d) = alpha * x (ix2 i d) + ∑ k : Fin 4096, squared (h (ix2 i k)) * w (ix2 k d) := by
  refine congrArg (fun z : EReal => alpha * x (ix2 i d) + z) ?_
  refine (Ideal.matmul_constant_zero_apply dot_S512x4096_S4096x1024_S512x1024_1_0_0_1_n_n none _ w (ix2 i d)).trans ?_
  refine (Fintype.sum_equiv (contrEquiv1 dot_S512x4096_S4096x1024_S512x1024_1_0_0_1_n_n 4096 rfl rfl) _ _ fun c => ?_)
  refine congrArg₂ (· * ·) (congrArg (fun z => squared (h z)) ?_) (congrArg w ?_)
  · exact funext fun a => match a with | ⟨0, _⟩ => rfl | ⟨1, _⟩ => rfl
  · exact funext fun a => match a with | ⟨0, _⟩ => rfl | ⟨1, _⟩ => rfl

/-- One block of rows: the layer norm of the sums. -/
theorem output_tile (h : FVec Ideal S512x4096 .bf16) (w : FVec Ideal S4096x1024 .bf16) (x : FVec Ideal S512x1024 .f32) (g b : FVec Ideal S1x1024 .f32)
    (i : Fin 512) (d : Fin 1024) :
    k0_pay3 (F := Ideal) h w x g b (ix2 i d) = normal (rowOf (k0_pay2 (F := Ideal) h w x) i) d * g (ix2 0 d) + b (ix2 0 d) := by
  unfold k0_pay3
  generalize k0_pay2 (F := Ideal) h w x = y
  have hc : ∀ e, _ = centred (rowOf y i) e := fun e => centred_tile y reduces_S512x1024_S512 shapeCasts_S512_S512x1 broadcasts_S512x1_S512x1024 i e
  refine congrArg₂ (fun p q : EReal => p + q) (congrArg₂ (fun p q : EReal => p * q) (congrArg₂ (fun p q : EReal => p * q) (hc d) ?_) ?_) ?_
  · exact (spread_tile broadcasts_S512x1_S512x1024 i d _).trans (scale_tile y reduces_S512x1024_S512 shapeCasts_S512_S512x1 i 0 _ hc)
  · exact (broadcastTo_1b_ab_apply _ broadcasts_S1x1024_S512x1024 i d).trans (congrFun (shapeCast_self g _) _)
  · exact (broadcastTo_1b_ab_apply _ broadcasts_S1x1024_S512x1024 i d).trans (congrFun (shapeCast_self b _) _)

/-! ## The blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel

variable (m : (ℓ : Loc nD τ sig) → Buf (Elt Ideal) ℓ) (c : Dev nD)

theorem block0 (t : Fin cfg0.N) (i : Fin 512) (k : Fin 4096) :
    (iblk m c 0 t : S512x4096.Idx → EReal) (ix2 i k) = (V m c main_arg0 : S16384x4096.Idx → EReal) (ix2 (row t i) k) := by
  show V m c main_arg0 _ = V m c main_arg0 _
  congr 1
  funext z
  apply Fin.ext
  match z with
  | ⟨0, _⟩ => show win0_0.index t 0 * 512 + 1 * i.val = t.val * 512 + i.val; rw [(index0 t).1]; omega
  | ⟨1, _⟩ => show win0_0.index t 1 * 4096 + 1 * k.val = k.val; rw [(index0 t).2]; omega

theorem block1 (t : Fin cfg0.N) (k : Fin 4096) (d : Fin 1024) :
    (iblk m c 1 t : S4096x1024.Idx → EReal) (ix2 k d) = (V m c main_arg1 : S4096x1024.Idx → EReal) (ix2 k d) := by
  show V m c main_arg1 _ = V m c main_arg1 _
  congr 1
  funext z
  apply Fin.ext
  match z with
  | ⟨0, _⟩ => show win0_1.index t 0 * 4096 + 1 * k.val = k.val; rw [(index1 t).1]; omega
  | ⟨1, _⟩ => show win0_1.index t 1 * 1024 + 1 * d.val = d.val; rw [(index1 t).2]; omega

theorem block2 (t : Fin cfg0.N) (i : Fin 512) (d : Fin 1024) :
    (iblk m c 2 t : S512x1024.Idx → EReal) (ix2 i d) = (V m c main_arg2 : S16384x1024.Idx → EReal) (ix2 (row t i) d) := by
  show V m c main_arg2 _ = V m c main_arg2 _
  congr 1
  funext z
  apply Fin.ext
  match z with
  | ⟨0, _⟩ => show win0_2.index t 0 * 512 + 1 * i.val = t.val * 512 + i.val; rw [(index2 t).1]; omega
  | ⟨1, _⟩ => show win0_2.index t 1 * 1024 + 1 * d.val = d.val; rw [(index2 t).2]; omega

/-- The gain as the kernel finds it: the argument as one row. -/
theorem gain_eq (d : Fin 1024) : (V m c main_v0 : S1x1024.Idx → EReal) (ix2 0 d) = (V m c main_arg3 : S1024.Idx → EReal) (ix1 d) := by
  have h : (V m c main_v0 : S1x1024.Idx → EReal) = shapeCast S1x1024 (V m c main_arg3 : S1024.Idx → EReal) shapeCasts_S1024_S1x1024 := by
    rw [V_main_arg3]
    unfold V hostOps0
    after_reads_simp
    rfl
  exact (congrFun h (ix2 0 d)).trans (shapeCast_a_1a_apply _ shapeCasts_S1024_S1x1024 0 d)

/-- The bias likewise. -/
theorem bias_eq (d : Fin 1024) : (V m c main_v1 : S1x1024.Idx → EReal) (ix2 0 d) = (V m c main_arg4 : S1024.Idx → EReal) (ix1 d) := by
  have h : (V m c main_v1 : S1x1024.Idx → EReal) = shapeCast S1x1024 (V m c main_arg4 : S1024.Idx → EReal) shapeCasts_S1024_S1x1024 := by
    rw [V_main_arg4]
    unfold V hostOps0
    after_reads_simp
    rfl
  exact (congrFun h (ix2 0 d)).trans (shapeCast_a_1a_apply _ shapeCasts_S1024_S1x1024 0 d)

theorem block3 (t : Fin cfg0.N) (d : Fin 1024) :
    (iblk m c 3 t : S1x1024.Idx → EReal) (ix2 0 d) = (V m c main_arg3 : S1024.Idx → EReal) (ix1 d) := by
  refine Eq.trans ?_ (gain_eq m c d)
  show V m c main_v0 _ = V m c main_v0 _
  congr 1
  funext z
  apply Fin.ext
  match z with
  | ⟨0, _⟩ => show win0_3.index t 0 * 1 + 1 * 0 = 0; rw [(index3 t).1]
  | ⟨1, _⟩ => show win0_3.index t 1 * 1024 + 1 * d.val = d.val; rw [(index3 t).2]; omega

theorem block4 (t : Fin cfg0.N) (d : Fin 1024) :
    (iblk m c 4 t : S1x1024.Idx → EReal) (ix2 0 d) = (V m c main_arg4 : S1024.Idx → EReal) (ix1 d) := by
  refine Eq.trans ?_ (bias_eq m c d)
  show V m c main_v1 _ = V m c main_v1 _
  congr 1
  funext z
  apply Fin.ext
  match z with
  | ⟨0, _⟩ => show win0_4.index t 0 * 1 + 1 * 0 = 0; rw [(index4 t).1]
  | ⟨1, _⟩ => show win0_4.index t 1 * 1024 + 1 * d.val = d.val; rw [(index4 t).2]; omega

/-- The body's stores cover their blocks and its loads read the blocks whole. -/
theorem out5_eq (h : FVec Ideal S512x4096 .bf16) (w : FVec Ideal S4096x1024 .bf16) (x : FVec Ideal S512x1024 .f32) (g b : FVec Ideal S1x1024 .f32) :
    out0_5 (F := Ideal) h w x g b = k0_pay2 (F := Ideal) h w x := by
  unfold out0_5
  rw [View.canon_unit_zero (S := S512x1024) origin2]
  simp only [View.ld_unit_zero (S := S512x1024) origin2, View.ld_unit_zero (S := S512x4096) origin2, View.ld_unit_zero (S := S4096x1024) origin2]

theorem out6_eq (h : FVec Ideal S512x4096 .bf16) (w : FVec Ideal S4096x1024 .bf16) (x : FVec Ideal S512x1024 .f32) (g b : FVec Ideal S1x1024 .f32) :
    out0_6 (F := Ideal) h w x g b = k0_pay3 (F := Ideal) h w x g b := by
  unfold out0_6 k0_pay4
  rw [View.canon_unit_zero (S := S512x1024) origin2]
  simp only [View.ld_unit_zero (S := S512x1024) origin2, View.ld_unit_zero (S := S512x4096) origin2, View.ld_unit_zero (S := S4096x1024) origin2,
    View.ld_unit_zero (S := S1x1024) origin2]

theorem out7_eq (h : FVec Ideal S512x4096 .bf16) (w : FVec Ideal S4096x1024 .bf16) (x : FVec Ideal S512x1024 .f32) (g b : FVec Ideal S1x1024 .f32) :
    out0_7 (F := Ideal) h w x g b = k0_pay1 (F := Ideal) (k0_pay3 (F := Ideal) h w x g b) := by
  unfold out0_7 k0_pay4
  rw [View.canon_unit_zero (S := S512x1024) origin2]
  simp only [View.ld_unit_zero (S := S512x1024) origin2, View.ld_unit_zero (S := S512x4096) origin2, View.ld_unit_zero (S := S4096x1024) origin2,
    View.ld_unit_zero (S := S1x1024) origin2]

/-- The sums of a block are those of its rows. -/
theorem total_block (t : Fin cfg0.N) (i : Fin 512) (d : Fin 1024) :
    k0_pay2 (F := Ideal) (iblk m c 0 t) (iblk m c 1 t) (iblk m c 2 t) (ix2 i d)
      = total (V m c main_arg0) (V m c main_arg1) (V m c main_arg2) (row t i) d := by
  refine (total_tile _ _ _ i d).trans ?_
  refine congrArg₂ (fun p q : EReal => p + q) (congrArg (fun z : EReal => alpha * z) (block2 m c t i d)) (sum_congr rfl fun k _ => ?_)
  exact congrArg₂ (fun p q : EReal => squared p * q) (block0 m c t i k) (block1 m c t k d)

/-- So is the layer norm. -/
theorem output_block (t : Fin cfg0.N) (i : Fin 512) (d : Fin 1024) :
    k0_pay3 (F := Ideal) (iblk m c 0 t) (iblk m c 1 t) (iblk m c 2 t) (iblk m c 3 t) (iblk m c 4 t) (ix2 i d)
      = output (total (V m c main_arg0) (V m c main_arg1) (V m c main_arg2) (row t i)) (V m c main_arg3) (V m c main_arg4) d := by
  refine (output_tile _ _ _ _ _ i d).trans ?_
  have hy : rowOf (k0_pay2 (F := Ideal) (iblk m c 0 t) (iblk m c 1 t) (iblk m c 2 t)) i
      = total (V m c main_arg0) (V m c main_arg1) (V m c main_arg2) (row t i) := funext fun k => total_block m c t i k
  rw [hy]
  exact congrArg₂ (fun p q : EReal => p + q)
    (congrArg (fun z : EReal => normal (total (V m c main_arg0) (V m c main_arg1) (V m c main_arg2) (row t i)) d * z) (block3 m c t d)) (block4 m c t d)

/-! ## The arrays -/

theorem row_cover (s : Fin 16384) : ∃ (t : Fin 32) (i : Fin 512), row t i = s :=
  ⟨⟨s.val / 512, by have := s.isLt; omega⟩, ⟨s.val % 512, Nat.mod_lt _ (by decide)⟩, Fin.ext (by show s.val / 512 * 512 + s.val % 512 = s.val; omega)⟩

/-- What the kernel's first array holds: the sums before the layer norm. -/
theorem array5 (y : S16384x1024.Idx) :
    ((dats m 0 c).arrAt 5 cfg0.N : S16384x1024.Idx → EReal) y = total (V m c main_arg0) (V m c main_arg1) (V m c main_arg2) (y 0) (y 1) := by
  obtain ⟨t, i, ht⟩ := row_cover (y 0)
  have hv := congrFun ((blocks5 m c t (flush5 t)).trans (flushed5 m c t)) (ix2 i (y 1) : S512x1024.Idx)
  rw [← ht]
  refine Eq.trans ?_ (hv.trans ((congrFun (out5_eq _ _ _ _ _) (ix2 i (y 1) : S512x1024.Idx)).trans (total_block m c t i (y 1))))
  refine congrArg ((dats m 0 c).arrAt 5 cfg0.N : S16384x1024.Idx → EReal) (funext fun z => Fin.ext ?_)
  match z with
  | ⟨0, _⟩ => show (y 0).val = win0_5.index t 0 * 512 + 1 * i.val; rw [(index5 t).1, ← ht]; show t.val * 512 + i.val = _; omega
  | ⟨1, _⟩ => show (y 1).val = win0_5.index t 1 * 1024 + 1 * (y 1).val; rw [(index5 t).2]; omega

/-- The second: the layer norm. -/
theorem array6 (y : S16384x1024.Idx) :
    ((dats m 0 c).arrAt 6 cfg0.N : S16384x1024.Idx → EReal) y
      = output (total (V m c main_arg0) (V m c main_arg1) (V m c main_arg2) (y 0)) (V m c main_arg3) (V m c main_arg4) (y 1) := by
  obtain ⟨t, i, ht⟩ := row_cover (y 0)
  have hv := congrFun ((blocks6 m c t (flush6 t)).trans (flushed6 m c t)) (ix2 i (y 1) : S512x1024.Idx)
  rw [← ht]
  refine Eq.trans ?_ (hv.trans ((congrFun (out6_eq _ _ _ _ _) (ix2 i (y 1) : S512x1024.Idx)).trans (output_block m c t i (y 1))))
  refine congrArg ((dats m 0 c).arrAt 6 cfg0.N : S16384x1024.Idx → EReal) (funext fun z => Fin.ext ?_)
  match z with
  | ⟨0, _⟩ => show (y 0).val = win0_6.index t 0 * 512 + 1 * i.val; rw [(index6 t).1, ← ht]; show t.val * 512 + i.val = _; omega
  | ⟨1, _⟩ => show (y 1).val = win0_6.index t 1 * 1024 + 1 * (y 1).val; rw [(index6 t).2]; omega

/-- The third: the layer norm once more, in the shorter format. -/
theorem array7 (y : S16384x1024.Idx) :
    ((dats m 0 c).arrAt 7 cfg0.N : S16384x1024.Idx → EReal) y
      = output (total (V m c main_arg0) (V m c main_arg1) (V m c main_arg2) (y 0)) (V m c main_arg3) (V m c main_arg4) (y 1) := by
  obtain ⟨t, i, ht⟩ := row_cover (y 0)
  have hv := congrFun ((blocks7 m c t (flush7 t)).trans (flushed7 m c t)) (ix2 i (y 1) : S512x1024.Idx)
  rw [← ht]
  refine Eq.trans ?_ (hv.trans ((congrFun (out7_eq _ _ _ _ _) (ix2 i (y 1) : S512x1024.Idx)).trans (output_block m c t i (y 1))))
  refine congrArg ((dats m 0 c).arrAt 7 cfg0.N : S16384x1024.Idx → EReal) (funext fun z => Fin.ext ?_)
  match z with
  | ⟨0, _⟩ => show (y 0).val = win0_7.index t 0 * 512 + 1 * i.val; rw [(index7 t).1, ← ht]; show t.val * 512 + i.val = _; omega
  | ⟨1, _⟩ => show (y 1).val = win0_7.index t 1 * 1024 + 1 * (y 1).val; rw [(index7 t).2]; omega

end Kernel

section Reference

open Cert.FeedRefIdeal Cert.FeedRefIdeal.Gen Cert.FeedRefIdeal.Read

variable (h : FVec Ideal S16384x4096 .bf16) (w : FVec Ideal S4096x1024 .bf16) (x : FVec Ideal S16384x1024 .f32) (g b : FVec Ideal S1024 .f32)

/-- The reference's sums. -/
theorem reference_total (y : S16384x1024.Idx) : val_main_v7 (F := Ideal) h w x y = total h w x (y 0) (y 1) := by
  rw [val_main_v7_apply, val_main_v1_apply, val_main_v0_apply, val_main_v6_apply]
  refine congrArg₂ (fun p q : EReal => p + q) (congrArg (fun z => alpha * x z) (eq_ix2 y)) (sum_congr rfl fun k _ => ?_)
  rw [val_main_v5_apply, val_main_v4_apply, val_main_v2_apply, val_main_call0_v0_apply, val_main_v3_apply]
  exact congrArg₂ (· * ·) (congrArg (fun z => squared (h z)) (eq_ix2 _)) (congrArg w (eq_ix2 _))

/-- Its means. -/
theorem reference_mean (i : S16384x1.Idx) : val_main_v11 (F := Ideal) h w x i = mean (total h w x (i 0)) := by
  rw [val_main_v11_apply, val_main_v9_apply, val_main_v8_apply, val_main_v10_apply]
  refine congrArg (fun z => Ideal.div z width) ?_
  refine (congrArg (· + _) Ideal.ofBits_zero_f32).trans ((zero_add _).trans (sum_congr rfl fun k _ => ?_))
  exact reference_total h w x _

/-- Its centred rows, as it takes them for the variance. -/
theorem reference_centred (y : S16384x1024.Idx) : val_main_v13 (F := Ideal) h w x y = centred (total h w x (y 0)) (y 1) := by
  rw [val_main_v13_apply, val_main_v12_apply, reference_mean, reference_total]
  rfl

/-- Its reciprocal roots. -/
theorem reference_scale (i : S16384x1.Idx) : val_main_v23 (F := Ideal) h w x i = scale (total h w x (i 0)) := by
  rw [val_main_v23_apply, val_main_v22_apply, val_main_v18_apply, val_main_v16_apply, val_main_v15_apply, val_main_v17_apply, val_main_v21_apply]
  refine congrArg (fun z => Ideal.rsqrt (Ideal.div z width + tiny)) ?_
  refine (congrArg (· + _) Ideal.ofBits_zero_f32).trans ((zero_add _).trans (sum_congr rfl fun k _ => ?_))
  rw [val_main_v14_apply, reference_centred]
  rfl

/-- Its layer norm. -/
theorem reference_output (y : S16384x1024.Idx) : val_main_v31 (F := Ideal) h w x g b y = output (total h w x (y 0)) g b (y 1) := by
  rw [val_main_v31_apply, val_main_v28_apply, val_main_v25_apply, val_main_v20_apply, val_main_v19_apply, val_main_v24_apply,
    reference_mean, reference_scale, reference_total, val_main_v27_apply, val_main_v26_apply, val_main_v30_apply, val_main_v29_apply]
  refine congrArg₂ (fun p q : EReal => p + q) (congrArg (fun z => normal (total h w x (y 0)) (y 1) * g z) ?_) (congrArg b ?_)
  · exact funext fun a => match a with | ⟨0, _⟩ => rfl
  · exact funext fun a => match a with | ⟨0, _⟩ => rfl

/-- The same in the shorter format. -/
theorem reference_short (y : S16384x1024.Idx) : val_main_v32 (F := Ideal) h w x g b y = output (total h w x (y 0)) g b (y 1) := by
  rw [val_main_v32_apply, reference_output]
  rfl

end Reference

end Cert.FeedForward

end
-- ==== Proof.Project.lean ====
/-
  THE MIXER'S FIRST WEIGHT'S GRADIENT, in the order of its shards: the layer's input, transposed, times the gradient of
  the queries, keys and values. The kernel goes over the four shards of 768 columns and adds up the products of eight
  blocks of 2048 rows; the reference takes the vector-Jacobian product of the projection and cuts its columns into shards.
-/
module

public import proofs.«01_k».proof.Proof.Gen.ProjectIdeal.Value
public import proofs.«01_k».proof.Proof.Gen.ProjectRefIdeal.Read
public import proofs.«01_k».proof.Proof.Weight
public import Idealize.ShloMosaic.Lib.ValueIdx
public import Idealize.ShloMosaic.Lib.ValueLayout
public import Idealize.ShloMosaic.Lib.Tactic
public import Idealize.ShloMosaic.PureOps.Ideal.Laws

@[expose] public section

set_option maxRecDepth 16384

noncomputable section

namespace Cert.ProjectionGradient

open Idealize.ShloMosaic Idealize.ShloMosaic.ValueIdx Idealize.ShloMosaic.TcCoe Finset

open Cert.WeightGradient (row sum_rows origin2 origin3)

/-- The gradient at an input column and a projected column, of the layer's input `x` and the projection's gradient `g`. -/
def gradient (x : (⟨2, ![16384, 1024]⟩ : Shape).Idx → EReal) (g : (⟨2, ![16384, 3072]⟩ : Shape).Idx → EReal) (d : Fin 1024) (f : Fin 3072) : EReal :=
  ∑ n : Fin 16384, x (ix2 n d) * g (ix2 n f)

/-- Column `j` of the shard `q` of the projected columns. -/
def column (q : Fin 4) (j : Fin 768) : Fin 3072 := ⟨q.val * 768 + j.val, by have := q.isLt; have := j.isLt; omega⟩

/-- What a block of rows contributes to a shard's entry. -/
def part (x : (⟨2, ![16384, 1024]⟩ : Shape).Idx → EReal) (g : (⟨2, ![16384, 3072]⟩ : Shape).Idx → EReal) (q : Fin 4) (i : Fin 1024) (j : Fin 768) (s : ℕ) : EReal :=
  ∑ k : Fin 2048, x (ix2 (row s k) i) * g (ix2 (row s k) (column q j))

section Kernel

open Cert.ProjectIdeal Cert.ProjectIdeal.Gen Cert.ProjectIdeal.Value

/-- One block of rows: the product's entry. -/
theorem tile_apply (x : FVec Ideal S2048x1024 .bf16) (y : FVec Ideal S2048x768 .bf16) (i : Fin 1024) (j : Fin 768) :
    k0_pay1 (F := Ideal) x y (ix2 i j) = ∑ k : Fin 2048, x (ix2 k i) * y (ix2 k j) := by
  refine (Ideal.matmul_constant_zero_apply dot_S2048x1024_S2048x768_S1024x768_0_0_1_1_n_n none x y (ix2 i j)).trans ?_
  refine (Fintype.sum_equiv (contrEquiv1 dot_S2048x1024_S2048x768_S1024x768_0_0_1_1_n_n 2048 rfl rfl) _ _ fun c => ?_)
  refine congrArg₂ (· * ·) (congrArg x ?_) (congrArg y ?_)
  · exact funext fun a => match a with | ⟨0, _⟩ => rfl | ⟨1, _⟩ => rfl
  · exact funext fun a => match a with | ⟨0, _⟩ => rfl | ⟨1, _⟩ => rfl

/-! ## What a point leaves in the accumulator and in the block -/

section Cases

variable (c : Dev nD) (i : grid0.Coords) (a3 : Memref sig .tc .vmem S2048x1024 .bf16) (h3 : a3.IsWhole)
  (a4 : Memref sig .tc .vmem S2048x768 .bf16) (h4 : a4.IsWhole) (a5 : Memref sig .tc .vmem S1x1024x768 .f32) (h5 : a5.IsWhole)
  (a6 : Memref sig .tc .vmem S1024x768 .f32) (h6 : a6.IsWhole) (x : Vec Ideal S2048x1024 .bf16) (y : Vec Ideal S2048x768 .bf16)
  (acc : Vec Ideal S1024x768 .f32)

/-- The first block of rows starts the accumulator. -/
theorem first (hc0 : cond0_0 i) (hc1 : ¬cond0_1 i) (hc2 : ¬cond0_2 i) :
    sout0_A_0 (F := Ideal) c i a3 h3 a4 h4 a5 h5 a6 h6 hc0 hc1 hc2 x y = k0_pay1 (F := Ideal) x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero origin2]
  unfold k0_pay2
  simp only [View.readAt_eq_ld, h3.read_unread, h4.read_unread, View.ld_unit_zero (S := S2048x1024) origin2,
    View.ld_unit_zero (S := S2048x768) origin2, shapeCast_self]

/-- A later block of rows adds its product. -/
theorem later (hc0 : ¬cond0_0 i) (hc1 : cond0_1 i) (hc2 : ¬cond0_2 i) :
    sout0_B_0 (F := Ideal) c i a3 h3 a4 h4 a5 h5 a6 h6 hc0 hc1 hc2 x y acc = addf acc (k0_pay1 (F := Ideal) x y) := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S2048x768) origin2, View.ld_unit_zero (S := S1024x768) origin2, shapeCast_self]

/-- The last block of rows writes the sum out. -/
theorem last (hc0 : ¬cond0_0 i) (hc1 : cond0_1 i) (hc2 : cond0_2 i) :
    out0_C_2 (F := Ideal) c i a3 h3 a4 h4 a5 h5 a6 h6 hc0 hc1 hc2 x y acc
      = shapeCast S1x1024x768 (addf acc (k0_pay1 (F := Ideal) x y)) shapeCasts_S1024x768_S1x1024x768 := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero (S := S1x1024x768) origin3, View.readCov_unit_zero (S := S1024x768) _ origin2]
  unfold k0_pay4 k0_pay3
  simp only [View.readAt_eq_ld, h3.read_unread, h4.read_unread, h6.read_unread, View.ld_unit_zero (S := S2048x1024) origin2,
    View.ld_unit_zero (S := S2048x768) origin2, View.ld_unit_zero (S := S1024x768) origin2, shapeCast_self]

end Cases

/-! ## The accumulator, point by point -/

variable (m : (ℓ : Loc nD τ sig) → Buf (Elt Ideal) ℓ) (c : Dev nD)

/-- The grid point of a shard and a block of rows. -/
def point (q : Fin 4) (s : Fin 8) : Fin cfg0.N := ⟨8 * q.val + s.val, by have := q.isLt; have := s.isLt; show _ < 32; omega⟩

theorem index0 : ∀ (q : Fin 4) (s : Fin 8), win0_0.index (point q s) 0 = s.val ∧ win0_0.index (point q s) 1 = 0 := by decide +kernel
theorem index1 : ∀ (q : Fin 4) (s : Fin 8), win0_1.index (point q s) 0 = s.val ∧ win0_1.index (point q s) 1 = q.val := by decide +kernel

theorem block0 (q : Fin 4) (s : Fin 8) (k : Fin 2048) (i : Fin 1024) :
    (iblk m c 0 (point q s) : S2048x1024.Idx → EReal) (ix2 k i) = (V m c main_arg0 : S16384x1024.Idx → EReal) (ix2 (row s.val k) i) := by
  show V m c main_arg0 _ = V m c main_arg0 _
  congr 1
  funext z
  apply Fin.ext
  have hs := Nat.mod_eq_of_lt s.isLt
  match z with
  | ⟨0, _⟩ => show win0_0.index (point q s) 0 * 2048 + 1 * k.val = s.val % 8 * 2048 + k.val; rw [(index0 q s).1]; omega
  | ⟨1, _⟩ => show win0_0.index (point q s) 1 * 1024 + 1 * i.val = i.val; rw [(index0 q s).2]; omega

theorem block1 (q : Fin 4) (s : Fin 8) (k : Fin 2048) (j : Fin 768) :
    (iblk m c 1 (point q s) : S2048x768.Idx → EReal) (ix2 k j) = (V m c main_arg1 : S16384x3072.Idx → EReal) (ix2 (row s.val k) (column q j)) := by
  show V m c main_arg1 _ = V m c main_arg1 _
  congr 1
  funext z
  apply Fin.ext
  have hs := Nat.mod_eq_of_lt s.isLt
  match z with
  | ⟨0, _⟩ => show win0_1.index (point q s) 0 * 2048 + 1 * k.val = s.val % 8 * 2048 + k.val; rw [(index1 q s).1]; omega
  | ⟨1, _⟩ => show win0_1.index (point q s) 1 * 768 + 1 * j.val = q.val * 768 + j.val; rw [(index1 q s).2]; omega

theorem part_eq (q : Fin 4) (s : Fin 8) (i : Fin 1024) (j : Fin 768) :
    k0_pay1 (F := Ideal) (iblk m c 0 (point q s)) (iblk m c 1 (point q s)) (ix2 i j) = part (V m c main_arg0) (V m c main_arg1) q i j s.val :=
  (tile_apply _ _ i j).trans (sum_congr rfl fun k _ => congrArg₂ (fun a b : EReal => a * b) (block0 m c q s k i) (block1 m c q s k j))

/-- Before the last block, the accumulator holds the sum of the blocks so far. -/
theorem accumulated (q : Fin 4) (i : Fin 1024) (j : Fin 768) : ∀ (n : ℕ) (h : n < 7),
    (outsAt0 m c (point q ⟨n, by omega⟩).val (point q ⟨n, by omega⟩).isLt).2 (ix2 i j) = ∑ s ∈ range (n + 1), part (V m c main_arg0) (V m c main_arg1) q i j s := by
  intro n
  induction n with
  | zero =>
    intro h
    rw [outsAt0_A m c (point q ⟨0, by omega⟩) (by show (8 * q.val + 0) % 8 = 0; omega) (by show ¬1 ≤ (8 * q.val + 0) % 8; omega)
      (by show ¬(8 * q.val + 0) % 8 = 7; omega)]
    dsimp only
    rw [first, sum_range_one]
    exact part_eq m c q 0 i j
  | succ n ih =>
    intro h
    rw [outsAt0_B m c (point q ⟨n + 1, by omega⟩) (by show ¬(8 * q.val + (n + 1)) % 8 = 0; omega) (by show 1 ≤ (8 * q.val + (n + 1)) % 8; omega)
      (by show ¬(8 * q.val + (n + 1)) % 8 = 7; omega)]
    dsimp only
    rw [later, sum_range_succ]
    exact congrArg₂ (· + ·) (ih (by omega)) (part_eq m c q ⟨n + 1, by omega⟩ i j)

/-- The last block's point leaves the whole sum in the output's block. -/
theorem written (q : Fin 4) (i : Fin 1024) (j : Fin 768) :
    (outsAt0 m c (point q 7).val (point q 7).isLt).1 (ix3 (0 : Fin 1) i j) = gradient (V m c main_arg0) (V m c main_arg1) i (column q j) := by
  rw [outsAt0_C m c (point q 7) (by show ¬(8 * q.val + 7) % 8 = 0; omega) (by show 1 ≤ (8 * q.val + 7) % 8; omega) (by show (8 * q.val + 7) % 8 = 7; omega)]
  dsimp only
  rw [last]
  refine (shapeCast_ab_1ab_apply _ _ 0 i j).trans ?_
  unfold gradient
  rw [sum_rows, sum_range_succ]
  exact congrArg₂ (· + ·) (accumulated m c q i j 6 (by omega)) (part_eq m c q 7 i j)

/-- What the kernel's array holds. -/
theorem array_apply (q : Fin 4) (i : Fin 1024) (j : Fin 768) :
    ((dats m 0 c).arrAt 2 cfg0.N : S4x1024x768.Idx → EReal) (ix3 q i j) = gradient (V m c main_arg0) (V m c main_arg1) i (column q j) := by
  rw [final2]
  have hp : pt2Of (ix3 q i j : S4x1024x768.Idx) = (point q 7).val := by
    show 8 * (1 * (q.val / 1 - 0) + 1 * (i.val / 1024 - 0) + 1 * (j.val / 768 - 0)) + 7 = 8 * q.val + 7
    have := i.isLt; have := j.isLt; omega
  have hl : loc2Of (ix3 q i j : S4x1024x768.Idx) = ix3 (0 : Fin 1) i j := by
    funext a
    apply Fin.ext
    have := i.isLt
    have := j.isLt
    match a with
    | ⟨0, _⟩ => show q.val % 1 = 0; omega
    | ⟨1, _⟩ => show i.val % 1024 = i.val; omega
    | ⟨2, _⟩ => show j.val % 768 = j.val; omega
  unfold G2
  rw [dif_pos (by rw [hp]; exact (point q 7).isLt), hl, fold0_congr m c _ _ (point q 7).val (by rw [Nat.zero_add]; exact (point q 7).isLt) hp, ← outsAt0_sweep]
  exact written m c q i j

/-- … at every index. -/
theorem array_eq (y : S4x1024x768.Idx) :
    ((dats m 0 c).arrAt 2 cfg0.N : S4x1024x768.Idx → EReal) y = gradient (V m c main_arg0) (V m c main_arg1) (y 1) (column (y 0) (y 2)) :=
  (congrArg ((dats m 0 c).arrAt 2 cfg0.N : S4x1024x768.Idx → EReal) (eq_ix3 y)).trans (array_apply m c (y 0) (y 1) (y 2))

end Kernel

section Reference

open Cert.ProjectRefIdeal Cert.ProjectRefIdeal.Gen Cert.ProjectRefIdeal.Read

/-- What the reference's array holds. -/
theorem reference_apply (x : FVec Ideal S16384x1024 .bf16) (g : FVec Ideal S16384x3072 .bf16) (y : S4x1024x768.Idx) :
    val_main_v7 (F := Ideal) x g y = gradient x g (y 1) (column (y 0) (y 2)) := by
  have h0 : (y 0).val < 4 := (y 0).isLt
  have h1 : (y 1).val < 1024 := (y 1).isLt
  have h2 : (y 2).val < 768 := (y 2).isLt
  rw [val_main_v7_apply, val_main_v6_apply, val_main_v5_apply, val_main_v4_apply]
  unfold gradient
  refine sum_congr rfl fun n _ => ?_
  rw [mul_comm]
  refine congrArg₂ (· * ·) (congrArg x ((eq_ix2 _).trans (congrArg (ix2 n) (Fin.ext ?_)))) (congrArg g ((eq_ix2 _).trans (congrArg (ix2 n) (Fin.ext ?_))))
  · show (((y 1).val * 4 + (y 0).val) * 768 + (y 2).val) / 3072 = (y 1).val; omega
  · show (((y 1).val * 4 + (y 0).val) * 768 + (y 2).val) % 3072 = (y 0).val * 768 + (y 2).val; omega

end Reference

end Cert.ProjectionGradient

end
-- ==== Proof.Mix.lean ====
/-
  THE MIXER'S SECOND WEIGHT'S GRADIENT: the attention's output, transposed, times the gradient of the mixer's output. The
  kernel adds up the products of eight blocks of 2048 rows; the reference takes the vector-Jacobian product of the product.
-/
module

public import proofs.«01_k».proof.Proof.Gen.MixIdeal.Value
public import proofs.«01_k».proof.Proof.Gen.MixRefIdeal.Read
public import proofs.«01_k».proof.Proof.Weight
public import Idealize.ShloMosaic.Lib.ValueIdx
public import Idealize.ShloMosaic.Lib.ValueLayout
public import Idealize.ShloMosaic.Lib.Tactic
public import Idealize.ShloMosaic.PureOps.Ideal.Laws

@[expose] public section

set_option maxRecDepth 16384

noncomputable section

namespace Cert.MixerGradient

open Idealize.ShloMosaic Idealize.ShloMosaic.ValueIdx Idealize.ShloMosaic.TcCoe Finset

open Cert.WeightGradient (row sum_rows origin2 origin3)

/-- The gradient at a column of the heads and an output column, of the attention's output `o` and the gradient `g`. -/
def gradient (o g : (⟨2, ![16384, 1024]⟩ : Shape).Idx → EReal) (i j : Fin 1024) : EReal :=
  ∑ n : Fin 16384, o (ix2 n i) * g (ix2 n j)

/-- What a block of rows contributes to an entry. -/
def part (o g : (⟨2, ![16384, 1024]⟩ : Shape).Idx → EReal) (i j : Fin 1024) (s : ℕ) : EReal :=
  ∑ k : Fin 2048, o (ix2 (row s k) i) * g (ix2 (row s k) j)

section Kernel

open Cert.MixIdeal Cert.MixIdeal.Gen Cert.MixIdeal.Value

/-- One block of rows: the product's entry. -/
theorem tile_apply (x y : FVec Ideal S2048x1024 .bf16) (i j : Fin 1024) :
    k0_pay1 (F := Ideal) x y (ix2 i j) = ∑ k : Fin 2048, x (ix2 k i) * y (ix2 k j) := by
  refine (Ideal.matmul_constant_zero_apply dot_S2048x1024_S2048x1024_S1024x1024_0_0_1_1_n_n none x y (ix2 i j)).trans ?_
  refine (Fintype.sum_equiv (contrEquiv1 dot_S2048x1024_S2048x1024_S1024x1024_0_0_1_1_n_n 2048 rfl rfl) _ _ fun c => ?_)
  refine congrArg₂ (· * ·) (congrArg x ?_) (congrArg y ?_)
  · exact funext fun a => match a with | ⟨0, _⟩ => rfl | ⟨1, _⟩ => rfl
  · exact funext fun a => match a with | ⟨0, _⟩ => rfl | ⟨1, _⟩ => rfl

/-! ## What a point leaves in the accumulator and in the block -/

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .f32) (h5 : a5.IsWhole)
  (a6 : Memref sig .tc .vmem S1024x1024 .f32) (h6 : a6.IsWhole) (x y : Vec Ideal S2048x1024 .bf16) (acc : Vec Ideal S1024x1024 .f32)

/-- The first block of rows starts the accumulator. -/
theorem first (hc0 : cond0_0 i) (hc1 : ¬cond0_1 i) (hc2 : ¬cond0_2 i) :
    sout0_A_0 (F := Ideal) c i a3 h3 a4 h4 a5 h5 a6 h6 hc0 hc1 hc2 x y = k0_pay1 (F := Ideal) x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero origin2]
  unfold k0_pay2
  simp only [View.readAt_eq_ld, h3.read_unread, h4.read_unread, View.ld_unit_zero (S := S2048x1024) origin2, shapeCast_self]

/-- A later block of rows adds its product. -/
theorem later (hc0 : ¬cond0_0 i) (hc1 : cond0_1 i) (hc2 : ¬cond0_2 i) :
    sout0_B_0 (F := Ideal) c i a3 h3 a4 h4 a5 h5 a6 h6 hc0 hc1 hc2 x y acc = addf acc (k0_pay1 (F := Ideal) x y) := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S1024x1024) origin2, shapeCast_self]

/-- The last block of rows writes the sum out. -/
theorem last (hc0 : ¬cond0_0 i) (hc1 : cond0_1 i) (hc2 : cond0_2 i) :
    out0_C_2 (F := Ideal) c i a3 h3 a4 h4 a5 h5 a6 h6 hc0 hc1 hc2 x y acc
      = shapeCast S1x1024x1024 (addf acc (k0_pay1 (F := Ideal) x y)) shapeCasts_S1024x1024_S1x1024x1024 := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero (S := S1x1024x1024) origin3, View.readCov_unit_zero (S := S1024x1024) _ origin2]
  unfold k0_pay4 k0_pay3
  simp only [View.readAt_eq_ld, h3.read_unread, h4.read_unread, h6.read_unread, View.ld_unit_zero (S := S2048x1024) origin2,
    View.ld_unit_zero (S := S1024x1024) origin2, shapeCast_self]

end Cases

/-! ## The accumulator, point by point -/

variable (m : (ℓ : Loc nD τ sig) → Buf (Elt Ideal) ℓ) (c : Dev nD)

/-- The grid point of a block of rows. -/
def point (s : Fin 8) : Fin cfg0.N := ⟨s.val, by have := s.isLt; show _ < 8; omega⟩

theorem index0 : ∀ s : Fin 8, win0_0.index (point s) 0 = s.val ∧ win0_0.index (point s) 1 = 0 := by decide +kernel
theorem index1 : ∀ s : Fin 8, win0_1.index (point s) 0 = s.val ∧ win0_1.index (point s) 1 = 0 := by decide +kernel

theorem block0 (s : Fin 8) (k : Fin 2048) (i : Fin 1024) :
    (iblk m c 0 (point s) : S2048x1024.Idx → EReal) (ix2 k i) = (V m c main_arg0 : S16384x1024.Idx → EReal) (ix2 (row s.val k) i) := by
  show V m c main_arg0 _ = V m c main_arg0 _
  congr 1
  funext z
  apply Fin.ext
  have hs := Nat.mod_eq_of_lt s.isLt
  match z with
  | ⟨0, _⟩ => show win0_0.index (point s) 0 * 2048 + 1 * k.val = s.val % 8 * 2048 + k.val; rw [(index0 s).1]; omega
  | ⟨1, _⟩ => show win0_0.index (point s) 1 * 1024 + 1 * i.val = i.val; rw [(index0 s).2]; omega

theorem block1 (s : Fin 8) (k : Fin 2048) (j : Fin 1024) :
    (iblk m c 1 (point s) : S2048x1024.Idx → EReal) (ix2 k j) = (V m c main_arg1 : S16384x1024.Idx → EReal) (ix2 (row s.val k) j) := by
  show V m c main_arg1 _ = V m c main_arg1 _
  congr 1
  funext z
  apply Fin.ext
  have hs := Nat.mod_eq_of_lt s.isLt
  match z with
  | ⟨0, _⟩ => show win0_1.index (point s) 0 * 2048 + 1 * k.val = s.val % 8 * 2048 + k.val; rw [(index1 s).1]; omega
  | ⟨1, _⟩ => show win0_1.index (point s) 1 * 1024 + 1 * j.val = j.val; rw [(index1 s).2]; omega

theorem part_eq (s : Fin 8) (i j : Fin 1024) :
    k0_pay1 (F := Ideal) (iblk m c 0 (point s)) (iblk m c 1 (point s)) (ix2 i j) = part (V m c main_arg0) (V m c main_arg1) i j s.val :=
  (tile_apply _ _ i j).trans (sum_congr rfl fun k _ => congrArg₂ (fun a b : EReal => a * b) (block0 m c s k i) (block1 m c s k j))

/-- Before the last block, the accumulator holds the sum of the blocks so far. -/
theorem accumulated (i j : Fin 1024) : ∀ (n : ℕ) (h : n < 7),
    (outsAt0 m c (point ⟨n, by omega⟩).val (point ⟨n, by omega⟩).isLt).2 (ix2 i j) = ∑ s ∈ range (n + 1), part (V m c main_arg0) (V m c main_arg1) i j s := by
  intro n
  induction n with
  | zero =>
    intro h
    rw [outsAt0_A m c (point ⟨0, by omega⟩) (by show 0 % 8 = 0; omega) (by show ¬1 ≤ 0; omega) (by show ¬0 % 8 = 7; omega)]
    dsimp only
    rw [first, sum_range_one]
    exact part_eq m c 0 i j
  | succ n ih =>
    intro h
    rw [outsAt0_B m c (point ⟨n + 1, by omega⟩) (by show ¬(n + 1) % 8 = 0; omega) (by show 1 ≤ n + 1; omega) (by show ¬(n + 1) % 8 = 7; omega)]
    dsimp only
    rw [later, sum_range_succ]
    exact congrArg₂ (· + ·) (ih (by omega)) (part_eq m c ⟨n + 1, by omega⟩ i j)

/-- The last block's point leaves the whole sum in the output's block. -/
theorem written (i j : Fin 1024) :
    (outsAt0 m c (point 7).val (point 7).isLt).1 (ix3 (0 : Fin 1) i j) = gradient (V m c main_arg0) (V m c main_arg1) i j := by
  rw [outsAt0_C m c (point 7) (by show ¬7 % 8 = 0; omega) (by show 1 ≤ 7; omega) (by show 7 % 8 = 7; omega)]
  dsimp only
  rw [last]
  refine (shapeCast_ab_1ab_apply _ _ 0 i j).trans ?_
  unfold gradient
  rw [sum_rows, sum_range_succ]
  exact congrArg₂ (· + ·) (accumulated m c i j 6 (by omega)) (part_eq m c 7 i j)

/-- What the kernel's array holds. -/
theorem array_apply (q : Fin 1) (i j : Fin 1024) :
    ((dats m 0 c).arrAt 2 cfg0.N : S1x1024x1024.Idx → EReal) (ix3 q i j) = gradient (V m c main_arg0) (V m c main_arg1) i j := by
  rw [final2]
  have hq := q.isLt
  have hi := i.isLt
  have hj := j.isLt
  have hp : pt2Of (ix3 q i j : S1x1024x1024.Idx) = (point 7).val := by
    show 8 * (1 * (q.val / 1 - 0) + 1 * (i.val / 1024 - 0) + 1 * (j.val / 1024 - 0)) + 7 = 7
    omega
  have hl : loc2Of (ix3 q i j : S1x1024x1024.Idx) = ix3 (0 : Fin 1) i j := by
    funext a
    apply Fin.ext
    match a with
    | ⟨0, _⟩ => show q.val % 1 = 0; omega
    | ⟨1, _⟩ => show i.val % 1024 = i.val; omega
    | ⟨2, _⟩ => show j.val % 1024 = j.val; omega
  unfold G2
  rw [dif_pos (by rw [hp]; exact (point 7).isLt), hl, fold0_congr m c _ _ (point 7).val (by rw [Nat.zero_add]; exact (point 7).isLt) hp, ← outsAt0_sweep]
  exact written m c i j

/-- … at every index. -/
theorem array_eq (y : S1x1024x1024.Idx) :
    ((dats m 0 c).arrAt 2 cfg0.N : S1x1024x1024.Idx → EReal) y = gradient (V m c main_arg0) (V m c main_arg1) (y 1) (y 2) :=
  (congrArg ((dats m 0 c).arrAt 2 cfg0.N : S1x1024x1024.Idx → EReal) (eq_ix3 y)).trans (array_apply m c (y 0) (y 1) (y 2))

end Kernel

section Reference

open Cert.MixRefIdeal Cert.MixRefIdeal.Gen Cert.MixRefIdeal.Read

/-- What the reference's array holds. -/
theorem reference_apply (o g : FVec Ideal S16384x1024 .bf16) (y : S1x1024x1024.Idx) :
    val_main_v6 (F := Ideal) o g y = gradient o g (y 1) (y 2) := by
  rw [val_main_v6_apply, val_main_v5_apply, val_main_v4_apply]
  unfold gradient
  refine sum_congr rfl fun n _ => ?_
  rw [mul_comm]
  exact congrArg₂ (· * ·) (congrArg o (eq_ix2 _)) (congrArg g (eq_ix2 _))

end Reference

end Cert.MixerGradient

end
-- ==== Proof.Heads.lean ====
/-
  THE ATTENTION OUTPUT'S GRADIENT: the gradient of the mixer's output times the second weight, transposed. The kernel
  takes the rows in 16 blocks of 1024; the reference takes the vector-Jacobian product of the product.
-/
module

public import proofs.«01_k».proof.Proof.Gen.HeadsIdeal.Value
public import proofs.«01_k».proof.Proof.Gen.HeadsRefIdeal.Read
public import proofs.«01_k».proof.Proof.Gate
public import Idealize.ShloMosaic.Lib.ValueIdx
public import Idealize.ShloMosaic.PureOps.Ideal.Laws

@[expose] public section

set_option maxRecDepth 16384

noncomputable section

namespace Cert.HeadsGradient

open Idealize.ShloMosaic Idealize.ShloMosaic.ValueIdx Idealize.ShloMosaic.TcCoe Finset

open Cert.GateGradient (row origin)

/-- The gradient at a row and a column of the heads, of the incoming gradient `g` and the weights `w`. -/
def gradient (g : (⟨2, ![16384, 1024]⟩ : Shape).Idx → EReal) (w : (⟨2, ![1024, 1024]⟩ : Shape).Idx → EReal) (s : Fin 16384) (f : Fin 1024) : EReal :=
  ∑ k : Fin 1024, g (ix2 s k) * w (ix2 f k)

/-- Every row is a row of a block. -/
theorem row_cover (s : Fin 16384) : ∃ (t : Fin 16) (i : Fin 1024), row t i = s :=
  ⟨⟨s.val / 1024, by have := s.isLt; omega⟩, ⟨s.val % 1024, Nat.mod_lt _ (by decide)⟩, Fin.ext (by show s.val / 1024 * 1024 + s.val % 1024 = s.val; omega)⟩

section Kernel

open Cert.HeadsIdeal Cert.HeadsIdeal.Gen Cert.HeadsIdeal.Value

/-- One block of rows: the product's entry. -/
theorem tile_apply (x w : FVec Ideal S1024x1024 .bf16) (i j : Fin 1024) :
    k0_pay1 (F := Ideal) x w (ix2 i j) = ∑ k : Fin 1024, x (ix2 i k) * w (ix2 j k) := by
  refine (Ideal.matmul_constant_zero_apply dot_S1024x1024_S1024x1024_S1024x1024_1_1_0_0_n_n none x w (ix2 i j)).trans ?_
  refine (Fintype.sum_equiv (contrEquiv1 dot_S1024x1024_S1024x1024_S1024x1024_1_1_0_0_n_n 1024 rfl rfl) _ _ fun c => ?_)
  congr 1
  · exact congrArg x (funext fun a => match a with | ⟨0, _⟩ => rfl | ⟨1, _⟩ => rfl)
  · exact congrArg w (funext fun a => match a with | ⟨0, _⟩ => rfl | ⟨1, _⟩ => rfl)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem flush2 : ∀ t : Fin cfg0.N, (cfg0.win 2).flush t = true := by decide +kernel

variable (m : (ℓ : Loc nD τ sig) → Buf (Elt Ideal) ℓ) (c : Dev nD)

theorem block0 (t : Fin cfg0.N) (i k : Fin 1024) :
    (iblk m c 0 t : S1024x1024.Idx → EReal) (ix2 i k) = (V m c main_arg0 : S16384x1024.Idx → EReal) (ix2 (row t i) k) := by
  show V m c main_arg0 _ = V m c main_arg0 _
  congr 1
  funext z
  apply Fin.ext
  match z with
  | ⟨0, _⟩ => show win0_0.index t 0 * 1024 + 1 * i.val = t.val * 1024 + i.val; rw [(index0 t).1]; omega
  | ⟨1, _⟩ => show win0_0.index t 1 * 1024 + 1 * k.val = k.val; rw [(index0 t).2]; omega

theorem block1 (t : Fin cfg0.N) (j k : Fin 1024) :
    (iblk m c 1 t : S1024x1024.Idx → EReal) (ix2 j k) = (V m c main_arg1 : S1024x1024.Idx → EReal) (ix2 j k) := by
  show V m c main_arg1 _ = V m c main_arg1 _
  congr 1
  funext z
  apply Fin.ext
  match z with
  | ⟨0, _⟩ => show win0_1.index t 0 * 1024 + 1 * j.val = j.val; rw [(index1 t).1]; omega
  | ⟨1, _⟩ => show win0_1.index t 1 * 1024 + 1 * k.val = k.val; rw [(index1 t).2]; omega

/-- The body's one store covers the block and its loads read the blocks whole. -/
theorem out_eq (x w : FVec Ideal S1024x1024 .bf16) : out0_2 (F := Ideal) x w = k0_pay1 (F := Ideal) x w := by
  unfold out0_2
  rw [View.canon_unit_zero (S := S1024x1024) origin]
  simp only [View.ld_unit_zero (S := S1024x1024) origin]

/-- What the kernel's array holds. -/
theorem array_eq (y : S16384x1024.Idx) :
    ((dats m 0 c).arrAt 2 cfg0.N : S16384x1024.Idx → EReal) y = gradient (V m c main_arg0) (V m c main_arg1) (y 0) (y 1) := by
  obtain ⟨t, i, ht⟩ := row_cover (y 0)
  have hv := congrFun ((blocks2 m c t (flush2 t)).trans (flushed2 m c t)) (ix2 i (y 1) : S1024x1024.Idx)
  rw [← ht]
  refine Eq.trans ?_ (hv.trans ((congrFun (out_eq _ _) (ix2 i (y 1) : S1024x1024.Idx)).trans ((tile_apply _ _ i (y 1)).trans ?_)))
  · refine congrArg ((dats m 0 c).arrAt 2 cfg0.N : S16384x1024.Idx → EReal) (funext fun z => Fin.ext ?_)
    match z with
    | ⟨0, _⟩ => show (y 0).val = win0_2.index t 0 * 1024 + 1 * i.val; rw [(index2 t).1, ← ht]; show t.val * 1024 + i.val = _; omega
    | ⟨1, _⟩ => show (y 1).val = win0_2.index t 1 * 1024 + 1 * (y 1).val; rw [(index2 t).2]; omega
  · exact sum_congr rfl fun k _ => congrArg₂ (fun a b : EReal => a * b) (block0 m c t i k) (block1 m c t (y 1) k)

end Kernel

section Reference

open Cert.HeadsRefIdeal Cert.HeadsRefIdeal.Gen Cert.HeadsRefIdeal.Read

/-- What the reference's array holds. -/
theorem reference_apply (g : FVec Ideal S16384x1024 .bf16) (w : FVec Ideal S1024x1024 .bf16) (y : S16384x1024.Idx) :
    val_main_v5 (F := Ideal) g w y = gradient g w (y 0) (y 1) := by
  rw [val_main_v5_apply, val_main_v4_apply]
  exact sum_congr rfl fun k _ => congrArg₂ (· * ·) (congrArg g (eq_ix2 _)) (congrArg w (eq_ix2 _))

end Reference

end Cert.HeadsGradient

end
-- ==== Proof.Source.lean ====
/-
  THE FIRST LAYER'S INPUT'S GRADIENT: the gradient through the residual, scaled, and the gradient through the projection,
  the gradient of the queries, keys and values times the weight, transposed. The kernel takes the rows in 32 blocks of
  512; the reference takes the vector-Jacobian product of the scaled residual and the projection together.
-/
module

public import proofs.«01_k».proof.Proof.Gen.SourceIdeal.Value
public import proofs.«01_k».proof.Proof.Gen.SourceRefIdeal.Read
public import proofs.«01_k».proof.Proof.Feed
public import Idealize.ShloMosaic.Lib.ValueIdx
public import Idealize.ShloMosaic.PureOps.Ideal.Laws

@[expose] public section

set_option maxRecDepth 16384

noncomputable section

namespace Cert.SourceGradient

open Idealize.ShloMosaic Idealize.ShloMosaic.ValueIdx Idealize.ShloMosaic.TcCoe Finset

open Cert.LayerNorm (alpha)
open Cert.FeedForward (row row_cover)
open Cert.WeightGradient (origin2)

/-- The gradient at a row and a column, of the projection's gradient `g`, the weights `w` and the residual's gradient `r`. -/
def gradient (g : (⟨2, ![16384, 3072]⟩ : Shape).Idx → EReal) (w : (⟨2, ![1024, 3072]⟩ : Shape).Idx → EReal)
    (r : (⟨2, ![16384, 1024]⟩ : Shape).Idx → EReal) (s : Fin 16384) (d : Fin 1024) : EReal :=
  alpha * r (ix2 s d) + ∑ k : Fin 3072, g (ix2 s k) * w (ix2 d k)

section Kernel

open Cert.SourceIdeal Cert.SourceIdeal.Gen Cert.SourceIdeal.Value

/-- One block of rows: the scaled residual and the product's entry. -/
theorem tile_apply (x : FVec Ideal S512x3072 .bf16) (w : FVec Ideal S1024x3072 .bf16) (r : FVec Ideal S512x1024 .f32) (i : Fin 512) (d : Fin 1024) :
    k0_pay1 (F := Ideal) x w r (ix2 i d) = alpha * r (ix2 i d) + ∑ k : Fin 3072, x (ix2 i k) * w (ix2 d k) := by
  refine congrArg (fun z : EReal => alpha * r (ix2 i d) + z) ?_
  refine (Ideal.matmul_constant_zero_apply dot_S512x3072_S1024x3072_S512x1024_1_1_0_0_n_n none x w (ix2 i d)).trans ?_
  refine (Fintype.sum_equiv (contrEquiv1 dot_S512x3072_S1024x3072_S512x1024_1_1_0_0_n_n 3072 rfl rfl) _ _ fun c => ?_)
  refine congrArg₂ (· * ·) (congrArg x ?_) (congrArg w ?_)
  · exact funext fun a => match a with | ⟨0, _⟩ => rfl | ⟨1, _⟩ => rfl
  · exact funext fun a => match a with | ⟨0, _⟩ => rfl | ⟨1, _⟩ => rfl

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem flush3 : ∀ t : Fin cfg0.N, (cfg0.win 3).flush t = true := by decide +kernel

variable (m : (ℓ : Loc nD τ sig) → Buf (Elt Ideal) ℓ) (c : Dev nD)

theorem block0 (t : Fin cfg0.N) (i : Fin 512) (k : Fin 3072) :
    (iblk m c 0 t : S512x3072.Idx → EReal) (ix2 i k) = (V m c main_arg0 : S16384x3072.Idx → EReal) (ix2 (row t i) k) := by
  show V m c main_arg0 _ = V m c main_arg0 _
  congr 1
  funext z
  apply Fin.ext
  match z with
  | ⟨0, _⟩ => show win0_0.index t 0 * 512 + 1 * i.val = t.val * 512 + i.val; rw [(index0 t).1]; omega
  | ⟨1, _⟩ => show win0_0.index t 1 * 3072 + 1 * k.val = k.val; rw [(index0 t).2]; omega

theorem block1 (t : Fin cfg0.N) (d : Fin 1024) (k : Fin 3072) :
    (iblk m c 1 t : S1024x3072.Idx → EReal) (ix2 d k) = (V m c main_arg1 : S1024x3072.Idx → EReal) (ix2 d k) := by
  show V m c main_arg1 _ = V m c main_arg1 _
  congr 1
  funext z
  apply Fin.ext
  match z with
  | ⟨0, _⟩ => show win0_1.index t 0 * 1024 + 1 * d.val = d.val; rw [(index1 t).1]; omega
  | ⟨1, _⟩ => show win0_1.index t 1 * 3072 + 1 * k.val = k.val; rw [(index1 t).2]; omega

theorem block2 (t : Fin cfg0.N) (i : Fin 512) (d : Fin 1024) :
    (iblk m c 2 t : S512x1024.Idx → EReal) (ix2 i d) = (V m c main_arg2 : S16384x1024.Idx → EReal) (ix2 (row t i) d) := by
  show V m c main_arg2 _ = V m c main_arg2 _
  congr 1
  funext z
  apply Fin.ext
  match z with
  | ⟨0, _⟩ => show win0_2.index t 0 * 512 + 1 * i.val = t.val * 512 + i.val; rw [(index2 t).1]; omega
  | ⟨1, _⟩ => show win0_2.index t 1 * 1024 + 1 * d.val = d.val; rw [(index2 t).2]; omega

/-- The body's one store covers the block and its loads read the blocks whole. -/
theorem out_eq (x : FVec Ideal S512x3072 .bf16) (w : FVec Ideal S1024x3072 .bf16) (r : FVec Ideal S512x1024 .f32) :
    out0_3 (F := Ideal) x w r = k0_pay1 (F := Ideal) x w r := by
  unfold out0_3
  rw [View.canon_unit_zero (S := S512x1024) origin2]
  simp only [View.ld_unit_zero (S := S512x3072) origin2, View.ld_unit_zero (S := S1024x3072) origin2, View.ld_unit_zero (S := S512x1024) origin2]

/-- What the kernel's array holds. -/
theorem array_eq (y : S16384x1024.Idx) :
    ((dats m 0 c).arrAt 3 cfg0.N : S16384x1024.Idx → EReal) y
      = gradient (V m c main_arg0) (V m c main_arg1) (V m c main_arg2) (y 0) (y 1) := by
  obtain ⟨t, i, ht⟩ := row_cover (y 0)
  have hv := congrFun ((blocks3 m c t (flush3 t)).trans (flushed3 m c t)) (ix2 i (y 1) : S512x1024.Idx)
  rw [← ht]
  refine Eq.trans ?_ (hv.trans ((congrFun (out_eq _ _ _) (ix2 i (y 1) : S512x1024.Idx)).trans ((tile_apply _ _ _ i (y 1)).trans ?_)))
  · refine congrArg ((dats m 0 c).arrAt 3 cfg0.N : S16384x1024.Idx → EReal) (funext fun z => Fin.ext ?_)
    match z with
    | ⟨0, _⟩ => show (y 0).val = win0_3.index t 0 * 512 + 1 * i.val; rw [(index3 t).1, ← ht]; show t.val * 512 + i.val = _; omega
    | ⟨1, _⟩ => show (y 1).val = win0_3.index t 1 * 1024 + 1 * (y 1).val; rw [(index3 t).2]; omega
  · refine congrArg₂ (fun a b : EReal => a + b) (congrArg (fun z : EReal => alpha * z) (block2 m c t i (y 1))) (sum_congr rfl fun k _ => ?_)
    exact congrArg₂ (fun a b : EReal => a * b) (block0 m c t i k) (block1 m c t (y 1) k)

end Kernel

section Reference

open Cert.SourceRefIdeal Cert.SourceRefIdeal.Gen Cert.SourceRefIdeal.Read

/-- What the reference's array holds. -/
theorem reference_apply (g : FVec Ideal S16384x3072 .bf16) (w : FVec Ideal S1024x3072 .bf16) (r : FVec Ideal S16384x1024 .f32) (y : S16384x1024.Idx) :
    val_main_v9 (F := Ideal) g w r y = gradient g w r (y 0) (y 1) := by
  rw [val_main_v9_apply, val_main_v6_apply, val_main_v8_apply, val_main_v7_apply]
  refine (add_comm _ _).trans (congrArg₂ (fun p q : EReal => p + q) (congrArg (fun z => alpha * r z) (eq_ix2 y)) (sum_congr rfl fun k _ => ?_))
  exact congrArg₂ (· * ·) (congrArg g (eq_ix2 _)) (congrArg w (eq_ix2 _))

end Reference

end Cert.SourceGradient

end
-- ==== Proof.Merge.lean ====
/-
  THE MIXER'S OUTPUT AND THE FIRST LAYER NORM: the mixer's result times the output weight, added to the scaled residual,
  and the layer norm of the rows. The kernel takes the rows in 32 blocks of 512; the reference takes one product and
  normalises all rows.
-/
module

public import proofs.«01_k».proof.Proof.Gen.MergeIdeal.Value
public import proofs.«01_k».proof.Proof.Gen.MergeRefIdeal.Read
public import proofs.«01_k».proof.Proof.Feed
public import Idealize.ShloMosaic.Lib.StableHlo.RunRead

@[expose] public section

set_option maxRecDepth 16384

noncomputable section

namespace Cert.MixerForward

open Idealize.ShloMosaic Idealize.ShloMosaic.ValueIdx Idealize.ShloMosaic.TcCoe Finset

open Cert.LayerNorm
open Cert.WeightGradient (origin2)
open Cert.FeedForward (row row_cover output)

/-- The scaled residual and the product, at a row and a column. -/
def merged (o : (⟨2, ![16384, 1024]⟩ : Shape).Idx → EReal) (w : (⟨2, ![1024, 1024]⟩ : Shape).Idx → EReal)
    (x : (⟨2, ![16384, 1024]⟩ : Shape).Idx → EReal) (s : Fin 16384) (d : Fin 1024) : EReal :=
  alpha * x (ix2 s d) + ∑ k : Fin 1024, o (ix2 s k) * w (ix2 k d)

section Kernel

open Cert.MergeIdeal Cert.MergeIdeal.Gen Cert.MergeIdeal.Value

/-- One block of rows: the sum before the layer norm. -/
theorem merged_tile (o : FVec Ideal S512x1024 .bf16) (w : FVec Ideal S1024x1024 .bf16) (x : FVec Ideal S512x1024 .f32) (i : Fin 512) (d : Fin 1024) :
    k0_pay1 (F := Ideal) o w x (ix2 i d) = alpha * x (ix2 i d) + ∑ k : Fin 1024, o (ix2 i k) * w (ix2 k d) := by
  refine congrArg (fun z : EReal => alpha * x (ix2 i d) + z) ?_
  refine (Ideal.matmul_constant_zero_apply dot_S512x1024_S1024x1024_S512x1024_1_0_0_1_n_n none o w (ix2 i d)).trans ?_
  refine (Fintype.sum_equiv (contrEquiv1 dot_S512x1024_S1024x1024_S512x1024_1_0_0_1_n_n 1024 rfl rfl) _ _ fun c => ?_)
  refine congrArg₂ (· * ·) (congrArg o ?_) (congrArg w ?_)
  · exact funext fun a => match a with | ⟨0, _⟩ => rfl | ⟨1, _⟩ => rfl
  · exact funext fun a => match a with | ⟨0, _⟩ => rfl | ⟨1, _⟩ => rfl

/-- One block of rows: the layer norm of the sums. -/
theorem output_tile (o : FVec Ideal S512x1024 .bf16) (w : FVec Ideal S1024x1024 .bf16) (x : FVec Ideal S512x1024 .f32) (g b : FVec Ideal S1x1024 .f32)
    (i : Fin 512) (d : Fin 1024) :
    k0_pay2 (F := Ideal) o w x g b (ix2 i d) = normal (rowOf (k0_pay1 (F := Ideal) o w x) i) d * g (ix2 0 d) + b (ix2 0 d) := by
  unfold k0_pay2
  generalize k0_pay1 (F := Ideal) o w x = y
  have hc : ∀ e, _ = centred (rowOf y i) e := fun e => centred_tile y reduces_S512x1024_S512 shapeCasts_S512_S512x1 broadcasts_S512x1_S512x1024 i e
  refine congrArg₂ (fun p q : EReal => p + q) (congrArg₂ (fun p q : EReal => p * q) (congrArg₂ (fun p q : EReal => p * q) (hc d) ?_) ?_) ?_
  · exact (spread_tile broadcasts_S512x1_S512x1024 i d _).trans (scale_tile y reduces_S512x1024_S512 shapeCasts_S512_S512x1 i 0 _ hc)
  · exact (broadcastTo_1b_ab_apply _ broadcasts_S1x1024_S512x1024 i d).trans (congrFun (shapeCast_self g _) _)
  · exact (broadcastTo_1b_ab_apply _ broadcasts_S1x1024_S512x1024 i d).trans (congrFun (shapeCast_self b _) _)

/-! ## The blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel

variable (m : (ℓ : Loc nD τ sig) → Buf (Elt Ideal) ℓ) (c : Dev nD)

theorem block0 (t : Fin cfg0.N) (i : Fin 512) (k : Fin 1024) :
    (iblk m c 0 t : S512x1024.Idx → EReal) (ix2 i k) = (V m c main_arg0 : S16384x1024.Idx → EReal) (ix2 (row t i) k) := by
  show V m c main_arg0 _ = V m c main_arg0 _
  congr 1
  funext z
  apply Fin.ext
  match z with
  | ⟨0, _⟩ => show win0_0.index t 0 * 512 + 1 * i.val = t.val * 512 + i.val; rw [(index0 t).1]; omega
  | ⟨1, _⟩ => show win0_0.index t 1 * 1024 + 1 * k.val = k.val; rw [(index0 t).2]; omega

theorem block1 (t : Fin cfg0.N) (k : Fin 1024) (d : Fin 1024) :
    (iblk m c 1 t : S1024x1024.Idx → EReal) (ix2 k d) = (V m c main_arg1 : S1024x1024.Idx → EReal) (ix2 k d) := by
  show V m c main_arg1 _ = V m c main_arg1 _
  congr 1
  funext z
  apply Fin.ext
  match z with
  | ⟨0, _⟩ => show win0_1.index t 0 * 1024 + 1 * k.val = k.val; rw [(index1 t).1]; omega
  | ⟨1, _⟩ => show win0_1.index t 1 * 1024 + 1 * d.val = d.val; rw [(index1 t).2]; omega

theorem block2 (t : Fin cfg0.N) (i : Fin 512) (d : Fin 1024) :
    (iblk m c 2 t : S512x1024.Idx → EReal) (ix2 i d) = (V m c main_arg2 : S16384x1024.Idx → EReal) (ix2 (row t i) d) := by
  show V m c main_arg2 _ = V m c main_arg2 _
  congr 1
  funext z
  apply Fin.ext
  match z with
  | ⟨0, _⟩ => show win0_2.index t 0 * 512 + 1 * i.val = t.val * 512 + i.val; rw [(index2 t).1]; omega
  | ⟨1, _⟩ => show win0_2.index t 1 * 1024 + 1 * d.val = d.val; rw [(index2 t).2]; omega

/-- The gain as the kernel finds it: the argument as one row. -/
theorem gain_eq (d : Fin 1024) : (V m c main_v0 : S1x1024.Idx → EReal) (ix2 0 d) = (V m c main_arg3 : S1024.Idx → EReal) (ix1 d) := by
  have h : (V m c main_v0 : S1x1024.Idx → EReal) = shapeCast S1x1024 (V m c main_arg3 : S1024.Idx → EReal) shapeCasts_S1024_S1x1024 := by
    rw [V_main_arg3]
    unfold V hostOps0
    after_reads_simp
    rfl
  exact (congrFun h (ix2 0 d)).trans (shapeCast_a_1a_apply _ shapeCasts_S1024_S1x1024 0 d)

/-- The bias likewise. -/
theorem bias_eq (d : Fin 1024) : (V m c main_v1 : S1x1024.Idx → EReal) (ix2 0 d) = (V m c main_arg4 : S1024.Idx → EReal) (ix1 d) := by
  have h : (V m c main_v1 : S1x1024.Idx → EReal) = shapeCast S1x1024 (V m c main_arg4 : S1024.Idx → EReal) shapeCasts_S1024_S1x1024 := by
    rw [V_main_arg4]
    unfold V hostOps0
    after_reads_simp
    rfl
  exact (congrFun h (ix2 0 d)).trans (shapeCast_a_1a_apply _ shapeCasts_S1024_S1x1024 0 d)

theorem block3 (t : Fin cfg0.N) (d : Fin 1024) :
    (iblk m c 3 t : S1x1024.Idx → EReal) (ix2 0 d) = (V m c main_arg3 : S1024.Idx → EReal) (ix1 d) := by
  refine Eq.trans ?_ (gain_eq m c d)
  show V m c main_v0 _ = V m c main_v0 _
  congr 1
  funext z
  apply Fin.ext
  match z with
  | ⟨0, _⟩ => show win0_3.index t 0 * 1 + 1 * 0 = 0; rw [(index3 t).1]
  | ⟨1, _⟩ => show win0_3.index t 1 * 1024 + 1 * d.val = d.val; rw [(index3 t).2]; omega

theorem block4 (t : Fin cfg0.N) (d : Fin 1024) :
    (iblk m c 4 t : S1x1024.Idx → EReal) (ix2 0 d) = (V m c main_arg4 : S1024.Idx → EReal) (ix1 d) := by
  refine Eq.trans ?_ (bias_eq m c d)
  show V m c main_v1 _ = V m c main_v1 _
  congr 1
  funext z
  apply Fin.ext
  match z with
  | ⟨0, _⟩ => show win0_4.index t 0 * 1 + 1 * 0 = 0; rw [(index4 t).1]
  | ⟨1, _⟩ => show win0_4.index t 1 * 1024 + 1 * d.val = d.val; rw [(index4 t).2]; omega

/-- The body's stores cover their blocks and its loads read the blocks whole. -/
theorem out5_eq (o : FVec Ideal S512x1024 .bf16) (w : FVec Ideal S1024x1024 .bf16) (x : FVec Ideal S512x1024 .f32) (g b : FVec Ideal S1x1024 .f32) :
    out0_5 (F := Ideal) o w x g b = k0_pay1 (F := Ideal) o w x := by
  unfold out0_5
  rw [View.canon_unit_zero (S := S512x1024) origin2]
  simp only [View.ld_unit_zero (S := S512x1024) origin2, View.ld_unit_zero (S := S1024x1024) origin2]

theorem out6_eq (o : FVec Ideal S512x1024 .bf16) (w : FVec Ideal S1024x1024 .bf16) (x : FVec Ideal S512x1024 .f32) (g b : FVec Ideal S1x1024 .f32) :
    out0_6 (F := Ideal) o w x g b = k0_pay2 (F := Ideal) o w x g b := by
  unfold out0_6
  rw [View.canon_unit_zero (S := S512x1024) origin2]
  simp only [View.ld_unit_zero (S := S512x1024) origin2, View.ld_unit_zero (S := S1024x1024) origin2,
    View.ld_unit_zero (S := S1x1024) origin2]

theorem out7_eq (o : FVec Ideal S512x1024 .bf16) (w : FVec Ideal S1024x1024 .bf16) (x : FVec Ideal S512x1024 .f32) (g b : FVec Ideal S1x1024 .f32) :
    out0_7 (F := Ideal) o w x g b = k0_pay3 (F := Ideal) o w x g b := by
  unfold out0_7
  rw [View.canon_unit_zero (S := S512x1024) origin2]
  simp only [View.ld_unit_zero (S := S512x1024) origin2, View.ld_unit_zero (S := S1024x1024) origin2,
    View.ld_unit_zero (S := S1x1024) origin2]

/-- The sums of a block are those of its rows. -/
theorem merged_block (t : Fin cfg0.N) (i : Fin 512) (d : Fin 1024) :
    k0_pay1 (F := Ideal) (iblk m c 0 t) (iblk m c 1 t) (iblk m c 2 t) (ix2 i d)
      = merged (V m c main_arg0) (V m c main_arg1) (V m c main_arg2) (row t i) d := by
  refine (merged_tile _ _ _ i d).trans ?_
  refine congrArg₂ (fun p q : EReal => p + q) (congrArg (fun z : EReal => alpha * z) (block2 m c t i d)) (sum_congr rfl fun k _ => ?_)
  exact congrArg₂ (fun p q : EReal => p * q) (block0 m c t i k) (block1 m c t k d)

/-- So is the layer norm. -/
theorem output_block (t : Fin cfg0.N) (i : Fin 512) (d : Fin 1024) :
    k0_pay2 (F := Ideal) (iblk m c 0 t) (iblk m c 1 t) (iblk m c 2 t) (iblk m c 3 t) (iblk m c 4 t) (ix2 i d)
      = output (merged (V m c main_arg0) (V m c main_arg1) (V m c main_arg2) (row t i)) (V m c main_arg3) (V m c main_arg4) d := by
  refine (output_tile _ _ _ _ _ i d).trans ?_
  have hy : rowOf (k0_pay1 (F := Ideal) (iblk m c 0 t) (iblk m c 1 t) (iblk m c 2 t)) i
      = merged (V m c main_arg0) (V m c main_arg1) (V m c main_arg2) (row t i) := funext fun k => merged_block m c t i k
  rw [hy]
  exact congrArg₂ (fun p q : EReal => p + q)
    (congrArg (fun z : EReal => normal (merged (V m c main_arg0) (V m c main_arg1) (V m c main_arg2) (row t i)) d * z) (block3 m c t d)) (block4 m c t d)

/-! ## The arrays -/

/-- What the kernel's first array holds: the sums before the layer norm. -/
theorem array5 (y : S16384x1024.Idx) :
    ((dats m 0 c).arrAt 5 cfg0.N : S16384x1024.Idx → EReal) y = merged (V m c main_arg0) (V m c main_arg1) (V m c main_arg2) (y 0) (y 1) := by
  obtain ⟨t, i, ht⟩ := row_cover (y 0)
  have hv := congrFun ((blocks5 m c t (flush5 t)).trans (flushed5 m c t)) (ix2 i (y 1) : S512x1024.Idx)
  rw [← ht]
  refine Eq.trans ?_ (hv.trans ((congrFun (out5_eq _ _ _ _ _) (ix2 i (y 1) : S512x1024.Idx)).trans (merged_block m c t i (y 1))))
  refine congrArg ((dats m 0 c).arrAt 5 cfg0.N : S16384x1024.Idx → EReal) (funext fun z => Fin.ext ?_)
  match z with
  | ⟨0, _⟩ => show (y 0).val = win0_5.index t 0 * 512 + 1 * i.val; rw [(index5 t).1, ← ht]; show t.val * 512 + i.val = _; omega
  | ⟨1, _⟩ => show (y 1).val = win0_5.index t 1 * 1024 + 1 * (y 1).val; rw [(index5 t).2]; omega

/-- The second: the layer norm. -/
theorem array6 (y : S16384x1024.Idx) :
    ((dats m 0 c).arrAt 6 cfg0.N : S16384x1024.Idx → EReal) y
      = output (merged (V m c main_arg0) (V m c main_arg1) (V m c main_arg2) (y 0)) (V m c main_arg3) (V m c main_arg4) (y 1) := by
  obtain ⟨t, i, ht⟩ := row_cover (y 0)
  have hv := congrFun ((blocks6 m c t (flush6 t)).trans (flushed6 m c t)) (ix2 i (y 1) : S512x1024.Idx)
  rw [← ht]
  refine Eq.trans ?_ (hv.trans ((congrFun (out6_eq _ _ _ _ _) (ix2 i (y 1) : S512x1024.Idx)).trans (output_block m c t i (y 1))))
  refine congrArg ((dats m 0 c).arrAt 6 cfg0.N : S16384x1024.Idx → EReal) (funext fun z => Fin.ext ?_)
  match z with
  | ⟨0, _⟩ => show (y 0).val = win0_6.index t 0 * 512 + 1 * i.val; rw [(index6 t).1, ← ht]; show t.val * 512 + i.val = _; omega
  | ⟨1, _⟩ => show (y 1).val = win0_6.index t 1 * 1024 + 1 * (y 1).val; rw [(index6 t).2]; omega

/-- The third: the layer norm once more, in the shorter format. -/
theorem array7 (y : S16384x1024.Idx) :
    ((dats m 0 c).arrAt 7 cfg0.N : S16384x1024.Idx → EReal) y
      = output (merged (V m c main_arg0) (V m c main_arg1) (V m c main_arg2) (y 0)) (V m c main_arg3) (V m c main_arg4) (y 1) := by
  obtain ⟨t, i, ht⟩ := row_cover (y 0)
  have hv := congrFun ((blocks7 m c t (flush7 t)).trans (flushed7 m c t)) (ix2 i (y 1) : S512x1024.Idx)
  rw [← ht]
  refine Eq.trans ?_ (hv.trans ((congrFun (out7_eq _ _ _ _ _) (ix2 i (y 1) : S512x1024.Idx)).trans (output_block m c t i (y 1))))
  refine congrArg ((dats m 0 c).arrAt 7 cfg0.N : S16384x1024.Idx → EReal) (funext fun z => Fin.ext ?_)
  match z with
  | ⟨0, _⟩ => show (y 0).val = win0_7.index t 0 * 512 + 1 * i.val; rw [(index7 t).1, ← ht]; show t.val * 512 + i.val = _; omega
  | ⟨1, _⟩ => show (y 1).val = win0_7.index t 1 * 1024 + 1 * (y 1).val; rw [(index7 t).2]; omega

end Kernel

section Reference

open Cert.MergeRefIdeal Cert.MergeRefIdeal.Gen Cert.MergeRefIdeal.Read

variable (o : FVec Ideal S16384x1024 .bf16) (w : FVec Ideal S1024x1024 .bf16) (x : FVec Ideal S16384x1024 .f32) (g b : FVec Ideal S1024 .f32)

/-- The reference's sums. -/
theorem reference_merged (y : S16384x1024.Idx) : val_main_v5 (F := Ideal) o w x y = merged o w x (y 0) (y 1) := by
  rw [val_main_v5_apply, val_main_v1_apply, val_main_v0_apply, val_main_v4_apply]
  refine congrArg₂ (fun p q : EReal => p + q) (congrArg (fun z => alpha * x z) (eq_ix2 y)) (sum_congr rfl fun k _ => ?_)
  rw [val_main_v2_apply, val_main_v3_apply]
  exact congrArg₂ (· * ·) (congrArg o (eq_ix2 _)) (congrArg w (eq_ix2 _))

/-- Its means. -/
theorem reference_mean (i : S16384x1.Idx) : val_main_v9 (F := Ideal) o w x i = mean (merged o w x (i 0)) := by
  rw [val_main_v9_apply, val_main_v7_apply, val_main_v6_apply, val_main_v8_apply]
  refine congrArg (fun z => Ideal.div z width) ?_
  refine (congrArg (· + _) Ideal.ofBits_zero_f32).trans ((zero_add _).trans (sum_congr rfl fun k _ => ?_))
  exact reference_merged o w x _

/-- Its centred rows, as it takes them for the variance. -/
theorem reference_centred (y : S16384x1024.Idx) : val_main_v11 (F := Ideal) o w x y = centred (merged o w x (y 0)) (y 1) := by
  rw [val_main_v11_apply, val_main_v10_apply, reference_mean, reference_merged]
  rfl

/-- Its reciprocal roots. -/
theorem reference_scale (i : S16384x1.Idx) : val_main_v21 (F := Ideal) o w x i = scale (merged o w x (i 0)) := by
  rw [val_main_v21_apply, val_main_v20_apply, val_main_v16_apply, val_main_v14_apply, val_main_v13_apply, val_main_v15_apply, val_main_v19_apply]
  refine congrArg (fun z => Ideal.rsqrt (Ideal.div z width + tiny)) ?_
  refine (congrArg (· + _) Ideal.ofBits_zero_f32).trans ((zero_add _).trans (sum_congr rfl fun k _ => ?_))
  rw [val_main_v12_apply, reference_centred]
  rfl

/-- Its layer norm. -/
theorem reference_output (y : S16384x1024.Idx) : val_main_v29 (F := Ideal) o w x g b y = output (merged o w x (y 0)) g b (y 1) := by
  rw [val_main_v29_apply, val_main_v26_apply, val_main_v23_apply, val_main_v18_apply, val_main_v17_apply, val_main_v22_apply,
    reference_mean, reference_scale, reference_merged, val_main_v25_apply, val_main_v24_apply, val_main_v28_apply, val_main_v27_apply]
  refine congrArg₂ (fun p q : EReal => p + q) (congrArg (fun z => normal (merged o w x (y 0)) (y 1) * g z) ?_) (congrArg b ?_)
  · exact funext fun a => match a with | ⟨0, _⟩ => rfl
  · exact funext fun a => match a with | ⟨0, _⟩ => rfl

/-- The same in the shorter format. -/
theorem reference_short (y : S16384x1024.Idx) : val_main_v30 (F := Ideal) o w x g b y = output (merged o w x (y 0)) g b (y 1) := by
  rw [val_main_v30_apply, reference_output]
  rfl

end Reference

end Cert.MixerForward

end
-- ==== Proof.Inner.lean ====
/-
  THE GRADIENT THROUGH THE SECOND LAYER NORM, from the layer above. As at the first layer norm, the gradient that arrives is
  the scaled residual's gradient plus a product with a transposed weight, here that of the queries, keys and values. The
  kernel takes the rows in 32 blocks of 512 and adds the gain's and the bias's gradients up block by block.
-/
module

public import proofs.«01_k».proof.Proof.Gen.InnerIdeal.Value
public import proofs.«01_k».proof.Proof.Gen.InnerRefIdeal.Read
public import proofs.«01_k».proof.Proof.Norm
public import Idealize.ShloMosaic.Lib.StableHlo.RunRead

@[expose] public section

set_option maxRecDepth 16384

noncomputable section

namespace Cert.InnerGradient

open Idealize.ShloMosaic Idealize.ShloMosaic.ValueIdx Idealize.ShloMosaic.TcCoe Finset

open Cert.LayerNorm
open Cert.Dilated (IsReal)
open Cert.WeightGradient (origin2)
open Cert.NormGradient (row row_cover sum_rows arriving weighted before gainPart from_zero centred_part scale_part normal_part gain_tile bias_tile)

section Kernel

open Cert.InnerIdeal Cert.InnerIdeal.Gen Cert.InnerIdeal.Value

section Tile

variable (x : FVec Ideal S512x1024 .f32) (h : FVec Ideal S512x3072 .bf16) (w : FVec Ideal S1024x3072 .bf16) (y : FVec Ideal S512x1024 .f32)
  (g : FVec Ideal S1x1024 .f32) (i : Fin 512) (d : Fin 1024) (u : Fin 1)

theorem arriving_tile : k0_pay7 (F := Ideal) x h w (ix2 i d) = alpha * x (ix2 i d) + ∑ k : Fin 3072, h (ix2 i k) * w (ix2 d k) := by
  refine congrArg (fun z : EReal => alpha * x (ix2 i d) + z) ?_
  refine (Ideal.matmul_constant_zero_apply dot_S512x3072_S1024x3072_S512x1024_1_1_0_0_n_n none h w (ix2 i d)).trans ?_
  refine (Fintype.sum_equiv (contrEquiv1 dot_S512x3072_S1024x3072_S512x1024_1_1_0_0_n_n 3072 rfl rfl) _ _ fun c => ?_)
  refine congrArg₂ (· * ·) (congrArg h ?_) (congrArg w ?_)
  · exact funext fun a => match a with | ⟨0, _⟩ => rfl | ⟨1, _⟩ => rfl
  · exact funext fun a => match a with | ⟨0, _⟩ => rfl | ⟨1, _⟩ => rfl

/-- A row of the weighted gradient's tile. -/
def tileRow (k : Fin 1024) : EReal := k0_pay7 (F := Ideal) x h w (ix2 i k) * g (ix2 0 k)

theorem weighted_part : k0_pay11 (F := Ideal) x h w g (ix2 i d) = tileRow x h w g i d :=
  congrArg (fun z : EReal => k0_pay7 (F := Ideal) x h w (ix2 i d) * z)
    ((broadcastTo_1b_ab_apply _ broadcasts_S1x1024_S512x1024 i d).trans (congrFun (shapeCast_self g _) _))

theorem product_part : k0_pay12 (F := Ideal) x h w y g (ix2 i u) = mean (fun k => tileRow x h w g i k * normal (rowOf y i) k) :=
  (mean_tile (mulf (k0_pay11 (F := Ideal) x h w g) (k0_pay10 (F := Ideal) y)) reduces_S512x1024_S512 shapeCasts_S512_S512x1 i u).trans
    (congrArg mean (funext fun k => congrArg₂ (fun p q : EReal => p * q) (weighted_part x h w g i k) (normal_part y i k)))

theorem mean_part : k0_pay13 (F := Ideal) x h w g (ix2 i d) = mean (tileRow x h w g i) :=
  (spread_tile broadcasts_S512x1_S512x1024 i d _).trans
    ((mean_tile (k0_pay11 (F := Ideal) x h w g) reduces_S512x1024_S512 shapeCasts_S512_S512x1 i 0).trans
      (congrArg mean (funext fun k => weighted_part x h w g i k)))

/-- The tile of the rows' gradients. -/
abbrev tile : FVec Ideal S512x1024 .f32 :=
  k0_pay1 (F := Ideal) (k0_pay9 y) (k0_pay10 y) (k0_pay11 x h w g) (k0_pay12 x h w y g) (k0_pay13 x h w g)

theorem tile_apply : tile x h w y g (ix2 i d) = back (rowOf y i) (tileRow x h w g i) d := by
  refine congrArg₂ (fun p q : EReal => p * q) ((spread_tile broadcasts_S512x1_S512x1024 i d _).trans (scale_part y i 0)) ?_
  refine congrArg₂ (fun p q : EReal => p - q) (congrArg₂ (fun p q : EReal => p - q) (weighted_part x h w g i d) (mean_part x h w g i d)) ?_
  exact congrArg₂ (fun p q : EReal => p * q) (normal_part y i d) ((spread_tile broadcasts_S512x1_S512x1024 i d _).trans (product_part x h w y g i 0))

end Tile

/-! ## What a point leaves in the blocks -/

section Cases

variable (c : Dev nD) (i : grid0.Coords)
  (a1 : Memref sig .tc .vmem S512x3072 .bf16) (h1 : a1.IsWhole)
  (a2 : Memref sig .tc .vmem S1024x3072 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (h : Vec Ideal S512x3072 .bf16) (w : Vec Ideal S1024x3072 .bf16) (x y : Vec Ideal S512x1024 .f32) (g : Vec Ideal S1x1024 .f32)
  (e f : Vec Ideal S1x1024 .f32)

theorem out5_A (hc : cond0_0 i) : out0_A_5 (F := Ideal) c i a1 h1 a2 h2 a3 h3 a4 h4 a5 h5 a6 h6 a7 h7 a8 h8 a9 h9 hc h w x y g
    = tile x h w y g := by
  unfold out0_A_5
  rw [View.read_writes_eq_canon _ _ _ (cover0_A_5 c i a1 h1 a2 h2 a3 h3 a4 h4 a5 h5 a6 h6 a7 h7 a8 h8 a9 h9 hc h w x y g)]
  unfold kernelRun0_A
  dsimp only
  sl_unfold_words
  rw [View.canon_unit_zero (S := S512x1024) origin2]
  simp only [View.readAt_eq_ld, h1.read_unread, h2.read_unread, h3.read_unread, h4.read_unread, h5.read_unread, View.ld_unit_zero (S := S512x3072) origin2,
    View.ld_unit_zero (S := S1024x3072) origin2, View.ld_unit_zero (S := S512x1024) origin2, View.ld_unit_zero (S := S1x1024) origin2]

theorem out5_B (hc : ¬cond0_0 i) : out0_B_5 (F := Ideal) c i a1 h1 a2 h2 a3 h3 a4 h4 a5 h5 a6 h6 a7 h7 a8 h8 a9 h9 hc h w x y g e f
    = tile x h w y g := by
  unfold out0_B_5
  rw [View.read_writes_eq_canon _ _ _ (cover0_B_5 c i a1 h1 a2 h2 a3 h3 a4 h4 a5 h5 a6 h6 a7 h7 a8 h8 a9 h9 hc h w x y g e f)]
  unfold kernelRun0_B
  dsimp only
  sl_unfold_words
  rw [View.canon_unit_zero (S := S512x1024) origin2]
  simp only [View.readAt_eq_ld, h1.read_unread, h2.read_unread, h3.read_unread, h4.read_unread, h5.read_unread, h8.read_unread, h9.read_unread, View.ld_unit_zero (S := S512x3072) origin2,
    View.ld_unit_zero (S := S1024x3072) origin2, View.ld_unit_zero (S := S512x1024) origin2, View.ld_unit_zero (S := S1x1024) origin2]

theorem out6_A (hc : cond0_0 i) : out0_A_6 (F := Ideal) c i a1 h1 a2 h2 a3 h3 a4 h4 a5 h5 a6 h6 a7 h7 a8 h8 a9 h9 hc h w x y g
    = k0_pay2 (F := Ideal) (k0_pay9 y) (k0_pay10 y) (k0_pay11 x h w g) (k0_pay12 x h w y g) (k0_pay13 x h w g) := by
  unfold out0_A_6
  rw [View.read_writes_eq_canon _ _ _ (cover0_A_6 c i a1 h1 a2 h2 a3 h3 a4 h4 a5 h5 a6 h6 a7 h7 a8 h8 a9 h9 hc h w x y g)]
  unfold kernelRun0_A
  dsimp only
  sl_unfold_words
  rw [View.canon_unit_zero (S := S512x1024) origin2]
  simp only [View.readAt_eq_ld, h1.read_unread, h2.read_unread, h3.read_unread, h4.read_unread, h5.read_unread, View.ld_unit_zero (S := S512x3072) origin2,
    View.ld_unit_zero (S := S1024x3072) origin2, View.ld_unit_zero (S := S512x1024) origin2, View.ld_unit_zero (S := S1x1024) origin2]

theorem out6_B (hc : ¬cond0_0 i) : out0_B_6 (F := Ideal) c i a1 h1 a2 h2 a3 h3 a4 h4 a5 h5 a6 h6 a7 h7 a8 h8 a9 h9 hc h w x y g e f
    = k0_pay2 (F := Ideal) (k0_pay9 y) (k0_pay10 y) (k0_pay11 x h w g) (k0_pay12 x h w y g) (k0_pay13 x h w g) := by
  unfold out0_B_6
  rw [View.read_writes_eq_canon _ _ _ (cover0_B_6 c i a1 h1 a2 h2 a3 h3 a4 h4 a5 h5 a6 h6 a7 h7 a8 h8 a9 h9 hc h w x y g e f)]
  unfold kernelRun0_B
  dsimp only
  sl_unfold_words
  rw [View.canon_unit_zero (S := S512x1024) origin2]
  simp only [View.readAt_eq_ld, h1.read_unread, h2.read_unread, h3.read_unread, h4.read_unread, h5.read_unread, h8.read_unread, h9.read_unread, View.ld_unit_zero (S := S512x3072) origin2,
    View.ld_unit_zero (S := S1024x3072) origin2, View.ld_unit_zero (S := S512x1024) origin2, View.ld_unit_zero (S := S1x1024) origin2]

theorem out7_A (hc : cond0_0 i) : out0_A_7 (F := Ideal) c i a1 h1 a2 h2 a3 h3 a4 h4 a5 h5 a6 h6 a7 h7 a8 h8 a9 h9 hc h w x y g
    = k0_pay5 (F := Ideal) (k0_pay7 x h w) (k0_pay10 y) (k0_pay3 (F := Ideal)) := by
  unfold out0_A_7
  rw [View.read_writes_eq_canon _ _ _ (cover0_A_7 c i a1 h1 a2 h2 a3 h3 a4 h4 a5 h5 a6 h6 a7 h7 a8 h8 a9 h9 hc h w x y g)]
  unfold kernelRun0_A
  dsimp only
  sl_unfold_words
  rw [View.canon_cons_unit_zero (S := S1x1024) origin2, View.readCov_unit_zero (S := S1x1024) _ origin2]
  simp only [View.readAt_eq_ld, h1.read_unread, h2.read_unread, h3.read_unread, h4.read_unread, h5.read_unread, View.ld_unit_zero (S := S512x3072) origin2,
    View.ld_unit_zero (S := S1024x3072) origin2, View.ld_unit_zero (S := S512x1024) origin2, View.ld_unit_zero (S := S1x1024) origin2]

theorem out7_B (hc : ¬cond0_0 i) : out0_B_7 (F := Ideal) c i a1 h1 a2 h2 a3 h3 a4 h4 a5 h5 a6 h6 a7 h7 a8 h8 a9 h9 hc h w x y g e f
    = k0_pay5 (F := Ideal) (k0_pay7 x h w) (k0_pay10 y) e := by
  unfold out0_B_7
  rw [View.read_writes_eq_canon _ _ _ (cover0_B_7 c i a1 h1 a2 h2 a3 h3 a4 h4 a5 h5 a6 h6 a7 h7 a8 h8 a9 h9 hc h w x y g e f)]
  unfold kernelRun0_B
  dsimp only
  sl_unfold_words
  rw [View.canon_unit_zero (S := S1x1024) origin2]
  simp only [View.readAt_eq_ld, h1.read_unread, h2.read_unread, h3.read_unread, h4.read_unread, h5.read_unread, h8.read_unread, h9.read_unread, View.ld_unit_zero (S := S512x3072) origin2,
    View.ld_unit_zero (S := S1024x3072) origin2, View.ld_unit_zero (S := S512x1024) origin2, View.ld_unit_zero (S := S1x1024) origin2]

theorem out8_A (hc : cond0_0 i) : out0_A_8 (F := Ideal) c i a1 h1 a2 h2 a3 h3 a4 h4 a5 h5 a6 h6 a7 h7 a8 h8 a9 h9 hc h w x y g
    = k0_pay6 (F := Ideal) (k0_pay7 x h w) (k0_pay4 (F := Ideal)) := by
  unfold out0_A_8
  rw [View.read_writes_eq_canon _ _ _ (cover0_A_8 c i a1 h1 a2 h2 a3 h3 a4 h4 a5 h5 a6 h6 a7 h7 a8 h8 a9 h9 hc h w x y g)]
  unfold kernelRun0_A
  dsimp only
  sl_unfold_words
  rw [View.canon_cons_unit_zero (S := S1x1024) origin2, View.readCov_unit_zero (S := S1x1024) _ origin2]
  simp only [View.readAt_eq_ld, h1.read_unread, h2.read_unread, h3.read_unread, h4.read_unread, h5.read_unread, View.ld_unit_zero (S := S512x3072) origin2,
    View.ld_unit_zero (S := S1024x3072) origin2, View.ld_unit_zero (S := S512x1024) origin2, View.ld_unit_zero (S := S1x1024) origin2]

theorem out8_B (hc : ¬cond0_0 i) : out0_B_8 (F := Ideal) c i a1 h1 a2 h2 a3 h3 a4 h4 a5 h5 a6 h6 a7 h7 a8 h8 a9 h9 hc h w x y g e f
    = k0_pay6 (F := Ideal) (k0_pay7 x h w) f := by
  unfold out0_B_8
  rw [View.read_writes_eq_canon _ _ _ (cover0_B_8 c i a1 h1 a2 h2 a3 h3 a4 h4 a5 h5 a6 h6 a7 h7 a8 h8 a9 h9 hc h w x y g e f)]
  unfold kernelRun0_B
  dsimp only
  sl_unfold_words
  rw [View.canon_unit_zero (S := S1x1024) origin2]
  simp only [View.readAt_eq_ld, h1.read_unread, h2.read_unread, h3.read_unread, h4.read_unread, h5.read_unread, h8.read_unread, h9.read_unread, View.ld_unit_zero (S := S512x3072) origin2,
    View.ld_unit_zero (S := S1024x3072) origin2, View.ld_unit_zero (S := S512x1024) origin2, View.ld_unit_zero (S := S1x1024) origin2]

end Cases

/-! ## The blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true ↔ t.val = 31 := by decide +kernel
theorem flush8 : ∀ t : Fin cfg0.N, (cfg0.win 8).flush t = true ↔ t.val = 31 := by decide +kernel

variable (m : (ℓ : Loc nD τ sig) → Buf (Elt Ideal) ℓ) (c : Dev nD)

theorem block0 (t : Fin cfg0.N) (i : Fin 512) (k : Fin 3072) :
    (iblk m c 0 t : S512x3072.Idx → EReal) (ix2 i k) = (V m c main_arg0 : S16384x3072.Idx → EReal) (ix2 (row t.val i) k) := by
  show V m c main_arg0 _ = V m c main_arg0 _
  congr 1
  funext z
  apply Fin.ext
  have ht := Nat.mod_eq_of_lt (show t.val < 32 from t.isLt)
  match z with
  | ⟨0, _⟩ => show win0_0.index t 0 * 512 + 1 * i.val = t.val % 32 * 512 + i.val; rw [(index0 t).1]; omega
  | ⟨1, _⟩ => show win0_0.index t 1 * 3072 + 1 * k.val = k.val; rw [(index0 t).2]; omega

theorem block1 (t : Fin cfg0.N) (d : Fin 1024) (k : Fin 3072) :
    (iblk m c 1 t : S1024x3072.Idx → EReal) (ix2 d k) = (V m c main_arg1 : S1024x3072.Idx → EReal) (ix2 d k) := by
  show V m c main_arg1 _ = V m c main_arg1 _
  congr 1
  funext z
  apply Fin.ext
  match z with
  | ⟨0, _⟩ => show win0_1.index t 0 * 1024 + 1 * d.val = d.val; rw [(index1 t).1]; omega
  | ⟨1, _⟩ => show win0_1.index t 1 * 3072 + 1 * k.val = k.val; rw [(index1 t).2]; omega

theorem block2 (t : Fin cfg0.N) (i : Fin 512) (d : Fin 1024) :
    (iblk m c 2 t : S512x1024.Idx → EReal) (ix2 i d) = (V m c main_arg2 : S16384x1024.Idx → EReal) (ix2 (row t.val i) d) := by
  show V m c main_arg2 _ = V m c main_arg2 _
  congr 1
  funext z
  apply Fin.ext
  have ht := Nat.mod_eq_of_lt (show t.val < 32 from t.isLt)
  match z with
  | ⟨0, _⟩ => show win0_2.index t 0 * 512 + 1 * i.val = t.val % 32 * 512 + i.val; rw [(index2 t).1]; omega
  | ⟨1, _⟩ => show win0_2.index t 1 * 1024 + 1 * d.val = d.val; rw [(index2 t).2]; omega

theorem block3 (t : Fin cfg0.N) (i : Fin 512) (d : Fin 1024) :
    (iblk m c 3 t : S512x1024.Idx → EReal) (ix2 i d) = (V m c main_arg3 : S16384x1024.Idx → EReal) (ix2 (row t.val i) d) := by
  show V m c main_arg3 _ = V m c main_arg3 _
  congr 1
  funext z
  apply Fin.ext
  have ht := Nat.mod_eq_of_lt (show t.val < 32 from t.isLt)
  match z with
  | ⟨0, _⟩ => show win0_3.index t 0 * 512 + 1 * i.val = t.val % 32 * 512 + i.val; rw [(index3 t).1]; omega
  | ⟨1, _⟩ => show win0_3.index t 1 * 1024 + 1 * d.val = d.val; rw [(index3 t).2]; omega

/-- The gain as the kernel finds it: the argument as one row. -/
theorem gain_eq (d : Fin 1024) : (V m c main_v0 : S1x1024.Idx → EReal) (ix2 0 d) = (V m c main_arg4 : S1024.Idx → EReal) (ix1 d) := by
  have h : (V m c main_v0 : S1x1024.Idx → EReal) = shapeCast S1x1024 (V m c main_arg4 : S1024.Idx → EReal) shapeCasts_S1024_S1x1024 := by
    rw [V_main_arg4]
    unfold V hostOps0
    after_reads_simp
    rfl
  exact (congrFun h (ix2 0 d)).trans (shapeCast_a_1a_apply _ shapeCasts_S1024_S1x1024 0 d)

theorem block4 (t : Fin cfg0.N) (d : Fin 1024) :
    (iblk m c 4 t : S1x1024.Idx → EReal) (ix2 0 d) = (V m c main_arg4 : S1024.Idx → EReal) (ix1 d) := by
  refine Eq.trans ?_ (gain_eq m c d)
  show V m c main_v0 _ = V m c main_v0 _
  congr 1
  funext z
  apply Fin.ext
  match z with
  | ⟨0, _⟩ => show win0_4.index t 0 * 1 + 1 * 0 = 0; rw [(index4 t).1]
  | ⟨1, _⟩ => show win0_4.index t 1 * 1024 + 1 * d.val = d.val; rw [(index4 t).2]; omega

/-- The arriving gradients of a block are those of its rows. -/
theorem arriving_block (t : Fin cfg0.N) (i : Fin 512) (d : Fin 1024) :
    k0_pay7 (F := Ideal) (iblk m c 2 t) (iblk m c 0 t) (iblk m c 1 t) (ix2 i d)
      = arriving (V m c main_arg0) (V m c main_arg1) (V m c main_arg2) (row t.val i) d := by
  refine (arriving_tile _ _ _ i d).trans ?_
  refine congrArg₂ (fun p q : EReal => p + q) (congrArg (fun z : EReal => alpha * z) (block2 m c t i d)) (sum_congr rfl fun k _ => ?_)
  exact congrArg₂ (fun p q : EReal => p * q) (block0 m c t i k) (block1 m c t d k)

theorem before_block (t : Fin cfg0.N) (i : Fin 512) : rowOf (iblk m c 3 t) i = before (V m c main_arg3) (row t.val i) :=
  funext fun k => block3 m c t i k

/-- So are the rows' gradients. -/
theorem back_block (t : Fin cfg0.N) (i : Fin 512) (d : Fin 1024) :
    tile (iblk m c 2 t) (iblk m c 0 t) (iblk m c 1 t) (iblk m c 3 t) (iblk m c 4 t) (ix2 i d)
      = back (before (V m c main_arg3) (row t.val i))
          (weighted (V m c main_arg0) (V m c main_arg1) (V m c main_arg2) (V m c main_arg4) (row t.val i)) d := by
  refine (tile_apply _ _ _ _ _ i d).trans ?_
  rw [before_block]
  refine congrArg (fun p => back (before (V m c main_arg3) (row t.val i)) p d) (funext fun k => ?_)
  exact congrArg₂ (fun p q : EReal => p * q) (arriving_block m c t i k) (block4 m c t k)

/-! ## The arrays -/

/-- At every point the first output's block is the tile of the rows' gradients. -/
theorem point5 (t : Fin cfg0.N) :
    (outsAt0 m c t.val t.isLt).1 = tile (iblk m c 2 t) (iblk m c 0 t) (iblk m c 1 t) (iblk m c 3 t) (iblk m c 4 t) := by
  by_cases h0 : t.val % 32 = 0
  · rw [outsAt0_A m c t h0]
    dsimp only
    exact out5_A ..
  · rw [outsAt0_B m c t h0]
    dsimp only
    exact out5_B ..

/-- The second's is the same tile in the shorter format. -/
theorem point6 (t : Fin cfg0.N) (z : S512x1024.Idx) :
    (outsAt0 m c t.val t.isLt).2.1 z = tile (iblk m c 2 t) (iblk m c 0 t) (iblk m c 1 t) (iblk m c 3 t) (iblk m c 4 t) z := by
  by_cases h0 : t.val % 32 = 0
  · rw [outsAt0_A m c t h0]
    dsimp only
    rw [out6_A]
    rfl
  · rw [outsAt0_B m c t h0]
    dsimp only
    rw [out6_B]
    rfl

/-- What the kernel's first array holds: the rows' gradients. -/
theorem array5 (y : S16384x1024.Idx) :
    ((dats m 0 c).arrAt 5 cfg0.N : S16384x1024.Idx → EReal) y
      = back (before (V m c main_arg3) (y 0)) (weighted (V m c main_arg0) (V m c main_arg1) (V m c main_arg2) (V m c main_arg4) (y 0)) (y 1) := by
  obtain ⟨t, i, ht⟩ := row_cover (y 0)
  have hv := congrFun ((blocks5 m c t (flush5 t)).trans (flushed5 m c t)) (ix2 i (y 1) : S512x1024.Idx)
  have hm := Nat.mod_eq_of_lt (show t.val < 32 from t.isLt)
  rw [← ht]
  refine Eq.trans ?_ (hv.trans ((congrFun (point5 m c t) (ix2 i (y 1) : S512x1024.Idx)).trans (back_block m c t i (y 1))))
  refine congrArg ((dats m 0 c).arrAt 5 cfg0.N : S16384x1024.Idx → EReal) (funext fun z => Fin.ext ?_)
  match z with
  | ⟨0, _⟩ => show (y 0).val = win0_5.index t 0 * 512 + 1 * i.val; rw [(index5 t).1, ← ht]; show t.val % 32 * 512 + i.val = _; omega
  | ⟨1, _⟩ => show (y 1).val = win0_5.index t 1 * 1024 + 1 * (y 1).val; rw [(index5 t).2]; omega

/-- The second holds them in the shorter format. -/
theorem array6 (y : S16384x1024.Idx) :
    ((dats m 0 c).arrAt 6 cfg0.N : S16384x1024.Idx → EReal) y
      = back (before (V m c main_arg3) (y 0)) (weighted (V m c main_arg0) (V m c main_arg1) (V m c main_arg2) (V m c main_arg4) (y 0)) (y 1) := by
  obtain ⟨t, i, ht⟩ := row_cover (y 0)
  have hv := congrFun ((blocks6 m c t (flush6 t)).trans (flushed6 m c t)) (ix2 i (y 1) : S512x1024.Idx)
  have hm := Nat.mod_eq_of_lt (show t.val < 32 from t.isLt)
  rw [← ht]
  refine Eq.trans ?_ (hv.trans ((point6 m c t (ix2 i (y 1) : S512x1024.Idx)).trans (back_block m c t i (y 1))))
  refine congrArg ((dats m 0 c).arrAt 6 cfg0.N : S16384x1024.Idx → EReal) (funext fun z => Fin.ext ?_)
  match z with
  | ⟨0, _⟩ => show (y 0).val = win0_6.index t 0 * 512 + 1 * i.val; rw [(index6 t).1, ← ht]; show t.val % 32 * 512 + i.val = _; omega
  | ⟨1, _⟩ => show (y 1).val = win0_6.index t 1 * 1024 + 1 * (y 1).val; rw [(index6 t).2]; omega

/-- A block adds its rows' part of the gain's gradient. -/
theorem gain_step (t : Fin cfg0.N) (d : Fin 1024) (v : FVec Ideal S1x1024 .f32) :
    k0_pay5 (F := Ideal) (k0_pay7 (iblk m c 2 t) (iblk m c 0 t) (iblk m c 1 t)) (k0_pay10 (iblk m c 3 t)) v (ix2 0 d)
      = v (ix2 0 d) + ∑ i : Fin 512, (gainPart (V m c main_arg0) (V m c main_arg1) (V m c main_arg2) (V m c main_arg3) d) (row t.val i) := by
  refine (gain_tile d _ _ v).trans (congrArg (fun z : EReal => v (ix2 0 d) + z) (sum_congr rfl fun i _ => ?_))
  exact congrArg₂ (fun p q : EReal => p * q) (arriving_block m c t i d)
    ((normal_part _ i d).trans (congrArg (fun r => normal r d) (before_block m c t i)))

/-- After each point the gain's block holds the sum over the rows so far. -/
theorem gain_accumulated (d : Fin 1024) : ∀ (n : ℕ) (h : n < cfg0.N),
    (outsAt0 m c n h).2.2.1 (ix2 0 d) = ∑ t ∈ range (n + 1), ∑ i : Fin 512, (gainPart (V m c main_arg0) (V m c main_arg1) (V m c main_arg2) (V m c main_arg3) d) (row t i) := by
  intro n
  induction n with
  | zero =>
    intro h
    rw [outsAt0_A m c ⟨0, h⟩ rfl]
    dsimp only
    rw [out7_A, sum_range_one]
    exact (gain_step m c ⟨0, h⟩ d _).trans ((congrArg (· + _) Ideal.ofBits_zero_f32).trans (zero_add _))
  | succ n ih =>
    intro h
    have hn : ¬(n + 1) % 32 = 0 := by have : n + 1 < 32 := h; omega
    rw [outsAt0_B m c ⟨n + 1, h⟩ hn]
    dsimp only
    rw [out7_B, sum_range_succ]
    exact (gain_step m c ⟨n + 1, h⟩ d _).trans (congrArg (· + _) (ih (Nat.lt_of_succ_lt h)))

/-- After the last point it holds the sum over all rows. -/
theorem gain_last (d : Fin 1024) (n : ℕ) (h : n < cfg0.N) (hn : n = 31) :
    (outsAt0 m c n h).2.2.1 (ix2 0 d) = ∑ s : Fin 16384, (gainPart (V m c main_arg0) (V m c main_arg1) (V m c main_arg2) (V m c main_arg3) d) s := by
  rw [sum_rows, gain_accumulated, hn]

theorem array7_apply (d : Fin 1024) :
    ((dats m 0 c).arrAt 7 cfg0.N : S1x1024.Idx → EReal) (ix2 0 d) = ∑ s : Fin 16384, (gainPart (V m c main_arg0) (V m c main_arg1) (V m c main_arg2) (V m c main_arg3) d) s := by
  have hl : 31 < cfg0.N := by show 31 < 32; decide
  obtain ⟨t, ht⟩ : ∃ t : Fin cfg0.N, t = ⟨31, hl⟩ := ⟨_, rfl⟩
  have hf : (cfg0.win 7).flush t = true := (flush7 t).2 (by rw [ht])
  have hb := ((dats m 0 c).read_blk_arrAt_eq_flushed 7 (fun t t' ht ht' hne => absurd (Fin.ext (((flush7 t).1 ht).trans ((flush7 t').1 ht').symm)) hne)
    cfg0.N t t.isLt hf).trans (flushed7 m c t)
  refine Eq.trans ?_ ((congrFun hb (ix2 0 d : S1x1024.Idx)).trans (gain_last m c d t.val t.isLt (congrArg Fin.val ht)))
  refine congrArg ((dats m 0 c).arrAt 7 cfg0.N : S1x1024.Idx → EReal) (funext fun z => Fin.ext ?_)
  match z with
  | ⟨0, _⟩ => show 0 = win0_7.index t 0 * 1 + 1 * 0; rw [(index7 t).1]
  | ⟨1, _⟩ => show d.val = win0_7.index t 1 * 1024 + 1 * d.val; rw [(index7 t).2]; omega

/-- What the kernel's array of the gain's gradient holds. -/
theorem array7 (y : S1x1024.Idx) :
    ((dats m 0 c).arrAt 7 cfg0.N : S1x1024.Idx → EReal) y = ∑ s : Fin 16384, (gainPart (V m c main_arg0) (V m c main_arg1) (V m c main_arg2) (V m c main_arg3) (y 1)) s := by
  have e0 : (0 : Fin 1) = y 0 := Fin.ext (by have h0 : (y 0).val < 1 := (y 0).isLt; show 0 = (y 0).val; omega)
  have h := array7_apply m c (y 1)
  rw [e0] at h
  exact (congrArg ((dats m 0 c).arrAt 7 cfg0.N : S1x1024.Idx → EReal) (eq_ix2 y)).trans h

/-- A block adds its rows' part of the bias's gradient. -/
theorem bias_step (t : Fin cfg0.N) (d : Fin 1024) (v : FVec Ideal S1x1024 .f32) :
    k0_pay6 (F := Ideal) (k0_pay7 (iblk m c 2 t) (iblk m c 0 t) (iblk m c 1 t)) v (ix2 0 d)
      = v (ix2 0 d) + ∑ i : Fin 512, (fun s => arriving (V m c main_arg0) (V m c main_arg1) (V m c main_arg2) s d) (row t.val i) := by
  refine (bias_tile d _ v).trans (congrArg (fun z : EReal => v (ix2 0 d) + z) (sum_congr rfl fun i _ => ?_))
  exact arriving_block m c t i d

/-- After each point the bias's block holds the sum over the rows so far. -/
theorem bias_accumulated (d : Fin 1024) : ∀ (n : ℕ) (h : n < cfg0.N),
    (outsAt0 m c n h).2.2.2 (ix2 0 d) = ∑ t ∈ range (n + 1), ∑ i : Fin 512, (fun s => arriving (V m c main_arg0) (V m c main_arg1) (V m c main_arg2) s d) (row t i) := by
  intro n
  induction n with
  | zero =>
    intro h
    rw [outsAt0_A m c ⟨0, h⟩ rfl]
    dsimp only
    rw [out8_A, sum_range_one]
    exact (bias_step m c ⟨0, h⟩ d _).trans ((congrArg (· + _) Ideal.ofBits_zero_f32).trans (zero_add _))
  | succ n ih =>
    intro h
    have hn : ¬(n + 1) % 32 = 0 := by have : n + 1 < 32 := h; omega
    rw [outsAt0_B m c ⟨n + 1, h⟩ hn]
    dsimp only
    rw [out8_B, sum_range_succ]
    exact (bias_step m c ⟨n + 1, h⟩ d _).trans (congrArg (· + _) (ih (Nat.lt_of_succ_lt h)))

/-- After the last point it holds the sum over all rows. -/
theorem bias_last (d : Fin 1024) (n : ℕ) (h : n < cfg0.N) (hn : n = 31) :
    (outsAt0 m c n h).2.2.2 (ix2 0 d) = ∑ s : Fin 16384, (fun s => arriving (V m c main_arg0) (V m c main_arg1) (V m c main_arg2) s d) s := by
  rw [sum_rows, bias_accumulated, hn]

theorem array8_apply (d : Fin 1024) :
    ((dats m 0 c).arrAt 8 cfg0.N : S1x1024.Idx → EReal) (ix2 0 d) = ∑ s : Fin 16384, (fun s => arriving (V m c main_arg0) (V m c main_arg1) (V m c main_arg2) s d) s := by
  have hl : 31 < cfg0.N := by show 31 < 32; decide
  obtain ⟨t, ht⟩ : ∃ t : Fin cfg0.N, t = ⟨31, hl⟩ := ⟨_, rfl⟩
  have hf : (cfg0.win 8).flush t = true := (flush8 t).2 (by rw [ht])
  have hb := ((dats m 0 c).read_blk_arrAt_eq_flushed 8 (fun t t' ht ht' hne => absurd (Fin.ext (((flush8 t).1 ht).trans ((flush8 t').1 ht').symm)) hne)
    cfg0.N t t.isLt hf).trans (flushed8 m c t)
  refine Eq.trans ?_ ((congrFun hb (ix2 0 d : S1x1024.Idx)).trans (bias_last m c d t.val t.isLt (congrArg Fin.val ht)))
  refine congrArg ((dats m 0 c).arrAt 8 cfg0.N : S1x1024.Idx → EReal) (funext fun z => Fin.ext ?_)
  match z with
  | ⟨0, _⟩ => show 0 = win0_8.index t 0 * 1 + 1 * 0; rw [(index8 t).1]
  | ⟨1, _⟩ => show d.val = win0_8.index t 1 * 1024 + 1 * d.val; rw [(index8 t).2]; omega

/-- What the kernel's array of the bias's gradient holds. -/
theorem array8 (y : S1x1024.Idx) :
    ((dats m 0 c).arrAt 8 cfg0.N : S1x1024.Idx → EReal) y = ∑ s : Fin 16384, (fun s => arriving (V m c main_arg0) (V m c main_arg1) (V m c main_arg2) s (y 1)) s := by
  have e0 : (0 : Fin 1) = y 0 := Fin.ext (by have h0 : (y 0).val < 1 := (y 0).isLt; show 0 = (y 0).val; omega)
  have h := array8_apply m c (y 1)
  rw [e0] at h
  exact (congrArg ((dats m 0 c).arrAt 8 cfg0.N : S1x1024.Idx → EReal) (eq_ix2 y)).trans h

end Kernel

section Reference

open Cert.InnerRefIdeal Cert.InnerRefIdeal.Gen Cert.InnerRefIdeal.Read

variable (h : FVec Ideal S16384x3072 .bf16) (w : FVec Ideal S1024x3072 .bf16) (x y : FVec Ideal S16384x1024 .f32) (g : FVec Ideal S1024 .f32)

/-! The lines that take the rows alone are those of the first layer norm's gradient. -/

theorem index50 (i : S16384x1.Idx) : idx_main_v50 i = ix1 (n := 16384) (i 0) := NormGradient.index50 i
theorem index56 (i : S16384x1.Idx) : idx_main_v56 i = ix1 (n := 16384) (i 0) := NormGradient.index50 i
theorem index64 (i : S16384x1.Idx) : idx_main_v64 i = ix1 (n := 16384) (i 0) := NormGradient.index50 i
theorem index44 (i : S1x1024.Idx) : idx_main_v44 i = ix1 (n := 1024) (i 1) := NormGradient.index44 i
theorem index40 (i : S1x1024.Idx) : idx_main_v40 i = ix1 (n := 1024) (i 1) := NormGradient.index44 i

theorem reference_centred (z : S16384x1024.Idx) : val_main_v8 (F := Ideal) y z = centred (before y (z 0)) (z 1) := NormGradient.reference_centred y z

theorem reference_centred_again (z : S16384x1024.Idx) : val_main_v17 (F := Ideal) y z = centred (before y (z 0)) (z 1) :=
  NormGradient.reference_centred_again y z

theorem reference_scale (i : S16384x1.Idx) : val_main_v20 (F := Ideal) y i = scale (before y (i 0)) := NormGradient.reference_scale y i

theorem reference_slope (i : S16384x1.Idx) : val_main_v23 (F := Ideal) y i
    = minusHalf * Ideal.div (scale (before y (i 0))) (mean (fun k => centred (before y (i 0)) k * centred (before y (i 0)) k) + tiny) :=
  NormGradient.reference_slope y i

theorem reference_normal (z : S16384x1024.Idx) : val_main_v25 (F := Ideal) y z = normal (before y (z 0)) (z 1) := NormGradient.reference_normal y z

/-- The gradient that arrives at the layer norm's output. -/
theorem reference_arriving (z : S16384x1024.Idx) : val_main_v38 (F := Ideal) h w x z = arriving h w x (z 0) (z 1) := by
  rw [val_main_v38_apply, val_main_v35_apply, val_main_v37_apply, val_main_v36_apply]
  refine (add_comm (G := EReal) _ _).trans ?_
  refine congrArg₂ (fun p q : EReal => p + q) (congrArg (fun u => alpha * x u) (eq_ix2 z)) (sum_congr rfl fun k _ => ?_)
  rw [val_main_v0_apply, val_main_v1_apply]
  exact congrArg₂ (fun p q : EReal => p * q) (congrArg h (eq_ix2 _)) (congrArg w (eq_ix2 _))

theorem reference_weighted (z : S16384x1024.Idx) : val_main_v46 (F := Ideal) h w x g z = weighted h w x g (z 0) (z 1) := by
  rw [val_main_v46_apply, val_main_v45_apply, val_main_v26_apply, reference_arriving]
  exact congrArg (fun u => arriving h w x (z 0) (z 1) * g u) (eq_ix1 _)

/-- The gradient of the variance, divided by the number of columns. -/
theorem reference_spread (i : S16384.Idx) : val_main_v59 (F := Ideal) h w x y g i = spread (before y (i 0)) (weighted h w x g (i 0)) := by
  rw [val_main_v59_apply]
  refine from_zero Ideal.ofBits_zero_f32 _ _ ((Fin.sum_univ_one _).trans ?_)
  rw [val_main_v58_apply, val_main_v53_apply, val_main_v50_apply, index50, val_main_v49_apply, val_main_v57_apply, reference_slope]
  refine congrArg (fun z : EReal => Ideal.div (z * _) width) (from_zero Ideal.ofBits_zero_f32 _ _ (sum_congr rfl fun k _ => ?_))
  rw [val_main_v48_apply, reference_centred_again, reference_weighted]
  rfl

theorem reference_scaled (z : S16384x1024.Idx) :
    val_main_v52 (F := Ideal) h w x y g z = weighted h w x g (z 0) (z 1) * scale (before y (z 0)) := by
  rw [val_main_v52_apply, val_main_v51_apply, reference_weighted, reference_scale]
  rfl

theorem reference_turned (z : S16384x1024.Idx) : val_main_v61 (F := Ideal) h w x y g z
    = spread (before y (z 0)) (weighted h w x g (z 0)) * (two * centred (before y (z 0)) (z 1)) := by
  rw [val_main_v61_apply, val_main_v60_apply, val_main_v11_apply, val_main_v10_apply, reference_spread, reference_centred]
  rfl

/-- The gradient of the rows, by the chain rule. -/
theorem reference_chain (z : S16384x1024.Idx) : val_main_v71 (F := Ideal) h w x y g z = chain (before y (z 0)) (weighted h w x g (z 0)) (z 1) := by
  rw [val_main_v71_apply, val_main_v65_apply, val_main_v70_apply, val_main_v69_apply, reference_scaled, reference_turned]
  refine congrArg (fun q : EReal => weighted h w x g (z 0) (z 1) * scale (before y (z 0))
    + spread (before y (z 0)) (weighted h w x g (z 0)) * (two * centred (before y (z 0)) (z 1)) + q) ?_
  refine from_zero Ideal.ofBits_zero_f32 _ _ ((Fin.sum_univ_one _).trans ?_)
  rw [val_main_v68_apply, val_main_v66_apply, val_main_v56_apply, index56, val_main_v55_apply, val_main_v64_apply, index64, val_main_v63_apply, val_main_v67_apply]
  refine congrArg₂ (fun p q : EReal => Ideal.div (p + q) width) (from_zero Ideal.ofBits_zero_f32 _ _ (sum_congr rfl fun k _ => ?_))
    (from_zero Ideal.ofBits_zero_f32 _ _ (sum_congr rfl fun k _ => ?_))
  · rw [val_main_v54_apply, reference_scaled]
    rfl
  · rw [val_main_v62_apply, reference_turned]
    rfl

/-- The same gradient a second time, for the product that follows. -/
theorem reference_chain_again (z : S16384x1024.Idx) : val_main_v72 (F := Ideal) h w x y g z = chain (before y (z 0)) (weighted h w x g (z 0)) (z 1) := by
  rw [val_main_v72_apply, reference_chain]
  rfl

/-- The gradient of the gain. -/
theorem reference_gain (z : S1x1024.Idx) : val_main_v73 (F := Ideal) h w x y z = ∑ s : Fin 16384, gainPart h w x y (z 1) s := by
  rw [val_main_v73_apply, val_main_v47_apply]
  refine from_zero Ideal.ofBits_zero_f32 _ _ ((Fin.sum_univ_one _).trans ?_)
  rw [val_main_v44_apply, index44, val_main_v43_apply]
  refine from_zero Ideal.ofBits_zero_f32 _ _ (sum_congr rfl fun s _ => ?_)
  rw [val_main_v42_apply, reference_normal, reference_arriving]
  exact mul_comm (G := EReal) _ _

/-- The gradient of the bias. -/
theorem reference_bias (z : S1x1024.Idx) : val_main_v74 (F := Ideal) h w x z = ∑ s : Fin 16384, arriving h w x s (z 1) := by
  rw [val_main_v74_apply, val_main_v41_apply]
  refine from_zero Ideal.ofBits_zero_f32 _ _ ((Fin.sum_univ_one _).trans ?_)
  rw [val_main_v40_apply, index40, val_main_v39_apply]
  exact from_zero Ideal.ofBits_zero_f32 _ _ (sum_congr rfl fun s _ => reference_arriving h w x _)

end Reference

end Cert.InnerGradient

end
-- ==== Proof.InnerResult.lean ====
/-
  THE SECOND LAYER NORM'S GRADIENT ON FINITE ARGUMENTS. What the precondition says of the five arguments, and from it that
  the reference's chain rule and the kernel's closed form give the same gradient.
-/
module

public import proofs.«01_k».proof.Defs
public import proofs.«01_k».proof.Proof.Inner
public import proofs.«01_k».proof.Proof.NormResult

@[expose] public section

set_option maxRecDepth 16384

noncomputable section

namespace Cert.InnerGradient

open Idealize.ShloMosaic Idealize.ShloMosaic.ValueIdx Idealize.ShloMosaic.TcCoe

open Cert.LayerNorm
open Cert.Dilated (IsReal both_ones infinity_bf16)
open Cert.NormGradient (weighted before weighted_real real_of_all infinity_f32)

/-- The facts the predicate's own program states. -/
theorem inner_facts : Cert.Pre_finite_inner.Facts :=
  ⟨by decide, by decide, by decide, by decide, by decide, by decide, by decide, by decide, by decide⟩

theorem all_real [Cert.Pre_finite_inner.Facts] {h : FVec Ideal ⟨2, ![16384, 3072]⟩ .bf16} {w : FVec Ideal ⟨2, ![1024, 3072]⟩ .bf16}
    {x y : FVec Ideal ⟨2, ![16384, 1024]⟩ .f32} {g : FVec Ideal ⟨1, ![1024]⟩ .f32}
    (e : Cert.Pre_finite_inner.fn (F := Ideal) h w x y g = fun _ => 1#1) :
    (∀ i, IsReal (h i)) ∧ (∀ i, IsReal (w i)) ∧ (∀ i, IsReal (x i)) ∧ (∀ i, IsReal (y i)) ∧ (∀ i, IsReal (g i)) := by
  have j : Cert.Pre_finite_inner.S_.Idx := fun a => a.elim0
  haveI : Subsingleton Cert.Pre_finite_inner.S_.Idx := ⟨fun a b => funext fun k => k.elim0⟩
  have o := both_ones (congrFun e j)
  have o1 := both_ones o.1
  have o2 := both_ones o1.1
  have o3 := both_ones o1.2
  exact ⟨real_of_all h _ (fun _ => infinity_bf16) _ _ _ j o2.1, real_of_all w _ (fun _ => infinity_bf16) _ _ _ j o2.2,
    real_of_all x _ (fun _ => infinity_f32) _ _ _ j o3.1, real_of_all y _ (fun _ => infinity_f32) _ _ _ j o3.2,
    real_of_all g _ (fun _ => infinity_f32) _ _ _ j o.2⟩

/-- On real arguments the reference's gradient of the rows is the kernel's. -/
theorem reference_rows {h : FVec Ideal ⟨2, ![16384, 3072]⟩ .bf16} {w : FVec Ideal ⟨2, ![1024, 3072]⟩ .bf16}
    {x y : FVec Ideal ⟨2, ![16384, 1024]⟩ .f32} {g : FVec Ideal ⟨1, ![1024]⟩ .f32}
    (r : (∀ i, IsReal (h i)) ∧ (∀ i, IsReal (w i)) ∧ (∀ i, IsReal (x i)) ∧ (∀ i, IsReal (y i)) ∧ (∀ i, IsReal (g i)))
    (s : Fin 16384) (d : Fin 1024) : chain (before y s) (weighted h w x g s) d = back (before y s) (weighted h w x g s) d :=
  chain_eq (fun _ => r.2.2.2.1 _) (fun k => weighted_real r.1 r.2.1 r.2.2.1 r.2.2.2.2 s k) d

end Cert.InnerGradient

end
-- ==== Proof.Triple.lean ====
/-
  THE QUERIES, KEYS AND VALUES OF THE STICK-BREAKING LAYER: the layer's input times the mixer's first weight, the queries
  scaled by an eighth. The kernel takes tiles of 1024 rows by 1024 columns, one of queries, one of keys and one of values,
  and stores each tile in eight strips of 128 columns; the reference takes one product, scales its first 1024 columns and
  joins the three parts again.
-/
module

public import proofs.«01_k».proof.Proof.Gen.TripleIdeal.Value
public import proofs.«01_k».proof.Proof.Gen.TripleRefIdeal.Read
public import proofs.«01_k».proof.Proof.Hidden
public import Idealize.ShloMosaic.Lib.Tactic

@[expose] public section

set_option maxRecDepth 16384

noncomputable section

namespace Cert.TripleProduct

open Idealize.ShloMosaic Idealize.ShloMosaic.ValueIdx Idealize.ShloMosaic.TcCoe Finset

open Cert.GateGradient (row origin)

/-- The factor of the queries: one over the root of the head's width. -/
def eighth : EReal := FloatOps.ofBits (F := Ideal) .f32 0x3E000000#32

/-- The product at a row and a column. -/
def product (x : (⟨2, ![16384, 1024]⟩ : Shape).Idx → EReal) (w : (⟨2, ![1024, 3072]⟩ : Shape).Idx → EReal) (s : Fin 16384) (f : Fin 3072) : EReal :=
  ∑ k : Fin 1024, x (ix2 s k) * w (ix2 k f)

/-- The queries, keys and values: the product, its first 1024 columns scaled. -/
def triple (x : (⟨2, ![16384, 1024]⟩ : Shape).Idx → EReal) (w : (⟨2, ![1024, 3072]⟩ : Shape).Idx → EReal) (s : Fin 16384) (f : Fin 3072) : EReal :=
  if f.val < 1024 then product x w s f * eighth else product x w s f

/-- Column `j` of part `b`: of the queries, the keys or the values. -/
def column (b : Fin 3) (j : Fin 1024) : Fin 3072 := ⟨b.val * 1024 + j.val, by have := b.isLt; have := j.isLt; omega⟩

/-- Every row is a row of a tile, every column a column of a part. -/
theorem rows_columns (s : Fin 16384) (f : Fin 3072) : ∃ (a : Fin 16) (b : Fin 3) (i j : Fin 1024), row a i = s ∧ column b j = f :=
  ⟨⟨s.val / 1024, by have := s.isLt; omega⟩, ⟨f.val / 1024, by have := f.isLt; omega⟩, ⟨s.val % 1024, Nat.mod_lt _ (by decide)⟩,
    ⟨f.val % 1024, Nat.mod_lt _ (by decide)⟩, Fin.ext (by show s.val / 1024 * 1024 + s.val % 1024 = s.val; omega),
    Fin.ext (by show f.val / 1024 * 1024 + f.val % 1024 = f.val; omega)⟩

theorem triple_first (x : (⟨2, ![16384, 1024]⟩ : Shape).Idx → EReal) (w : (⟨2, ![1024, 3072]⟩ : Shape).Idx → EReal) (s : Fin 16384) (j : Fin 1024) :
    triple x w s (column 0 j) = product x w s (column 0 j) * eighth :=
  if_pos (by have := j.isLt; show 0 * 1024 + j.val < 1024; omega)

theorem triple_later (x : (⟨2, ![16384, 1024]⟩ : Shape).Idx → EReal) (w : (⟨2, ![1024, 3072]⟩ : Shape).Idx → EReal) (s : Fin 16384) (b : Fin 3)
    (hb : b.val ≠ 0) (j : Fin 1024) : triple x w s (column b j) = product x w s (column b j) :=
  if_neg (by show ¬b.val * 1024 + j.val < 1024; omega)

section Kernel

open Cert.TripleIdeal Cert.TripleIdeal.Gen Cert.TripleIdeal.Value

/-- One tile: the product's entry. -/
theorem tile_apply (x w : FVec Ideal S1024x1024 .bf16) (i j : Fin 1024) :
    k0_pay1 (F := Ideal) x w (ix2 i j) = ∑ k : Fin 1024, x (ix2 i k) * w (ix2 k j) := HiddenProduct.tile_apply x w i j

/-- A strip of a tile's columns, at an index. -/
theorem strip (o : ℕ) (v : FVec Ideal S1024x1024 .f32) (h : S1024x1024.Slices ![0, o] S1024x128)
    (inb : ∀ a, (![0, o] : Fin 2 → ℕ) a + S1024x128.size a ≤ S1024x1024.size a) (z : S1024x128.Idx) :
    extractStridedSlice S1024x128 ![0, o] v h z = v ((Rect.unit (s := S1024x1024) ![0, o] S1024x128.size inb).emb z) :=
  extractStridedSlice_apply ![0, o] v h z _ fun a => by
    match a with
    | ⟨0, _⟩ => show 0 + 1 * (z 0).val = 0 + (z 0).val; omega
    | ⟨1, _⟩ => show o + 1 * (z 1).val = o + (z 1).val; omega

/-! ## What a point leaves in the block -/

section Cases

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (x w : Vec Ideal S1024x1024 .bf16) (y : S1024x1024.Idx)

/-- A tile of queries is scaled. -/
theorem queries (hc0 : cond0_0 i) (hc1 : ¬cond0_1 i) (hc2 : ¬cond0_2 i) :
    out0_A_2 (F := Ideal) c i a2 h2 a3 h3 a4 h4 hc0 hc1 hc2 x w y = k0_pay1 (F := Ideal) x w y * eighth := by
  have cover := cover0_A_2 (F := Ideal) c i a2 h2 a3 h3 a4 h4 hc0 hc1 hc2 x w
  unfold out0_A_2
  rw [View.read_writes_eq_canon _ _ _ cover]
  refine View.canon_apply_of_pieces (Val := Elt Ideal) (e := .bf16) (fun z => k0_pay1 (F := Ideal) x w z * eighth) _ ?_ y (cover y)
  unfold kernelRun0_A
  dsimp only
  sl_unfold_words
  simp only [View.readAt_eq_ld, h2.read_unread, h3.read_unread, View.ld_unit_zero (S := S1024x1024) origin]
  intro p hp
  simp only [List.mem_cons, List.not_mem_nil, or_false] at hp
  rcases hp with rfl | rfl | rfl | rfl | rfl | rfl | rfl | rfl
  · exact fun z => congrArg (fun q : EReal => q * eighth) (strip 896 (k0_pay1 (F := Ideal) x w) slices_S1024x1024_o0_896_S1024x128 inb_S1024x1024_S1024x128_0_896 z)
  · exact fun z => congrArg (fun q : EReal => q * eighth) (strip 768 (k0_pay1 (F := Ideal) x w) slices_S1024x1024_o0_768_S1024x128 inb_S1024x1024_S1024x128_0_768 z)
  · exact fun z => congrArg (fun q : EReal => q * eighth) (strip 640 (k0_pay1 (F := Ideal) x w) slices_S1024x1024_o0_640_S1024x128 inb_S1024x1024_S1024x128_0_640 z)
  · exact fun z => congrArg (fun q : EReal => q * eighth) (strip 512 (k0_pay1 (F := Ideal) x w) slices_S1024x1024_o0_512_S1024x128 inb_S1024x1024_S1024x128_0_512 z)
  · exact fun z => congrArg (fun q : EReal => q * eighth) (strip 384 (k0_pay1 (F := Ideal) x w) slices_S1024x1024_o0_384_S1024x128 inb_S1024x1024_S1024x128_0_384 z)
  · exact fun z => congrArg (fun q : EReal => q * eighth) (strip 256 (k0_pay1 (F := Ideal) x w) slices_S1024x1024_o0_256_S1024x128 inb_S1024x1024_S1024x128_0_256 z)
  · exact fun z => congrArg (fun q : EReal => q * eighth) (strip 128 (k0_pay1 (F := Ideal) x w) slices_S1024x1024_o0_128_S1024x128 inb_S1024x1024_S1024x128_0_128 z)
  · exact fun z => congrArg (fun q : EReal => q * eighth) (strip 0 (k0_pay1 (F := Ideal) x w) slices_S1024x1024_o0_0_S1024x128 inb_S1024x1024_S1024x128_0_0 z)

/-- A tile of keys is stored as it is. -/
theorem keys (hc0 : ¬cond0_0 i) (hc1 : cond0_1 i) (hc2 : ¬cond0_2 i) :
    out0_B_2 (F := Ideal) c i a2 h2 a3 h3 a4 h4 hc0 hc1 hc2 x w y = k0_pay1 (F := Ideal) x w y := by
  have cover := cover0_B_2 (F := Ideal) c i a2 h2 a3 h3 a4 h4 hc0 hc1 hc2 x w
  unfold out0_B_2
  rw [View.read_writes_eq_canon _ _ _ cover]
  refine View.canon_apply_of_pieces (Val := Elt Ideal) (e := .bf16) (k0_pay1 (F := Ideal) x w) _ ?_ y (cover y)
  unfold kernelRun0_B
  dsimp only
  sl_unfold_words
  simp only [View.readAt_eq_ld, h2.read_unread, h3.read_unread, View.ld_unit_zero (S := S1024x1024) origin]
  intro p hp
  simp only [List.mem_cons, List.not_mem_nil, or_false] at hp
  rcases hp with rfl | rfl | rfl | rfl | rfl | rfl | rfl | rfl
  · exact fun z => strip 896 (k0_pay1 (F := Ideal) x w) slices_S1024x1024_o0_896_S1024x128 inb_S1024x1024_S1024x128_0_896 z
  · exact fun z => strip 768 (k0_pay1 (F := Ideal) x w) slices_S1024x1024_o0_768_S1024x128 inb_S1024x1024_S1024x128_0_768 z
  · exact fun z => strip 640 (k0_pay1 (F := Ideal) x w) slices_S1024x1024_o0_640_S1024x128 inb_S1024x1024_S1024x128_0_640 z
  · exact fun z => strip 512 (k0_pay1 (F := Ideal) x w) slices_S1024x1024_o0_512_S1024x128 inb_S1024x1024_S1024x128_0_512 z
  · exact fun z => strip 384 (k0_pay1 (F := Ideal) x w) slices_S1024x1024_o0_384_S1024x128 inb_S1024x1024_S1024x128_0_384 z
  · exact fun z => strip 256 (k0_pay1 (F := Ideal) x w) slices_S1024x1024_o0_256_S1024x128 inb_S1024x1024_S1024x128_0_256 z
  · exact fun z => strip 128 (k0_pay1 (F := Ideal) x w) slices_S1024x1024_o0_128_S1024x128 inb_S1024x1024_S1024x128_0_128 z
  · exact fun z => strip 0 (k0_pay1 (F := Ideal) x w) slices_S1024x1024_o0_0_S1024x128 inb_S1024x1024_S1024x128_0_0 z

/-- So is a tile of values. -/
theorem values (hc0 : ¬cond0_0 i) (hc1 : ¬cond0_1 i) (hc2 : cond0_2 i) :
    out0_C_2 (F := Ideal) c i a2 h2 a3 h3 a4 h4 hc0 hc1 hc2 x w y = k0_pay1 (F := Ideal) x w y := by
  have cover := cover0_C_2 (F := Ideal) c i a2 h2 a3 h3 a4 h4 hc0 hc1 hc2 x w
  unfold out0_C_2
  rw [View.read_writes_eq_canon _ _ _ cover]
  refine View.canon_apply_of_pieces (Val := Elt Ideal) (e := .bf16) (k0_pay1 (F := Ideal) x w) _ ?_ y (cover y)
  unfold kernelRun0_C
  dsimp only
  sl_unfold_words
  simp only [View.readAt_eq_ld, h2.read_unread, h3.read_unread, View.ld_unit_zero (S := S1024x1024) origin]
  intro p hp
  simp only [List.mem_cons, List.not_mem_nil, or_false] at hp
  rcases hp with rfl | rfl | rfl | rfl | rfl | rfl | rfl | rfl
  · exact fun z => strip 896 (k0_pay1 (F := Ideal) x w) slices_S1024x1024_o0_896_S1024x128 inb_S1024x1024_S1024x128_0_896 z
  · exact fun z => strip 768 (k0_pay1 (F := Ideal) x w) slices_S1024x1024_o0_768_S1024x128 inb_S1024x1024_S1024x128_0_768 z
  · exact fun z => strip 640 (k0_pay1 (F := Ideal) x w) slices_S1024x1024_o0_640_S1024x128 inb_S1024x1024_S1024x128_0_640 z
  · exact fun z => strip 512 (k0_pay1 (F := Ideal) x w) slices_S1024x1024_o0_512_S1024x128 inb_S1024x1024_S1024x128_0_512 z
  · exact fun z => strip 384 (k0_pay1 (F := Ideal) x w) slices_S1024x1024_o0_384_S1024x128 inb_S1024x1024_S1024x128_0_384 z
  · exact fun z => strip 256 (k0_pay1 (F := Ideal) x w) slices_S1024x1024_o0_256_S1024x128 inb_S1024x1024_S1024x128_0_256 z
  · exact fun z => strip 128 (k0_pay1 (F := Ideal) x w) slices_S1024x1024_o0_128_S1024x128 inb_S1024x1024_S1024x128_0_128 z
  · exact fun z => strip 0 (k0_pay1 (F := Ideal) x w) slices_S1024x1024_o0_0_S1024x128 inb_S1024x1024_S1024x128_0_0 z

end Cases

/-! ## The blocks -/

/-- The grid point of a row tile and a part. -/
def point (a : Fin 16) (b : Fin 3) : Fin cfg0.N := ⟨a.val * 3 + b.val, by have := a.isLt; have := b.isLt; show _ < 48; omega⟩

theorem index0 : ∀ (a : Fin 16) (b : Fin 3), win0_0.index (point a b) 0 = a.val ∧ win0_0.index (point a b) 1 = 0 := by decide +kernel
theorem index1 : ∀ (a : Fin 16) (b : Fin 3), win0_1.index (point a b) 0 = 0 ∧ win0_1.index (point a b) 1 = b.val := by decide +kernel
theorem index2 : ∀ (a : Fin 16) (b : Fin 3), win0_2.index (point a b) 0 = a.val ∧ win0_2.index (point a b) 1 = b.val := by decide +kernel
theorem flush2 : ∀ (a : Fin 16) (b : Fin 3), (cfg0.win 2).flush (point a b) = true := by decide +kernel

variable (m : (ℓ : Loc nD τ sig) → Buf (Elt Ideal) ℓ) (c : Dev nD)

theorem block0 (a : Fin 16) (b : Fin 3) (i k : Fin 1024) :
    (iblk m c 0 (point a b) : S1024x1024.Idx → EReal) (ix2 i k) = (V m c main_arg0 : S16384x1024.Idx → EReal) (ix2 (row a i) k) := by
  show V m c main_arg0 _ = V m c main_arg0 _
  congr 1
  funext z
  apply Fin.ext
  match z with
  | ⟨0, _⟩ => show win0_0.index (point a b) 0 * 1024 + 1 * i.val = a.val * 1024 + i.val; rw [(index0 a b).1]; omega
  | ⟨1, _⟩ => show win0_0.index (point a b) 1 * 1024 + 1 * k.val = k.val; rw [(index0 a b).2]; omega

theorem block1 (a : Fin 16) (b : Fin 3) (k j : Fin 1024) :
    (iblk m c 1 (point a b) : S1024x1024.Idx → EReal) (ix2 k j) = (V m c main_arg1 : S1024x3072.Idx → EReal) (ix2 k (column b j)) := by
  show V m c main_arg1 _ = V m c main_arg1 _
  congr 1
  funext z
  apply Fin.ext
  match z with
  | ⟨0, _⟩ => show win0_1.index (point a b) 0 * 1024 + 1 * k.val = k.val; rw [(index1 a b).1]; omega
  | ⟨1, _⟩ => show win0_1.index (point a b) 1 * 1024 + 1 * j.val = b.val * 1024 + j.val; rw [(index1 a b).2]; omega

/-- A tile's product is the product of its rows and its part's columns. -/
theorem product_block (a : Fin 16) (b : Fin 3) (i j : Fin 1024) :
    k0_pay1 (F := Ideal) (iblk m c 0 (point a b)) (iblk m c 1 (point a b)) (ix2 i j)
      = product (V m c main_arg0) (V m c main_arg1) (row a i) (column b j) :=
  (tile_apply _ _ i j).trans (sum_congr rfl fun k _ => congrArg₂ (fun p q : EReal => p * q) (block0 m c a b i k) (block1 m c a b k j))

/-- What a point leaves in the output's block. -/
theorem point_apply (a : Fin 16) (b : Fin 3) (i j : Fin 1024) :
    outsAt0 m c (point a b).val (point a b).isLt (ix2 i j) = triple (V m c main_arg0) (V m c main_arg1) (row a i) (column b j) := by
  have hp : (point a b).val = a.val * 3 + b.val := rfl
  have hb : b = 0 ∨ b = 1 ∨ b = 2 := by
    have h := b.isLt
    rcases (by omega : b.val = 0 ∨ b.val = 1 ∨ b.val = 2) with e | e | e
    · exact .inl (Fin.ext e)
    · exact .inr (.inl (Fin.ext e))
    · exact .inr (.inr (Fin.ext e))
  rcases hb with rfl | rfl | rfl
  · rw [outsAt0_A m c (point a 0) (by show (a.val * 3 + 0) % 3 = 0; omega) (by show ¬(a.val * 3 + 0) % 3 = 1; omega) (by show ¬(a.val * 3 + 0) % 3 = 2; omega),
      queries, triple_first]
    exact congrArg (fun q : EReal => q * eighth) (product_block m c a 0 i j)
  · rw [outsAt0_B m c (point a 1) (by show ¬(a.val * 3 + 1) % 3 = 0; omega) (by show (a.val * 3 + 1) % 3 = 1; omega) (by show ¬(a.val * 3 + 1) % 3 = 2; omega),
      keys, triple_later _ _ _ 1 (by decide)]
    exact product_block m c a 1 i j
  · rw [outsAt0_C m c (point a 2) (by show ¬(a.val * 3 + 2) % 3 = 0; omega) (by show ¬(a.val * 3 + 2) % 3 = 1; omega) (by show (a.val * 3 + 2) % 3 = 2; omega),
      values, triple_later _ _ _ 2 (by decide)]
    exact product_block m c a 2 i j

/-! ## The array -/

/-- What the kernel's array holds. -/
theorem array_apply (a : Fin 16) (b : Fin 3) (i j : Fin 1024) :
    ((dats m 0 c).arrAt 2 cfg0.N : S16384x3072.Idx → EReal) (ix2 (row a i) (column b j))
      = triple (V m c main_arg0) (V m c main_arg1) (row a i) (column b j) := by
  have hv := congrFun ((blocks2 m c (point a b) (flush2 a b)).trans (flushed2 m c (point a b))) (ix2 i j : S1024x1024.Idx)
  refine Eq.trans ?_ (hv.trans (point_apply m c a b i j))
  refine congrArg ((dats m 0 c).arrAt 2 cfg0.N : S16384x3072.Idx → EReal) (funext fun z => Fin.ext ?_)
  match z with
  | ⟨0, _⟩ => show a.val * 1024 + i.val = win0_2.index (point a b) 0 * 1024 + 1 * i.val; rw [(index2 a b).1]; omega
  | ⟨1, _⟩ => show b.val * 1024 + j.val = win0_2.index (point a b) 1 * 1024 + 1 * j.val; rw [(index2 a b).2]; omega

/-- … at every index. -/
theorem array_eq (y : S16384x3072.Idx) :
    ((dats m 0 c).arrAt 2 cfg0.N : S16384x3072.Idx → EReal) y = triple (V m c main_arg0) (V m c main_arg1) (y 0) (y 1) := by
  obtain ⟨a, b, i, j, e0, e1⟩ := rows_columns (y 0) (y 1)
  have h := array_apply m c a b i j
  rw [e0, e1] at h
  exact (congrArg ((dats m 0 c).arrAt 2 cfg0.N : S16384x3072.Idx → EReal) (eq_ix2 y)).trans h

end Kernel

section Reference

open Cert.TripleRefIdeal Cert.TripleRefIdeal.Gen Cert.TripleRefIdeal.Read

variable (x : FVec Ideal S16384x1024 .bf16) (w : FVec Ideal S1024x3072 .bf16)

theorem reference_product (y : S16384x3072.Idx) : val_main_v2 (F := Ideal) x w y = product x w (y 0) (y 1) := by
  rw [val_main_v2_apply]
  refine sum_congr rfl fun k _ => ?_
  rw [val_main_v0_apply, val_main_v1_apply]
  exact congrArg₂ (fun p q : EReal => p * q) (congrArg x (eq_ix2 _)) (congrArg w (eq_ix2 _))

/-- An entry of three arrays joined by columns. -/
theorem joined (A : Fin 3 → FVec Ideal S16384x1024 .f32) (h : Shape.Concatenates [S16384x1024, S16384x1024, S16384x1024] S16384x3072 1)
    (b : Fin 3) (s : Fin 16384) (j : Fin 1024) :
    concatenate S16384x3072 1 [⟨S16384x1024, A 0⟩, ⟨S16384x1024, A 1⟩, ⟨S16384x1024, A 2⟩] h (ix2 s (column b j)) = A b (ix2 s j) := by
  match b with
  | ⟨0, _⟩ =>
    exact concatenate_apply_piece 1 [⟨S16384x1024, A 0⟩, ⟨S16384x1024, A 1⟩, ⟨S16384x1024, A 2⟩] h _ 0 (by show 0 < 3; omega) S16384x1024 (A 0) rfl rfl
      0 rfl (ix2 s j) (fun a => match a with | ⟨0, _⟩ => fun _ => rfl | ⟨1, _⟩ => fun hne => absurd rfl hne) (by show 0 + j.val = 0 * 1024 + j.val; omega)
  | ⟨1, _⟩ =>
    exact concatenate_apply_piece 1 [⟨S16384x1024, A 0⟩, ⟨S16384x1024, A 1⟩, ⟨S16384x1024, A 2⟩] h _ 1 (by show 1 < 3; omega) S16384x1024 (A 1) rfl rfl
      1024 rfl (ix2 s j) (fun a => match a with | ⟨0, _⟩ => fun _ => rfl | ⟨1, _⟩ => fun hne => absurd rfl hne) (by show 1024 + j.val = 1 * 1024 + j.val; omega)
  | ⟨2, _⟩ =>
    exact concatenate_apply_piece 1 [⟨S16384x1024, A 0⟩, ⟨S16384x1024, A 1⟩, ⟨S16384x1024, A 2⟩] h _ 2 (by show 2 < 3; omega) S16384x1024 (A 2) rfl rfl
      2048 rfl (ix2 s j) (fun a => match a with | ⟨0, _⟩ => fun _ => rfl | ⟨1, _⟩ => fun hne => absurd rfl hne) (by show 2048 + j.val = 2 * 1024 + j.val; omega)

/-- The reference's three parts: the scaled queries, the keys and the values. -/
def parts (b : Fin 3) : FVec Ideal S16384x1024 .f32 :=
  match b with
  | ⟨0, _⟩ => val_main_v7 (F := Ideal) x w
  | ⟨1, _⟩ => val_main_v4 (F := Ideal) x w
  | ⟨2, _⟩ => val_main_v5 (F := Ideal) x w

theorem parts_apply (b : Fin 3) (s : Fin 16384) (j : Fin 1024) : parts x w b (ix2 s j) = triple x w s (column b j) := by
  match b with
  | ⟨0, _⟩ =>
    refine Eq.trans ?_ (triple_first x w s j).symm
    show val_main_v7 (F := Ideal) x w (ix2 s j) = _
    rw [val_main_v7_apply, val_main_v3_apply, reference_product, val_main_v6_apply]
    refine congrArg (fun f => product x w s f * eighth) (Fin.ext ?_)
    show j.val = 0 * 1024 + j.val
    omega
  | ⟨1, _⟩ =>
    refine Eq.trans ?_ (triple_later x w s 1 (by decide) j).symm
    show val_main_v4 (F := Ideal) x w (ix2 s j) = _
    rw [val_main_v4_apply, reference_product]
    refine congrArg (product x w s) (Fin.ext ?_)
    show 1024 + j.val = 1 * 1024 + j.val
    omega
  | ⟨2, _⟩ =>
    refine Eq.trans ?_ (triple_later x w s 2 (by decide) j).symm
    show val_main_v5 (F := Ideal) x w (ix2 s j) = _
    rw [val_main_v5_apply, reference_product]
    refine congrArg (product x w s) (Fin.ext ?_)
    show 2048 + j.val = 2 * 1024 + j.val
    omega

/-- What the reference's array holds. -/
theorem reference_apply (y : S16384x3072.Idx) : val_main_v9 (F := Ideal) x w y = triple x w (y 0) (y 1) := by
  obtain ⟨a, b, i, j, e0, e1⟩ := rows_columns (y 0) (y 1)
  rw [val_main_v9_apply]
  refine Eq.trans ?_ ((joined (parts x w) concatenates_S16384x1024_S16384x1024_S16384x1024_S16384x3072_d1 b (row a i) j).trans
    ((parts_apply x w b (row a i) j).trans (congrArg₂ (triple x w) e0 e1)))
  rw [e0, e1]
  exact congrArg (val_main_v8 (F := Ideal) x w) (eq_ix2 y)

end Reference

end Cert.TripleProduct

end
-- ==== Proof.StickRun.lean ====
/-
  The attention forward call of the compiled program, `Cert.Stick`: it runs to its end from any memory, leaves the
  argument as it was and every counter at zero. Nothing is said here of the values it leaves. The one thing to see is that
  the loop over the earlier column blocks ends: its counter starts at twice the row block less one and falls by two, so at
  most as many trips are left as there are row blocks before this one (`loop`), whatever the carried word says.
-/
module

public import proofs.«01_k».proof.Proof.Gen.Stick
public import proofs.«01_k».proof.Proof.Gen.Stick.Launch
public import proofs.«01_k».proof.Proof.Gen.Stick.Skeleton
public import proofs.«01_k».proof.Proof.Gen.Stick.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.StickRun

open Cert.Stick Cert.Stick.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions over this program's machine. -/
abbrev Asrt (F : FTy → Type) [FloatOps F] := sProp (MT nD τ sig Unit (Elt F) ℕ (UR sig nD τ) ℕ)

/-- A loop's remaining trips are counted down. -/
abbrev 𝒱₀ : Variants := Variants.nat

/-- The loop's counter with `k` trips to run. -/
def counter (k : ℕ) : BitVec 32 := BitVec.ofNat 32 (2 * k) - 1#32

theorem counter_checked : ∀ k : Fin 64, k0_chk1 (counter (k.val + 1)) := by decide +kernel
theorem counter_less : ∀ k : Fin 64, Scalar.subi (counter (k.val + 1)) 2#32 = counter k.val := by decide +kernel
theorem counter_start : ∀ k : Fin 64, Scalar.subi (Scalar.muli (BitVec.ofNat 32 k.val) 2#32) 1#32 = counter k.val := by decide +kernel
theorem counter_stops (b : BitVec 1) : ¬ Scalar.andi (Scalar.cmpi .sge (counter 0) 0#32) b = 1#1 := by
  revert b; decide +kernel

variable (c : Dev nD)

/-- A memory held whole at some contents. -/
def some' {s : Shape} {e : EltTy} (a : Memref sig .tc .vmem s e) : Asrt F :=
  iprop(∃ d, owns (c : Thread nD τ) a fullShare d)

section Loop

variable (i : grid0.Coords) (arg3 : Memref sig .tc .vmem S16384x128 .bf16) (harg3 : arg3.IsWhole) (arg4 : Memref sig .tc .vmem S16384x128 .bf16) (harg4 : arg4.IsWhole)
  (v12 v16 : Vec F S256x128 .bf16) (v7 : FVec F S128x128 .bf16) (arg8 : Memref sig .tc .vmem S256x1 .f32) (harg8 : arg8.IsWhole) (arg6 : Memref sig .tc .vmem S2x256x128 .f32) (harg6 : arg6.IsWhole)
  (v0 : IVec S256x128 32) (arg9 : Memref sig .tc .vmem S256x1 .f32) (harg9 : arg9.IsWhole) (arg7 : Memref sig .tc .vmem S2x256x128 .f32) (harg7 : arg7.IsWhole)

/-- What the loop reads and writes, all held at some contents. -/
def held : Asrt F :=
  iprop(some' c arg3 ∗ some' c arg4 ∗ some' c arg6 ∗ some' c arg7 ∗ some' c arg8 ∗ some' c arg9)

/-- The loop's specification: it takes what it reads and writes and gives it back, returning anything. -/
def spec : sWPT (MT nD τ sig Unit (Elt F) ℕ (UR sig nD τ) ℕ) (BitVec 32 × F .f32) := do
  sWPT.consume (held c arg3 arg4 arg8 arg6 arg9 arg7)
  let r ← sWPT.arbitrary
  sWPT.produce (held c arg3 arg4 arg8 arg6 arg9 arg7)
  pure r

theorem spec_apply (K : BitVec 32 × F .f32 → Asrt F) : spec c arg3 arg4 arg8 arg6 arg9 arg7 K
    = iprop(held c arg3 arg4 arg8 arg6 arg9 arg7 ∗ ∀ r : BitVec 32 × F .f32, (held c arg3 arg4 arg8 arg6 arg9 arg7 -∗ K r)) := rfl

set_option maxHeartbeats 4000000 in
/-- The loop meets it, by induction on the trips left. -/
theorem loop (E : Set ℕ) : ∀ k : ℕ, k ≤ 64 → ∀ (x : F .f32) K, spec c arg3 arg4 arg8 arg6 arg9 arg7 K
    ⊢ wp frame (wpE (defs₀ (F := F)) 𝒱₀ (c : Thread nD τ) (some k)) E
        (defs₀ (F := F) .tc 1 ⟨i, arg3, harg3, arg4, harg4, v12, v16, v7, arg8, harg8, arg6, harg6, v0, arg9, harg9, arg7, harg7, counter k, x⟩) K := by
  intro k
  induction k with
  | zero =>
    intro hk x K
    rw [spec_apply]
    show _ ⊢ wp frame (wpE (defs₀ (F := F)) 𝒱₀ (c : Thread nD τ) (some 0)) E
      (cc0_while1 i arg3 harg3 arg4 harg4 v12 v16 v7 arg8 harg8 arg6 harg6 v0 arg9 harg9 arg7 harg7 (counter 0) x) K
    simp only [cc0_while1_eq_skeleton]; unfold cc0_while1_skel
    simp only [counter_stops, ↓reduceIte, Prog.pure_eq_ret]
    iintro ⟨H, Hk⟩
    rw [wp_ret]; imodintro
    iapply Hk
    iexact H
  | succ k ih =>
    intro hk x K
    rw [spec_apply]
    show _ ⊢ wp frame (wpE (defs₀ (F := F)) 𝒱₀ (c : Thread nD τ) (some (k + 1))) E
      (cc0_while1 i arg3 harg3 arg4 harg4 v12 v16 v7 arg8 harg8 arg6 harg6 v0 arg9 harg9 arg7 harg7 (counter (k + 1)) x) K
    simp only [cc0_while1_eq_skeleton]; unfold cc0_while1_skel
    have hk' : k < 64 := by omega
    have hc : k0_chk1 (counter (k + 1)) := counter_checked ⟨k, hk'⟩
    have ih' := ih (by omega)
    have hless : Scalar.subi (counter (k + 1)) 2#32 = counter k := counter_less ⟨k, hk'⟩
    by_cases ht : Scalar.andi (Scalar.cmpi .sge (counter (k + 1)) 0#32) (Scalar.cmpf .oge x (Scalar.ofBits .f32 0xC2D00000#32)) = 1#1
    · unfold held some' owns
      iintro ⟨⟨⟨%d3, %f3, -, H3⟩, ⟨%d4, %f4, -, H4⟩, ⟨%d6, %f6, -, H6⟩, ⟨%d7, %f7, -, H7⟩, ⟨%d8, %f8, -, H8⟩, ⟨%d9, %f9, -, H9⟩⟩, Hk⟩
      sl_exec
      rw [show loop.sl.v407 k = counter k from hless]
      iapply (wp_call_spec 𝒱₀ (c : Thread nD τ) (some (k + 1)) E (spec c arg3 arg4 arg8 arg6 arg9 arg7) k
        (fun u hu => by cases hu; exact Nat.lt_succ_self k) (ih' _))
      rw [spec_apply]; unfold held some' owns
      isplitl [H3 H4 H6 H7 H8 H9]
      · isplitl [H3]; · iexists _, _; isplitr; swap; · iexact H3
                        ipureintro; rfl
        isplitl [H4]; · iexists _, _; isplitr; swap; · iexact H4
                        ipureintro; rfl
        isplitl [H6]; · iexists _, _; isplitr; swap; · iexact H6
                        ipureintro; rfl
        isplitl [H7]; · iexists _, _; isplitr; swap; · iexact H7
                        ipureintro; rfl
        isplitl [H8]; · iexists _, _; isplitr; swap; · iexact H8
                        ipureintro; rfl
        iexists _, _; isplitr; swap; · iexact H9
        ipureintro; rfl
      iintro %r H
      rw [wp_ret]; imodintro
      iapply Hk
      iexact H
    · simp only [ht, ↓reduceIte, Prog.pure_eq_ret]
      iintro ⟨H, Hk⟩
      rw [wp_ret]; imodintro
      iapply Hk
      iexact H

end Loop

set_option maxHeartbeats 8000000 in
/-- The kernel body on whole memories at any contents runs to its end and gives them back at some contents. -/
theorem sound_kernel (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S2x256x128 .f32) (harg7 : arg7.IsWhole) (arg8 : Memref sig .tc .vmem S256x1 .f32) (harg8 : arg8.IsWhole) (arg9 : Memref sig .tc .vmem S256x1 .f32) (harg9 : arg9.IsWhole)
    (hi : (i 1).val < 64) (K : PUnit → Asrt F) :
    iprop(some' c arg2 ∗ some' c arg5 ∗ held c arg3 arg4 arg8 arg6 arg9 arg7
        ∗ ((some' c arg2 ∗ some' c arg5 ∗ held c arg3 arg4 arg8 arg6 arg9 arg7) -∗ K ⟨⟩))
      ⊢ wp frame (wpE (defs₀ (F := F)) 𝒱₀ c none) Set.univ
          (cc0_sb_fwd i arg2 harg2 arg3 harg3 arg4 harg4 arg5 harg5 arg6 harg6 arg7 harg7 arg8 harg8 arg9 harg9) K := by
  simp only [cc0_sb_fwd_eq_skeleton]; unfold cc0_sb_fwd_skel
  unfold held some' owns
  iintro ⟨⟨%d2, %f2, -, H2⟩, ⟨%d5, %f5, -, H5⟩, ⟨⟨%d3, %f3, -, H3⟩, ⟨%d4, %f4, -, H4⟩, ⟨%d6, %f6, -, H6⟩, ⟨%d7, %f7, -, H7⟩, ⟨%d8, %f8, -, H8⟩, ⟨%d9, %f9, -, H9⟩⟩, Hk⟩
  sl_exec
  rw [show sound_kernel.sl.v224 i = counter (i 1).val from counter_start ⟨(i 1).val, hi⟩]
  iapply (wp_call_spec 𝒱₀ (c : Thread nD τ) none Set.univ (spec c arg3 arg4 arg8 arg6 arg9 arg7) (i 1).val
    (fun u hu => nomatch hu) (loop c i arg3 harg3 arg4 harg4 _ _ _ arg8 harg8 arg6 harg6 _ arg9 harg9 arg7 harg7 Set.univ (i 1).val (le_of_lt hi) _))
  rw [spec_apply]; unfold held some' owns
  isplitl [H3 H4 H6 H7 H8 H9]
  · isplitl [H3]; · iexists _, _; isplitr; swap; · iexact H3
                    ipureintro; rfl
    isplitl [H4]; · iexists _, _; isplitr; swap; · iexact H4
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    iexists _, _; isplitr; swap; · iexact H9
    ipureintro; rfl
  iintro %r ⟨H3, H4, H6, ⟨%e7, %g7, -, H7⟩, H8, H9⟩
  sl_exec
  sl_step
  iapply Hk
  isplitl [H2]; · iexists _, _; isplitr; swap; · iexact H2
                  ipureintro; rfl
  isplitl [H5]; · iexists _, _; isplitr; swap; · iexact H5
                  ipureintro; rfl
  isplitl [H3]; · iexact H3
  isplitl [H4]; · iexact H4
  isplitl [H6]; · iexact H6
  isplitl [H7]; · iexists _, _; isplitr; swap; · iexact H7
                  ipureintro; rfl
  isplitl [H8]; · iexact H8
  iexact H9

variable (m : (ℓ : Loc nD τ sig) → Buf (Elt F) ℓ) (ρ : Dev nD → PrngReg)

/-- The buffers as the call finds them: as launched. -/
abbrev V (b : Ref sig .tc) : Buf (Elt F) ((c : Thread nD τ).loc b) := m ((c : Thread nD τ).loc b)

/-- The program is the call alone. -/
theorem hmain : Pipeline.HMain (Ix := Unit) (Name := ℕ) (U := UR sig nD τ) (Lvl := ℕ) cfgs 0 defs₀ 𝒱₀ m (main (F := F)) (fun c => V c m) :=
  Pipeline.hmain_region cfgs 0 defs₀ 𝒱₀ m main fun c => (main_chain c).trans rfl

/-- No block is tracked. -/
def untracked : Fin 5 → Bool := fun _ => true

/-- The proof data: the arrays as found, what the body leaves unnamed, the scratch memories held at some contents. -/
def dats (_ : Fin 1) (c : Dev nD) : Dat τ (Elt F) Unit ℕ (UR sig nD τ) ℕ (cfg0 (F := F)) c where
  A w := V c m (Pipeline.arrRef spec0 w)
  after w t := Pipeline.Dat.unnamed (cfg := cfg0 (F := F)) w t
  Φ _ := Pipeline.ΦA spec0 c
  q w := Pipeline.shareOf spec0 w
  owed _ := 0

theorem A_eq (c : Dev nD) (w : Fin (cfg0 (F := F)).W) : (dats m 0 c).A w = V c m (Pipeline.arrRef spec0 w) := by dsimp only [dats]

/-- Between points: the three scratch memories and the generator's register at some state. -/
theorem between_eq : (Pipeline.ΦA spec0 c : Asrt F)
    = iprop((some' c (Memref.whole cc0_scratch0) ∗ some' c (Memref.whole cc0_scratch1) ∗ some' c (Memref.whole cc0_scratch2)) ∗ ∃ r, prngReg c r) := by
  unfold Pipeline.ΦA some'; rw [scopedRest0_eq]; simp only [owns_whole]; try rfl

/-- What the body is called with, and what it returns: every block at some contents. -/
def bodyState (t : Fin (cfg0 (F := F)).N) : Asrt F :=
  iprop(some' c (st0_0 t) ∗ some' c (st0_1 t) ∗ some' c (st0_2 t) ∗ some' c (st0_3 t) ∗ some' c (st0_4 t))
def bodyPre (t : Fin (cfg0 (F := F)).N) : Asrt F :=
  iprop((dats m 0 c).Φ t.castSucc ∗ (dats m 0 c).owesAt () t.castSucc ∗ bodyState c t)
def bodyPost (t : Fin (cfg0 (F := F)).N) : Asrt F :=
  iprop((dats m 0 c).Φ t.succ ∗ (dats m 0 c).owesAt () t.succ ∗ bodyState c t)

theorem sound_body (t : Fin (cfg0 (F := F)).N) :
    bodyPre c m t ⊢ wp frame (wpE (defs₀ (F := F)) 𝒱₀ c none) Set.univ (bodyAt0 t) (fun _ => bodyPost c m t) := by
  unfold bodyPre bodyPost bodyAt0 bodyState
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq]
  iintro ⟨⟨⟨HA, HB, HC⟩, Hg⟩, Ho, H0, H1, H2, H3, H4⟩
  iapply (sound_kernel c (grid0.coords t) _ _ _ _ _ _ _ _ _ _ _ _ _ _ _ _ (grid0.coords t 1).isLt _)
  unfold held
  isplitl [H0]; · iexact H0
  isplitl [H3]; · iexact H3
  isplitl [H1 H2 H4 HA HB HC]
  · isplitl [H1]; · iexact H1
    isplitl [H2]; · iexact H2
    isplitl [H4]; · iexact H4
    isplitl [HA]; · iexact HA
    isplitl [HB]; · iexact HB
    iexact HC
  iintro ⟨H0, H3, ⟨H1, H2, H4, HA, HB, HC⟩⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc cfg0.body (cfg0.bodyArgs t (cfg0.slots t)) = bodyAt0 t := by
  unfold defs₀; rw [Defs.onTc_tc]

theorem body_obligation :
    BodyObligation (dats (F := F) m 0 c) (defs₀ (F := F)) 𝒱₀ () Set.univ untracked := fun t => by
  rw [bigSep_W0, bigSep_W0, defs₀_row]
  exact triple_restated (sound_body c m t) rfl .rfl fun _ => .rfl

-- the run theorem's implicit arguments are found by unifying its conclusion with this one, which takes unfolding plain
-- definitions in a metavariable's type
set_option backward.isDefEq.respectTransparency.types false in
set_option maxHeartbeats 800000 in
/-- The run: every array at some contents it may hold, the others as found, every counter at zero. -/
theorem run_main : θ_run defs (onTc (τ := τ) (main (F := F))) (s₀ m ρ)
    (fun r => Pipeline.RDat.FramePost (cfgs 0) (fun c => (dats m 0 c).toRForget untracked) (fun c => V c m) r ∧ r.2.sem = fun _ => 0) :=
  Pipeline.θ_run_frame_forget_shared (Q' := _) cfgs (dats m) (0 : Fin 1) launch₀0 defs₀ 𝒱₀ untracked m ρ main
    (hbody := fun c => (body_obligation c m).loose) (hq := fun _ _ _ => rfl)
    (howed := fun _ _ => rfl) (V := fun c => V c m) (hmain := hmain m) (hA := A_eq m) (hΦ := fun _ _ => rfl)

/-- The call runs, its argument ends unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h.1.arr_in c 0 rfl).trans (A_eq m c 0), h.2⟩) (run_main m ρ)

end Cert.StickRun

end
-- ==== Proof.StickState.lean ====
/-
  WHAT THE KERNEL KEEPS FOR ONE BLOCK OF ROWS. The attention weight of row `t` on an earlier position `s` is the exponential of
  their score plus the sum, over the positions from `s` up to `t`, of the logarithms of the chances of not stopping there. The
  kernel walks the keys from the last to the first, 128 at a time, and keeps two things for each row: the sum of those logarithms
  over the positions visited, and the weighted sum of the values visited. This module states both as sums over the positions from
  the current one on, and shows that the operations on one chunk of 128 positions extend them by that chunk.
-/
module

public import proofs.«01_k».proof.Proof.Gen.StickIdeal.Skeleton
public import Idealize.ShloMosaic.Lib.ValueIdx
public import Idealize.ShloMosaic.Lib.Pipeline.Value
public import Idealize.ShloMosaic.Lib.WordCmp
public import Idealize.ShloMosaic.PureOps.Ideal.Laws
public import Idealize.ShloMosaic.PureOps.IdealRules

@[expose] public section

noncomputable section

namespace Cert.StickState

open Cert.StickIdeal Cert.StickIdeal.Gen Idealize.ShloMosaic Idealize.ShloMosaic.ValueIdx Idealize.ShloMosaic.WordCmp Finset

/-! ## Sums over the positions from one on -/

/-- The sum over the positions from `c` to the last. -/
def onward (f : ℕ → EReal) (c : ℕ) : EReal := ∑ s ∈ Ico c 16384, f s

/-- A chunk and what follows it. -/
theorem onward_from (f : ℕ → EReal) (c : ℕ) (hc : 128 * (c + 1) ≤ 16384) (l : Fin 128) :
    (∑ j : Fin 128, if l.val ≤ j.val then f (128 * c + j.val) else 0) + onward f (128 * (c + 1)) = onward f (128 * c + l.val) := by
  have hl := l.isLt
  rw [Fin.sum_univ_eq_sum_range (fun j => if l.val ≤ j then f (128 * c + j) else 0) 128, ← sum_filter,
    show (range 128).filter (fun j => l.val ≤ j) = Ico l.val 128 from by
      ext j; simp only [mem_filter, mem_range, mem_Ico]; omega,
    sum_Ico_add f l.val 128 (128 * c)]
  unfold onward
  rw [show 128 + 128 * c = 128 * (c + 1) by omega, show l.val + 128 * c = 128 * c + l.val by omega]
  exact sum_Ico_consecutive f (by omega) hc

theorem onward_chunk (f : ℕ → EReal) (c : ℕ) (hc : 128 * (c + 1) ≤ 16384) :
    (∑ j : Fin 128, f (128 * c + j.val)) + onward f (128 * (c + 1)) = onward f (128 * c) := by
  refine Eq.trans ?_ (onward_from f c hc 0)
  congr 1

/-- Nothing is left where every later term is zero. -/
theorem onward_zero (f : ℕ → EReal) (c : ℕ) (h : ∀ s, c ≤ s → f s = 0) : onward f c = 0 :=
  sum_eq_zero fun s hs => h s (mem_Ico.mp hs).1

/-! ## What is summed -/

variable (q : FVec Ideal S256x128 .bf16) (K X : Vec Ideal S16384x128 .bf16) (b : ℕ)

/-- Row `s` of an array at column `d`. -/
def at' (X : Vec Ideal S16384x128 .bf16) (s : ℕ) (d : Fin 128) : EReal := if h : s < 16384 then X (ix2 ⟨s, h⟩ d) else 0

/-- The score of row `r` of the block against position `s`. -/
def score (r : Fin 256) (s : ℕ) : EReal := ∑ d : Fin 128, q (ix2 r d) * at' K s d

/-- The logarithm of the chance of not stopping, from the score. -/
def fail (z : EReal) : EReal :=
  FloatOps.subf (F := Ideal) (φ := .f32) (FloatOps.ofBits .f32 0x00000000#32)
    (FloatOps.addf (F := Ideal) (φ := .f32) (FloatOps.maximumf (F := Ideal) (φ := .f32) z (FloatOps.ofBits .f32 0x00000000#32))
      (FloatOps.log (F := Ideal) (φ := .f32) (FloatOps.addf (F := Ideal) (φ := .f32) (FloatOps.ofBits .f32 0x3F800000#32)
        (FloatOps.exp (F := Ideal) (φ := .f32) (FloatOps.subf (F := Ideal) (φ := .f32) (FloatOps.ofBits .f32 0x00000000#32)
          (FloatOps.absf (F := Ideal) (φ := .f32) z))))))

/-- The same at a position, zero at the row's own position and later. Row `r` of block `b` is position `256 b + r`. -/
def fails (r : Fin 256) (s : ℕ) : EReal := if s < 256 * b + r.val then fail (score q K r s) else 0

/-- The weight of position `s` in row `r`. -/
def weight (r : Fin 256) (s : ℕ) : EReal :=
  if s < 256 * b + r.val then FloatOps.exp (F := Ideal) (φ := .f32) (score q K r s + onward (fails q K b r) s) else 0

/-- The weighted value of position `s` in row `r`, column `d`. -/
def term (r : Fin 256) (d : Fin 128) (s : ℕ) : EReal := weight q K b r s * at' X s d

/-- The carry once the positions from `128 c` on have been visited. -/
def carryAt (c : ℕ) : Vec Ideal S256x1 .f32 := fun y => onward (fails q K b (y 0)) (128 * c)

/-- The weighted sum once the positions from `128 c` on have been visited. -/
def accAt (c : ℕ) (r : Fin 256) (d : Fin 128) : EReal := onward (term q K X b r d) (128 * c)

/-- Before any is visited both are zero. -/
theorem carryAt_start : carryAt q K b (2 * b + 2) = fun _ => 0 := funext fun y => by
  refine onward_zero _ _ fun s hs => if_neg ?_
  have : (y 0).val < 256 := (y 0).isLt
  omega

theorem accAt_start (r : Fin 256) (d : Fin 128) : accAt q K X b (2 * b + 2) r d = 0 :=
  onward_zero _ _ fun s hs => by
    have := r.isLt
    unfold term weight
    rw [if_neg (by omega), zero_mul]

/-! ## The operations on one chunk, at an index -/

/-- The scores of the block's rows against a chunk of keys. -/
def against (k : FVec Ideal S128x128 .bf16) : FVec Ideal S256x128 .f32 :=
  matmul dot_S256x128_S128x128_S256x128_1_1_0_0_n_n none q k (constant S256x128 .f32 0x00000000#32)

/-- A product of 256 rows with 128. -/
def times (w : FVec Ideal S256x128 .bf16) (v : FVec Ideal S128x128 .bf16) : FVec Ideal S256x128 .f32 :=
  matmul dot_S256x128_S128x128_S256x128_1_0_0_1_n_n none w v (constant S256x128 .f32 0x00000000#32)

theorem against_apply (k : FVec Ideal S128x128 .bf16) (i : Fin 256) (j : Fin 128) :
    against q k (ix2 i j) = ∑ c : Fin 128, q (ix2 i c) * k (ix2 j c) := by
  refine (Ideal.matmul_constant_zero_apply dot_S256x128_S128x128_S256x128_1_1_0_0_n_n none q k (ix2 i j)).trans ?_
  refine (Fintype.sum_equiv (contrEquiv1 dot_S256x128_S128x128_S256x128_1_1_0_0_n_n 128 rfl rfl) _ _ fun c => ?_)
  congr 1
  · exact congrArg q (funext fun a => match a with | ⟨0, _⟩ => rfl | ⟨1, _⟩ => rfl)
  · exact congrArg k (funext fun a => match a with | ⟨0, _⟩ => rfl | ⟨1, _⟩ => rfl)

theorem times_apply (w : FVec Ideal S256x128 .bf16) (v : FVec Ideal S128x128 .bf16) (i : Fin 256) (j : Fin 128) :
    times w v (ix2 i j) = ∑ c : Fin 128, w (ix2 i c) * v (ix2 c j) := by
  refine (Ideal.matmul_constant_zero_apply dot_S256x128_S128x128_S256x128_1_0_0_1_n_n none w v (ix2 i j)).trans ?_
  refine (Fintype.sum_equiv (contrEquiv1 dot_S256x128_S128x128_S256x128_1_0_0_1_n_n 128 rfl rfl) _ _ fun c => ?_)
  congr 1
  · exact congrArg w (funext fun a => match a with | ⟨0, _⟩ => rfl | ⟨1, _⟩ => rfl)
  · exact congrArg v (funext fun a => match a with | ⟨0, _⟩ => rfl | ⟨1, _⟩ => rfl)

/-- The triangle of ones: row `j`, column `l`, one where `l` is no later than `j`. -/
theorem tri_apply (j l : Fin 128) : k0_pay3 (F := Ideal) (ix2 j l) = if l.val ≤ j.val then 1 else 0 := by
  show FloatOps.sitofp (F := Ideal) .f32 (BitVec.setWidth 32 (IntOp.cmpi .sge (iota .tc S128x128 32 [0] iota_S128x128_d0_w32 (ix2 j l))
    (iota .tc S128x128 32 [1] iota_S128x128_d1_w32 (ix2 j l)))) = _
  rw [iota_single_apply .tc S128x128 32 0 iota_S128x128_d0_w32 (ix2 j l), iota_single_apply .tc S128x128 32 1 iota_S128x128_d1_w32 (ix2 j l)]
  show FloatOps.sitofp (F := Ideal) .f32 (BitVec.setWidth 32 (IntOp.cmpi .sge (BitVec.ofNat 32 j.val) (BitVec.ofNat 32 l.val))) = _
  rw [cmpi_sge_ofNat (by have := j.isLt; omega) (by have := l.isLt; omega)]
  by_cases h : l.val ≤ j.val
  · rw [if_pos h, decide_eq_true h]
    show (((1#32 : BitVec 32).toInt : ℝ) : EReal) = 1
    simp
  · rw [if_neg h, decide_eq_false h]
    show (((0#32 : BitVec 32).toInt : ℝ) : EReal) = 0
    simp

/-- Each position's sum over the chunk's positions from it on. -/
def through (x : FVec Ideal S256x128 .f32) : FVec Ideal S256x128 .f32 := times (truncf .bf16 x bitsLt_bf16_f32) k0_pay3

theorem through_apply (x : FVec Ideal S256x128 .f32) (r : Fin 256) (l : Fin 128) :
    through x (ix2 r l) = ∑ j : Fin 128, if l.val ≤ j.val then x (ix2 r j) else 0 := by
  refine (times_apply _ _ r l).trans (sum_congr rfl fun j _ => ?_)
  rw [tri_apply]
  show x (ix2 r j) * _ = _
  split
  · exact mul_one _
  · exact mul_zero _

/-- The carry with a chunk's sum added. -/
def tally (C : Vec Ideal S256x1 .f32) (x : FVec Ideal S256x128 .f32) : FVec Ideal S256x1 .f32 :=
  addf C (shapeCast S256x1 (multiReduction .add [1] S256 x 0x00000000#32 reduces_S256x128_S256 (.inl rfl) rfl) shapeCasts_S256_S256x1)

theorem tally_apply (C : Vec Ideal S256x1 .f32) (x : FVec Ideal S256x128 .f32) (r : Fin 256) :
    tally C x (ix2 r 0) = C (ix2 r 0) + ∑ j : Fin 128, x (ix2 r j) := by
  refine congrArg (C (ix2 r 0) + ·) ?_
  rw [shapeCast_apply _ shapeCasts_S256_S256x1 (ix2 r 0) (ix1 r)
    (by rw [Shape.rowMajor_val_two, Shape.rowMajor_val_one]; show r.val = r.val * 1 + 0; omega)]
  refine (Ideal.multiReduction_add_single (s := S256x128) (t := S256) (a := 1) x 0x00000000#32 reduces_S256x128_S256 (.inl rfl) rfl
    (ix1 r)).trans ?_
  exact sum_congr rfl fun k _ => congrArg x (funext fun a => match a with | ⟨0, _⟩ => rfl | ⟨1, _⟩ => rfl)

/-- What the weight is the exponential of. -/
def exponent (z x : FVec Ideal S256x128 .f32) (C : Vec Ideal S256x1 .f32) : FVec Ideal S256x128 .f32 :=
  addf (addf z (through x)) (broadcastTo S256x128 C broadcasts_S256x1_S256x128)

theorem exponent_apply (z x : FVec Ideal S256x128 .f32) (C : Vec Ideal S256x1 .f32) (r : Fin 256) (l : Fin 128) :
    exponent z x C (ix2 r l) = z (ix2 r l) + through x (ix2 r l) + C (ix2 r 0) :=
  congrArg (z (ix2 r l) + through x (ix2 r l) + ·)
    (broadcastTo_apply C broadcasts_S256x1_S256x128 (ix2 r l) (ix2 r 0) (fun a => match a with | ⟨0, _⟩ => rfl | ⟨1, _⟩ => rfl))

/-- A weighted sum with two chunks' weighted values added. -/
def gathered (a : Vec Ideal S1x256x128 .f32) (wh : FVec Ideal S256x128 .bf16) (vh : FVec Ideal S128x128 .bf16)
    (wl : FVec Ideal S256x128 .bf16) (vl : FVec Ideal S128x128 .bf16) : FVec Ideal S1x256x128 .f32 :=
  shapeCast S1x256x128 (addf (shapeCast S256x128 a shapeCasts_S1x256x128_S256x128) (addf (times wh vh) (times wl vl)))
    shapeCasts_S256x128_S1x256x128

theorem gathered_apply (a : Vec Ideal S1x256x128 .f32) (wh : FVec Ideal S256x128 .bf16) (vh : FVec Ideal S128x128 .bf16)
    (wl : FVec Ideal S256x128 .bf16) (vl : FVec Ideal S128x128 .bf16) (r : Fin 256) (d : Fin 128) :
    gathered a wh vh wl vl (ix3 0 r d) = a (ix3 0 r d)
      + ((∑ j : Fin 128, wh (ix2 r j) * vh (ix2 j d)) + ∑ j : Fin 128, wl (ix2 r j) * vl (ix2 j d)) := by
  unfold gathered
  rw [shapeCast_apply _ shapeCasts_S256x128_S1x256x128 (ix3 0 r d) (ix2 r d)
    (by rw [Shape.rowMajor_val_two, Shape.rowMajor_val_three]; show r.val * 128 + d.val = (0 * 256 + r.val) * 128 + d.val; omega)]
  show shapeCast S256x128 a shapeCasts_S1x256x128_S256x128 (ix2 r d) + (times wh vh (ix2 r d) + times wl vl (ix2 r d)) = _
  rw [times_apply, times_apply, shapeCast_apply a shapeCasts_S1x256x128_S256x128 (ix2 r d) (ix3 0 r d)
    (by rw [Shape.rowMajor_val_two, Shape.rowMajor_val_three]; show (0 * 256 + r.val) * 128 + d.val = r.val * 128 + d.val; omega)]

/-! ## One chunk -/

variable (c : ℕ) (hc : 128 * (c + 1) ≤ 16384)

/-- A slab of an array: its 128 rows from `128 c` on. -/
def Slab (X : Vec Ideal S16384x128 .bf16) (c : ℕ) (k : FVec Ideal S128x128 .bf16) : Prop :=
  ∀ j d, k (ix2 j d) = at' X (128 * c + j.val) d

theorem against_slab {k : FVec Ideal S128x128 .bf16} (hk : Slab K c k) (r : Fin 256) (j : Fin 128) :
    against q k (ix2 r j) = score q K r (128 * c + j.val) :=
  (against_apply q k r j).trans (sum_congr rfl fun d _ => by rw [hk])

/-- Entries that are the terms to be summed over the chunk. -/
def Terms (x : FVec Ideal S256x128 .f32) : Prop := ∀ r j, x (ix2 r j) = fails q K b r (128 * c + j.val)

include hc in
theorem tally_carry {x : FVec Ideal S256x128 .f32} (hx : Terms q K b c x) : tally (carryAt q K b (c + 1)) x = carryAt q K b c :=
  funext fun y => by
    have h1 : y 1 = (0 : Fin 1) := Fin.ext (by have : (y 1).val < 1 := (y 1).isLt; show (y 1).val = 0; omega)
    rw [eq_ix2 y, h1]
    refine (tally_apply _ x (y 0)).trans ?_
    rw [add_comm, sum_congr rfl fun j _ => hx (y 0) j]
    exact onward_chunk _ c hc

include hc in
theorem exponent_carry {k : FVec Ideal S128x128 .bf16} (hk : Slab K c k) {x : FVec Ideal S256x128 .f32} (hx : Terms q K b c x)
    (r : Fin 256) (l : Fin 128) : exponent (against q k) x (carryAt q K b (c + 1)) (ix2 r l)
      = score q K r (128 * c + l.val) + onward (fails q K b r) (128 * c + l.val) := by
  rw [exponent_apply, against_slab q K c hk, add_assoc, through_apply]
  congr 1
  rw [sum_congr rfl fun j _ => by rw [hx r j]]
  exact onward_from _ c hc l

/-- Weights over the chunk. -/
def Weights (w : FVec Ideal S256x128 .bf16) : Prop := ∀ r j, w (ix2 r j) = weight q K b r (128 * c + j.val)

/-- A mask that marks the positions before each row's own. -/
def Marks (m : IVec S256x128 1) : Prop := ∀ r j, m (ix2 r j) = BitVec.ofBool (decide (128 * c + j.val < 256 * b + r.val))

/-- Two chunks of weighted values extend the weighted sum. -/
theorem gathered_acc (hc : 128 * (c + 2) ≤ 16384) {a : Vec Ideal S1x256x128 .f32} (ha : ∀ r d, a (ix3 0 r d) = accAt q K X b (c + 2) r d)
    {wh wl : FVec Ideal S256x128 .bf16} {vh vl : FVec Ideal S128x128 .bf16} (hwh : Weights q K b (c + 1) wh) (hwl : Weights q K b c wl)
    (hvh : Slab X (c + 1) vh) (hvl : Slab X c vl) (r : Fin 256) (d : Fin 128) :
    gathered a wh vh wl vl (ix3 0 r d) = accAt q K X b c r d := by
  have hh : (∑ j : Fin 128, wh (ix2 r j) * vh (ix2 j d)) = ∑ j : Fin 128, term q K X b r d (128 * (c + 1) + j.val) :=
    sum_congr rfl fun j _ => by rw [hwh r j, hvh j d]; rfl
  have hl : (∑ j : Fin 128, wl (ix2 r j) * vl (ix2 j d)) = ∑ j : Fin 128, term q K X b r d (128 * c + j.val) :=
    sum_congr rfl fun j _ => by rw [hwl r j, hvl j d]; rfl
  rw [gathered_apply, ha, hh, hl]
  refine Eq.trans ?_ (onward_chunk (term q K X b r d) c (by omega))
  rw [← onward_chunk (term q K X b r d) (c + 1) hc]
  unfold accAt
  rw [add_comm, add_assoc, add_left_comm]

/-! ## Chunks wholly before the block's rows, and chunks with a mask -/

theorem fails_before {k : FVec Ideal S128x128 .bf16} (hk : Slab K c k) (hb : 128 * (c + 1) ≤ 256 * b) {x : FVec Ideal S256x128 .f32}
    (hx : ∀ y, x y = fail (against q k y)) : Terms q K b c x := fun r j => by
  have := j.isLt
  rw [hx, against_slab q K c hk, fails, if_pos (by omega)]

theorem fails_masked {k : FVec Ideal S128x128 .bf16} (hk : Slab K c k) {m : IVec S256x128 1} (hm : Marks b c m) {x : FVec Ideal S256x128 .f32}
    (hx : ∀ y, x y = Scalar.select (m y) (fail (against q k y)) (FloatOps.ofBits (F := Ideal) .f32 0x00000000#32)) : Terms q K b c x := fun r j => by
  rw [hx, hm, against_slab q K c hk, fails]
  by_cases h : 128 * c + j.val < 256 * b + r.val
  · simp [h, ValueIdx.select_one]
  · simp only [h, decide_false, BitVec.ofBool_false, if_false]
    exact Ideal.ofBits_zero_f32

include hc in
theorem weights_before {k : FVec Ideal S128x128 .bf16} (hk : Slab K c k) (hb : 128 * (c + 1) ≤ 256 * b) {x : FVec Ideal S256x128 .f32}
    (hx : Terms q K b c x) : Weights q K b c (truncf .bf16 (exp (exponent (against q k) x (carryAt q K b (c + 1)))) bitsLt_bf16_f32) :=
  fun r j => by
    have := j.isLt
    show FloatOps.exp (F := Ideal) (φ := .f32) (exponent (against q k) x (carryAt q K b (c + 1)) (ix2 r j)) = _
    rw [exponent_carry q K b c hc hk hx, weight, if_pos (by omega)]

include hc in
theorem weights_masked {k : FVec Ideal S128x128 .bf16} (hk : Slab K c k) {m : IVec S256x128 1} (hm : Marks b c m) {x : FVec Ideal S256x128 .f32}
    (hx : Terms q K b c x) : Weights q K b c (truncf .bf16 (select m (exp (exponent (against q k) x (carryAt q K b (c + 1))))
      (broadcast S256x128 (Scalar.ofBits .f32 0x00000000#32))) bitsLt_bf16_f32) :=
  fun r j => by
    show Scalar.select (m (ix2 r j)) (FloatOps.exp (F := Ideal) (φ := .f32) (exponent (against q k) x (carryAt q K b (c + 1)) (ix2 r j)))
      (FloatOps.ofBits .f32 0x00000000#32) = _
    rw [exponent_carry q K b c hc hk hx, weight, hm]
    by_cases h : 128 * c + j.val < 256 * b + r.val
    · simp [h, ValueIdx.select_one]
    · simp only [h, decide_false, BitVec.ofBool_false, if_false]
      exact Ideal.ofBits_zero_f32

end Cert.StickState

end
-- ==== Proof.StickStep.lean ====
/-
  THE KERNEL'S STEPS ON ITS STATE. A visit takes two chunks of 128 positions, the later first. This module reads the stored values
  of the first visit, which masks the positions from each row's own on, and of a visit of the loop, which needs no mask, as the
  carry and the weighted sum at the next state.
-/
module

public import proofs.«01_k».proof.Proof.StickState
public import proofs.«01_k».proof.Proof.Gen.StickIdeal
public import Idealize.ShloMosaic.Lib.VecWindow
public import Idealize.ShloMosaic.Lib.WritesUnit

@[expose] public section

noncomputable section

namespace Cert.StickState

open Cert.StickIdeal Cert.StickIdeal.Gen Idealize.ShloMosaic Idealize.ShloMosaic.ValueIdx Idealize.ShloMosaic.WordCmp Finset

variable (q : FVec Ideal S256x128 .bf16) (K X : Vec Ideal S16384x128 .bf16) (b c : ℕ)

/-! ## Two chunks -/

theorem cast_self (x : FVec Ideal S256x1 .f32) : shapeCast S256x1 x shapeCasts_S256x1_S256x1 = x :=
  funext fun i => shapeCast_apply x shapeCasts_S256x1_S256x1 i i rfl

theorem two_carry (hN : 128 * (c + 2) ≤ 16384) {xh xl : FVec Ideal S256x128 .f32} (hxh : Terms q K b (c + 1) xh) (hxl : Terms q K b c xl) :
    shapeCast S256x1 (tally (tally (carryAt q K b (c + 2)) xh) xl) shapeCasts_S256x1_S256x1 = carryAt q K b c := by
  rw [cast_self]
  have e := tally_carry q K b (c + 1) (by omega) hxh
  rw [show c + 1 + 1 = c + 2 from rfl] at e
  rw [e]
  exact tally_carry q K b c (by omega) hxl

/-- The weights of a chunk with no mask. -/
def plain (k : FVec Ideal S128x128 .bf16) (x : FVec Ideal S256x128 .f32) (C : Vec Ideal S256x1 .f32) : FVec Ideal S256x128 .bf16 :=
  truncf .bf16 (exp (exponent (against q k) x C)) bitsLt_bf16_f32

/-- The weights of a chunk with a mask. -/
def masked (m : IVec S256x128 1) (k : FVec Ideal S128x128 .bf16) (x : FVec Ideal S256x128 .f32) (C : Vec Ideal S256x1 .f32) :
    FVec Ideal S256x128 .bf16 :=
  truncf .bf16 (select m (exp (exponent (against q k) x C)) (broadcast S256x128 (Scalar.ofBits .f32 0x00000000#32))) bitsLt_bf16_f32

section Plain

variable {kh kl : FVec Ideal S128x128 .bf16} (hkh : Slab K (c + 1) kh) (hkl : Slab K c kl) (hb : 128 * (c + 2) ≤ 256 * b) (hN : 256 * b ≤ 16384)
  {C : Vec Ideal S256x1 .f32} (hC : C = carryAt q K b (c + 2))
  {vh vl : FVec Ideal S128x128 .bf16} (hvh : Slab X (c + 1) vh) (hvl : Slab X c vl)
  {a : Vec Ideal S1x256x128 .f32} (ha : ∀ r d, a (ix3 0 r d) = accAt q K X b (c + 2) r d)

include hkh hkl hb hN hC hvh hvl ha in
theorem plain_acc {xh xl : FVec Ideal S256x128 .f32} (hxh : ∀ y, xh y = fail (against q kh y)) (hxl : ∀ y, xl y = fail (against q kl y))
    (r : Fin 256) (d : Fin 128) : gathered a (plain q kh xh C) vh (plain q kl xl (tally C xh)) vl (ix3 0 r d) = accAt q K X b c r d := by
  subst hC
  have th := fails_before q K b (c + 1) hkh (by omega) hxh
  have tl := fails_before q K b c hkl (by omega) hxl
  have e : tally (carryAt q K b (c + 2)) xh = carryAt q K b (c + 1) := tally_carry q K b (c + 1) (by omega) th
  rw [e]
  exact gathered_acc q K X b c (by omega) ha (weights_before q K b (c + 1) (by omega) hkh (by omega) th)
    (weights_before q K b c (by omega) hkl (by omega) tl) hvh hvl r d

include hkh hkl hb hN hC in
/-- A visit of the loop: the first head's carry. -/
theorem trip_carry0 : k0_pay61 (k0_pay46 q kh) (k0_pay50 (k0_pay44 q kl)) C = carryAt q K b c := by
  subst hC
  exact two_carry q K b c (by omega) (fails_before q K b (c + 1) hkh (by omega) fun _ => rfl) (fails_before q K b c hkl (by omega) fun _ => rfl)

include hkh hkl hb hN hC in
/-- The second head's carry. -/
theorem trip_carry1 : k0_pay67 (k0_pay51 (k0_pay45 q kl)) (k0_pay64 (k0_pay49 (k0_pay47 q kh) k0_pay48) C) = carryAt q K b c := by
  subst hC
  exact two_carry q K b c (by omega) (fails_before q K b (c + 1) hkh (by omega) fun _ => rfl) (fails_before q K b c hkl (by omega) fun _ => rfl)

include hkh hkl hb hN hC hvh hvl ha in
/-- The first head's weighted sum. -/
theorem trip_acc0 (r : Fin 256) (d : Fin 128) :
    k0_pay68 vh vl (k0_pay56 k0_pay3 (k0_pay42 q kh) (k0_pay46 q kh) C)
      (k0_pay59 (k0_pay44 q kl) (k0_pay46 q kh) (k0_pay53 k0_pay3 (k0_pay44 q kl)) C) a (ix3 0 r d) = accAt q K X b c r d :=
  plain_acc q K X b c hkh hkl hb hN hC hvh hvl ha (xh := k0_pay46 q kh) (xl := k0_pay50 (k0_pay44 q kl)) (fun _ => rfl) (fun _ => rfl) r d

include hkh hkl hb hN hC hvh hvl ha in
/-- The second head's weighted sum. -/
theorem trip_acc1 (r : Fin 256) (d : Fin 128) :
    k0_pay69 vh vl (k0_pay62 (k0_pay43 q kh) (k0_pay52 k0_pay3 (k0_pay47 q kh) k0_pay48) C)
      (k0_pay65 (k0_pay45 q kl) (k0_pay49 (k0_pay47 q kh) k0_pay48) (k0_pay54 k0_pay3 (k0_pay45 q kl)) C) a (ix3 0 r d) = accAt q K X b c r d :=
  plain_acc q K X b c hkh hkl hb hN hC hvh hvl ha (xh := k0_pay49 (k0_pay47 q kh) k0_pay48) (xl := k0_pay51 (k0_pay45 q kl))
    (fun _ => rfl) (fun _ => rfl) r d

end Plain

section Masked

variable {kh kl : FVec Ideal S128x128 .bf16} (hkh : Slab K (c + 1) kh) (hkl : Slab K c kl) (hN : 128 * (c + 2) ≤ 16384)
  {mh ml : IVec S256x128 1} (hmh : Marks b (c + 1) mh) (hml : Marks b c ml)
  {C : Vec Ideal S256x1 .f32} (hC : C = carryAt q K b (c + 2))
  {vh vl : FVec Ideal S128x128 .bf16} (hvh : Slab X (c + 1) vh) (hvl : Slab X c vl)
  {a : Vec Ideal S1x256x128 .f32} (ha : ∀ r d, a (ix3 0 r d) = accAt q K X b (c + 2) r d)

include hkh hkl hN hC hvh hvl ha hmh hml in
theorem masked_acc {xh xl : FVec Ideal S256x128 .f32}
    (hxh : ∀ y, xh y = Scalar.select (mh y) (fail (against q kh y)) (FloatOps.ofBits (F := Ideal) .f32 0x00000000#32))
    (hxl : ∀ y, xl y = Scalar.select (ml y) (fail (against q kl y)) (FloatOps.ofBits (F := Ideal) .f32 0x00000000#32))
    (r : Fin 256) (d : Fin 128) :
    gathered a (masked q mh kh xh C) vh (masked q ml kl xl (tally C xh)) vl (ix3 0 r d) = accAt q K X b c r d := by
  subst hC
  have th := fails_masked q K b (c + 1) hkh hmh hxh
  have tl := fails_masked q K b c hkl hml hxl
  have e : tally (carryAt q K b (c + 2)) xh = carryAt q K b (c + 1) := tally_carry q K b (c + 1) (by omega) th
  rw [e]
  exact gathered_acc q K X b c (by omega) ha (weights_masked q K b (c + 1) (by omega) hkh hmh th)
    (weights_masked q K b c (by omega) hkl hml tl) hvh hvl r d

include hkh hkl hN hC hmh hml in
/-- The first visit: the first head's carry. -/
theorem entry_carry0 : k0_pay32 (k0_pay30 (k0_pay18 mh (k0_pay16 q kh) k0_pay17) (k0_pay20 (k0_pay12 q kl) ml) C) = carryAt q K b c := by
  subst hC
  exact two_carry q K b c hN (fails_masked q K b (c + 1) hkh hmh fun _ => rfl) (fails_masked q K b c hkl hml fun _ => rfl)

include hkh hkl hN hC hmh hml in
/-- The second head's carry. -/
theorem entry_carry1 : k0_pay38 (k0_pay36 (k0_pay19 (k0_pay11 q kh) mh) (k0_pay23 ml (k0_pay21 (k0_pay13 q kl)) k0_pay22) C) = carryAt q K b c := by
  subst hC
  exact two_carry q K b c hN (fails_masked q K b (c + 1) hkh hmh fun _ => rfl) (fails_masked q K b c hkl hml fun _ => rfl)

include hkh hkl hN hC hvh hvl ha hmh hml in
/-- The first head's weighted sum. -/
theorem entry_acc0 (r : Fin 256) (d : Fin 128) :
    k0_pay39 vh vl (k0_pay26 k0_pay3 (k0_pay10 q kh) mh (k0_pay18 mh (k0_pay16 q kh) k0_pay17) C)
      (k0_pay28 k0_pay3 (k0_pay12 q kl) ml (k0_pay18 mh (k0_pay16 q kh) k0_pay17) (k0_pay20 (k0_pay12 q kl) ml) C) a (ix3 0 r d)
      = accAt q K X b c r d :=
  masked_acc q K X b c hkh hkl hN hmh hml hC hvh hvl ha (xh := k0_pay18 mh (k0_pay16 q kh) k0_pay17) (xl := k0_pay20 (k0_pay12 q kl) ml)
    (fun _ => rfl) (fun _ => rfl) r d

include hkh hkl hN hC hvh hvl ha hmh hml in
/-- The second head's weighted sum. -/
theorem entry_acc1 (r : Fin 256) (d : Fin 128) :
    k0_pay40 vh vl (k0_pay33 (k0_pay11 q kh) mh (k0_pay24 k0_pay3 (k0_pay19 (k0_pay11 q kh) mh)) C)
      (k0_pay35 (k0_pay13 q kl) ml (k0_pay19 (k0_pay11 q kh) mh) (k0_pay25 k0_pay3 ml (k0_pay21 (k0_pay13 q kl)) k0_pay22) C) a (ix3 0 r d)
      = accAt q K X b c r d :=
  masked_acc q K X b c hkh hkl hN hmh hml hC hvh hvl ha (xh := k0_pay19 (k0_pay11 q kh) mh)
    (xl := k0_pay23 ml (k0_pay21 (k0_pay13 q kl)) k0_pay22) (fun _ => rfl) (fun _ => rfl) r d

end Masked

/-! ## The masks, the slabs and the output -/

theorem col_apply (r : Fin 256) (d : Fin 128) : iota .tc S256x128 32 [1] iota_S256x128_d1_w32 (ix2 r d) = BitVec.ofNat 32 d.val :=
  iota_single_apply .tc S256x128 32 1 iota_S256x128_d1_w32 (ix2 r d)

theorem row_apply (r : Fin 256) (d : Fin 128) : iota .tc S256x128 32 [0] iota_S256x128_d0_w32 (ix2 r d) = BitVec.ofNat 32 r.val :=
  iota_single_apply .tc S256x128 32 0 iota_S256x128_d0_w32 (ix2 r d)

theorem marks_high (hb : b < 64) : Marks b (2 * b + 1) (k0_pay14 (BitVec.ofNat 32 b) (iota .tc S256x128 32 [1] iota_S256x128_d1_w32)
    (iota .tc S256x128 32 [0] iota_S256x128_d0_w32) (Scalar.muli (BitVec.ofNat 32 b) 2#32) 1#32) := fun r j => by
  have := r.isLt
  have := j.isLt
  show IntOp.cmpi .slt ((BitVec.ofNat 32 b * BitVec.ofNat 32 2 + BitVec.ofNat 32 1) * BitVec.ofNat 32 128
      + iota .tc S256x128 32 [1] iota_S256x128_d1_w32 (ix2 r j))
    (BitVec.ofNat 32 b * BitVec.ofNat 32 256 + iota .tc S256x128 32 [0] iota_S256x128_d0_w32 (ix2 r j)) = _
  rw [col_apply, row_apply]
  simp only [← BitVec.ofNat_mul, ← BitVec.ofNat_add]
  rw [cmpi_slt_ofNat (by omega) (by omega)]
  congr 2
  exact propext (by omega)

theorem marks_low (hb : b < 64) : Marks b (2 * b) (k0_pay15 (BitVec.ofNat 32 b) (iota .tc S256x128 32 [1] iota_S256x128_d1_w32)
    (iota .tc S256x128 32 [0] iota_S256x128_d0_w32)) := fun r j => by
  have := r.isLt
  have := j.isLt
  show IntOp.cmpi .slt ((BitVec.ofNat 32 b * BitVec.ofNat 32 2 + BitVec.ofNat 32 0) * BitVec.ofNat 32 128
      + iota .tc S256x128 32 [1] iota_S256x128_d1_w32 (ix2 r j))
    (BitVec.ofNat 32 b * BitVec.ofNat 32 256 + iota .tc S256x128 32 [0] iota_S256x128_d0_w32 (ix2 r j)) = _
  rw [col_apply, row_apply]
  simp only [← BitVec.ofNat_mul, ← BitVec.ofNat_add]
  rw [cmpi_slt_ofNat (by omega) (by omega)]
  congr 2
  exact propext (by omega)

/-- A load of 128 rows reads a slab. -/
theorem slab_load {sp : Space} (v : View sig .tc sp S16384x128 .bf16) (f : v.ty.Contents (Elt Ideal)) {off : Fin 2 → ℕ}
    (inb : ∀ a, off a + S128x128.size a ≤ S16384x128.size a) (h0 : off 0 = 128 * c) (h1 : off 1 = 0) :
    Slab (v.read (Elt Ideal) f) c (v.readAt (Elt Ideal) (Rect.unit (s := S16384x128) off S128x128.size inb).toLoadRect f) := fun j d => by
  have hi : off 0 + 128 ≤ 16384 := inb 0
  have := j.isLt
  unfold at'
  rw [dif_pos (by omega)]
  refine congrArg (v.read (Elt Ideal) f) (funext fun a => Fin.ext ?_)
  match a with
  | ⟨0, _⟩ => show off 0 + 1 * j.val = 128 * c + j.val; omega
  | ⟨1, _⟩ => show off 1 + 1 * d.val = d.val; omega

/-- The block the kernel writes: each head's weighted sum in its columns. -/
def outBlock (Q : Vec Ideal S256x128 .bf16) : FVec Ideal S256x128 .bf16 := fun y =>
  if (y 1).val < 64 then accAt (k0_pay4 Q) K X b 0 (y 0) (y 1) else accAt (k0_pay5 Q) K X b 0 (y 0) (y 1)

theorem out_eq (Q : Vec Ideal S256x128 .bf16) {a0 a1 : Vec Ideal S1x256x128 .f32}
    (h0 : ∀ r d, a0 (ix3 0 r d) = accAt (k0_pay4 Q) K X b 0 r d) (h1 : ∀ r d, a1 (ix3 0 r d) = accAt (k0_pay5 Q) K X b 0 r d) :
    k0_pay1 (iota .tc S256x128 32 [1] iota_S256x128_d1_w32) a0 a1 = outBlock K X b Q := funext fun y => by
  rw [eq_ix2 y]
  generalize y 0 = r
  generalize y 1 = d
  change Fin 256 at r
  change Fin 128 at d
  show Scalar.select (IntOp.cmpi .slt (iota .tc S256x128 32 [1] iota_S256x128_d1_w32 (ix2 r d)) (BitVec.ofNat 32 64))
      (shapeCast S256x128 a0 shapeCasts_S1x256x128_S256x128 (ix2 r d)) (shapeCast S256x128 a1 shapeCasts_S1x256x128_S256x128 (ix2 r d))
    = if d.val < 64 then accAt (k0_pay4 Q) K X b 0 r d else accAt (k0_pay5 Q) K X b 0 r d
  have hs : ∀ a : Vec Ideal S1x256x128 .f32, shapeCast S256x128 a shapeCasts_S1x256x128_S256x128 (ix2 r d) = a (ix3 0 r d) := fun a =>
    shapeCast_apply a shapeCasts_S1x256x128_S256x128 (ix2 r d) (ix3 0 r d)
      (by rw [Shape.rowMajor_val_two, Shape.rowMajor_val_three]; show (0 * 256 + r.val) * 128 + d.val = r.val * 128 + d.val; omega)
  rw [hs, hs, h0, h1, col_apply, cmpi_slt_ofNat (by have := d.isLt; omega) (by omega)]
  by_cases h : d.val < 64
  · simp [h, ValueIdx.select_one]
  · simp only [h, decide_false, BitVec.ofBool_false, if_false]
    rfl

/-! ## The two heads' weighted sums, kept in one array -/

/-- The array. -/
def both (q0 q1 : FVec Ideal S256x128 .bf16) : Vec Ideal S2x256x128 .f32 := fun y =>
  if (y 0).val = 0 then accAt q0 K X b c (y 1) (y 2) else accAt q1 K X b c (y 1) (y 2)

variable {sp : Space} (v : View sig .tc sp S2x256x128 .f32) (f : v.ty.Contents (Elt Ideal))

/-- A load of one head's part. -/
theorem part0 (inb : ∀ a, (![0, 0, 0] : Fin 3 → ℕ) a + S1x256x128.size a ≤ S2x256x128.size a) (r : Fin 256) (d : Fin 128) :
    v.readAt (Elt Ideal) (Rect.unit (s := S2x256x128) ![0, 0, 0] S1x256x128.size inb).toLoadRect f (ix3 0 r d) = v.read (Elt Ideal) f (ix3 0 r d) :=
  congrArg (v.read (Elt Ideal) f) (funext fun a => Fin.ext (match a with
    | ⟨0, _⟩ => rfl
    | ⟨1, _⟩ => by show 0 + 1 * r.val = r.val; omega
    | ⟨2, _⟩ => by show 0 + 1 * d.val = d.val; omega))

theorem part1 (inb : ∀ a, (![1, 0, 0] : Fin 3 → ℕ) a + S1x256x128.size a ≤ S2x256x128.size a) (r : Fin 256) (d : Fin 128) :
    v.readAt (Elt Ideal) (Rect.unit (s := S2x256x128) ![1, 0, 0] S1x256x128.size inb).toLoadRect f (ix3 0 r d) = v.read (Elt Ideal) f (ix3 1 r d) :=
  congrArg (v.read (Elt Ideal) f) (funext fun a => Fin.ext (match a with
    | ⟨0, _⟩ => rfl
    | ⟨1, _⟩ => by show 0 + 1 * r.val = r.val; omega
    | ⟨2, _⟩ => by show 0 + 1 * d.val = d.val; omega))

/-- What is read after the first head's part was written. -/
theorem other_part (inb : ∀ a, (![0, 0, 0] : Fin 3 → ℕ) a + S1x256x128.size a ≤ S2x256x128.size a) (p : S1x256x128.Idx → Elt Ideal .f32)
    (L : List (View.Piece (Elt Ideal) S2x256x128 .f32)) (r : Fin 256) (d : Fin 128) :
    v.read (Elt Ideal) (v.writes (Elt Ideal) f (⟨Rect.unit (s := S2x256x128) ![0, 0, 0] S1x256x128.size inb, p⟩ :: L)) (ix3 1 r d)
      = v.read (Elt Ideal) (v.writes (Elt Ideal) f L) (ix3 1 r d) :=
  View.read_writes_cons_unit_of_not_mem v f inb p L (ix3 1 r d) rfl 0 (.inr (le_refl 1))

/-- What is read once both parts were written. -/
theorem both_parts (q0 q1 : FVec Ideal S256x128 .bf16) (inb0 : ∀ a, (![0, 0, 0] : Fin 3 → ℕ) a + S1x256x128.size a ≤ S2x256x128.size a)
    (inb1 : ∀ a, (![1, 0, 0] : Fin 3 → ℕ) a + S1x256x128.size a ≤ S2x256x128.size a) (p0 p1 : S1x256x128.Idx → Elt Ideal .f32)
    (L : List (View.Piece (Elt Ideal) S2x256x128 .f32)) (h0 : ∀ r d, p0 (ix3 0 r d) = accAt q0 K X b c r d)
    (h1 : ∀ r d, p1 (ix3 0 r d) = accAt q1 K X b c r d) :
    v.read (Elt Ideal) (v.writes (Elt Ideal) f (⟨Rect.unit (s := S2x256x128) ![1, 0, 0] S1x256x128.size inb1, p1⟩ :: ⟨Rect.unit (s := S2x256x128) ![0, 0, 0] S1x256x128.size inb0, p0⟩ :: L))
      = both K X b c q0 q1 := funext fun y => by
  unfold both
  by_cases h : (y 0).val = 0
  · rw [if_pos h]
    refine (View.read_writes_cons_unit_of_not_mem v f inb1 p1 _ y rfl 0 (.inl (by show (y 0).val < 1; omega))).trans ?_
    refine (View.read_writes_cons_unit_of_mem v f inb0 p0 L y (ix3 0 (y 1) (y 2)) rfl fun a => ?_).trans (h0 _ _)
    match a with
    | ⟨0, _⟩ => show (y 0).val = 0 + 0; omega
    | ⟨1, _⟩ => show (y 1).val = 0 + (y 1).val; omega
    | ⟨2, _⟩ => show (y 2).val = 0 + (y 2).val; omega
  · rw [if_neg h]
    refine (View.read_writes_cons_unit_of_mem v f inb1 p1 _ y (ix3 0 (y 1) (y 2)) rfl fun a => ?_).trans (h1 _ _)
    have : (y 0).val < 2 := (y 0).isLt
    match a with
    | ⟨0, _⟩ => show (y 0).val = 1 + 0; omega
    | ⟨1, _⟩ => show (y 1).val = 0 + (y 1).val; omega
    | ⟨2, _⟩ => show (y 2).val = 0 + (y 2).val; omega

end Cert.StickState

end
-- ==== Proof.StickIdealRun.lean ====
/-
  THE ATTENTION FORWARD CALL AT EXACT ARITHMETIC, `Cert.StickIdeal`. Each grid point takes one block of 256 rows and one pair of
  heads. The body starts from a carry and a weighted sum of zero, masks its first visit and then loops over the earlier chunks; at
  exact arithmetic the threshold below which the loop would stop early is minus infinity, so the loop always reaches the first
  chunk. What it writes is the block `Cert.StickState.outBlock`.
-/
module

public import proofs.«01_k».proof.Proof.StickStep
public import proofs.«01_k».proof.Proof.Gen.StickIdeal
public import proofs.«01_k».proof.Proof.Gen.StickIdeal.Launch
public import proofs.«01_k».proof.Proof.Gen.StickIdeal.Skeleton
public import proofs.«01_k».proof.Proof.Gen.StickIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.StickIdealRun

open Cert.StickIdeal Cert.StickIdeal.Gen Cert.StickState

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The assertions over this program's machine. -/
abbrev Asrt := sProp (MT nD τ sig Unit (Elt Ideal) ℕ (UR sig nD τ) ℕ)

/-- A loop's remaining trips are counted down. -/
abbrev 𝒱₀ : Variants := Variants.nat

/-- The loop's counter with `k` trips to run. -/
def counter (k : ℕ) : BitVec 32 := BitVec.ofNat 32 (2 * k) - 1#32

theorem counter_checked : ∀ k : Fin 64, k0_chk1 (counter (k.val + 1)) := by decide +kernel
theorem counter_less : ∀ k : Fin 64, Scalar.subi (counter (k.val + 1)) 2#32 = counter k.val := by decide +kernel
theorem counter_start : ∀ k : Fin 64, Scalar.subi (Scalar.muli (BitVec.ofNat 32 k.val) 2#32) 1#32 = counter k.val := by decide +kernel
theorem counter_stops (b : BitVec 1) : ¬ Scalar.andi (Scalar.cmpi .sge (counter 0) 0#32) b = 1#1 := by
  revert b; decide +kernel
theorem counter_runs : ∀ k : Fin 64, Scalar.andi (Scalar.cmpi .sge (counter (k.val + 1)) 0#32) 1#1 = 1#1 := by decide +kernel

/-- The threshold's stand-in is minus infinity, so nothing is below it. -/
theorem never_under (x : EReal) : Scalar.cmpf (F := Ideal) (φ := .f32) .oge x (Named.named κ "underflow" 0xC2D00000#32) = 1#1 := by
  rw [show Named.named (F := Ideal) κ "underflow" (φ := .f32) 0xC2D00000#32 = ⊥ from IdealRules.named_const.ideal_named_scalar _ _ _ _ rfl]
  show BitVec.ofBool (decide ((⊥ : EReal) ≤ x)) = 1#1
  rw [decide_eq_true bot_le]
  rfl

/-! ## Where the slabs are -/

theorem off2_at : ∀ k : Fin 64, k0_off2 (counter (k.val + 1)) 0 = 128 * (2 * k.val + 1) := by decide +kernel
theorem off3_at : ∀ k : Fin 64, k0_off3 (counter (k.val + 1)) 0 = 128 * (2 * k.val) := by decide +kernel
theorem off1_high (i : grid0.Coords) (hi : (i 1).val < 64) : k0_off1 i 1#32 0 = 128 * (2 * (i 1).val + 1) :=
  (by decide +kernel : ∀ n : Fin 64, (Scalar.indexCast (Scalar.muli (Scalar.addi (Scalar.muli (BitVec.ofNat 32 n.val) 2#32) 1#32) 128#32)).toNat
    = 128 * (2 * n.val + 1)) ⟨(i 1).val, hi⟩
theorem off1_low (i : grid0.Coords) (hi : (i 1).val < 64) : k0_off1 i 0#32 0 = 128 * (2 * (i 1).val) :=
  (by decide +kernel : ∀ n : Fin 64, (Scalar.indexCast (Scalar.muli (Scalar.addi (Scalar.muli (BitVec.ofNat 32 n.val) 2#32) 0#32) 128#32)).toNat
    = 128 * (2 * n.val)) ⟨(i 1).val, hi⟩

variable (c : Dev nD)

/-- A memory held whole at some contents. -/
def some' {s : Shape} {e : EltTy} (a : Memref sig .tc .vmem s e) : Asrt :=
  iprop(∃ d, owns (c : Thread nD τ) a fullShare d)

section Loop

variable (i : grid0.Coords) (arg3 : Memref sig .tc .vmem S16384x128 .bf16) (harg3 : arg3.IsWhole) (arg4 : Memref sig .tc .vmem S16384x128 .bf16) (harg4 : arg4.IsWhole)
  (v12 v16 : Vec Ideal S256x128 .bf16) (arg8 : Memref sig .tc .vmem S256x1 .f32) (harg8 : arg8.IsWhole) (arg6 : Memref sig .tc .vmem S2x256x128 .f32) (harg6 : arg6.IsWhole)
  (v0 : IVec S256x128 32) (arg9 : Memref sig .tc .vmem S256x1 .f32) (harg9 : arg9.IsWhole) (arg7 : Memref sig .tc .vmem S2x256x128 .f32) (harg7 : arg7.IsWhole)
  (K X : Vec Ideal S16384x128 .bf16) (b : ℕ)

/-- What the loop reads and writes with `k` trips to run: the keys and values, the weighted sums and each head's carry. -/
def held (k : ℕ) : Asrt :=
  iprop(owns (c : Thread nD τ) arg3 fullShare K ∗ owns (c : Thread nD τ) arg4 fullShare X ∗ some' c arg6
    ∗ owns (c : Thread nD τ) arg7 fullShare (both K X b (2 * k) v12 v16) ∗ owns (c : Thread nD τ) arg8 fullShare (carryAt v12 K b (2 * k))
    ∗ owns (c : Thread nD τ) arg9 fullShare (carryAt v16 K b (2 * k)))

/-- The loop's specification: from the state with `k` trips to run it reaches the one with none, returning anything. -/
def spec (k : ℕ) : sWPT (MT nD τ sig Unit (Elt Ideal) ℕ (UR sig nD τ) ℕ) (BitVec 32 × Ideal .f32) := do
  sWPT.consume (held c arg3 arg4 v12 v16 arg8 arg6 arg9 arg7 K X b k)
  let r ← sWPT.arbitrary
  sWPT.produce (held c arg3 arg4 v12 v16 arg8 arg6 arg9 arg7 K X b 0)
  pure r

theorem spec_apply (k : ℕ) (Q : BitVec 32 × Ideal .f32 → Asrt) : spec c arg3 arg4 v12 v16 arg8 arg6 arg9 arg7 K X b k Q
    = iprop(held c arg3 arg4 v12 v16 arg8 arg6 arg9 arg7 K X b k
      ∗ ∀ r : BitVec 32 × Ideal .f32, (held c arg3 arg4 v12 v16 arg8 arg6 arg9 arg7 K X b 0 -∗ Q r)) := rfl

set_option maxHeartbeats 600000 in
/-- The loop meets it, by induction on the trips left. -/
theorem loop (hN : 256 * b ≤ 16384) (E : Set ℕ) : ∀ k, k ≤ 64 → k ≤ b → ∀ (x : Ideal .f32) Q, spec c arg3 arg4 v12 v16 arg8 arg6 arg9 arg7 K X b k Q
    ⊢ wp frame (wpE (defs₀ (F := Ideal)) 𝒱₀ (c : Thread nD τ) (some k)) E
        (defs₀ (F := Ideal) .tc 1 ⟨i, arg3, harg3, arg4, harg4, v12, v16, k0_pay3, arg8, harg8, arg6, harg6, v0, arg9, harg9, arg7, harg7, counter k, x⟩) Q := by
  intro k
  induction k with
  | zero =>
    intro hk hkb x Q
    rw [spec_apply]
    show _ ⊢ wp frame (wpE (defs₀ (F := Ideal)) 𝒱₀ (c : Thread nD τ) (some 0)) E
      (cc0_while1 i arg3 harg3 arg4 harg4 v12 v16 k0_pay3 arg8 harg8 arg6 harg6 v0 arg9 harg9 arg7 harg7 (counter 0) x) Q
    simp only [cc0_while1_eq_skeleton]; unfold cc0_while1_skel
    simp only [counter_stops, ↓reduceIte, Prog.pure_eq_ret]
    iintro ⟨H, Hk⟩
    rw [wp_ret]; imodintro
    iapply Hk
    iexact H
  | succ k ih =>
    intro hk hkb x Q
    rw [spec_apply]
    show _ ⊢ wp frame (wpE (defs₀ (F := Ideal)) 𝒱₀ (c : Thread nD τ) (some (k + 1))) E
      (cc0_while1 i arg3 harg3 arg4 harg4 v12 v16 k0_pay3 arg8 harg8 arg6 harg6 v0 arg9 harg9 arg7 harg7 (counter (k + 1)) x) Q
    simp only [cc0_while1_eq_skeleton]; unfold cc0_while1_skel
    simp only [k0_part7_eq_skeleton, k0_part8_eq_skeleton, k0_part9_eq_skeleton, k0_part10_eq_skeleton]
    have hk' : k < 64 := by omega
    have hc : k0_chk1 (counter (k + 1)) := counter_checked ⟨k, hk'⟩
    have ih' := ih (by omega) (by omega)
    have hless : Scalar.subi (counter (k + 1)) 2#32 = counter k := counter_less ⟨k, hk'⟩
    have ht : Scalar.andi (Scalar.cmpi .sge (counter (k + 1)) 0#32) (Scalar.cmpf (F := Ideal) (φ := .f32) .oge x (Named.named κ "underflow" 0xC2D00000#32)) = 1#1 := by
      rw [never_under]; exact counter_runs ⟨k, hk'⟩
    have hb2 : 128 * (2 * k + 2) ≤ 256 * b := by omega
    unfold held some' owns
    iintro ⟨⟨⟨%f3, %h3, H3⟩, ⟨%f4, %h4, H4⟩, ⟨%d6, %f6, -, H6⟩, ⟨%f7, %h7, H7⟩, ⟨%f8, %h8, H8⟩, ⟨%f9, %h9, H9⟩⟩, Hk⟩
    have hkh := h3 ▸ slab_load (2 * k + 1) arg3.view f3 (k0_off2_inb (counter (k + 1)) hc) (off2_at ⟨k, hk'⟩) rfl
    have hkl := h3 ▸ slab_load (2 * k) arg3.view f3 (k0_off3_inb (counter (k + 1)) hc) (off3_at ⟨k, hk'⟩) rfl
    have hvh := h4 ▸ slab_load (2 * k + 1) arg4.view f4 (k0_off2_inb (counter (k + 1)) hc) (off2_at ⟨k, hk'⟩) rfl
    have hvl := h4 ▸ slab_load (2 * k) arg4.view f4 (k0_off3_inb (counter (k + 1)) hc) (off3_at ⟨k, hk'⟩) rfl
    have hC0 := (View.readAt_full arg8.view f8 inb_S256x1_S256x1_0_0).trans h8
    have hC1 := (View.readAt_full arg9.view f9 inb_S256x1_S256x1_0_0).trans h9
    have ha0 : ∀ r d, arg7.view.readAt (Elt Ideal) (Rect.unit (s := S2x256x128) ![0, 0, 0] S1x256x128.size inb_S2x256x128_S1x256x128_0_0_0).toLoadRect f7 (ix3 0 r d)
        = accAt v12 K X b (2 * k + 2) r d := fun r d => (part0 arg7.view f7 _ r d).trans ((congrFun h7 (ix3 0 r d)).trans (if_pos rfl))
    have ha1 : ∀ r d, arg7.view.readAt (Elt Ideal) (Rect.unit (s := S2x256x128) ![1, 0, 0] S1x256x128.size inb_S2x256x128_S1x256x128_1_0_0).toLoadRect f7 (ix3 0 r d)
        = accAt v16 K X b (2 * k + 2) r d := fun r d => (part1 arg7.view f7 _ r d).trans ((congrFun h7 (ix3 1 r d)).trans (if_neg Nat.one_ne_zero))
    have E8 := trip_carry0 v12 K b (2 * k) hkh hkl hb2 hN rfl
    have E9 := trip_carry1 v16 K b (2 * k) hkh hkl hb2 hN rfl
    have EA := trip_acc0 v12 K X b (2 * k) hkh hkl hb2 hN rfl hvh hvl ha0
    have EB := trip_acc1 v16 K X b (2 * k) hkh hkl hb2 hN rfl hvh hvl ha1
    sl_exec
    rw [hless]
    iapply (wp_call_spec 𝒱₀ (c : Thread nD τ) (some (k + 1)) E (spec c arg3 arg4 v12 v16 arg8 arg6 arg9 arg7 K X b k) k
      (fun u hu => by cases hu; exact Nat.lt_succ_self k) (ih' _))
    rw [spec_apply]; unfold held some' owns
    isplitl [H3 H4 H6 H7 H8 H9]
    · isplitl [H3]; · iexists _; isplitr; swap; · iexact H3
                      ipureintro; exact h3
      isplitl [H4]; · iexists _; isplitr; swap; · iexact H4
                      ipureintro; exact h4
      isplitl [H6]; · iexists _, _; isplitr; swap; · iexact H6
                      ipureintro; rfl
      isplitl [H7]; · iexists _; isplitr; swap; · iexact H7
                      ipureintro; exact both_parts K X b (2 * k) arg7.view f7 v12 v16 _ _ _ _ _ EA EB
      isplitl [H8]; · iexists _; isplitr; swap; · iexact H8
                      ipureintro; exact (View.read_writes_full arg8.view f8 _ _ _).trans E8
      iexists _; isplitr; swap; · iexact H9
      ipureintro; exact (View.read_writes_full arg9.view f9 _ _ _).trans E9
    iintro %r H
    rw [wp_ret]; imodintro
    iapply Hk
    iexact H

end Loop

set_option maxHeartbeats 1000000 in
/-- The kernel body: from queries `Q`, keys `K` and values `X` it writes the block `outBlock`. -/
theorem sound_kernel (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S2x256x128 .f32) (harg7 : arg7.IsWhole) (arg8 : Memref sig .tc .vmem S256x1 .f32) (harg8 : arg8.IsWhole) (arg9 : Memref sig .tc .vmem S256x1 .f32) (harg9 : arg9.IsWhole)
    (Q : Vec Ideal S256x128 .bf16) (K X : Vec Ideal S16384x128 .bf16) (hi : (i 1).val < 64) (R : PUnit → Asrt) :
    iprop(owns (c : Thread nD τ) arg2 fullShare Q ∗ some' c arg5 ∗ owns (c : Thread nD τ) arg3 fullShare K ∗ owns (c : Thread nD τ) arg4 fullShare X
        ∗ (some' c arg6 ∗ some' c arg7 ∗ some' c arg8 ∗ some' c arg9)
        ∗ ((owns (c : Thread nD τ) arg2 fullShare Q ∗ owns (c : Thread nD τ) arg5 fullShare (outBlock K X (i 1).val Q)
          ∗ owns (c : Thread nD τ) arg3 fullShare K ∗ owns (c : Thread nD τ) arg4 fullShare X
          ∗ (some' c arg6 ∗ some' c arg7 ∗ some' c arg8 ∗ some' c arg9)) -∗ R ⟨⟩))
      ⊢ wp frame (wpE (defs₀ (F := Ideal)) 𝒱₀ c none) Set.univ
          (cc0_sb_fwd i arg2 harg2 arg3 harg3 arg4 harg4 arg5 harg5 arg6 harg6 arg7 harg7 arg8 harg8 arg9 harg9) R := by
  simp only [cc0_sb_fwd_eq_skeleton]; unfold cc0_sb_fwd_skel
  simp only [k0_part1_eq_skeleton, k0_part2_eq_skeleton, k0_part3_eq_skeleton, k0_part4_eq_skeleton, k0_part5_eq_skeleton, k0_part6_eq_skeleton]
  have hN : 128 * (2 * (i 1).val + 2) ≤ 16384 := by omega
  have hN' : 256 * (i 1).val ≤ 16384 := by omega
  unfold some' owns
  iintro ⟨⟨%f2, %h2, H2⟩, ⟨%d5, %f5, -, H5⟩, ⟨%f3, %h3, H3⟩, ⟨%f4, %h4, H4⟩, ⟨⟨%d6, %f6, -, H6⟩, ⟨%d7, %f7, -, H7⟩, ⟨%d8, %f8, -, H8⟩, ⟨%d9, %f9, -, H9⟩⟩, Hk⟩
  have hQ := (View.readAt_full arg2.view f2 inb_S256x128_S256x128_0_0).trans h2
  have hkh := h3 ▸ slab_load (2 * (i 1).val + 1) arg3.view f3 (k0_off1_inb i 1) (off1_high i hi) rfl
  have hkl := h3 ▸ slab_load (2 * (i 1).val) arg3.view f3 (k0_off1_inb i 0) (off1_low i hi) rfl
  have hvh := h4 ▸ slab_load (2 * (i 1).val + 1) arg4.view f4 (k0_off1_inb i 1) (off1_high i hi) rfl
  have hvl := h4 ▸ slab_load (2 * (i 1).val) arg4.view f4 (k0_off1_inb i 0) (off1_low i hi) rfl
  have hmh := marks_high (i 1).val hi
  have hml := marks_low (i 1).val hi
  have hz : ∀ q, k0_pay8 (F := Ideal) = carryAt q K (i 1).val (2 * (i 1).val + 2) := fun q =>
    (funext fun _ => Ideal.ofBits_zero_f32).trans (carryAt_start q K (i 1).val).symm
  have hC0 : ∀ q, (arg8.view.readCov [⟨Rect.unit (s := S256x1) ![0, 0] S256x1.size inb_S256x1_S256x1_0_0, k0_pay8 (F := Ideal)⟩]
      (Rect.unit (s := S256x1) ![0, 0] S256x1.size inb_S256x1_S256x1_0_0).toLoadRect : Vec Ideal S256x1 .f32) = carryAt q K (i 1).val (2 * (i 1).val + 2) := fun q =>
    (View.readCov_full arg8.view _ _ _ _).trans (hz q)
  have hC1 : ∀ q, (arg9.view.readCov [⟨Rect.unit (s := S256x1) ![0, 0] S256x1.size inb_S256x1_S256x1_0_0, k0_pay8 (F := Ideal)⟩]
      (Rect.unit (s := S256x1) ![0, 0] S256x1.size inb_S256x1_S256x1_0_0).toLoadRect : Vec Ideal S256x1 .f32) = carryAt q K (i 1).val (2 * (i 1).val + 2) := fun q =>
    (View.readCov_full arg9.view _ _ _ _).trans (hz q)
  have hblank : ∀ q (f : arg7.view.ty.Contents (Elt Ideal)) h r d,
      arg7.view.read (Elt Ideal) (arg7.view.writes (Elt Ideal) f [⟨Rect.unit (s := S2x256x128) ![0, 0, 0] S2x256x128.size inb_S2x256x128_S2x256x128_0_0_0, k0_pay6 (F := Ideal)⟩]) (ix3 h r d)
        = accAt q K X (i 1).val (2 * (i 1).val + 2) r d := fun q f h r d =>
    (congrFun (View.read_writes_full arg7.view f _ _ _) _).trans
      ((show k0_pay6 (F := Ideal) (ix3 h r d) = 0 from Ideal.ofBits_zero_f32).trans (accAt_start q K X (i 1).val r d).symm)
  have ha0 : ∀ r d, (arg7.view.readCov [⟨Rect.unit (s := S2x256x128) ![0, 0, 0] S2x256x128.size inb_S2x256x128_S2x256x128_0_0_0, k0_pay6 (F := Ideal)⟩]
      (Rect.unit (s := S2x256x128) ![0, 0, 0] S1x256x128.size inb_S2x256x128_S1x256x128_0_0_0).toLoadRect : Vec Ideal S1x256x128 .f32) (ix3 0 r d)
        = accAt (k0_pay4 Q) K X (i 1).val (2 * (i 1).val + 2) r d := fun r d =>
    (part0 arg7.view (arg7.view.writes (Elt Ideal) arg7.view.junk _) _ r d).trans (hblank _ _ _ r d)
  have ha1 : ∀ (p : Vec Ideal S1x256x128 .f32) r d, (arg7.view.readCov [⟨Rect.unit (s := S2x256x128) ![0, 0, 0] S1x256x128.size inb_S2x256x128_S1x256x128_0_0_0, p⟩,
        ⟨Rect.unit (s := S2x256x128) ![0, 0, 0] S2x256x128.size inb_S2x256x128_S2x256x128_0_0_0, k0_pay6 (F := Ideal)⟩]
      (Rect.unit (s := S2x256x128) ![1, 0, 0] S1x256x128.size inb_S2x256x128_S1x256x128_1_0_0).toLoadRect : Vec Ideal S1x256x128 .f32) (ix3 0 r d)
        = accAt (k0_pay5 Q) K X (i 1).val (2 * (i 1).val + 2) r d := fun p r d =>
    (part1 arg7.view (arg7.view.writes (Elt Ideal) arg7.view.junk _) _ r d).trans
      ((other_part arg7.view arg7.view.junk _ p _ r d).trans (hblank _ _ _ r d))
  have E8 := entry_carry0 (k0_pay4 Q) K (i 1).val (2 * (i 1).val) hkh hkl hN hmh hml (hC0 _)
  have E9 := entry_carry1 (k0_pay5 Q) K (i 1).val (2 * (i 1).val) hkh hkl hN hmh hml (hC1 _)
  have EA := entry_acc0 (k0_pay4 Q) K X (i 1).val (2 * (i 1).val) hkh hkl hN hmh hml (hC0 _) hvh hvl ha0
  have EB := fun p => entry_acc1 (k0_pay5 Q) K X (i 1).val (2 * (i 1).val) hkh hkl hN hmh hml (hC1 _) hvh hvl (ha1 p)
  have hstart := counter_start ⟨(i 1).val, hi⟩
  clear hz hC0 hC1 hblank ha0 ha1
  sl_exec
  rw [show sound_kernel.sl.v224 i = counter (i 1).val from hstart]
  iapply (wp_call_spec 𝒱₀ (c : Thread nD τ) none Set.univ (spec c arg3 arg4 (k0_pay4 Q) (k0_pay5 Q) arg8 arg6 arg9 arg7 K X (i 1).val (i 1).val) (i 1).val
    (fun u hu => nomatch hu) (loop c i arg3 harg3 arg4 harg4 _ _ arg8 harg8 arg6 harg6 _ arg9 harg9 arg7 harg7 K X (i 1).val hN' Set.univ (i 1).val (le_of_lt hi) (le_refl _) _))
  rw [spec_apply]; unfold held some' owns
  isplitl [H3 H4 H6 H7 H8 H9]
  · isplitl [H3]; · iexists _; isplitr; swap; · iexact H3
                    ipureintro; exact h3
    isplitl [H4]; · iexists _; isplitr; swap; · iexact H4
                    ipureintro; exact h4
    isplitl [H6]; · iexists _, _; isplitr; swap; · iexact H6
                    ipureintro; rfl
    isplitl [H7]; · iexists _; isplitr; swap; · iexact H7
                    ipureintro; exact both_parts K X (i 1).val (2 * (i 1).val) arg7.view f7 (k0_pay4 Q) (k0_pay5 Q) _ _ _ _ _ EA (EB _)
    isplitl [H8]; · iexists _; isplitr; swap; · iexact H8
                    ipureintro; exact (View.read_writes_full arg8.view f8 _ _ _).trans E8
    iexists _; isplitr; swap; · iexact H9
    ipureintro; exact (View.read_writes_full arg9.view f9 _ _ _).trans E9
  iintro %r ⟨H3, H4, H6, ⟨%g7, %hg7, H7⟩, ⟨%g8, -, H8⟩, ⟨%g9, -, H9⟩⟩
  have hl0 : ∀ r d, arg7.view.readAt (Elt Ideal) (Rect.unit (s := S2x256x128) ![0, 0, 0] S1x256x128.size inb_S2x256x128_S1x256x128_0_0_0).toLoadRect g7 (ix3 0 r d)
      = accAt (k0_pay4 Q) K X (i 1).val 0 r d := fun r d => (part0 arg7.view g7 _ r d).trans ((congrFun hg7 (ix3 0 r d)).trans (if_pos rfl))
  have hl1 : ∀ r d, arg7.view.readAt (Elt Ideal) (Rect.unit (s := S2x256x128) ![1, 0, 0] S1x256x128.size inb_S2x256x128_S1x256x128_1_0_0).toLoadRect g7 (ix3 0 r d)
      = accAt (k0_pay5 Q) K X (i 1).val 0 r d := fun r d => (part1 arg7.view g7 _ r d).trans ((congrFun hg7 (ix3 1 r d)).trans (if_neg Nat.one_ne_zero))
  have EO := out_eq K X (i 1).val Q hl0 hl1
  sl_exec
  sl_step
  iapply Hk
  isplitl [H2]; · iexists _; isplitr; swap; · iexact H2
                  ipureintro; exact h2
  isplitl [H5]; · iexists _; isplitr; swap; · iexact H5
                  ipureintro; exact (View.read_writes_full arg5.view f5 _ _ _).trans EO
  isplitl [H3]; · iexact H3
  isplitl [H4]; · iexact H4
  isplitl [H6]; · iexact H6
  isplitl [H7]; · iexists _, _; isplitr; swap; · iexact H7
                  ipureintro; rfl
  isplitl [H8]; · iexists _, _; isplitr; swap; · iexact H8
                  ipureintro; rfl
  iexists _, _; isplitr; swap; · iexact H9
  ipureintro; rfl

variable (m : (ℓ : Loc nD τ sig) → Buf (Elt Ideal) ℓ) (ρ : Dev nD → PrngReg)

/-- The buffers as the call finds them: as launched. -/
abbrev V (b : Ref sig .tc) : Buf (Elt Ideal) ((c : Thread nD τ).loc b) := m ((c : Thread nD τ).loc b)

/-- The program is the call alone. -/
theorem hmain : Pipeline.HMain (Ix := Unit) (Name := ℕ) (U := UR sig nD τ) (Lvl := ℕ) cfgs 0 defs₀ 𝒱₀ m (main (F := Ideal)) (fun c => V c m) :=
  Pipeline.hmain_region cfgs 0 defs₀ 𝒱₀ m main fun c => (main_chain c).trans rfl

/-- The second result's blocks, each point's largest carries, are not tracked. -/
def untracked : Fin 5 → Bool := fun w => decide (w = 4)

/-- The block of a window's array at a grid point. -/
def iblk (w : Fin (cfg0 (F := Ideal)).W) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V c m (Pipeline.arrRef spec0 w))

/-- The block written at a grid point. -/
def written (t : Fin (cfg0 (F := Ideal)).N) : FVec Ideal S256x128 .bf16 :=
  outBlock (iblk c m 1 t) (iblk c m 2 t) (grid0.coords t 1).val (iblk c m 0 t)

/-- The proof data: the arrays as found, the blocks read, the block written, the scratch memories held at some contents. -/
def dats (_ : Fin 1) (c : Dev nD) : Dat τ (Elt Ideal) Unit ℕ (UR sig nD τ) ℕ (cfg0 (F := Ideal)) c where
  A w := V c m (Pipeline.arrRef spec0 w)
  after w t := match w with
    | ⟨0, _⟩ => iblk c m 0 t
    | ⟨1, _⟩ => iblk c m 1 t
    | ⟨2, _⟩ => iblk c m 2 t
    | ⟨3, _⟩ => written c m t
    | ⟨4, _⟩ => Pipeline.Dat.unnamed (cfg := cfg0 (F := Ideal)) 4 t
  Φ _ := Pipeline.ΦA spec0 c
  q w := Pipeline.shareOf spec0 w
  owed _ := 0

theorem A_eq (c : Dev nD) (w : Fin (cfg0 (F := Ideal)).W) : (dats m 0 c).A w = V c m (Pipeline.arrRef spec0 w) := by dsimp only [dats]

theorem after0 (t : Fin (cfg0 (F := Ideal)).N) : (dats m 0 c).after 0 t = iblk c m 0 t := by dsimp only [dats]
theorem after1 (t : Fin (cfg0 (F := Ideal)).N) : (dats m 0 c).after 1 t = iblk c m 1 t := by dsimp only [dats]
theorem after2 (t : Fin (cfg0 (F := Ideal)).N) : (dats m 0 c).after 2 t = iblk c m 2 t := by dsimp only [dats]
theorem after3 (t : Fin (cfg0 (F := Ideal)).N) : (dats m 0 c).after 3 t = written c m t := by dsimp only [dats]

/-- Each window that is read holds its block at every point. -/
theorem before0 (t : Fin (cfg0 (F := Ideal)).N) (d) : (dats m 0 c).before 0 t d = iblk c m 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin (cfg0 (F := Ideal)).N) (d) : (dats m 0 c).before 1 t d = iblk c m 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin (cfg0 (F := Ideal)).N) (d) : (dats m 0 c).before 2 t d = iblk c m 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Between points: the three scratch memories and the generator's register at some state. -/
theorem between_eq : (Pipeline.ΦA spec0 c : Asrt)
    = iprop((some' c (Memref.whole cc0_scratch0) ∗ some' c (Memref.whole cc0_scratch1) ∗ some' c (Memref.whole cc0_scratch2)) ∗ ∃ r, prngReg c r) := by
  unfold Pipeline.ΦA some'; rw [scopedRest0_eq]; simp only [owns_whole]; try rfl

/-- What the body is called with, and what it returns. -/
def bodyPre (t : Fin (cfg0 (F := Ideal)).N) : Asrt :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ some' c (st0_4 t))
def bodyPost (t : Fin (cfg0 (F := Ideal)).N) : Asrt :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ some' c (st0_4 t))

theorem sound_body (t : Fin (cfg0 (F := Ideal)).N) :
    bodyPre c m t ⊢ wp frame (wpE (defs₀ (F := Ideal)) 𝒱₀ c none) Set.univ (bodyAt0 t) (fun _ => bodyPost c m t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_eq, after0, after1, after2, after3]
  iintro ⟨⟨⟨HA, HB, HC⟩, Hg⟩, Ho, ⟨%d0, H0⟩, ⟨%d1, H1⟩, ⟨%d2, H2⟩, ⟨%d3, H3⟩, H4⟩
  iapply (sound_kernel c (grid0.coords t) _ _ _ _ _ _ _ _ _ _ _ _ _ _ _ _ (iblk c m 0 t) (iblk c m 1 t) (iblk c m 2 t) (grid0.coords t 1).isLt _)
  isplitl [H0]; · iexact H0
  isplitl [H3]; · unfold some'
                  iexists _; iexact H3
  isplitl [H1]; · iexact H1
  isplitl [H2]; · iexact H2
  isplitl [H4 HA HB HC]
  · isplitl [H4]; · iexact H4
    isplitl [HA]; · iexact HA
    isplitl [HB]; · iexact HB
    iexact HC
  iintro ⟨H0, H3, H1, H2, ⟨H4, HA, HB, HC⟩⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := Ideal)).N) :
    defs₀ (F := Ideal) .tc cfg0.body (cfg0.bodyArgs t (cfg0.slots t)) = bodyAt0 t := by
  unfold defs₀; rw [Defs.onTc_tc]

theorem body_obligation :
    BodyObligation (dats m 0 c) (defs₀ (F := Ideal)) 𝒱₀ () Set.univ untracked := fun t => by
  rw [bigSep_W0, bigSep_W0, defs₀_row]
  exact triple_restated (sound_body c m t) rfl .rfl fun _ => .rfl

-- the run theorem's implicit arguments are found by unifying its conclusion with this one, which takes unfolding plain
-- definitions in a metavariable's type
set_option backward.isDefEq.respectTransparency.types false in
set_option maxHeartbeats 800000 in
/-- The run: every array at some contents it may hold, the others as found, every counter at zero. -/
theorem run_main : θ_run defs (onTc (τ := τ) (main (F := Ideal))) (s₀ m ρ)
    (fun r => Pipeline.RDat.FramePost (cfgs 0) (fun c => (dats m 0 c).toRForget untracked) (fun c => V c m) r ∧ r.2.sem = fun _ => 0) :=
  Pipeline.θ_run_frame_forget_shared (Q' := _) cfgs (dats m) (0 : Fin 1) launch₀0 defs₀ 𝒱₀ untracked m ρ main
    (hbody := fun c => (body_obligation c m).loose) (hq := fun _ _ _ => rfl)
    (howed := fun _ _ => rfl) (V := fun c => V c m) (hmain := hmain m) (hA := A_eq m) (hΦ := fun _ _ => rfl)

/-- The call runs, its argument ends unchanged and every counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h.1.arr_in c 0 rfl).trans (A_eq m c 0), h.2⟩) (run_main m ρ)

/-! ## The result's blocks -/

/-- A tracked array at the end of a run is the one the proof data name. -/
theorem named {Λ : Labels} {cfg₁ : Cfg sig Λ} {dat : (c : Dev nD) → Dat τ (Elt Ideal) Unit ℕ (UR sig nD τ) ℕ cfg₁ c} {fgt : Fin cfg₁.W → Bool}
    {V : (c : Dev nD) → (b : Ref sig .tc) → Buf (Elt Ideal) ((c.tc : Thread nD τ).loc b)} {r : PUnit × MemSt nD τ sig (Elt Ideal)}
    (h : Pipeline.RDat.FramePost cfg₁ (fun c => (dat c).toRForget fgt) V r) (c : Dev nD) (w : Fin cfg₁.W) (hw : fgt w = false) :
    r.2.mem ((cfg₁.win w).arr.view.loc (c.tc : Thread nD τ)) = (dat c).arrAt w cfg₁.N :=
  ((dat c).toRForget_arrAt_iff hw _ _).1 ((h c).1 w)

/-- A point is told by the block it writes. -/
theorem idx_at : ∀ t : Fin grid0.N, 64 * win0_3.index t 1 + win0_3.index t 0 = t.val := by decide +kernel

/-- Two points write different blocks. -/
theorem idx_inj (t t' : Fin (cfg0 (F := Ideal)).N) (h : win0_3.index t = win0_3.index t') : t = t' :=
  Fin.ext (by rw [← idx_at t, ← idx_at t', h])

theorem disjoint : ∀ t t' : Fin (cfg0 (F := Ideal)).N, ((cfg0 (F := Ideal)).win 3).flush t = true → ((cfg0 (F := Ideal)).win 3).flush t' = true → t ≠ t' →
    Disjoint (((cfg0 (F := Ideal)).win 3).blk t).view.set (((cfg0 (F := Ideal)).win 3).blk t').view.set :=
  fun t t' _ _ hne => ((cfg0 (F := Ideal)).win 3).disjoint_blk fun h => hne (idx_inj t t' h)

/-- The result's block at a point is the block written there. -/
theorem block_eq (t : Fin (cfg0 (F := Ideal)).N) (hf : ((cfg0 (F := Ideal)).win 3).flush t = true) :
    (((cfg0 (F := Ideal)).win 3).blk t).view.read (Elt Ideal) ((dats m 0 c).arrAt 3 (cfg0 (F := Ideal)).N)
      = ((cfg0 (F := Ideal)).win 3).cut (grid0.coords t) (written c m t) := by
  refine ((dats m 0 c).read_blk_arrAt_eq_flushed 3 disjoint (cfg0 (F := Ideal)).N t t.isLt hf).trans ?_
  show ((cfg0 (F := Ideal)).win 3).cut (grid0.coords t) ((dats m 0 c).after 3 t) = _
  rw [after3]

/-- The call runs, its first result ends as named and its argument unchanged. -/
theorem run : θ_run defs (onTc (τ := τ) (main (F := Ideal))) ⟨m, fun _ => 0, ρ⟩ (fun r => ∀ c : Dev nD,
      r.2.mem ((c.tc : Thread nD τ).loc main_v0_0) = (dats m 0 c).arrAt 3 (cfg0 (F := Ideal)).N
        ∧ r.2.mem ((c.tc : Thread nD τ).loc main_arg0) = m ((c.tc : Thread nD τ).loc main_arg0)) :=
  (θ_run defs _ _).mono (fun r h c => ⟨named h.1 c 3 rfl, (h.1.arr_in c 0 rfl).trans (A_eq m c 0)⟩) (run_main m ρ)

end Cert.StickIdealRun

end
-- ==== Proof.StickValue.lean ====
/-
  THE ATTENTION, HEAD BY HEAD, AND WHAT THE KERNEL WRITES. The weight of row `t` on an earlier position `s` is the exponential of
  their score plus the sum over the positions from `s` up to `t` of the logarithm of the chance of not stopping there; the output is
  the weighted sum of the values. This module states it of the array of queries, keys and values, and shows that the block the
  kernel writes at each point holds it.
-/
module

public import proofs.«01_k».proof.Proof.StickIdealRun

@[expose] public section

set_option maxRecDepth 16384

noncomputable section

namespace Cert.StickValue

open Idealize.ShloMosaic Idealize.ShloMosaic.ValueIdx Idealize.ShloMosaic.WordCmp Idealize.ShloMosaic.TcCoe Finset
open Cert.StickState

/-- The array of queries, keys and values. -/
abbrev Heads := (⟨2, ![16384, 3072]⟩ : Shape).Idx → EReal

/-- Column `e` of head `h`, among the queries, the keys or the values. -/
def col (j : Fin 3) (h : Fin 16) (e : Fin 64) : Fin 3072 :=
  ⟨1024 * j.val + 64 * h.val + e.val, by have := j.isLt; have := h.isLt; have := e.isLt; omega⟩

/-- The score of row `t` on position `s`. -/
def scoreOf (A : Heads) (t s : Fin 16384) (h : Fin 16) : EReal := ∑ k : Fin 64, A (ix2 t (col 0 h k)) * A (ix2 s (col 1 h k))

/-- The logarithm of the chance that row `t` doesn't stop at position `s`. -/
def failOf (A : Heads) (t s : Fin 16384) (h : Fin 16) : EReal := if s.val < t.val then fail (scoreOf A t s h) else 0

/-- The weight of row `t` on position `s`. -/
def weightOf (A : Heads) (t s : Fin 16384) (h : Fin 16) : EReal :=
  if s.val < t.val then Ideal.exp (scoreOf A t s h + ∑ j : Fin 16384, if s.val ≤ j.val then failOf A t j h else 0) else 0

/-- The output in row `t`, head `h`, column `e`. -/
def attentionOf (A : Heads) (t : Fin 16384) (h : Fin 16) (e : Fin 64) : EReal :=
  ∑ s : Fin 16384, weightOf A t s h * A (ix2 s (col 2 h e))

/-- Column `e` of head `z` of a pair. -/
def lane (z : Fin 2) (e : Fin 64) : Fin 128 := ⟨64 * z.val + e.val, by have := z.isLt; have := e.isLt; omega⟩

theorem lane_div (d : Fin 128) (z : Fin 2) (h : d.val / 64 = z.val) : lane z ⟨d.val % 64, Nat.mod_lt _ (by decide)⟩ = d :=
  Fin.ext (by show 64 * z.val + d.val % 64 = d.val; omega)

/-- A sum over a pair's columns with the other head's zero. -/
theorem sum_head (f : Fin 128 → EReal) (z : Fin 2) (hf : ∀ d, d.val / 64 ≠ z.val → f d = 0) : ∑ d, f d = ∑ e : Fin 64, f (lane z e) := by
  refine (Fintype.sum_of_injective (lane z) (fun a b h => Fin.ext ?_) _ _ (fun d hd => hf d fun h => hd ⟨_, lane_div d z h⟩) fun _ => rfl).symm
  have := congrArg Fin.val h
  change 64 * z.val + a.val = 64 * z.val + b.val at this
  omega

/-- A sum from one position on, over all positions. -/
theorem sum_from (n : ℕ) (f : ℕ → EReal) (c : ℕ) : ∑ s ∈ Ico c n, f s = ∑ j : Fin n, if c ≤ j.val then f j.val else 0 := by
  rw [Fin.sum_univ_eq_sum_range (fun j => if c ≤ j then f j else 0) n, ← sum_filter]
  exact sum_congr (by ext j; simp only [mem_filter, mem_range, mem_Ico]; omega) fun _ _ => rfl

theorem onward_fin (f : ℕ → EReal) (c : ℕ) : onward f c = ∑ j : Fin 16384, if c ≤ j.val then f j.val else 0 := sum_from 16384 f c

theorem at_fin (X : Vec Ideal Cert.StickIdeal.S16384x128 .bf16) (s : Fin 16384) (d : Fin 128) : at' X s.val d = X (ix2 s d) := dif_pos s.isLt

section Block

variable (A : Heads) (b : ℕ) (hb : b < 64) (h : Fin 16) (z : Fin 2)
  (q : FVec Ideal Cert.StickIdeal.S256x128 .bf16) (K X : Vec Ideal Cert.StickIdeal.S16384x128 .bf16)

/-- Row `r` of block `b`. -/
def rowOf (r : Fin 256) : Fin 16384 := ⟨256 * b + r.val, by have := r.isLt; omega⟩

variable (hq : ∀ r e, q (ix2 r (lane z e)) = A (ix2 (rowOf b hb r) (col 0 h e))) (hq0 : ∀ r d, d.val / 64 ≠ z.val → q (ix2 r d) = 0)
  (hK : ∀ s e, K (ix2 s (lane z e)) = A (ix2 s (col 1 h e))) (hX : ∀ s e, X (ix2 s (lane z e)) = A (ix2 s (col 2 h e)))

include hq hq0 hK in
theorem score_eq (r : Fin 256) (s : Fin 16384) : score q K r s.val = scoreOf A (rowOf b hb r) s h := by
  unfold score scoreOf
  refine (sum_head _ z fun d hd => ?_).trans (sum_congr rfl fun e _ => ?_)
  · show q (ix2 r d) * at' K s.val d = 0
    rw [hq0 r d hd, zero_mul]
  · show q (ix2 r (lane z e)) * at' K s.val (lane z e) = _
    rw [at_fin, hq, hK]

include hq hq0 hK in
theorem fails_eq (r : Fin 256) (s : Fin 16384) : fails q K b r s.val = failOf A (rowOf b hb r) s h := by
  unfold fails failOf
  rw [score_eq A b hb h z q K hq hq0 hK]
  rfl

include hq hq0 hK in
theorem weight_eq (r : Fin 256) (s : Fin 16384) : weight q K b r s.val = weightOf A (rowOf b hb r) s h := by
  unfold weight weightOf
  rw [score_eq A b hb h z q K hq hq0 hK, onward_fin]
  simp only [fails_eq A b hb h z q K hq hq0 hK]
  rfl

include hq hq0 hK hX in
/-- The weighted sum over all positions is the attention's output. -/
theorem acc_eq (r : Fin 256) (e : Fin 64) : accAt q K X b 0 r (lane z e) = attentionOf A (rowOf b hb r) h e := by
  unfold accAt attentionOf
  rw [onward_fin]
  refine sum_congr rfl fun s _ => ?_
  rw [if_pos (Nat.zero_le _)]
  unfold term
  rw [weight_eq A b hb h z q K hq hq0 hK, at_fin, hX]

end Block

/-! ## The pair's columns -/

section Pair

open Cert.StickIdeal Cert.StickIdeal.Gen

theorem zero_bf16 : Ideal.ofBits .bf16 0x0000#16 = 0 := by simp [Ideal.ofBits, Ideal.ieee]

theorem pay4_apply (Q : Vec Ideal S256x128 .bf16) (r : Fin 256) (d : Fin 128) : k0_pay4 Q (ix2 r d) = if d.val / 64 = 0 then Q (ix2 r d) else 0 := by
  show Scalar.select (IntOp.cmpi .slt (iota .tc S256x128 32 [1] iota_S256x128_d1_w32 (ix2 r d)) (BitVec.ofNat 32 64)) (Q (ix2 r d)) (FloatOps.ofBits (F := Ideal) .bf16 0x0000#16) = _
  rw [col_apply, cmpi_slt_ofNat (by have := d.isLt; omega) (by omega)]
  by_cases h : d.val < 64
  · rw [if_pos (by omega)]; simp [h, ValueIdx.select_one]
  · rw [if_neg (by omega)]
    simp only [h, decide_false, BitVec.ofBool_false]
    exact zero_bf16

theorem pay5_apply (Q : Vec Ideal S256x128 .bf16) (r : Fin 256) (d : Fin 128) : k0_pay5 Q (ix2 r d) = if d.val / 64 = 1 then Q (ix2 r d) else 0 := by
  show Scalar.select (IntOp.cmpi .sge (iota .tc S256x128 32 [1] iota_S256x128_d1_w32 (ix2 r d)) (BitVec.ofNat 32 64)) (Q (ix2 r d)) (FloatOps.ofBits (F := Ideal) .bf16 0x0000#16) = _
  have hd := d.isLt
  rw [col_apply, cmpi_sge_ofNat (by omega) (by omega)]
  by_cases h : 64 ≤ d.val
  · rw [if_pos (by omega)]; simp [h, ValueIdx.select_one]
  · rw [if_neg (by omega)]
    simp only [h, decide_false, BitVec.ofBool_false]
    exact zero_bf16

/-- Head `z` of pair `p`. -/
def headOf (p : ℕ) (hp : p < 8) (z : Fin 2) : Fin 16 := ⟨2 * p + z.val, by have := z.isLt; omega⟩

/-- The block written from the blocks of the array at row block `b` and pair `p`. -/
theorem outBlock_eq (A : Heads) (b p : ℕ) (hb : b < 64) (hp : p < 8) (Q : Vec Ideal S256x128 .bf16) (K X : Vec Ideal S16384x128 .bf16)
    (hQ : ∀ r d, Q (ix2 r d) = A (ix2 (rowOf b hb r) ⟨128 * p + d.val, by have := d.isLt; omega⟩))
    (hK : ∀ s d, K (ix2 s d) = A (ix2 s ⟨1024 + 128 * p + d.val, by have := d.isLt; omega⟩))
    (hX : ∀ s d, X (ix2 s d) = A (ix2 s ⟨2048 + 128 * p + d.val, by have := d.isLt; omega⟩)) (r : Fin 256) (z : Fin 2) (e : Fin 64) :
    outBlock K X b Q (ix2 r (lane z e)) = attentionOf A (rowOf b hb r) (headOf p hp z) e := by
  have he := e.isLt
  have hK' : ∀ s e, K (ix2 s (lane z e)) = A (ix2 s (col 1 (headOf p hp z) e)) := fun s e =>
    (hK s _).trans (congrArg (fun x => A (ix2 s x)) (Fin.ext (by show 1024 + 128 * p + (64 * z.val + e.val) = 1024 * 1 + 64 * (2 * p + z.val) + e.val; omega)))
  have hX' : ∀ s e, X (ix2 s (lane z e)) = A (ix2 s (col 2 (headOf p hp z) e)) := fun s e =>
    (hX s _).trans (congrArg (fun x => A (ix2 s x)) (Fin.ext (by show 2048 + 128 * p + (64 * z.val + e.val) = 1024 * 2 + 64 * (2 * p + z.val) + e.val; omega)))
  have hQ' : ∀ r e, Q (ix2 r (lane z e)) = A (ix2 (rowOf b hb r) (col 0 (headOf p hp z) e)) := fun r e =>
    (hQ r _).trans (congrArg (fun x => A (ix2 (rowOf b hb r) x)) (Fin.ext (by show 128 * p + (64 * z.val + e.val) = 1024 * 0 + 64 * (2 * p + z.val) + e.val; omega)))
  show (if (lane z e).val < 64 then accAt (k0_pay4 Q) K X b 0 r (lane z e) else accAt (k0_pay5 Q) K X b 0 r (lane z e)) = _
  have hl : ∀ e : Fin 64, (lane z e).val / 64 = z.val := fun e => by
    have := e.isLt
    show (64 * z.val + e.val) / 64 = z.val; omega
  have hz : z = 0 ∨ z = 1 := by have := z.isLt; rcases Nat.lt_or_ge z.val 1 with h | h <;> [left; right] <;> exact Fin.ext (by show z.val = _; omega)
  rcases hz with h0 | h1
  · rw [if_pos (by rw [h0]; show 64 * 0 + e.val < 64; omega)]
    refine acc_eq A b hb (headOf p hp z) z (k0_pay4 Q) K X (fun r e => ?_) (fun r d hd => ?_) hK' hX' r e
    · rw [pay4_apply, hl, if_pos (by rw [h0]; rfl), hQ']
    · rw [pay4_apply, if_neg (by rw [h0] at hd; exact hd)]
  · rw [if_neg (by rw [h1]; show ¬ 64 * 1 + e.val < 64; omega)]
    refine acc_eq A b hb (headOf p hp z) z (k0_pay5 Q) K X (fun r e => ?_) (fun r d hd => ?_) hK' hX' r e
    · rw [pay5_apply, hl, if_pos (by rw [h1]; rfl), hQ']
    · rw [pay5_apply, if_neg (by rw [h1] at hd; exact hd)]

end Pair

/-! ## The array the kernel leaves -/

section Kernel

open Cert.StickIdeal Cert.StickIdeal.Gen Cert.StickIdealRun

theorem coord1 : ∀ t : Fin grid0.N, (grid0.coords t 1).val = t.val % 64 := by decide +kernel
theorem index0 : ∀ t : Fin grid0.N, win0_0.index t 0 = t.val % 64 ∧ win0_0.index t 1 = t.val / 64 := by decide +kernel
theorem index1 : ∀ t : Fin grid0.N, win0_1.index t 0 = 0 ∧ win0_1.index t 1 = 8 + t.val / 64 := by decide +kernel
theorem index2 : ∀ t : Fin grid0.N, win0_2.index t 0 = 0 ∧ win0_2.index t 1 = 16 + t.val / 64 := by decide +kernel
theorem index3 : ∀ t : Fin grid0.N, win0_3.index t 0 = t.val % 64 ∧ win0_3.index t 1 = t.val / 64 := by decide +kernel
theorem flush3 : ∀ t : Fin grid0.N, win0_3.flush t = true := by decide +kernel

variable (m : (ℓ : Loc nD τ sig) → Buf (Elt Ideal) ℓ) (c : Dev nD)

theorem block0 (t : Fin (cfg0 (F := Ideal)).N) (ht : t.val / 64 < 8) (r : Fin 256) (d : Fin 128) :
    (iblk c m 0 t : S256x128.Idx → EReal) (ix2 r d)
      = (V c m main_arg0 : Heads) (ix2 (rowOf (t.val % 64) (Nat.mod_lt _ (by decide)) r) ⟨128 * (t.val / 64) + d.val, by have := d.isLt; omega⟩) := by
  show V c m main_arg0 _ = V c m main_arg0 _
  congr 1
  funext x
  apply Fin.ext
  match x with
  | ⟨0, _⟩ => show win0_0.index t 0 * 256 + 1 * r.val = 256 * (t.val % 64) + r.val; rw [(index0 t).1]; omega
  | ⟨1, _⟩ => show win0_0.index t 1 * 128 + 1 * d.val = 128 * (t.val / 64) + d.val; rw [(index0 t).2]; omega

theorem block1 (t : Fin (cfg0 (F := Ideal)).N) (ht : t.val / 64 < 8) (s : Fin 16384) (d : Fin 128) :
    (iblk c m 1 t : S16384x128.Idx → EReal) (ix2 s d)
      = (V c m main_arg0 : Heads) (ix2 s ⟨1024 + 128 * (t.val / 64) + d.val, by have := d.isLt; omega⟩) := by
  show V c m main_arg0 _ = V c m main_arg0 _
  congr 1
  funext x
  apply Fin.ext
  match x with
  | ⟨0, _⟩ => show win0_1.index t 0 * 16384 + 1 * s.val = s.val; rw [(index1 t).1]; omega
  | ⟨1, _⟩ => show win0_1.index t 1 * 128 + 1 * d.val = 1024 + 128 * (t.val / 64) + d.val; rw [(index1 t).2]; omega

theorem block2 (t : Fin (cfg0 (F := Ideal)).N) (ht : t.val / 64 < 8) (s : Fin 16384) (d : Fin 128) :
    (iblk c m 2 t : S16384x128.Idx → EReal) (ix2 s d)
      = (V c m main_arg0 : Heads) (ix2 s ⟨2048 + 128 * (t.val / 64) + d.val, by have := d.isLt; omega⟩) := by
  show V c m main_arg0 _ = V c m main_arg0 _
  congr 1
  funext x
  apply Fin.ext
  match x with
  | ⟨0, _⟩ => show win0_2.index t 0 * 16384 + 1 * s.val = s.val; rw [(index2 t).1]; omega
  | ⟨1, _⟩ => show win0_2.index t 1 * 128 + 1 * d.val = 2048 + 128 * (t.val / 64) + d.val; rw [(index2 t).2]; omega

/-- What the kernel's array holds. -/
theorem array_eq (y : S16384x1024.Idx) :
    ((dats m 0 c).arrAt 3 (cfg0 (F := Ideal)).N : S16384x1024.Idx → EReal) y
      = attentionOf (V c m main_arg0) (y 0) ⟨(y 1).val / 64, by have h : (y 1).val < 1024 := (y 1).isLt; omega⟩ ⟨(y 1).val % 64, Nat.mod_lt _ (by decide)⟩ := by
  have h0 : (y 0).val < 16384 := (y 0).isLt
  have h1 : (y 1).val < 1024 := (y 1).isLt
  let t : Fin grid0.N := ⟨64 * ((y 1).val / 128) + (y 0).val / 256, by rw [N_0]; omega⟩
  have hm : t.val % 64 = (y 0).val / 256 := by show (64 * ((y 1).val / 128) + (y 0).val / 256) % 64 = _; omega
  have hd : t.val / 64 = (y 1).val / 128 := by show (64 * ((y 1).val / 128) + (y 0).val / 256) / 64 = _; omega
  have hp : t.val / 64 < 8 := by omega
  let r : Fin 256 := ⟨(y 0).val % 256, Nat.mod_lt _ (by decide)⟩
  let z : Fin 2 := ⟨(y 1).val / 64 % 2, Nat.mod_lt _ (by decide)⟩
  let e : Fin 64 := ⟨(y 1).val % 64, Nat.mod_lt _ (by decide)⟩
  have hv := congrFun (block_eq c m t (flush3 t)) (ix2 r (lane z e) : S256x128.Idx)
  have ho := outBlock_eq (V c m main_arg0) (t.val % 64) (t.val / 64) (Nat.mod_lt _ (by decide)) hp (iblk c m 0 t) (iblk c m 1 t) (iblk c m 2 t)
    (block0 m c t hp) (block1 m c t hp) (block2 m c t hp) r z e
  have hw : written c m t (ix2 r (lane z e)) = outBlock (iblk c m 1 t) (iblk c m 2 t) (t.val % 64) (iblk c m 0 t) (ix2 r (lane z e)) := by
    unfold written; rw [coord1 t]
  refine Eq.trans ?_ (hv.trans (hw.trans (ho.trans ?_)))
  · refine congrArg ((dats m 0 c).arrAt 3 (cfg0 (F := Ideal)).N : S16384x1024.Idx → EReal) (funext fun x => Fin.ext ?_)
    match x with
    | ⟨0, _⟩ => show (y 0).val = win0_3.index t 0 * 256 + 1 * ((y 0).val % 256); rw [(index3 t).1, hm]; omega
    | ⟨1, _⟩ => show (y 1).val = win0_3.index t 1 * 128 + 1 * (64 * ((y 1).val / 64 % 2) + (y 1).val % 64); rw [(index3 t).2, hd]; omega
  · have er : rowOf (t.val % 64) (Nat.mod_lt _ (by decide)) r = y 0 := Fin.ext (by show 256 * (t.val % 64) + (y 0).val % 256 = (y 0).val; rw [hm]; omega)
    have eh : headOf (t.val / 64) hp z = ⟨(y 1).val / 64, by omega⟩ := Fin.ext (by show 2 * (t.val / 64) + (y 1).val / 64 % 2 = (y 1).val / 64; rw [hd]; omega)
    rw [er, eh]

end Kernel

end Cert.StickValue

end
-- ==== Proof.StickReference.lean ====
/-
  THE REFERENCE IN CLOSED FORM: the stick-breaking attention's reference, read one element at a time, is the attention of
  `StickValue`.
-/
module

public import proofs.«01_k».proof.Proof.StickValue
public import proofs.«01_k».proof.Proof.Gen.StickRefIdeal.Read
public import Idealize.ShloMosaic.Lib.IdealHost

@[expose] public section

set_option maxRecDepth 16384

noncomputable section

namespace Cert.StickReference

open Idealize.ShloMosaic Idealize.ShloMosaic.ValueIdx Idealize.ShloMosaic.WordCmp Idealize.ShloMosaic.TcCoe Finset
open Cert.StickState Cert.StickValue
open Cert.StickRefIdeal Cert.StickRefIdeal.Gen Cert.StickRefIdeal.Read

variable (A : Heads)

/-- The heads of the queries. -/
theorem queries (y : S16x16384x64.Idx) : val_main_v5 (F := Ideal) A y = A (ix2 (y 1) (col 0 (y 0) (y 2))) := by
  have h0 : (y 0).val < 16 := (y 0).isLt
  have h2 : (y 2).val < 64 := (y 2).isLt
  rw [val_main_v5_apply, val_main_v4_apply, val_main_v3_apply, val_main_v0_apply]
  refine congrArg A (funext fun a => Fin.ext ?_)
  match a with
  | ⟨0, _⟩ => show (((y 1).val * 16 + (y 0).val) * 64 + (y 2).val) / 1024 = (y 1).val; omega
  | ⟨1, _⟩ => show (((y 1).val * 16 + (y 0).val) * 64 + (y 2).val) % 1024 = 1024 * 0 + 64 * (y 0).val + (y 2).val; omega

/-- The heads of the keys. -/
theorem keys (y : S16x16384x64.Idx) : val_main_v8 (F := Ideal) A y = A (ix2 (y 1) (col 1 (y 0) (y 2))) := by
  have h0 : (y 0).val < 16 := (y 0).isLt
  have h2 : (y 2).val < 64 := (y 2).isLt
  rw [val_main_v8_apply, val_main_v7_apply, val_main_v6_apply, val_main_v1_apply]
  refine congrArg A (funext fun a => Fin.ext ?_)
  match a with
  | ⟨0, _⟩ => show (((y 1).val * 16 + (y 0).val) * 64 + (y 2).val) / 1024 = (y 1).val; omega
  | ⟨1, _⟩ => show 1024 + (((y 1).val * 16 + (y 0).val) * 64 + (y 2).val) % 1024 = 1024 * 1 + 64 * (y 0).val + (y 2).val; omega

/-- The heads of the values. -/
theorem values (y : S16x16384x64.Idx) : val_main_v11 (F := Ideal) A y = A (ix2 (y 1) (col 2 (y 0) (y 2))) := by
  have h0 : (y 0).val < 16 := (y 0).isLt
  have h2 : (y 2).val < 64 := (y 2).isLt
  rw [val_main_v11_apply, val_main_v10_apply, val_main_v9_apply, val_main_v2_apply]
  refine congrArg A (funext fun a => Fin.ext ?_)
  match a with
  | ⟨0, _⟩ => show (((y 1).val * 16 + (y 0).val) * 64 + (y 2).val) / 1024 = (y 1).val; omega
  | ⟨1, _⟩ => show 2048 + (((y 1).val * 16 + (y 0).val) * 64 + (y 2).val) % 1024 = 1024 * 2 + 64 * (y 0).val + (y 2).val; omega

theorem scores (y : S16x16384x16384.Idx) : val_main_v12 (F := Ideal) A y = scoreOf A (y 1) (y 2) (y 0) := by
  rw [val_main_v12_apply]
  exact sum_congr rfl fun k _ => congrArg₂ (· * ·) (queries A (lidx_main_v12 y k)) (keys A (ridx_main_v12 y k))

/-- Whether a position lies before a row. -/
theorem earlier (y : S16384x16384.Idx) : val_main_v18 (F := Ideal) y = BitVec.ofBool (decide ((y 1).val < (y 0).val)) := by
  have h0 : (y 0).val < 16384 := (y 0).isLt
  have h1 : (y 1).val < 16384 := (y 1).isLt
  rw [val_main_v18_apply, val_main_v16_apply, val_main_v14_apply, val_main_v17_apply, val_main_v15_apply, val_main_v13_apply, val_main_v13_apply]
  exact cmpi_slt_ofNat (by show (y 1).val < _; omega) (by show (y 0).val < _; omega)

/-- One where a position lies at or after another. -/
theorem after (y : S16384x16384.Idx) : val_main_v27 (F := Ideal) y = if (y 1).val ≤ (y 0).val then (1 : EReal) else 0 := by
  have h0 : (y 0).val < 16384 := (y 0).isLt
  have h1 : (y 1).val < 16384 := (y 1).isLt
  have e : val_main_v26 (F := Ideal) y = BitVec.ofBool (decide ((y 1).val ≤ (y 0).val)) := by
    rw [val_main_v26_apply, val_main_v24_apply, val_main_v22_apply, val_main_v25_apply, val_main_v23_apply, val_main_v13_apply, val_main_v13_apply]
    exact cmpi_sge_ofNat (by show (y 0).val < _; omega) (by show (y 1).val < _; omega)
  rw [val_main_v27_apply, e]
  by_cases h : (y 1).val ≤ (y 0).val
  · rw [if_pos h, decide_eq_true h]
    show (((1 : ℕ) : ℝ) : EReal) = 1
    rw [Nat.cast_one]; rfl
  · rw [if_neg h, decide_eq_false h]
    show (((0 : ℕ) : ℝ) : EReal) = 0
    rw [Nat.cast_zero]; rfl

theorem zero_f32 : FloatOps.ofBits (F := Ideal) .f32 0x00000000#32 = (0 : EReal) := Ideal.ofBits_zero_f32

theorem ne_self (x : EReal) : FloatOps.cmpf (F := Ideal) (φ := .f32) .une x x = 0#1 := by
  show Ideal.cmp .une x x = 0#1
  simp [Ideal.cmp]

/-- The logarithm of the chance of not stopping, as the reference writes it. -/
theorem fail_eq (z : EReal) : -(max z 0 + Ideal.log (1 + Ideal.exp (-(max (z - 0) (-(z - 0)))))) = fail z := by
  show _ = FloatOps.ofBits (F := Ideal) .f32 0x00000000#32 - (max z (FloatOps.ofBits (F := Ideal) .f32 0x00000000#32)
    + Ideal.log (Ideal.ofBits .f32 0x3F800000#32 + Ideal.exp (FloatOps.ofBits (F := Ideal) .f32 0x00000000#32 - max z (-z))))
  rw [zero_f32, Ideal.ofBits_one_f32, sub_zero, zero_sub, zero_sub]

theorem softplus (y : S16x16384x16384.Idx) : val_main_v20 (F := Ideal) A y = fail (scoreOf A (y 1) (y 2) (y 0)) := by
  rw [val_main_v20_apply, val_main_v19_apply, val_main_call0_v4_apply, ne_self, ValueIdx.select_zero, val_main_call0_v11_apply,
    val_main_call0_v1_apply, val_main_call0_v10_apply, val_main_call0_v9_apply, val_main_call0_v8_apply, val_main_call0_v7_apply,
    val_main_call0_v3_apply, val_main_call0_v0_apply, val_main_call0_v2_apply, val_main_call0_cst_apply,
    scores, zero_f32]
  exact fail_eq _

theorem select_before (p : Prop) [Decidable p] (a b : EReal) : Scalar.select (BitVec.ofBool (decide p)) a b = if p then a else b := by
  by_cases h : p
  · rw [if_pos h, decide_eq_true h]; exact ValueIdx.select_one _ _
  · rw [if_neg h, decide_eq_false h]; exact ValueIdx.select_zero _ _

theorem failures (y : S16x16384x16384.Idx) : val_main_v21 (F := Ideal) A y = failOf A (y 1) (y 2) (y 0) := by
  rw [val_main_v21_apply, val_main_call1_v1_apply, earlier, softplus, val_main_call1_v2_apply, val_main_call1_v0_apply, val_main_cst_apply, zero_f32]
  exact select_before _ _ _

/-- The sum over the positions from one on. -/
theorem carried (y : S16x16384x16384.Idx) :
    val_main_v28 (F := Ideal) A y = ∑ j : Fin 16384, if (y 2).val ≤ j.val then failOf A (y 1) j (y 0) else 0 := by
  rw [val_main_v28_apply]
  refine sum_congr rfl fun j _ => ?_
  rw [failures A (lidx_main_v28 y j), after (ridx_main_v28 y j)]
  refine (mul_ite _ _ _ _).trans ?_
  rw [mul_one, mul_zero]
  rfl

theorem weights (y : S16x16384x16384.Idx) : val_main_v31 (F := Ideal) A y = weightOf A (y 1) (y 2) (y 0) := by
  rw [val_main_v31_apply, val_main_call2_v1_apply, earlier, val_main_v30_apply, val_main_v29_apply, scores, carried, val_main_call2_v2_apply,
    val_main_call2_v0_apply, val_main_cst_0_apply, zero_f32]
  exact select_before _ _ _

theorem outputs (y : S16x16384x64.Idx) : val_main_v32 (F := Ideal) A y = attentionOf A (y 1) (y 0) (y 2) := by
  rw [val_main_v32_apply]
  exact sum_congr rfl fun k _ => congrArg₂ (· * ·) (weights A (lidx_main_v32 y k)) (values A (ridx_main_v32 y k))

/-- The reference's result. -/
theorem reference_apply (y : S16384x1024.Idx) :
    val_main_v35 (F := Ideal) A y
      = attentionOf A (y 0) ⟨(y 1).val / 64, by have h : (y 1).val < 1024 := (y 1).isLt; omega⟩ ⟨(y 1).val % 64, Nat.mod_lt _ (by decide)⟩ := by
  have h1 : (y 1).val < 1024 := (y 1).isLt
  rw [val_main_v35_apply, val_main_v34_apply, val_main_v33_apply, outputs]
  have e0 : (⟨((y 0).val * 1024 + (y 1).val) / 1024, by have h : (y 0).val < 16384 := (y 0).isLt; omega⟩ : Fin 16384) = y 0 := Fin.ext (by show _ / 1024 = (y 0).val; omega)
  have eh : (⟨((y 0).val * 1024 + (y 1).val) / 64 % 16, Nat.mod_lt _ (by decide)⟩ : Fin 16) = ⟨(y 1).val / 64, by omega⟩ := Fin.ext (by show _ / 64 % 16 = (y 1).val / 64; omega)
  have ee : (⟨((y 0).val * 1024 + (y 1).val) % 64, Nat.mod_lt _ (by decide)⟩ : Fin 64) = ⟨(y 1).val % 64, Nat.mod_lt _ (by decide)⟩ := Fin.ext (by show _ % 64 = (y 1).val % 64; omega)
  rw [← e0, ← eh, ← ee]
  rfl

end Cert.StickReference

end
-- ==== Proof.lean ====
/-
  The proof of `Cert.Claim` (proofs.«01_k».proof.Defs): every program runs and ends with its counters at zero, each
  idealized kernel is its kernel (the dilated attention's with its mask value named, the stick-breaking one's with its smallest exponent named), and each kernel's arrays are those
  its reference takes, the dilated attention's and the first layer norm's on finite arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Weight
public import proofs.«01_k».proof.Proof.Gen.Weight.Frame
public import proofs.«01_k».proof.Proof.Gen.WeightIdeal
public import proofs.«01_k».proof.Proof.Gen.WeightIdeal.Frame
public import proofs.«01_k».proof.Proof.Gen.WeightIdeal.Value
public import proofs.«01_k».proof.Proof.Gen.WeightRefIdeal
public import proofs.«01_k».proof.Proof.Gen.WeightRefIdeal.Run
public import proofs.«01_k».proof.Proof.Gen.WeightRefIdeal.Read
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.HiddenRefIdeal
public import proofs.«01_k».proof.Proof.Gen.HiddenRefIdeal.Run
public import proofs.«01_k».proof.Proof.Gen.HiddenRefIdeal.Read
public import proofs.«01_k».proof.Proof.Gen.Feed
public import proofs.«01_k».proof.Proof.Gen.Feed.Frame
public import proofs.«01_k».proof.Proof.Gen.FeedIdeal
public import proofs.«01_k».proof.Proof.Gen.FeedIdeal.Frame
public import proofs.«01_k».proof.Proof.Gen.FeedIdeal.Value
public import proofs.«01_k».proof.Proof.Gen.FeedRefIdeal
public import proofs.«01_k».proof.Proof.Gen.FeedRefIdeal.Run
public import proofs.«01_k».proof.Proof.Gen.FeedRefIdeal.Read
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.ProjectRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.Source
public import proofs.«01_k».proof.Proof.Gen.Source.Frame
public import proofs.«01_k».proof.Proof.Gen.SourceIdeal
public import proofs.«01_k».proof.Proof.Gen.SourceIdeal.Frame
public import proofs.«01_k».proof.Proof.Gen.SourceIdeal.Value
public import proofs.«01_k».proof.Proof.Gen.SourceRefIdeal
public import proofs.«01_k».proof.Proof.Gen.SourceRefIdeal.Run
public import proofs.«01_k».proof.Proof.Gen.SourceRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Inner
public import proofs.«01_k».proof.Proof.Gen.Inner.Frame
public import proofs.«01_k».proof.Proof.Gen.InnerIdeal
public import proofs.«01_k».proof.Proof.Gen.InnerIdeal.Frame
public import proofs.«01_k».proof.Proof.Gen.InnerIdeal.Value
public import proofs.«01_k».proof.Proof.Gen.InnerRefIdeal
public import proofs.«01_k».proof.Proof.Gen.InnerRefIdeal.Run
public import proofs.«01_k».proof.Proof.Gen.InnerRefIdeal.Read
public import proofs.«01_k».proof.Proof.Gen.Triple
public import proofs.«01_k».proof.Proof.Gen.Triple.Frame
public import proofs.«01_k».proof.Proof.Gen.TripleIdeal
public import proofs.«01_k».proof.Proof.Gen.TripleIdeal.Frame
public import proofs.«01_k».proof.Proof.Gen.TripleIdeal.Value
public import proofs.«01_k».proof.Proof.Gen.TripleRefIdeal
public import proofs.«01_k».proof.Proof.Gen.TripleRefIdeal.Run
public import proofs.«01_k».proof.Proof.Gen.TripleRefIdeal.Read
public import proofs.«01_k».proof.Proof.Result
public import proofs.«01_k».proof.Proof.Gate
public import proofs.«01_k».proof.Proof.Weight
public import proofs.«01_k».proof.Proof.First
public import proofs.«01_k».proof.Proof.NormResult
public import proofs.«01_k».proof.Proof.Hidden
public import proofs.«01_k».proof.Proof.Feed
public import proofs.«01_k».proof.Proof.Project
public import proofs.«01_k».proof.Proof.Mix
public import proofs.«01_k».proof.Proof.Heads
public import proofs.«01_k».proof.Proof.Source
public import proofs.«01_k».proof.Proof.Gen.Stick
public import proofs.«01_k».proof.Proof.Gen.Stick.Launch
public import proofs.«01_k».proof.Proof.Gen.Stick.Points
public import proofs.«01_k».proof.Proof.Gen.Stick.Skeleton
public import proofs.«01_k».proof.Proof.Gen.StickIdeal
public import proofs.«01_k».proof.Proof.Gen.StickIdeal.Launch
public import proofs.«01_k».proof.Proof.Gen.StickIdeal.Points
public import proofs.«01_k».proof.Proof.Gen.StickIdeal.Skeleton
public import proofs.«01_k».proof.Proof.Gen.StickRefIdeal
public import proofs.«01_k».proof.Proof.Gen.StickRefIdeal.Run
public import proofs.«01_k».proof.Proof.Gen.StickRefIdeal.Read
public import proofs.«01_k».proof.Proof.Merge
public import proofs.«01_k».proof.Proof.InnerResult
public import proofs.«01_k».proof.Proof.Triple
public import proofs.«01_k».proof.Proof.StickRun
public import proofs.«01_k».proof.Proof.StickReference
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference's frame: it has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Dilated.finite_facts) := by
  intro m g m' g' hpre hargs
  refine ⟨fun c => (Cert.KernelIdeal.Gen.dats m 0 c).arrAt 7 Cert.KernelIdeal.cfg0.N, Cert.KernelIdeal.Value.run_blocks m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.Read.val_main_v329_eq _).trans ?_
  haveI := Cert.Dilated.finite_facts
  exact (Cert.Dilated.same_array m c _ _ _ _ (Cert.Dilated.allArgs (hpre c)) ⟨rfl, rfl, rfl, rfl⟩ |>.trans
    (Cert.Dilated.reference_congr (hargs c).1 (hargs c).2.1 (hargs c).2.2.1 (hargs c).2.2.2)).symm

/-- The gate's gradient: the reference's frame. -/
theorem gate_reference_frame : Cert.quiescent_GateRefIdeal (hGateRefIdeal := Cert.GateRefIdeal.Gen.facts) := fun m ρ _ =>
  (θ_run Cert.GateRefIdeal.defs _ _).mono (fun r h => ⟨fun c => (h c).2, sem_eq_zero_of_no_sems (by decide) r.2⟩)
    (Cert.GateRefIdeal.Value.run (F := Ideal) m ρ)

/-- The gate's gradient: the kernel's array is the reference's. -/
theorem gate_algebraic : Cert.algebraic_GateIdeal_GateRefIdeal (hGateIdeal := Cert.GateIdeal.Gen.facts) (hGateRefIdeal := Cert.GateRefIdeal.Gen.facts) := by
  intro m g m' g' _ hargs
  refine ⟨fun c => (Cert.GateIdeal.Gen.dats m 0 c).arrAt 3 Cert.GateIdeal.cfg0.N, Cert.GateIdeal.Value.run_blocks m g, ?_⟩
  refine (θ_run Cert.GateRefIdeal.defs _ _).mono (fun _ h c => ⟨(h c).1.trans ?_, (h c).2⟩) (Cert.GateRefIdeal.Value.run (F := Ideal) m' g')
  refine (Cert.GateRefIdeal.Read.val_main_v15_eq _ _ _).trans ?_
  rw [(hargs c).1, (hargs c).2.1, (hargs c).2.2]
  exact funext fun y => (Cert.GateGradient.reference_apply _ _ _ y).trans (Cert.GateGradient.array_eq m c y).symm

/-- The second weight's gradient: the reference's frame. -/
theorem weight_reference_frame : Cert.quiescent_WeightRefIdeal (hWeightRefIdeal := Cert.WeightRefIdeal.Gen.facts) := fun m ρ _ =>
  (θ_run Cert.WeightRefIdeal.defs _ _).mono (fun r h => ⟨fun c => (h c).2, sem_eq_zero_of_no_sems (by decide) r.2⟩)
    (Cert.WeightRefIdeal.Value.run (F := Ideal) m ρ)

/-- The second weight's gradient: the kernel's array is the reference's. -/
theorem weight_algebraic : Cert.algebraic_WeightIdeal_WeightRefIdeal (hWeightIdeal := Cert.WeightIdeal.Gen.facts) (hWeightRefIdeal := Cert.WeightRefIdeal.Gen.facts) := by
  intro m g m' g' _ hargs
  refine ⟨fun c => (Cert.WeightIdeal.Gen.dats m 0 c).arrAt 2 Cert.WeightIdeal.cfg0.N, Cert.WeightIdeal.Value.run_blocks m g, ?_⟩
  refine (θ_run Cert.WeightRefIdeal.defs _ _).mono (fun _ h c => ⟨(h c).1.trans ?_, (h c).2⟩) (Cert.WeightRefIdeal.Value.run (F := Ideal) m' g')
  refine (Cert.WeightRefIdeal.Read.val_main_v8_eq _ _).trans ?_
  rw [(hargs c).1, (hargs c).2]
  exact funext fun y => (Cert.WeightGradient.reference_apply _ _ y).trans (Cert.WeightGradient.array_eq m c y).symm

/-- The first weight's gradient: the reference's frame. -/
theorem first_reference_frame : Cert.quiescent_FirstRefIdeal (hFirstRefIdeal := Cert.FirstRefIdeal.Gen.facts) := fun m ρ _ =>
  (θ_run Cert.FirstRefIdeal.defs _ _).mono (fun r h => ⟨fun c => (h c).2, sem_eq_zero_of_no_sems (by decide) r.2⟩)
    (Cert.FirstRefIdeal.Value.run (F := Ideal) m ρ)

/-- The first weight's gradient: the kernel's array is the reference's. -/
theorem first_algebraic : Cert.algebraic_FirstIdeal_FirstRefIdeal (hFirstIdeal := Cert.FirstIdeal.Gen.facts) (hFirstRefIdeal := Cert.FirstRefIdeal.Gen.facts) := by
  intro m g m' g' _ hargs
  refine ⟨fun c => (Cert.FirstIdeal.Gen.dats m 0 c).arrAt 2 Cert.FirstIdeal.cfg0.N, Cert.FirstIdeal.Value.run_blocks m g, ?_⟩
  refine (θ_run Cert.FirstRefIdeal.defs _ _).mono (fun _ h c => ⟨(h c).1.trans ?_, (h c).2⟩) (Cert.FirstRefIdeal.Value.run (F := Ideal) m' g')
  refine (Cert.FirstRefIdeal.Read.val_main_v7_eq _ _).trans ?_
  rw [(hargs c).1, (hargs c).2]
  exact funext fun y => (Cert.FirstGradient.reference_apply _ _ y).trans (Cert.FirstGradient.array_eq m c y).symm

/-- The first layer norm's gradient: the reference's frame. -/
theorem norm_reference_frame : Cert.quiescent_NormRefIdeal (hNormRefIdeal := Cert.NormRefIdeal.Gen.facts) := fun m ρ _ =>
  (θ_run Cert.NormRefIdeal.defs _ _).mono (fun r h => ⟨fun c => (h c).2.2.2.2, sem_eq_zero_of_no_sems (by decide) r.2⟩)
    (Cert.NormRefIdeal.Value.run (F := Ideal) m ρ)

/-- The first layer norm's gradient: on finite arguments the kernel's four arrays are the reference's. -/
theorem norm_algebraic : Cert.algebraic_NormIdeal_NormRefIdeal_pre_finite_norm (hNormIdeal := Cert.NormIdeal.Gen.facts)
    (hNormRefIdeal := Cert.NormRefIdeal.Gen.facts) (hPre_finite_norm := Cert.NormGradient.norm_facts) := by
  intro m g m' g' hpre hargs
  haveI := Cert.NormGradient.norm_facts
  refine ⟨fun c => (Cert.NormIdeal.Gen.dats m 0 c).arrAt 5 Cert.NormIdeal.cfg0.N, fun c => (Cert.NormIdeal.Gen.dats m 0 c).arrAt 6 Cert.NormIdeal.cfg0.N,
    fun c => (Cert.NormIdeal.Gen.dats m 0 c).arrAt 7 Cert.NormIdeal.cfg0.N, fun c => (Cert.NormIdeal.Gen.dats m 0 c).arrAt 8 Cert.NormIdeal.cfg0.N,
    Cert.NormIdeal.Value.run_blocks m g, ?_⟩
  refine (θ_run Cert.NormRefIdeal.defs _ _).mono
    (fun _ h c => ⟨(h c).1.trans ?_, (h c).2.1.trans ?_, (h c).2.2.1.trans ?_, (h c).2.2.2.1.trans ?_, (h c).2.2.2.2⟩)
    (Cert.NormRefIdeal.Value.run (F := Ideal) m' g')
  · refine (Cert.NormRefIdeal.Read.val_main_v71_eq m' c).trans ?_
    rw [(hargs c).1, (hargs c).2.1, (hargs c).2.2.1, (hargs c).2.2.2.1, (hargs c).2.2.2.2]
    exact funext fun y => ((Cert.NormGradient.reference_chain _ _ _ _ _ y).trans
      (Cert.NormGradient.reference_rows (Cert.NormGradient.all_real (hpre c)) _ _)).trans (Cert.NormGradient.array5 m c y).symm
  · refine (Cert.NormRefIdeal.Read.val_main_v72_eq m' c).trans ?_
    rw [(hargs c).1, (hargs c).2.1, (hargs c).2.2.1, (hargs c).2.2.2.1, (hargs c).2.2.2.2]
    exact funext fun y => ((Cert.NormGradient.reference_chain_again _ _ _ _ _ y).trans
      (Cert.NormGradient.reference_rows (Cert.NormGradient.all_real (hpre c)) _ _)).trans (Cert.NormGradient.array6 m c y).symm
  · refine (Cert.NormRefIdeal.Read.val_main_v73_eq _ _ _ _).trans ?_
    rw [(hargs c).1, (hargs c).2.1, (hargs c).2.2.1, (hargs c).2.2.2.1]
    exact funext fun y => (Cert.NormGradient.reference_gain _ _ _ _ y).trans (Cert.NormGradient.array7 m c y).symm
  · refine (Cert.NormRefIdeal.Read.val_main_v74_eq _ _ _).trans ?_
    rw [(hargs c).1, (hargs c).2.1, (hargs c).2.2.1]
    exact funext fun y => (Cert.NormGradient.reference_bias _ _ _ y).trans (Cert.NormGradient.array8 m c y).symm

/-- The pre-activation: the reference's frame. -/
theorem hidden_reference_frame : Cert.quiescent_HiddenRefIdeal (hHiddenRefIdeal := Cert.HiddenRefIdeal.Gen.facts) := fun m ρ _ =>
  (θ_run Cert.HiddenRefIdeal.defs _ _).mono (fun r h => ⟨fun c => (h c).2, sem_eq_zero_of_no_sems (by decide) r.2⟩)
    (Cert.HiddenRefIdeal.Value.run (F := Ideal) m ρ)

/-- The pre-activation: the kernel's array is the reference's. -/
theorem hidden_algebraic : Cert.algebraic_HiddenIdeal_HiddenRefIdeal (hHiddenIdeal := Cert.HiddenIdeal.Gen.facts) (hHiddenRefIdeal := Cert.HiddenRefIdeal.Gen.facts) := by
  intro m g m' g' _ hargs
  refine ⟨fun c => (Cert.HiddenIdeal.Gen.dats m 0 c).arrAt 2 Cert.HiddenIdeal.cfg0.N, Cert.HiddenIdeal.Value.run_blocks m g, ?_⟩
  refine (θ_run Cert.HiddenRefIdeal.defs _ _).mono (fun _ h c => ⟨(h c).1.trans ?_, (h c).2⟩) (Cert.HiddenRefIdeal.Value.run (F := Ideal) m' g')
  refine (Cert.HiddenRefIdeal.Read.val_main_v3_eq _ _).trans ?_
  rw [(hargs c).1, (hargs c).2]
  exact funext fun y => (Cert.HiddenProduct.reference_apply _ _ y).trans (Cert.HiddenProduct.array_eq m c y).symm

/-- The second half of the feed-forward block: the reference's frame. -/
theorem feed_reference_frame : Cert.quiescent_FeedRefIdeal (hFeedRefIdeal := Cert.FeedRefIdeal.Gen.facts) := fun m ρ _ =>
  (θ_run Cert.FeedRefIdeal.defs _ _).mono (fun r h => ⟨fun c => (h c).2.2.2, sem_eq_zero_of_no_sems (by decide) r.2⟩)
    (Cert.FeedRefIdeal.Value.run (F := Ideal) m ρ)

/-- The second half of the feed-forward block: the kernel's three arrays are the reference's. -/
theorem feed_algebraic : Cert.algebraic_FeedIdeal_FeedRefIdeal (hFeedIdeal := Cert.FeedIdeal.Gen.facts) (hFeedRefIdeal := Cert.FeedRefIdeal.Gen.facts) := by
  intro m g m' g' _ hargs
  refine ⟨fun c => (Cert.FeedIdeal.Gen.dats m 0 c).arrAt 5 Cert.FeedIdeal.cfg0.N, fun c => (Cert.FeedIdeal.Gen.dats m 0 c).arrAt 6 Cert.FeedIdeal.cfg0.N,
    fun c => (Cert.FeedIdeal.Gen.dats m 0 c).arrAt 7 Cert.FeedIdeal.cfg0.N, Cert.FeedIdeal.Value.run_blocks m g, ?_⟩
  refine (θ_run Cert.FeedRefIdeal.defs _ _).mono (fun _ h c => ⟨(h c).1.trans ?_, (h c).2.1.trans ?_, (h c).2.2.1.trans ?_, (h c).2.2.2⟩)
    (Cert.FeedRefIdeal.Value.run (F := Ideal) m' g')
  · refine (Cert.FeedRefIdeal.Read.val_main_v7_eq _ _ _).trans ?_
    rw [(hargs c).1, (hargs c).2.1, (hargs c).2.2.1]
    exact funext fun y => (Cert.FeedForward.reference_total _ _ _ y).trans (Cert.FeedForward.array5 m c y).symm
  · refine (Cert.FeedRefIdeal.Read.val_main_v31_eq m' c).trans ?_
    rw [(hargs c).1, (hargs c).2.1, (hargs c).2.2.1, (hargs c).2.2.2.1, (hargs c).2.2.2.2]
    exact funext fun y => (Cert.FeedForward.reference_output _ _ _ _ _ y).trans (Cert.FeedForward.array6 m c y).symm
  · refine (Cert.FeedRefIdeal.Read.val_main_v32_eq m' c).trans ?_
    rw [(hargs c).1, (hargs c).2.1, (hargs c).2.2.1, (hargs c).2.2.2.1, (hargs c).2.2.2.2]
    exact funext fun y => (Cert.FeedForward.reference_short _ _ _ _ _ y).trans (Cert.FeedForward.array7 m c y).symm

/-- The mixer's first weight's gradient: the reference's frame. -/
theorem project_reference_frame : Cert.quiescent_ProjectRefIdeal (hProjectRefIdeal := Cert.ProjectRefIdeal.Gen.facts) := fun m ρ _ =>
  (θ_run Cert.ProjectRefIdeal.defs _ _).mono (fun r h => ⟨fun c => (h c).2, sem_eq_zero_of_no_sems (by decide) r.2⟩)
    (Cert.ProjectRefIdeal.Value.run (F := Ideal) m ρ)

/-- The mixer's first weight's gradient: the kernel's array is the reference's. -/
theorem project_algebraic : Cert.algebraic_ProjectIdeal_ProjectRefIdeal (hProjectIdeal := Cert.ProjectIdeal.Gen.facts) (hProjectRefIdeal := Cert.ProjectRefIdeal.Gen.facts) := by
  intro m g m' g' _ hargs
  refine ⟨fun c => (Cert.ProjectIdeal.Gen.dats m 0 c).arrAt 2 Cert.ProjectIdeal.cfg0.N, Cert.ProjectIdeal.Value.run_blocks m g, ?_⟩
  refine (θ_run Cert.ProjectRefIdeal.defs _ _).mono (fun _ h c => ⟨(h c).1.trans ?_, (h c).2⟩) (Cert.ProjectRefIdeal.Value.run (F := Ideal) m' g')
  refine (Cert.ProjectRefIdeal.Read.val_main_v7_eq _ _).trans ?_
  rw [(hargs c).1, (hargs c).2]
  exact funext fun y => (Cert.ProjectionGradient.reference_apply _ _ y).trans (Cert.ProjectionGradient.array_eq m c y).symm

/-- The mixer's second weight's gradient: the reference's frame. -/
theorem mix_reference_frame : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run (F := Ideal) m ρ)

/-- The mixer's second weight's gradient: the kernel's array is the reference's. -/
theorem mix_algebraic : Cert.algebraic_MixIdeal_MixRefIdeal (hMixIdeal := Cert.MixIdeal.Gen.facts) (hMixRefIdeal := Cert.MixRefIdeal.Gen.facts) := by
  intro m g m' g' _ hargs
  refine ⟨fun c => (Cert.MixIdeal.Gen.dats m 0 c).arrAt 2 Cert.MixIdeal.cfg0.N, Cert.MixIdeal.Value.run_blocks m g, ?_⟩
  refine (θ_run Cert.MixRefIdeal.defs _ _).mono (fun _ h c => ⟨(h c).1.trans ?_, (h c).2⟩) (Cert.MixRefIdeal.Value.run (F := Ideal) m' g')
  refine (Cert.MixRefIdeal.Read.val_main_v6_eq _ _).trans ?_
  rw [(hargs c).1, (hargs c).2]
  exact funext fun y => (Cert.MixerGradient.reference_apply _ _ y).trans (Cert.MixerGradient.array_eq m c y).symm

/-- The attention output's gradient: the reference's frame. -/
theorem heads_reference_frame : Cert.quiescent_HeadsRefIdeal (hHeadsRefIdeal := Cert.HeadsRefIdeal.Gen.facts) := fun m ρ _ =>
  (θ_run Cert.HeadsRefIdeal.defs _ _).mono (fun r h => ⟨fun c => (h c).2, sem_eq_zero_of_no_sems (by decide) r.2⟩)
    (Cert.HeadsRefIdeal.Value.run (F := Ideal) m ρ)

/-- The attention output's gradient: the kernel's array is the reference's. -/
theorem heads_algebraic : Cert.algebraic_HeadsIdeal_HeadsRefIdeal (hHeadsIdeal := Cert.HeadsIdeal.Gen.facts) (hHeadsRefIdeal := Cert.HeadsRefIdeal.Gen.facts) := by
  intro m g m' g' _ hargs
  refine ⟨fun c => (Cert.HeadsIdeal.Gen.dats m 0 c).arrAt 2 Cert.HeadsIdeal.cfg0.N, Cert.HeadsIdeal.Value.run_blocks m g, ?_⟩
  refine (θ_run Cert.HeadsRefIdeal.defs _ _).mono (fun _ h c => ⟨(h c).1.trans ?_, (h c).2⟩) (Cert.HeadsRefIdeal.Value.run (F := Ideal) m' g')
  refine (Cert.HeadsRefIdeal.Read.val_main_v5_eq _ _).trans ?_
  rw [(hargs c).1, (hargs c).2]
  exact funext fun y => (Cert.HeadsGradient.reference_apply _ _ y).trans (Cert.HeadsGradient.array_eq m c y).symm

/-- The first layer's input's gradient: the reference's frame. -/
theorem source_reference_frame : Cert.quiescent_SourceRefIdeal (hSourceRefIdeal := Cert.SourceRefIdeal.Gen.facts) := fun m ρ _ =>
  (θ_run Cert.SourceRefIdeal.defs _ _).mono (fun r h => ⟨fun c => (h c).2, sem_eq_zero_of_no_sems (by decide) r.2⟩)
    (Cert.SourceRefIdeal.Value.run (F := Ideal) m ρ)

/-- The first layer's input's gradient: the kernel's array is the reference's. -/
theorem source_algebraic : Cert.algebraic_SourceIdeal_SourceRefIdeal (hSourceIdeal := Cert.SourceIdeal.Gen.facts) (hSourceRefIdeal := Cert.SourceRefIdeal.Gen.facts) := by
  intro m g m' g' _ hargs
  refine ⟨fun c => (Cert.SourceIdeal.Gen.dats m 0 c).arrAt 3 Cert.SourceIdeal.cfg0.N, Cert.SourceIdeal.Value.run_blocks m g, ?_⟩
  refine (θ_run Cert.SourceRefIdeal.defs _ _).mono (fun _ h c => ⟨(h c).1.trans ?_, (h c).2⟩) (Cert.SourceRefIdeal.Value.run (F := Ideal) m' g')
  refine (Cert.SourceRefIdeal.Read.val_main_v9_eq _ _ _).trans ?_
  rw [(hargs c).1, (hargs c).2.1, (hargs c).2.2]
  exact funext fun y => (Cert.SourceGradient.reference_apply _ _ _ y).trans (Cert.SourceGradient.array_eq m c y).symm

/-- The mixer's output and the layer norm: the reference's frame. -/
theorem merge_reference_frame : Cert.quiescent_MergeRefIdeal (hMergeRefIdeal := Cert.MergeRefIdeal.Gen.facts) := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- The mixer's output and the layer norm: the kernel's three arrays are the reference's. -/
theorem merge_algebraic : Cert.algebraic_MergeIdeal_MergeRefIdeal (hMergeIdeal := Cert.MergeIdeal.Gen.facts) (hMergeRefIdeal := Cert.MergeRefIdeal.Gen.facts) := by
  intro m g m' g' _ hargs
  refine ⟨fun c => (Cert.MergeIdeal.Gen.dats m 0 c).arrAt 5 Cert.MergeIdeal.cfg0.N, fun c => (Cert.MergeIdeal.Gen.dats m 0 c).arrAt 6 Cert.MergeIdeal.cfg0.N,
    fun c => (Cert.MergeIdeal.Gen.dats m 0 c).arrAt 7 Cert.MergeIdeal.cfg0.N, Cert.MergeIdeal.Value.run_blocks m g, ?_⟩
  refine (θ_run Cert.MergeRefIdeal.defs _ _).mono (fun _ h c => ⟨(h c).1.trans ?_, (h c).2.1.trans ?_, (h c).2.2.1.trans ?_, (h c).2.2.2⟩)
    (Cert.MergeRefIdeal.Value.run (F := Ideal) m' g')
  · refine (Cert.MergeRefIdeal.Read.val_main_v5_eq _ _ _).trans ?_
    rw [(hargs c).1, (hargs c).2.1, (hargs c).2.2.1]
    exact funext fun y => (Cert.MixerForward.reference_merged _ _ _ y).trans (Cert.MixerForward.array5 m c y).symm
  · refine (Cert.MergeRefIdeal.Read.val_main_v29_eq _ _ _ _ _).trans ?_
    rw [(hargs c).1, (hargs c).2.1, (hargs c).2.2.1, (hargs c).2.2.2.1, (hargs c).2.2.2.2]
    exact funext fun y => (Cert.MixerForward.reference_output _ _ _ _ _ y).trans (Cert.MixerForward.array6 m c y).symm
  · refine (Cert.MergeRefIdeal.Read.val_main_v30_eq _ _ _ _ _).trans ?_
    rw [(hargs c).1, (hargs c).2.1, (hargs c).2.2.1, (hargs c).2.2.2.1, (hargs c).2.2.2.2]
    exact funext fun y => (Cert.MixerForward.reference_short _ _ _ _ _ y).trans (Cert.MixerForward.array7 m c y).symm

/-- The second layer norm's gradient: the reference's frame. -/
theorem inner_reference_frame : Cert.quiescent_InnerRefIdeal (hInnerRefIdeal := Cert.InnerRefIdeal.Gen.facts) := fun m ρ _ =>
  (θ_run Cert.InnerRefIdeal.defs _ _).mono (fun r h => ⟨fun c => (h c).2.2.2.2, sem_eq_zero_of_no_sems (by decide) r.2⟩)
    (Cert.InnerRefIdeal.Value.run (F := Ideal) m ρ)

/-- The second layer norm's gradient: on finite arguments the kernel's four arrays are the reference's. -/
theorem inner_algebraic : Cert.algebraic_InnerIdeal_InnerRefIdeal_pre_finite_inner (hInnerIdeal := Cert.InnerIdeal.Gen.facts)
    (hInnerRefIdeal := Cert.InnerRefIdeal.Gen.facts) (hPre_finite_inner := Cert.InnerGradient.inner_facts) := by
  intro m g m' g' hpre hargs
  haveI := Cert.InnerGradient.inner_facts
  refine ⟨fun c => (Cert.InnerIdeal.Gen.dats m 0 c).arrAt 5 Cert.InnerIdeal.cfg0.N, fun c => (Cert.InnerIdeal.Gen.dats m 0 c).arrAt 6 Cert.InnerIdeal.cfg0.N,
    fun c => (Cert.InnerIdeal.Gen.dats m 0 c).arrAt 7 Cert.InnerIdeal.cfg0.N, fun c => (Cert.InnerIdeal.Gen.dats m 0 c).arrAt 8 Cert.InnerIdeal.cfg0.N,
    Cert.InnerIdeal.Value.run_blocks m g, ?_⟩
  refine (θ_run Cert.InnerRefIdeal.defs _ _).mono
    (fun _ h c => ⟨(h c).1.trans ?_, (h c).2.1.trans ?_, (h c).2.2.1.trans ?_, (h c).2.2.2.1.trans ?_, (h c).2.2.2.2⟩)
    (Cert.InnerRefIdeal.Value.run (F := Ideal) m' g')
  · refine (Cert.InnerRefIdeal.Read.val_main_v71_eq m' c).trans ?_
    rw [(hargs c).1, (hargs c).2.1, (hargs c).2.2.1, (hargs c).2.2.2.1, (hargs c).2.2.2.2]
    exact funext fun y => ((Cert.InnerGradient.reference_chain _ _ _ _ _ y).trans
      (Cert.InnerGradient.reference_rows (Cert.InnerGradient.all_real (hpre c)) _ _)).trans (Cert.InnerGradient.array5 m c y).symm
  · refine (Cert.InnerRefIdeal.Read.val_main_v72_eq m' c).trans ?_
    rw [(hargs c).1, (hargs c).2.1, (hargs c).2.2.1, (hargs c).2.2.2.1, (hargs c).2.2.2.2]
    exact funext fun y => ((Cert.InnerGradient.reference_chain_again _ _ _ _ _ y).trans
      (Cert.InnerGradient.reference_rows (Cert.InnerGradient.all_real (hpre c)) _ _)).trans (Cert.InnerGradient.array6 m c y).symm
  · refine (Cert.InnerRefIdeal.Read.val_main_v73_eq _ _ _ _).trans ?_
    rw [(hargs c).1, (hargs c).2.1, (hargs c).2.2.1, (hargs c).2.2.2.1]
    exact funext fun y => (Cert.InnerGradient.reference_gain _ _ _ _ y).trans (Cert.InnerGradient.array7 m c y).symm
  · refine (Cert.InnerRefIdeal.Read.val_main_v74_eq _ _ _).trans ?_
    rw [(hargs c).1, (hargs c).2.1, (hargs c).2.2.1]
    exact funext fun y => (Cert.InnerGradient.reference_bias _ _ _ y).trans (Cert.InnerGradient.array8 m c y).symm

/-- The queries, keys and values: the reference's frame. -/
theorem triple_reference_frame : Cert.quiescent_TripleRefIdeal (hTripleRefIdeal := Cert.TripleRefIdeal.Gen.facts) := fun m ρ _ =>
  (θ_run Cert.TripleRefIdeal.defs _ _).mono (fun r h => ⟨fun c => (h c).2, sem_eq_zero_of_no_sems (by decide) r.2⟩)
    (Cert.TripleRefIdeal.Value.run (F := Ideal) m ρ)

/-- The queries, keys and values: the kernel's array is the reference's. -/
theorem triple_algebraic : Cert.algebraic_TripleIdeal_TripleRefIdeal (hTripleIdeal := Cert.TripleIdeal.Gen.facts) (hTripleRefIdeal := Cert.TripleRefIdeal.Gen.facts) := by
  intro m g m' g' _ hargs
  refine ⟨fun c => (Cert.TripleIdeal.Gen.dats m 0 c).arrAt 2 Cert.TripleIdeal.cfg0.N, Cert.TripleIdeal.Value.run_blocks m g, ?_⟩
  refine (θ_run Cert.TripleRefIdeal.defs _ _).mono (fun _ h c => ⟨(h c).1.trans ?_, (h c).2⟩) (Cert.TripleRefIdeal.Value.run (F := Ideal) m' g')
  refine (Cert.TripleRefIdeal.Read.val_main_v9_eq _ _).trans ?_
  rw [(hargs c).1, (hargs c).2]
  exact funext fun y => (Cert.TripleProduct.reference_apply _ _ y).trans (Cert.TripleProduct.array_eq m c y).symm

/-- The stick-breaking attention: the reference's frame. -/
theorem stick_reference_frame : Cert.quiescent_StickRefIdeal (hStickRefIdeal := Cert.StickRefIdeal.Gen.facts) := fun m ρ _ =>
  (θ_run Cert.StickRefIdeal.defs _ _).mono (fun r h => ⟨fun c => (h c).2, sem_eq_zero_of_no_sems (by decide) r.2⟩)
    (Cert.StickRefIdeal.Value.run (F := Ideal) m ρ)

/-- The stick-breaking attention: the kernel's array is the reference's. -/
theorem stick_algebraic : Cert.algebraic_StickIdeal_StickRefIdeal (hStickIdeal := Cert.StickIdeal.Gen.facts) (hStickRefIdeal := Cert.StickRefIdeal.Gen.facts) := by
  intro m g m' g' _ hargs
  refine ⟨fun c => (Cert.StickIdealRun.dats m 0 c).arrAt 3 (Cert.StickIdeal.cfg0 (F := Ideal)).N, Cert.StickIdealRun.run m g, ?_⟩
  refine (θ_run Cert.StickRefIdeal.defs _ _).mono (fun _ h c => ⟨(h c).1.trans ?_, (h c).2⟩) (Cert.StickRefIdeal.Value.run (F := Ideal) m' g')
  refine (Cert.StickRefIdeal.Read.val_main_v35_eq _ _).trans ?_
  rw [hargs c]
  exact funext fun y => (Cert.StickReference.reference_apply _ y).trans (Cert.StickValue.array_eq m c y).symm

theorem claim : Cert.Claim :=
  ⟨Cert.Kernel.Gen.facts, Cert.KernelIdeal.Gen.facts, Cert.ReferenceIdeal.Gen.facts,
    Cert.Gate.Gen.facts, Cert.GateIdeal.Gen.facts, Cert.GateRefIdeal.Gen.facts,
    Cert.Weight.Gen.facts, Cert.WeightIdeal.Gen.facts, Cert.WeightRefIdeal.Gen.facts,
    Cert.First.Gen.facts, Cert.FirstIdeal.Gen.facts, Cert.FirstRefIdeal.Gen.facts,
    Cert.Norm.Gen.facts, Cert.NormIdeal.Gen.facts, Cert.NormRefIdeal.Gen.facts,
    Cert.Hidden.Gen.facts, Cert.HiddenIdeal.Gen.facts, Cert.HiddenRefIdeal.Gen.facts,
    Cert.Feed.Gen.facts, Cert.FeedIdeal.Gen.facts, Cert.FeedRefIdeal.Gen.facts,
    Cert.Project.Gen.facts, Cert.ProjectIdeal.Gen.facts, Cert.ProjectRefIdeal.Gen.facts,
    Cert.Mix.Gen.facts, Cert.MixIdeal.Gen.facts, Cert.MixRefIdeal.Gen.facts,
    Cert.Heads.Gen.facts, Cert.HeadsIdeal.Gen.facts, Cert.HeadsRefIdeal.Gen.facts,
    Cert.Source.Gen.facts, Cert.SourceIdeal.Gen.facts, Cert.SourceRefIdeal.Gen.facts,
    Cert.Merge.Gen.facts, Cert.MergeIdeal.Gen.facts, Cert.MergeRefIdeal.Gen.facts,
    Cert.Inner.Gen.facts, Cert.InnerIdeal.Gen.facts, Cert.InnerRefIdeal.Gen.facts,
    Cert.Triple.Gen.facts, Cert.TripleIdeal.Gen.facts, Cert.TripleRefIdeal.Gen.facts,
    Cert.Stick.Gen.facts, Cert.StickIdeal.Gen.facts, Cert.StickRefIdeal.Gen.facts,
    Cert.Dilated.finite_facts,
    Cert.NormGradient.norm_facts,
    Cert.InnerGradient.inner_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Gate.Gen.frame m ρ,
    fun m ρ _ => Cert.GateIdeal.Gen.frame m ρ,
    gate_reference_frame,
    fun m ρ _ => Cert.Weight.Gen.frame m ρ,
    fun m ρ _ => Cert.WeightIdeal.Gen.frame m ρ,
    weight_reference_frame,
    fun m ρ _ => Cert.First.Gen.frame m ρ,
    fun m ρ _ => Cert.FirstIdeal.Gen.frame m ρ,
    first_reference_frame,
    fun m ρ _ => Cert.Norm.Gen.frame m ρ,
    fun m ρ _ => Cert.NormIdeal.Gen.frame m ρ,
    fun m ρ _ => Cert.NormIdeal.Gen.frame m ρ,
    norm_reference_frame,
    fun m ρ _ => norm_reference_frame m ρ trivial,
    fun m ρ _ => Cert.Hidden.Gen.frame m ρ,
    fun m ρ _ => Cert.HiddenIdeal.Gen.frame m ρ,
    hidden_reference_frame,
    fun m ρ _ => Cert.Feed.Gen.frame m ρ,
    fun m ρ _ => Cert.FeedIdeal.Gen.frame m ρ,
    feed_reference_frame,
    fun m ρ _ => Cert.Project.Gen.frame m ρ,
    fun m ρ _ => Cert.ProjectIdeal.Gen.frame m ρ,
    project_reference_frame,
    fun m ρ _ => Cert.Mix.Gen.frame m ρ,
    fun m ρ _ => Cert.MixIdeal.Gen.frame m ρ,
    mix_reference_frame,
    fun m ρ _ => Cert.Heads.Gen.frame m ρ,
    fun m ρ _ => Cert.HeadsIdeal.Gen.frame m ρ,
    heads_reference_frame,
    fun m ρ _ => Cert.Source.Gen.frame m ρ,
    fun m ρ _ => Cert.SourceIdeal.Gen.frame m ρ,
    source_reference_frame,
    fun m ρ _ => Cert.Merge.Gen.frame m ρ,
    fun m ρ _ => Cert.MergeIdeal.Gen.frame m ρ,
    merge_reference_frame,
    fun m ρ _ => Cert.Inner.Gen.frame m ρ,
    fun m ρ _ => Cert.InnerIdeal.Gen.frame m ρ,
    fun m ρ _ => Cert.InnerIdeal.Gen.frame m ρ,
    inner_reference_frame,
    fun m ρ _ => inner_reference_frame m ρ trivial,
    fun m ρ _ => Cert.Triple.Gen.frame m ρ,
    fun m ρ _ => Cert.TripleIdeal.Gen.frame m ρ,
    triple_reference_frame,
    fun m ρ _ => Cert.StickRun.frame m ρ,
    fun m ρ _ => Cert.StickIdealRun.frame m ρ,
    stick_reference_frame,
    IdealRules.named_const.statement Cert.KernelIdeal.κ "mask" .f32 0xF149F2CA#32 ⊥ rfl,
    algebraic,
    trivial,
    gate_algebraic,
    trivial,
    weight_algebraic,
    trivial,
    first_algebraic,
    trivial,
    norm_algebraic,
    trivial,
    hidden_algebraic,
    trivial,
    feed_algebraic,
    trivial,
    project_algebraic,
    trivial,
    mix_algebraic,
    trivial,
    heads_algebraic,
    trivial,
    source_algebraic,
    trivial,
    merge_algebraic,
    trivial,
    inner_algebraic,
    trivial,
    triple_algebraic,
    IdealRules.named_const.statement Cert.StickIdeal.κ "underflow" .f32 0xC2D00000#32 ⊥ rfl,
    stick_algebraic⟩

end Cert.Proof

end
